-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_scored_experts [hPre_scored_experts : Cert.Pre_scored_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scored_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scored_experts [hPre_scored_experts : Cert.Pre_scored_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scored_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_logits [hPre_finite_logits : Cert.Pre_finite_logits.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_logits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_logits [hPre_finite_logits : Cert.Pre_finite_logits.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_logits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_scored_experts [hKernel4Ideal : Cert.Kernel4Ideal.Facts] [hPre_scored_experts : Cert.Pre_scored_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_scored_experts m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_scored_experts [hReference4Ideal : Cert.Reference4Ideal.Facts] [hPre_scored_experts : Cert.Pre_scored_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scored_experts m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite_logits [hKernel5Ideal : Cert.Kernel5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_logits m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite_logits [hReference5Ideal : Cert.Reference5Ideal.Facts] [hPre_finite_logits : Cert.Pre_finite_logits.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_logits m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.bf16_pair.BufferStatement Cert.Kernel3Ideal.S262144x2x128 Cert.Kernel3Ideal.S262144x1x128
  ∧ IdealRules.bf16_pair.BufferStatement Cert.Kernel3Ideal.S8192x2x128 Cert.Kernel3Ideal.S8192x1x128
  ∧ IdealRules.bf16_pair.Statement Cert.Kernel3Ideal.S2048x2x128 Cert.Kernel3Ideal.S2048x1x128
  ∧ IdealRules.bf16_pack.Statement Cert.Kernel3Ideal.S2048x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v20_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  IdealRules.bf16_pair.BufferStatement Cert.Kernel4Ideal.S262144x2x128 Cert.Kernel4Ideal.S262144x1x128
  ∧ IdealRules.bf16_pair.BufferStatement Cert.Kernel4Ideal.S8192x2x128 Cert.Kernel4Ideal.S8192x1x128
  ∧ IdealRules.bf16_pair.Statement Cert.Kernel4Ideal.S2048x2x128 Cert.Kernel4Ideal.S2048x1x128
  ∧ IdealRules.bf16_pack.Statement Cert.Kernel4Ideal.S2048x128

def algebraic_Kernel4Ideal_Reference4Ideal_pre_scored_experts [hKernel4Ideal : Cert.Kernel4Ideal.Facts] [hReference4Ideal : Cert.Reference4Ideal.Facts] [hPre_scored_experts : Cert.Pre_scored_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_scored_experts m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v110) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  IdealRules.bf16_pair.BufferStatement Cert.Kernel5Ideal.S262144x2x128 Cert.Kernel5Ideal.S262144x1x128
  ∧ IdealRules.bf16_pair.BufferStatement Cert.Kernel5Ideal.S8192x2x128 Cert.Kernel5Ideal.S8192x1x128
  ∧ IdealRules.bf16_pair.Statement Cert.Kernel5Ideal.S2048x2x128 Cert.Kernel5Ideal.S2048x1x128
  ∧ IdealRules.bf16_pack.Statement Cert.Kernel5Ideal.S2048x128

def algebraic_Kernel5Ideal_Reference5Ideal_pre_finite_logits [hKernel5Ideal : Cert.Kernel5Ideal.Facts] [hReference5Ideal : Cert.Reference5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_logits m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v20_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v237) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_scored_experts : Cert.Pre_scored_experts.Facts) (hPre_finite_logits : Cert.Pre_finite_logits.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_scored_experts (hKernel4Ideal := hKernel4Ideal) (hPre_scored_experts := hPre_scored_experts)
    ∧ quiescent_Reference4Ideal (hReference4Ideal := hReference4Ideal)
    ∧ quiescent_Reference4Ideal_pre_scored_experts (hReference4Ideal := hReference4Ideal) (hPre_scored_experts := hPre_scored_experts)
    ∧ quiescent_Kernel5 (hKernel5 := hKernel5)
    ∧ quiescent_Kernel5Ideal (hKernel5Ideal := hKernel5Ideal)
    ∧ quiescent_Kernel5Ideal_pre_finite_logits (hKernel5Ideal := hKernel5Ideal) (hPre_finite_logits := hPre_finite_logits)
    ∧ quiescent_Reference5Ideal (hReference5Ideal := hReference5Ideal)
    ∧ quiescent_Reference5Ideal_pre_finite_logits (hReference5Ideal := hReference5Ideal) (hPre_finite_logits := hPre_finite_logits)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_scored_experts (hKernel4Ideal := hKernel4Ideal) (hReference4Ideal := hReference4Ideal) (hPre_scored_experts := hPre_scored_experts)
    ∧ preserves_Kernel5_Kernel5Ideal
    ∧ algebraic_Kernel5Ideal_Reference5Ideal_pre_finite_logits (hKernel5Ideal := hKernel5Ideal) (hReference5Ideal := hReference5Ideal) (hPre_finite_logits := hPre_finite_logits)
-- ==== Pre_finite_logits.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩

class Facts : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S5120_S1x1x5120_2 : S5120.BroadcastsInDim S1x1x5120 (![2] : Fin 1 → Fin S1x1x5120.rank)
  bcast_S1x1x5120_S8x4096x5120_0_1_2 : S1x1x5120.BroadcastsInDim S8x4096x5120 (![0, 1, 2] : Fin 3 → Fin S8x4096x5120.rank)
  slices_S8x4096x5120_S8x4096x1024_0_0_3072 : S8x4096x5120.Slices ![0, 0, 3072] S8x4096x1024
  slices_S8x4096x5120_S8x4096x1024_0_0_4096 : S8x4096x5120.Slices ![0, 0, 4096] S8x4096x1024
  bcast_S_S8x4096x1024 : S_.BroadcastsInDim S8x4096x1024 (![] : Fin 0 → Fin S8x4096x1024.rank)
  shapeCasts_S8x4096x1024_S32768x1024 : S8x4096x1024.ShapeCasts S32768x1024
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x4 : S_.BroadcastsInDim S32768x4 (![] : Fin 0 → Fin S32768x4.rank)
  reducesTo_S32768x4_S_d0_1 : S32768x4.ReducesTo [0, 1] S_
  bcast_S_S32768x32 : S_.BroadcastsInDim S32768x32 (![] : Fin 0 → Fin S32768x32.rank)
  reducesTo_S32768x32_S_d0_1 : S32768x32.ReducesTo [0, 1] S_
  dot_S8x4096x1024_S1024x5120_S8x4096x5120_2_0_01_1_n_n_wf : DotDims.WF S8x4096x1024 S1024x5120 S8x4096x5120 [2] [0] [0, 1] [1] [] []
  dot_S8x4096x512_S512x1024_S8x4096x1024_2_0_01_1_n_n_wf : DotDims.WF S8x4096x512 S512x1024 S8x4096x1024 [2] [0] [0, 1] [1] [] []
  dot_S8x4096x1024_S1024x1024_S8x4096x1024_2_0_01_1_n_n_wf : DotDims.WF S8x4096x1024 S1024x1024 S8x4096x1024 [2] [0] [0, 1] [1] [] []
  dot_S32768x1024_S1024x4_S32768x4_1_0_0_1_n_n_wf : DotDims.WF S32768x1024 S1024x4 S32768x4 [1] [0] [0] [1] [] []
  dot_S32768x1024_S1024x32_S32768x32_1_0_0_1_n_n_wf : DotDims.WF S32768x1024 S1024x32 S32768x32 [1] [0] [0] [1] [] []

variable [Facts]

def dot_S8x4096x1024_S1024x5120_S8x4096x5120_2_0_01_1_n_n : DotDims S8x4096x1024 S1024x5120 S8x4096x5120 where
  lhsContracting := [2]
  rhsContracting := [0]
  lhsNonContracting := [0, 1]
  rhsNonContracting := [1]
  lhsBatch := []
  rhsBatch := []
  wf := dot_S8x4096x1024_S1024x5120_S8x4096x5120_2_0_01_1_n_n_wf
def dot_S8x4096x512_S512x1024_S8x4096x1024_2_0_01_1_n_n : DotDims S8x4096x512 S512x1024 S8x4096x1024 where
  lhsContracting := [2]
  rhsContracting := [0]
  lhsNonContracting := [0, 1]
  rhsNonContracting := [1]
  lhsBatch := []
  rhsBatch := []
  wf := dot_S8x4096x512_S512x1024_S8x4096x1024_2_0_01_1_n_n_wf
def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S32768x1024_S1024x4_S32768x4_1_0_0_1_n_n : DotDims S32768x1024 S1024x4 S32768x4 where
  lhsContracting := [1]
  rhsContracting := [0]
  lhsNonContracting := [0]
  rhsNonContracting := [1]
  lhsBatch := []
  rhsBatch := []
  wf := dot_S32768x1024_S1024x4_S32768x4_1_0_0_1_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf
def fn_part3 {F : FTy → Type} [FloatOps F] (main_v59 : FVec F S32768x32 .f32) (main_v60 : FVec F S32768x4 .f32) (main_cst_9 : FVec F S_ .f32) : IVec S_ 1 :=
  let main_v61 : FVec F S32768x4 .f32 := broadcastInDim S32768x4 ![] bcast_S_S32768x4 main_cst_9
  let main_v62 : IVec S32768x4 1 := cmpf .olt main_v60 main_v61
  let main_c : IVec S_ 1 := constantI S_ 1 1#1
  let main_v63 : IVec S_ 1 := (fun x v => Host.reduce IntOp.andi x v reducesTo_S32768x4_S_d0_1 h_S_) main_v62 main_c
  let main_v64 : FVec F S32768x32 .f32 := Host.absf main_v59
  let main_cst_10 : FVec F S_ .f32 := constant S_ .f32 0x7F800000#32
  let main_v65 : FVec F S32768x32 .f32 := broadcastInDim S32768x32 ![] bcast_S_S32768x32 main_cst_10
  let main_v66 : IVec S32768x32 1 := cmpf .olt main_v64 main_v65
  let main_c_11 : IVec S_ 1 := constantI S_ 1 1#1
  let main_v67 : IVec S_ 1 := (fun x v => Host.reduce IntOp.andi x v reducesTo_S32768x32_S_d0_1 h_S_) main_v66 main_c_11
  let main_v68 : IVec S_ 1 := andi main_v63 main_v67
  main_v68

def fn_part2 {F : FTy → Type} [FloatOps F] (main_arg9 : FVec F S1024 .f32) (main_arg10 : FVec F S1024x4 .f32) (main_arg11 : FVec F S4 .f32) (main_arg12 : FVec F S1024x32 .f32) (main_arg13 : FVec F S32 .f32) (main_v38 : FVec F S32768x1024 .f32) (main_v39 : FVec F S32768x1024 .f32) (main_cst_6 : FVec F S_ .f32) : IVec S_ 1 :=
  let main_v40 : FVec F S32768 .f32 := (fun x v => Host.reduceAdd x v reducesTo_S32768x1024_S32768_d1 h_S_) main_v39 main_cst_6
  let main_v41 : FVec F S32768x1 .f32 := broadcastInDim S32768x1 ![0] bcast_S32768_S32768x1_0 main_v40
  let main_cst_7 : FVec F S_ .f32 := constant S_ .f32 0x44800000#32
  let main_v42 : FVec F S32768x1 .f32 := broadcastInDim S32768x1 ![] bcast_S_S32768x1 main_cst_7
  let main_v43 : FVec F S32768x1 .f32 := Host.divf main_v41 main_v42
  let main_cst_8 : FVec F S_ .f32 := constant S_ .f32 0x358637BD#32
  let main_v44 : FVec F S32768x1 .f32 := broadcastInDim S32768x1 ![] bcast_S_S32768x1 main_cst_8
  let main_v45 : FVec F S32768x1 .f32 := addf main_v43 main_v44
  let main_v46 : FVec F S32768x1 .f32 := Host.rsqrt main_v45
  let main_v47 : FVec F S32768x1024 .f32 := broadcastInDim S32768x1024 ![0, 1] bcast_S32768x1_S32768x1024_0_1 main_v46
  let main_v48 : FVec F S32768x1024 .f32 := mulf main_v38 main_v47
  let main_v49 : FVec F S1x1024 .f32 := broadcastInDim S1x1024 ![1] bcast_S1024_S1x1024_1 main_arg9
  let main_v50 : FVec F S32768x1024 .f32 := broadcastInDim S32768x1024 ![0, 1] bcast_S1x1024_S32768x1024_0_1 main_v49
  let main_v51 : FVec F S32768x1024 .f32 := mulf main_v48 main_v50
  let main_v52 : FVec F S32768x4 .f32 := (fun l r => Host.dotGeneral dot_S32768x1024_S1024x4_S32768x4_1_0_0_1_n_n none l r) main_v51 main_arg10
  let main_v53 : FVec F S1x4 .f32 := broadcastInDim S1x4 ![1] bcast_S4_S1x4_1 main_arg11
  let main_v54 : FVec F S32768x4 .f32 := broadcastInDim S32768x4 ![0, 1] bcast_S1x4_S32768x4_0_1 main_v53
  let main_v55 : FVec F S32768x4 .f32 := addf main_v52 main_v54
  let main_v56 : FVec F S32768x32 .f32 := (fun l r => Host.dotGeneral dot_S32768x1024_S1024x32_S32768x32_1_0_0_1_n_n none l r) main_v51 main_arg12
  let main_v57 : FVec F S1x32 .f32 := broadcastInDim S1x32 ![1] bcast_S32_S1x32_1 main_arg13
  let main_v58 : FVec F S32768x32 .f32 := broadcastInDim S32768x32 ![0, 1] bcast_S1x32_S32768x32_0_1 main_v57
  let main_v59 : FVec F S32768x32 .f32 := addf main_v56 main_v58
  let main_v60 : FVec F S32768x4 .f32 := Host.absf main_v55
  let main_cst_9 : FVec F S_ .f32 := constant S_ .f32 0x7F800000#32
  fn_part3 (F := F) main_v59 main_v60 main_cst_9

def fn_part1 {F : FTy → Type} [FloatOps F] (main_arg0 : FVec F S8x4096x1024 .f32) (main_arg1 : FVec F S8x4096x512 .f32) (main_arg2 : FVec F S8x4096x512 .f32) (main_arg6 : FVec F S512x1024 .f32) (main_arg7 : FVec F S512x1024 .f32) (main_arg8 : FVec F S1024x1024 .f32) (main_arg9 : FVec F S1024 .f32) (main_arg10 : FVec F S1024x4 .f32) (main_arg11 : FVec F S4 .f32) (main_arg12 : FVec F S1024x32 .f32) (main_arg13 : FVec F S32 .f32) (main_v18 : FVec F S8x4096x1024 .f32) (main_v20 : FVec F S8x4096x1024 .f32) : IVec S_ 1 :=
  let main_cst_2 : FVec F S_ .f32 := constant S_ .f32 0x3F800000#32
  let main_v21 : FVec F S8x4096x1024 .f32 := broadcastInDim S8x4096x1024 ![] bcast_S_S8x4096x1024 main_cst_2
  let main_v22 : FVec F S8x4096x1024 .f32 := addf main_v21 main_v20
  let main_cst_3 : FVec F S_ .f32 := constant S_ .f32 0x3F800000#32
  let main_v23 : FVec F S8x4096x1024 .f32 := broadcastInDim S8x4096x1024 ![] bcast_S_S8x4096x1024 main_cst_3
  let main_v24 : FVec F S8x4096x1024 .f32 := Host.divf main_v23 main_v22
  let main_v25 : FVec F S8x4096x1024 .f32 := (fun l r => Host.dotGeneral dot_S8x4096x512_S512x1024_S8x4096x1024_2_0_01_1_n_n none l r) main_arg1 main_arg6
  let main_v26 : FVec F S8x4096x1024 .f32 := mulf main_v24 main_v25
  let main_v27 : FVec F S8x4096x1024 .f32 := Host.negf main_v18
  let main_v28 : FVec F S8x4096x1024 .f32 := Host.exp main_v27
  let main_cst_4 : FVec F S_ .f32 := constant S_ .f32 0x3F800000#32
  let main_v29 : FVec F S8x4096x1024 .f32 := broadcastInDim S8x4096x1024 ![] bcast_S_S8x4096x1024 main_cst_4
  let main_v30 : FVec F S8x4096x1024 .f32 := addf main_v29 main_v28
  let main_cst_5 : FVec F S_ .f32 := constant S_ .f32 0x3F800000#32
  let main_v31 : FVec F S8x4096x1024 .f32 := broadcastInDim S8x4096x1024 ![] bcast_S_S8x4096x1024 main_cst_5
  let main_v32 : FVec F S8x4096x1024 .f32 := Host.divf main_v31 main_v30
  let main_v33 : FVec F S8x4096x1024 .f32 := (fun l r => Host.dotGeneral dot_S8x4096x512_S512x1024_S8x4096x1024_2_0_01_1_n_n none l r) main_arg2 main_arg7
  let main_v34 : FVec F S8x4096x1024 .f32 := mulf main_v32 main_v33
  let main_v35 : FVec F S8x4096x1024 .f32 := addf main_v26 main_v34
  let main_v36 : FVec F S8x4096x1024 .f32 := (fun l r => Host.dotGeneral dot_S8x4096x1024_S1024x1024_S8x4096x1024_2_0_01_1_n_n none l r) main_v35 main_arg8
  let main_v37 : FVec F S8x4096x1024 .f32 := addf main_arg0 main_v36
  let main_v38 : FVec F S32768x1024 .f32 := shapeCast S32768x1024 main_v37 shapeCasts_S8x4096x1024_S32768x1024
  let main_v39 : FVec F S32768x1024 .f32 := mulf main_v38 main_v38
  let main_cst_6 : FVec F S_ .f32 := constant S_ .f32 0x00000000#32
  fn_part2 (F := F) main_arg9 main_arg10 main_arg11 main_arg12 main_arg13 main_v38 main_v39 main_cst_6

def fn {F : FTy → Type} [FloatOps F] (main_arg0 : FVec F S8x4096x1024 .f32) (main_arg1 : FVec F S8x4096x512 .f32) (main_arg2 : FVec F S8x4096x512 .f32) (main_arg3 : FVec F S1024 .f32) (main_arg4 : FVec F S1024x5120 .f32) (main_arg5 : FVec F S5120 .f32) (main_arg6 : FVec F S512x1024 .f32) (main_arg7 : FVec F S512x1024 .f32) (main_arg8 : FVec F S1024x1024 .f32) (main_arg9 : FVec F S1024 .f32) (main_arg10 : FVec F S1024x4 .f32) (main_arg11 : FVec F S4 .f32) (main_arg12 : FVec F S1024x32 .f32) (main_arg13 : FVec F S32 .f32) : IVec S_ 1 :=
  let main_v0 : FVec F S8x4096x1024 .f32 := mulf main_arg0 main_arg0
  let main_cst : FVec F S_ .f32 := constant S_ .f32 0x00000000#32
  let main_v1 : FVec F S8x4096 .f32 := (fun x v => Host.reduceAdd x v reducesTo_S8x4096x1024_S8x4096_d2 h_S_) main_v0 main_cst
  let main_v2 : FVec F S8x4096x1 .f32 := broadcastInDim S8x4096x1 ![0, 1] bcast_S8x4096_S8x4096x1_0_1 main_v1
  let main_cst_0 : FVec F S_ .f32 := constant S_ .f32 0x44800000#32
  let main_v3 : FVec F S8x4096x1 .f32 := broadcastInDim S8x4096x1 ![] bcast_S_S8x4096x1 main_cst_0
  let main_v4 : FVec F S8x4096x1 .f32 := Host.divf main_v2 main_v3
  let main_cst_1 : FVec F S_ .f32 := constant S_ .f32 0x358637BD#32
  let main_v5 : FVec F S8x4096x1 .f32 := broadcastInDim S8x4096x1 ![] bcast_S_S8x4096x1 main_cst_1
  let main_v6 : FVec F S8x4096x1 .f32 := addf main_v4 main_v5
  let main_v7 : FVec F S8x4096x1 .f32 := Host.rsqrt main_v6
  let main_v8 : FVec F S8x4096x1024 .f32 := broadcastInDim S8x4096x1024 ![0, 1, 2] bcast_S8x4096x1_S8x4096x1024_0_1_2 main_v7
  let main_v9 : FVec F S8x4096x1024 .f32 := mulf main_arg0 main_v8
  let main_v10 : FVec F S1x1x1024 .f32 := broadcastInDim S1x1x1024 ![2] bcast_S1024_S1x1x1024_2 main_arg3
  let main_v11 : FVec F S8x4096x1024 .f32 := broadcastInDim S8x4096x1024 ![0, 1, 2] bcast_S1x1x1024_S8x4096x1024_0_1_2 main_v10
  let main_v12 : FVec F S8x4096x1024 .f32 := mulf main_v9 main_v11
  let main_v13 : FVec F S8x4096x5120 .f32 := (fun l r => Host.dotGeneral dot_S8x4096x1024_S1024x5120_S8x4096x5120_2_0_01_1_n_n none l r) main_v12 main_arg4
  let main_v14 : FVec F S1x1x5120 .f32 := broadcastInDim S1x1x5120 ![2] bcast_S5120_S1x1x5120_2 main_arg5
  let main_v15 : FVec F S8x4096x5120 .f32 := broadcastInDim S8x4096x5120 ![0, 1, 2] bcast_S1x1x5120_S8x4096x5120_0_1_2 main_v14
  let main_v16 : FVec F S8x4096x5120 .f32 := addf main_v13 main_v15
  let main_v17 : FVec F S8x4096x1024 .f32 := (extractStridedSlice S8x4096x1024 ![0, 0, 3072] · slices_S8x4096x5120_S8x4096x1024_0_0_3072) main_v16
  let main_v18 : FVec F S8x4096x1024 .f32 := (extractStridedSlice S8x4096x1024 ![0, 0, 4096] · slices_S8x4096x5120_S8x4096x1024_0_0_4096) main_v16
  let main_v19 : FVec F S8x4096x1024 .f32 := Host.negf main_v17
  let main_v20 : FVec F S8x4096x1024 .f32 := Host.exp main_v19
  fn_part1 (F := F) main_arg0 main_arg1 main_arg2 main_arg6 main_arg7 main_arg8 main_arg9 main_arg10 main_arg11 main_arg12 main_arg13 main_v18 main_v20
-- ==== Pre_finite_scores.lean ====
abbrev S8x4096x8x64 : Shape := ⟨4, ![8, 4096, 8, 64]⟩
abbrev S8x320 : Shape := ⟨2, ![8, 320]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S8x4096x8x64 .f32) (main_arg1 : FVec F S8x4096x8x64 .f32) (main_arg2 : FVec F S8x4096x8x64 .f32) (main_arg3 : FVec F S8x320 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  let main_v9 : FVec F S8x320 .f32 := Host.absf main_arg3
  let main_cst_2 : FVec F S_ .f32 := constant S_ .f32 0x7F800000#32
  let main_v10 : FVec F S8x320 .f32 := broadcastInDim S8x320 ![] bcast_S_S8x320 main_cst_2
  let main_v11 : IVec S8x320 1 := cmpf .olt main_v9 main_v10
  let main_c_3 : IVec S_ 1 := constantI S_ 1 1#1
  let main_v12 : IVec S_ 1 := (fun x v => Host.reduce IntOp.andi x v reducesTo_S8x320_S_d0_1 h_S_) main_v11 main_c_3
  let main_v13 : IVec S_ 1 := andi main_v8 main_v12
  main_v13
-- ==== Pre_scored_experts.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩

class Facts : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S5120_S1x1x5120_2 : S5120.BroadcastsInDim S1x1x5120 (![2] : Fin 1 → Fin S1x1x5120.rank)
  bcast_S1x1x5120_S8x4096x5120_0_1_2 : S1x1x5120.BroadcastsInDim S8x4096x5120 (![0, 1, 2] : Fin 3 → Fin S8x4096x5120.rank)
  slices_S8x4096x5120_S8x4096x1024_0_0_3072 : S8x4096x5120.Slices ![0, 0, 3072] S8x4096x1024
  slices_S8x4096x5120_S8x4096x1024_0_0_4096 : S8x4096x5120.Slices ![0, 0, 4096] S8x4096x1024
  bcast_S_S8x4096x1024 : S_.BroadcastsInDim S8x4096x1024 (![] : Fin 0 → Fin S8x4096x1024.rank)
  shapeCasts_S8x4096x1024_S32768x1024 : S8x4096x1024.ShapeCasts S32768x1024
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  reducesTo_S32768x32_S_d0_1 : S32768x32.ReducesTo [0, 1] S_
  dot_S8x4096x1024_S1024x5120_S8x4096x5120_2_0_01_1_n_n_wf : DotDims.WF S8x4096x1024 S1024x5120 S8x4096x5120 [2] [0] [0, 1] [1] [] []
  dot_S8x4096x512_S512x1024_S8x4096x1024_2_0_01_1_n_n_wf : DotDims.WF S8x4096x512 S512x1024 S8x4096x1024 [2] [0] [0, 1] [1] [] []
  dot_S8x4096x1024_S1024x1024_S8x4096x1024_2_0_01_1_n_n_wf : DotDims.WF S8x4096x1024 S1024x1024 S8x4096x1024 [2] [0] [0, 1] [1] [] []
  dot_S32768x1024_S1024x4_S32768x4_1_0_0_1_n_n_wf : DotDims.WF S32768x1024 S1024x4 S32768x4 [1] [0] [0] [1] [] []
  dot_S32768x1024_S1024x32_S32768x32_1_0_0_1_n_n_wf : DotDims.WF S32768x1024 S1024x32 S32768x32 [1] [0] [0] [1] [] []

variable [Facts]

def dot_S8x4096x1024_S1024x5120_S8x4096x5120_2_0_01_1_n_n : DotDims S8x4096x1024 S1024x5120 S8x4096x5120 where
  lhsContracting := [2]
  rhsContracting := [0]
  lhsNonContracting := [0, 1]
  rhsNonContracting := [1]
  lhsBatch := []
  rhsBatch := []
  wf := dot_S8x4096x1024_S1024x5120_S8x4096x5120_2_0_01_1_n_n_wf
def dot_S8x4096x512_S512x1024_S8x4096x1024_2_0_01_1_n_n : DotDims S8x4096x512 S512x1024 S8x4096x1024 where
  lhsContracting := [2]
  rhsContracting := [0]
  lhsNonContracting := [0, 1]
  rhsNonContracting := [1]
  lhsBatch := []
  rhsBatch := []
  wf := dot_S8x4096x512_S512x1024_S8x4096x1024_2_0_01_1_n_n_wf
def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S32768x1024_S1024x4_S32768x4_1_0_0_1_n_n : DotDims S32768x1024 S1024x4 S32768x4 where
  lhsContracting := [1]
  rhsContracting := [0]
  lhsNonContracting := [0]
  rhsNonContracting := [1]
  lhsBatch := []
  rhsBatch := []
  wf := dot_S32768x1024_S1024x4_S32768x4_1_0_0_1_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf
def fn_part3 {F : FTy → Type} [FloatOps F] (main_v59 : FVec F S32768x32 .f32) (main_v60 : FVec F S32768x32 .f32) : IVec S_ 1 :=
  let main_v61 : IVec S32768x32 1 := cmpf .ogt main_v59 main_v60
  let main_c : IVec S_ 1 := constantI S_ 1 1#1
  let main_v62 : IVec S_ 1 := (fun x v => Host.reduce IntOp.andi x v reducesTo_S32768x32_S_d0_1 h_S_) main_v61 main_c
  main_v62

def fn_part2 {F : FTy → Type} [FloatOps F] (main_arg9 : FVec F S1024 .f32) (main_arg10 : FVec F S1024x4 .f32) (main_arg11 : FVec F S4 .f32) (main_arg12 : FVec F S1024x32 .f32) (main_arg13 : FVec F S32 .f32) (main_v38 : FVec F S32768x1024 .f32) (main_v39 : FVec F S32768x1024 .f32) (main_cst_6 : FVec F S_ .f32) : IVec S_ 1 :=
  let main_v40 : FVec F S32768 .f32 := (fun x v => Host.reduceAdd x v reducesTo_S32768x1024_S32768_d1 h_S_) main_v39 main_cst_6
  let main_v41 : FVec F S32768x1 .f32 := broadcastInDim S32768x1 ![0] bcast_S32768_S32768x1_0 main_v40
  let main_cst_7 : FVec F S_ .f32 := constant S_ .f32 0x44800000#32
  let main_v42 : FVec F S32768x1 .f32 := broadcastInDim S32768x1 ![] bcast_S_S32768x1 main_cst_7
  let main_v43 : FVec F S32768x1 .f32 := Host.divf main_v41 main_v42
  let main_cst_8 : FVec F S_ .f32 := constant S_ .f32 0x358637BD#32
  let main_v44 : FVec F S32768x1 .f32 := broadcastInDim S32768x1 ![] bcast_S_S32768x1 main_cst_8
  let main_v45 : FVec F S32768x1 .f32 := addf main_v43 main_v44
  let main_v46 : FVec F S32768x1 .f32 := Host.rsqrt main_v45
  let main_v47 : FVec F S32768x1024 .f32 := broadcastInDim S32768x1024 ![0, 1] bcast_S32768x1_S32768x1024_0_1 main_v46
  let main_v48 : FVec F S32768x1024 .f32 := mulf main_v38 main_v47
  let main_v49 : FVec F S1x1024 .f32 := broadcastInDim S1x1024 ![1] bcast_S1024_S1x1024_1 main_arg9
  let main_v50 : FVec F S32768x1024 .f32 := broadcastInDim S32768x1024 ![0, 1] bcast_S1x1024_S32768x1024_0_1 main_v49
  let main_v51 : FVec F S32768x1024 .f32 := mulf main_v48 main_v50
  let main_v52 : FVec F S32768x4 .f32 := (fun l r => Host.dotGeneral dot_S32768x1024_S1024x4_S32768x4_1_0_0_1_n_n none l r) main_v51 main_arg10
  let main_v53 : FVec F S1x4 .f32 := broadcastInDim S1x4 ![1] bcast_S4_S1x4_1 main_arg11
  let main_v54 : FVec F S32768x4 .f32 := broadcastInDim S32768x4 ![0, 1] bcast_S1x4_S32768x4_0_1 main_v53
  let main_v55 : FVec F S32768x4 .f32 := addf main_v52 main_v54
  let main_v56 : FVec F S32768x32 .f32 := (fun l r => Host.dotGeneral dot_S32768x1024_S1024x32_S32768x32_1_0_0_1_n_n none l r) main_v51 main_arg12
  let main_v57 : FVec F S1x32 .f32 := broadcastInDim S1x32 ![1] bcast_S32_S1x32_1 main_arg13
  let main_v58 : FVec F S32768x32 .f32 := broadcastInDim S32768x32 ![0, 1] bcast_S1x32_S32768x32_0_1 main_v57
  let main_v59 : FVec F S32768x32 .f32 := addf main_v56 main_v58
  let main_cst_9 : FVec F S_ .f32 := constant S_ .f32 0xFF800000#32
  let main_v60 : FVec F S32768x32 .f32 := broadcastInDim S32768x32 ![] bcast_S_S32768x32 main_cst_9
  fn_part3 (F := F) main_v59 main_v60

def fn_part1 {F : FTy → Type} [FloatOps F] (main_arg0 : FVec F S8x4096x1024 .f32) (main_arg1 : FVec F S8x4096x512 .f32) (main_arg2 : FVec F S8x4096x512 .f32) (main_arg6 : FVec F S512x1024 .f32) (main_arg7 : FVec F S512x1024 .f32) (main_arg8 : FVec F S1024x1024 .f32) (main_arg9 : FVec F S1024 .f32) (main_arg10 : FVec F S1024x4 .f32) (main_arg11 : FVec F S4 .f32) (main_arg12 : FVec F S1024x32 .f32) (main_arg13 : FVec F S32 .f32) (main_v18 : FVec F S8x4096x1024 .f32) (main_v20 : FVec F S8x4096x1024 .f32) : IVec S_ 1 :=
  let main_cst_2 : FVec F S_ .f32 := constant S_ .f32 0x3F800000#32
  let main_v21 : FVec F S8x4096x1024 .f32 := broadcastInDim S8x4096x1024 ![] bcast_S_S8x4096x1024 main_cst_2
  let main_v22 : FVec F S8x4096x1024 .f32 := addf main_v21 main_v20
  let main_cst_3 : FVec F S_ .f32 := constant S_ .f32 0x3F800000#32
  let main_v23 : FVec F S8x4096x1024 .f32 := broadcastInDim S8x4096x1024 ![] bcast_S_S8x4096x1024 main_cst_3
  let main_v24 : FVec F S8x4096x1024 .f32 := Host.divf main_v23 main_v22
  let main_v25 : FVec F S8x4096x1024 .f32 := (fun l r => Host.dotGeneral dot_S8x4096x512_S512x1024_S8x4096x1024_2_0_01_1_n_n none l r) main_arg1 main_arg6
  let main_v26 : FVec F S8x4096x1024 .f32 := mulf main_v24 main_v25
  let main_v27 : FVec F S8x4096x1024 .f32 := Host.negf main_v18
  let main_v28 : FVec F S8x4096x1024 .f32 := Host.exp main_v27
  let main_cst_4 : FVec F S_ .f32 := constant S_ .f32 0x3F800000#32
  let main_v29 : FVec F S8x4096x1024 .f32 := broadcastInDim S8x4096x1024 ![] bcast_S_S8x4096x1024 main_cst_4
  let main_v30 : FVec F S8x4096x1024 .f32 := addf main_v29 main_v28
  let main_cst_5 : FVec F S_ .f32 := constant S_ .f32 0x3F800000#32
  let main_v31 : FVec F S8x4096x1024 .f32 := broadcastInDim S8x4096x1024 ![] bcast_S_S8x4096x1024 main_cst_5
  let main_v32 : FVec F S8x4096x1024 .f32 := Host.divf main_v31 main_v30
  let main_v33 : FVec F S8x4096x1024 .f32 := (fun l r => Host.dotGeneral dot_S8x4096x512_S512x1024_S8x4096x1024_2_0_01_1_n_n none l r) main_arg2 main_arg7
  let main_v34 : FVec F S8x4096x1024 .f32 := mulf main_v32 main_v33
  let main_v35 : FVec F S8x4096x1024 .f32 := addf main_v26 main_v34
  let main_v36 : FVec F S8x4096x1024 .f32 := (fun l r => Host.dotGeneral dot_S8x4096x1024_S1024x1024_S8x4096x1024_2_0_01_1_n_n none l r) main_v35 main_arg8
  let main_v37 : FVec F S8x4096x1024 .f32 := addf main_arg0 main_v36
  let main_v38 : FVec F S32768x1024 .f32 := shapeCast S32768x1024 main_v37 shapeCasts_S8x4096x1024_S32768x1024
  let main_v39 : FVec F S32768x1024 .f32 := mulf main_v38 main_v38
  let main_cst_6 : FVec F S_ .f32 := constant S_ .f32 0x00000000#32
  fn_part2 (F := F) main_arg9 main_arg10 main_arg11 main_arg12 main_arg13 main_v38 main_v39 main_cst_6

def fn {F : FTy → Type} [FloatOps F] (main_arg0 : FVec F S8x4096x1024 .f32) (main_arg1 : FVec F S8x4096x512 .f32) (main_arg2 : FVec F S8x4096x512 .f32) (main_arg3 : FVec F S1024 .f32) (main_arg4 : FVec F S1024x5120 .f32) (main_arg5 : FVec F S5120 .f32) (main_arg6 : FVec F S512x1024 .f32) (main_arg7 : FVec F S512x1024 .f32) (main_arg8 : FVec F S1024x1024 .f32) (main_arg9 : FVec F S1024 .f32) (main_arg10 : FVec F S1024x4 .f32) (main_arg11 : FVec F S4 .f32) (main_arg12 : FVec F S1024x32 .f32) (main_arg13 : FVec F S32 .f32) : IVec S_ 1 :=
  let main_v0 : FVec F S8x4096x1024 .f32 := mulf main_arg0 main_arg0
  let main_cst : FVec F S_ .f32 := constant S_ .f32 0x00000000#32
  let main_v1 : FVec F S8x4096 .f32 := (fun x v => Host.reduceAdd x v reducesTo_S8x4096x1024_S8x4096_d2 h_S_) main_v0 main_cst
  let main_v2 : FVec F S8x4096x1 .f32 := broadcastInDim S8x4096x1 ![0, 1] bcast_S8x4096_S8x4096x1_0_1 main_v1
  let main_cst_0 : FVec F S_ .f32 := constant S_ .f32 0x44800000#32
  let main_v3 : FVec F S8x4096x1 .f32 := broadcastInDim S8x4096x1 ![] bcast_S_S8x4096x1 main_cst_0
  let main_v4 : FVec F S8x4096x1 .f32 := Host.divf main_v2 main_v3
  let main_cst_1 : FVec F S_ .f32 := constant S_ .f32 0x358637BD#32
  let main_v5 : FVec F S8x4096x1 .f32 := broadcastInDim S8x4096x1 ![] bcast_S_S8x4096x1 main_cst_1
  let main_v6 : FVec F S8x4096x1 .f32 := addf main_v4 main_v5
  let main_v7 : FVec F S8x4096x1 .f32 := Host.rsqrt main_v6
  let main_v8 : FVec F S8x4096x1024 .f32 := broadcastInDim S8x4096x1024 ![0, 1, 2] bcast_S8x4096x1_S8x4096x1024_0_1_2 main_v7
  let main_v9 : FVec F S8x4096x1024 .f32 := mulf main_arg0 main_v8
  let main_v10 : FVec F S1x1x1024 .f32 := broadcastInDim S1x1x1024 ![2] bcast_S1024_S1x1x1024_2 main_arg3
  let main_v11 : FVec F S8x4096x1024 .f32 := broadcastInDim S8x4096x1024 ![0, 1, 2] bcast_S1x1x1024_S8x4096x1024_0_1_2 main_v10
  let main_v12 : FVec F S8x4096x1024 .f32 := mulf main_v9 main_v11
  let main_v13 : FVec F S8x4096x5120 .f32 := (fun l r => Host.dotGeneral dot_S8x4096x1024_S1024x5120_S8x4096x5120_2_0_01_1_n_n none l r) main_v12 main_arg4
  let main_v14 : FVec F S1x1x5120 .f32 := broadcastInDim S1x1x5120 ![2] bcast_S5120_S1x1x5120_2 main_arg5
  let main_v15 : FVec F S8x4096x5120 .f32 := broadcastInDim S8x4096x5120 ![0, 1, 2] bcast_S1x1x5120_S8x4096x5120_0_1_2 main_v14
  let main_v16 : FVec F S8x4096x5120 .f32 := addf main_v13 main_v15
  let main_v17 : FVec F S8x4096x1024 .f32 := (extractStridedSlice S8x4096x1024 ![0, 0, 3072] · slices_S8x4096x5120_S8x4096x1024_0_0_3072) main_v16
  let main_v18 : FVec F S8x4096x1024 .f32 := (extractStridedSlice S8x4096x1024 ![0, 0, 4096] · slices_S8x4096x5120_S8x4096x1024_0_0_4096) main_v16
  let main_v19 : FVec F S8x4096x1024 .f32 := Host.negf main_v17
  let main_v20 : FVec F S8x4096x1024 .f32 := Host.exp main_v19
  fn_part1 (F := F) main_arg0 main_arg1 main_arg2 main_arg6 main_arg7 main_arg8 main_arg9 main_arg10 main_arg11 main_arg12 main_arg13 main_v18 main_v20
-- ==== Kernel.lean ====
abbrev S8x4096x8x64 : Shape := ⟨4, ![8, 4096, 8, 64]⟩
abbrev S8x320 : Shape := ⟨2, ![8, 320]⟩
abbrev S_ : Shape := ⟨0, ![]⟩
abbrev S8x4096x512 : Shape := ⟨3, ![8, 4096, 512]⟩
abbrev S1023 : Shape := ⟨1, ![1023]⟩
abbrev S1023x1 : Shape := ⟨2, ![1023, 1]⟩
abbrev S8x1023 : Shape := ⟨2, ![8, 1023]⟩
abbrev S8x1025 : Shape := ⟨2, ![8, 1025]⟩
abbrev S1x8x1x1025 : Shape := ⟨4, ![1, 8, 1, 1025]⟩
abbrev S1x8x256x1025 : Shape := ⟨4, ![1, 8, 256, 1025]⟩
abbrev S8x262400 : Shape := ⟨2, ![8, 262400]⟩
abbrev S8x262144 : Shape := ⟨2, ![8, 262144]⟩
abbrev S8x256x1024 : Shape := ⟨3, ![8, 256, 1024]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S4x256x512 : Shape := ⟨3, ![4, 256, 512]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩

abbrev nBuf : Space → Nat
  | .hbm => 123
  | .vmem => 17
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x320, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x8x64, .f32⟩
  | .hbm, ⟨11, _⟩ => ⟨S8x4096x8x64, .f32⟩
  | .hbm, ⟨12, _⟩ => ⟨S8x4096x512, .f32⟩
  | .hbm, ⟨13, _⟩ => ⟨S8x4096x512, .bf16⟩
  | .hbm, ⟨14, _⟩ => ⟨S8x4096x512, .f32⟩
  | .hbm, ⟨15, _⟩ => ⟨S8x4096x512, .bf16⟩
  | .hbm, ⟨16, _⟩ => ⟨S8x4096x512, .f32⟩
  | .hbm, ⟨17, _⟩ => ⟨S8x4096x512, .bf16⟩
  | .hbm, ⟨18, _⟩ => ⟨S1023, .i32⟩
  | .hbm, ⟨19, _⟩ => ⟨S_, .i32⟩
  | .hbm, ⟨20, _⟩ => ⟨S1023, .i32⟩
  | .hbm, ⟨21, _⟩ => ⟨S1023, .i32⟩
  | .hbm, ⟨22, _⟩ => ⟨S_, .i32⟩
  | .hbm, ⟨23, _⟩ => ⟨S1023, .i32⟩
  | .hbm, ⟨24, _⟩ => ⟨S1023, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1023, .i32⟩
  | .hbm, ⟨29, _⟩ => ⟨S1023, .i32⟩
  | .hbm, ⟨30, _⟩ => ⟨S_, .i32⟩
  | .hbm, ⟨31, _⟩ => ⟨S1023, .i32⟩
  | .hbm, ⟨32, _⟩ => ⟨S1023, .i32⟩
  | .hbm, ⟨33, _⟩ => ⟨S_, .i32⟩
  | .hbm, ⟨34, _⟩ => ⟨S1023, .i32⟩
  | .hbm, ⟨35, _⟩ => ⟨S1023, .i32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x320, .f32⟩
  | .hbm, ⟨41, _⟩ => ⟨S8x320, .f32⟩
  | .hbm, ⟨42, _⟩ => ⟨S_, .i32⟩
  | .hbm, ⟨43, _⟩ => ⟨S1023, .i32⟩
  | .hbm, ⟨44, _⟩ => ⟨S1023, .i1⟩
  | .hbm, ⟨45, _⟩ => ⟨S_, .i32⟩
  | .hbm, ⟨46, _⟩ => ⟨S1023, .i32⟩
  | .hbm, ⟨47, _⟩ => ⟨S1023, .i32⟩
  | .hbm, ⟨48, _⟩ => ⟨S1023, .i32⟩
  | .hbm, ⟨49, _⟩ => ⟨S1023x1, .i32⟩
  | .hbm, ⟨50, _⟩ => ⟨S8x1023, .f32⟩
  | .hbm, ⟨51, _⟩ => ⟨S_, .i32⟩
  | .hbm, ⟨52, _⟩ => ⟨S_, .f32⟩
  | .hbm, ⟨53, _⟩ => ⟨S8x1025, .f32⟩
  | .hbm, ⟨54, _⟩ => ⟨S1x8x1x1025, .f32⟩
  | .hbm, ⟨55, _⟩ => ⟨S1x8x256x1025, .f32⟩
  | .hbm, ⟨56, _⟩ => ⟨S8x262400, .f32⟩
  | .hbm, ⟨57, _⟩ => ⟨S8x262144, .f32⟩
  | .hbm, ⟨58, _⟩ => ⟨S8x256x1024, .f32⟩
  | .hbm, ⟨59, _⟩ => ⟨S8x256x768, .f32⟩
  | .hbm, ⟨60, _⟩ => ⟨S256, .i32⟩
  | .hbm, ⟨61, _⟩ => ⟨S256x1, .i32⟩
  | .hbm, ⟨62, _⟩ => ⟨S768, .i32⟩
  | .hbm, ⟨63, _⟩ => ⟨S1x768, .i32⟩
  | .hbm, ⟨64, _⟩ => ⟨S_, .i32⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S256x1, .i32⟩
  | .hbm, ⟨69, _⟩ => ⟨S_, .i32⟩
  | .hbm, ⟨70, _⟩ => ⟨S256x1, .i32⟩
  | .hbm, ⟨71, _⟩ => ⟨S256x1, .i1⟩
  | .hbm, ⟨72, _⟩ => ⟨S256x1, .i32⟩
  | .hbm, ⟨73, _⟩ => ⟨S256x1, .i32⟩
  | .hbm, ⟨74, _⟩ => ⟨S_, .i32⟩
  | .hbm, ⟨75, _⟩ => ⟨S256x1, .i32⟩
  | .hbm, ⟨76, _⟩ => ⟨S256x1, .i1⟩
  | .hbm, ⟨77, _⟩ => ⟨S256x1, .i1⟩
  | .hbm, ⟨78, _⟩ => ⟨S_, .i32⟩
  | .hbm, ⟨79, _⟩ => ⟨S256x1, .i32⟩
  | .hbm, ⟨80, _⟩ => ⟨S256x1, .i32⟩
  | .hbm, ⟨81, _⟩ => ⟨S256x1, .i32⟩
  | .hbm, ⟨82, _⟩ => ⟨S_, .i32⟩
  | .hbm, ⟨83, _⟩ => ⟨S_, .i32⟩
  | .hbm, ⟨84, _⟩ => ⟨S1x768, .i32⟩
  | .hbm, ⟨85, _⟩ => ⟨S1x768, .i32⟩
  | .hbm, ⟨86, _⟩ => ⟨S1x768, .i32⟩
  | .hbm, ⟨87, _⟩ => ⟨S_, .i32⟩
  | .hbm, ⟨88, _⟩ => ⟨S1x768, .i32⟩
  | .hbm, ⟨89, _⟩ => ⟨S1x768, .i1⟩
  | .hbm, ⟨90, _⟩ => ⟨S1x768, .i32⟩
  | .hbm, ⟨91, _⟩ => ⟨S1x768, .i32⟩
  | .hbm, ⟨92, _⟩ => ⟨S_, .i32⟩
  | .hbm, ⟨93, _⟩ => ⟨S1x768, .i32⟩
  | .hbm, ⟨94, _⟩ => ⟨S1x768, .i1⟩
  | .hbm, ⟨95, _⟩ => ⟨S1x768, .i1⟩
  | .hbm, ⟨96, _⟩ => ⟨S_, .i32⟩
  | .hbm, ⟨97, _⟩ => ⟨S1x768, .i32⟩
  | .hbm, ⟨98, _⟩ => ⟨S1x768, .i32⟩
  | .hbm, ⟨99, _⟩ => ⟨S1x768, .i32⟩
  | .hbm, ⟨100, _⟩ => ⟨S_, .i32⟩
  | .hbm, ⟨101, _⟩ => ⟨S256x1, .i32⟩
  | .hbm, ⟨102, _⟩ => ⟨S256x1, .i32⟩
  | .hbm, ⟨103, _⟩ => ⟨S256x768, .i32⟩
  | .hbm, ⟨104, _⟩ => ⟨S256x768, .i32⟩
  | .hbm, ⟨105, _⟩ => ⟨S256x768, .i1⟩
  | .hbm, ⟨106, _⟩ => ⟨S_, .i32⟩
  | .hbm, ⟨107, _⟩ => ⟨S256x1, .i32⟩
  | .hbm, ⟨108, _⟩ => ⟨S256x1, .i32⟩
  | .hbm, ⟨109, _⟩ => ⟨S_, .i32⟩
  | .hbm, ⟨110, _⟩ => ⟨S256x1, .i32⟩
  | .hbm, ⟨111, _⟩ => ⟨S256x1, .i32⟩
  | .hbm, ⟨112, _⟩ => ⟨S256x768, .i32⟩
  | .hbm, ⟨113, _⟩ => ⟨S256x768, .i32⟩
  | .hbm, ⟨114, _⟩ => ⟨S256x768, .i1⟩
  | .hbm, ⟨115, _⟩ => ⟨S256x768, .i1⟩
  | .hbm, ⟨116, _⟩ => ⟨S1x256x768, .i1⟩
  | .hbm, ⟨117, _⟩ => ⟨S_, .f32⟩
  | .hbm, ⟨118, _⟩ => ⟨S_, .f32⟩
  | .hbm, ⟨119, _⟩ => ⟨S8x256x768, .i1⟩
  | .hbm, ⟨120, _⟩ => ⟨S8x256x768, .f32⟩
  | .hbm, ⟨121, _⟩ => ⟨S8x256x768, .f32⟩
  | .hbm, ⟨122, _⟩ => ⟨S8x4096x512, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S4x256x512, .bf16⟩
  | .local _ .vmem, ⟨9, _⟩ => ⟨S4x256x512, .bf16⟩
  | .local _ .vmem, ⟨10, _⟩ => ⟨S4x256x512, .bf16⟩
  | .local _ .vmem, ⟨11, _⟩ => ⟨S4x256x512, .bf16⟩
  | .local _ .vmem, ⟨12, _⟩ => ⟨S4x256x512, .bf16⟩
  | .local _ .vmem, ⟨13, _⟩ => ⟨S4x256x512, .bf16⟩
  | .local _ .vmem, ⟨14, _⟩ => ⟨S8x256x768, .f32⟩
  | .local _ .vmem, ⟨15, _⟩ => ⟨S4x256x512, .bf16⟩
  | .local _ .vmem, ⟨16, _⟩ => ⟨S4x256x512, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_10 : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v41 : Ref sig .tc := ⟨.hbm, 81, rfl⟩
abbrev main_c_12 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v42 : Ref sig .tc := ⟨.hbm, 99, rfl⟩
abbrev main_c_13 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_c_14 : Ref sig .tc := ⟨.hbm, 106, rfl⟩
abbrev main_v48 : Ref sig .tc := ⟨.hbm, 107, rfl⟩
abbrev main_v49 : Ref sig .tc := ⟨.hbm, 108, rfl⟩
abbrev main_c_15 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_16 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v57 : Ref sig .tc := ⟨.hbm, 121, rfl⟩
abbrev main_v58 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v3 : BitVec 1 := Scalar.cmpi .sge arg1 c2_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c2_i32_0 : BitVec 32 := 2#32
  let v6 : BitVec 1 := Scalar.cmpi .slt arg1 c2_i32_0
  let v7 : BitVec 32 := Scalar.extui v6
  let c0_i32_1 : BitVec 32 := 0#32
  let v8 : BitVec 1 := Scalar.cmpi .ne v7 c0_i32_1
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x8x64 : Shape := ⟨4, ![8, 4096, 8, 64]⟩
abbrev S8x320 : Shape := ⟨2, ![8, 320]⟩
abbrev S_ : Shape := ⟨0, ![]⟩
abbrev S8x4608x8x64 : Shape := ⟨4, ![8, 4608, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x64x64x8x64 : Shape := ⟨5, ![8, 64, 64, 8, 64]⟩
abbrev S8x64x576x8x64 : Shape := ⟨5, ![8, 64, 576, 8, 64]⟩
abbrev S8x64x8x64x576 : Shape := ⟨5, ![8, 64, 8, 64, 576]⟩
abbrev S1x1x8x64x576 : Shape := ⟨5, ![1, 1, 8, 64, 576]⟩
abbrev S1x64x1x1x576 : Shape := ⟨5, ![1, 64, 1, 1, 576]⟩
abbrev S8x64x8x64 : Shape := ⟨4, ![8, 64, 8, 64]⟩
abbrev S8x64x8x64x1 : Shape := ⟨5, ![8, 64, 8, 64, 1]⟩
abbrev S8x64x8x64x64 : Shape := ⟨5, ![8, 64, 8, 64, 64]⟩
abbrev S8x4096x512 : Shape := ⟨3, ![8, 4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x320, .f32⟩
  | .hbm, ⟨4, _⟩ => ⟨S_, .i32⟩
  | .hbm, ⟨5, _⟩ => ⟨S_, .f32⟩
  | .hbm, ⟨6, _⟩ => ⟨S8x4608x8x64, .f32⟩
  | .hbm, ⟨7, _⟩ => ⟨S_, .i32⟩
  | .hbm, ⟨8, _⟩ => ⟨S_, .f32⟩
  | .hbm, ⟨9, _⟩ => ⟨S8x4608x8x64, .f32⟩
  | .hbm, ⟨10, _⟩ => ⟨S64, .i32⟩
  | .hbm, ⟨11, _⟩ => ⟨S64x1, .i32⟩
  | .hbm, ⟨12, _⟩ => ⟨S576, .i32⟩
  | .hbm, ⟨13, _⟩ => ⟨S1x576, .i32⟩
  | .hbm, ⟨14, _⟩ => ⟨S64x576, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S8x64x576, .f32⟩
  | .hbm, ⟨40, _⟩ => ⟨S64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S576, .i32⟩
  | .hbm, ⟨46, _⟩ => ⟨S1x576, .i32⟩
  | .hbm, ⟨47, _⟩ => ⟨S64x576, .i32⟩
  | .hbm, ⟨48, _⟩ => ⟨S64x576, .i32⟩
  | .hbm, ⟨49, _⟩ => ⟨S64x576, .i32⟩
  | .hbm, ⟨50, _⟩ => ⟨S8x64x64x8x64, .f32⟩
  | .hbm, ⟨51, _⟩ => ⟨S_, .i32⟩
  | .hbm, ⟨52, _⟩ => ⟨S64x576, .i32⟩
  | .hbm, ⟨53, _⟩ => ⟨S64x576, .i1⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S64x576, .i32⟩
  | .hbm, ⟨58, _⟩ => ⟨S64x576x1, .i32⟩
  | .hbm, ⟨59, _⟩ => ⟨S8x64x576x8x64, .f32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S8x64x576x8x64, .f32⟩
  | .hbm, ⟨69, _⟩ => ⟨S8x64x8x64x576, .f32⟩
  | .hbm, ⟨70, _⟩ => ⟨S_, .f32⟩
  | .hbm, ⟨71, _⟩ => ⟨S8x64x8x64x576, .f32⟩
  | .hbm, ⟨72, _⟩ => ⟨S8x64x8x64x576, .f32⟩
  | .hbm, ⟨73, _⟩ => ⟨S1x1x8x64x576, .f32⟩
  | .hbm, ⟨74, _⟩ => ⟨S8x64x8x64x576, .f32⟩
  | .hbm, ⟨75, _⟩ => ⟨S8x64x8x64x576, .f32⟩
  | .hbm, ⟨76, _⟩ => ⟨S_, .i32⟩
  | .hbm, ⟨77, _⟩ => ⟨S64x576, .i32⟩
  | .hbm, ⟨78, _⟩ => ⟨S64x576, .i32⟩
  | .hbm, ⟨79, _⟩ => ⟨S_, .i32⟩
  | .hbm, ⟨80, _⟩ => ⟨S64x576, .i32⟩
  | .hbm, ⟨81, _⟩ => ⟨S64x576, .i1⟩
  | .hbm, ⟨82, _⟩ => ⟨S1x64x1x1x576, .i1⟩
  | .hbm, ⟨83, _⟩ => ⟨S_, .f32⟩
  | .hbm, ⟨84, _⟩ => ⟨S_, .f32⟩
  | .hbm, ⟨85, _⟩ => ⟨S8x64x8x64x576, .i1⟩
  | .hbm, ⟨86, _⟩ => ⟨S8x64x8x64x576, .f32⟩
  | .hbm, ⟨87, _⟩ => ⟨S8x64x8x64x576, .f32⟩
  | .hbm, ⟨88, _⟩ => ⟨S_, .f32⟩
  | .hbm, ⟨89, _⟩ => ⟨S8x64x8x64, .f32⟩
  | .hbm, ⟨90, _⟩ => ⟨S_, .f32⟩
  | .hbm, ⟨91, _⟩ => ⟨S8x64x8x64, .f32⟩
  | .hbm, ⟨92, _⟩ => ⟨S8x64x8x64, .f32⟩
  | .hbm, ⟨93, _⟩ => ⟨S8x64x8x64x1, .f32⟩
  | .hbm, ⟨94, _⟩ => ⟨S8x64x8x64x576, .f32⟩
  | .hbm, ⟨95, _⟩ => ⟨S8x64x8x64x576, .f32⟩
  | .hbm, ⟨96, _⟩ => ⟨S8x64x8x64x576, .f32⟩
  | .hbm, ⟨97, _⟩ => ⟨S_, .f32⟩
  | .hbm, ⟨98, _⟩ => ⟨S8x64x8x64, .f32⟩
  | .hbm, ⟨99, _⟩ => ⟨S8x64x8x64x1, .f32⟩
  | .hbm, ⟨100, _⟩ => ⟨S8x64x8x64x576, .f32⟩
  | .hbm, ⟨101, _⟩ => ⟨S8x64x8x64x576, .f32⟩
  | .hbm, ⟨102, _⟩ => ⟨S8x64x8x64x64, .f32⟩
  | .hbm, ⟨103, _⟩ => ⟨S8x64x64x8x64, .f32⟩
  | .hbm, ⟨104, _⟩ => ⟨S8x4096x512, .f32⟩
  | .hbm, ⟨105, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_c_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_c_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x5120 : Shape := ⟨2, ![1024, 5120]⟩
abbrev S5120 : Shape := ⟨1, ![5120]⟩
abbrev S64 : Shape := ⟨1, ![64]⟩
abbrev S3x512 : Shape := ⟨2, ![3, 512]⟩
abbrev S512 : Shape := ⟨1, ![512]⟩
abbrev S_ : Shape := ⟨0, ![]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S5x512 : Shape := ⟨2, ![5, 512]⟩
abbrev S8x512 : Shape := ⟨2, ![8, 512]⟩
abbrev S32768x1024 : Shape := ⟨2, ![32768, 1024]⟩
abbrev S1x1024 : Shape := ⟨2, ![1, 1024]⟩
abbrev S1024x1536 : Shape := ⟨2, ![1024, 1536]⟩
abbrev S3072 : Shape := ⟨1, ![3072]⟩
abbrev S1x3072 : Shape := ⟨2, ![1, 3072]⟩
abbrev S32768x512 : Shape := ⟨2, ![32768, 512]⟩
abbrev S1024x1024 : Shape := ⟨2, ![1024, 1024]⟩
abbrev S1024x512 : Shape := ⟨2, ![1024, 512]⟩
abbrev S1024x1 : Shape := ⟨2, ![1024, 1]⟩
abbrev S1x1536 : Shape := ⟨2, ![1, 1536]⟩
abbrev S1016x512 : Shape := ⟨2, ![1016, 512]⟩

abbrev nBuf : Space → Nat
  | .hbm => 69
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S5120, .f32⟩
  | .hbm, ⟨4, _⟩ => ⟨S64, .f32⟩
  | .hbm, ⟨5, _⟩ => ⟨S64, .f32⟩
  | .hbm, ⟨6, _⟩ => ⟨S3x512, .f32⟩
  | .hbm, ⟨7, _⟩ => ⟨S512, .f32⟩
  | .hbm, ⟨8, _⟩ => ⟨S1024x5120, .bf16⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S_, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .bf16⟩
  | .hbm, ⟨55, _⟩ => ⟨S_, .f32⟩
  | .hbm, ⟨56, _⟩ => ⟨S5x512, .f32⟩
  | .hbm, ⟨57, _⟩ => ⟨S8x512, .f32⟩
  | .hbm, ⟨58, _⟩ => ⟨S32768x1024, .f32⟩
  | .hbm, ⟨59, _⟩ => ⟨S1x1024, .f32⟩
  | .hbm, ⟨60, _⟩ => ⟨S1024x1536, .bf16⟩
  | .hbm, ⟨61, _⟩ => ⟨S1024x1536, .bf16⟩
  | .hbm, ⟨62, _⟩ => ⟨S3072, .f32⟩
  | .hbm, ⟨63, _⟩ => ⟨S1x3072, .f32⟩
  | .hbm, ⟨64, _⟩ => ⟨S1x512, .f32⟩
  | .hbm, ⟨65, _⟩ => ⟨S32768x512, .bf16⟩
  | .hbm, ⟨66, _⟩ => ⟨S32768x512, .bf16⟩
  | .hbm, ⟨67, _⟩ => ⟨S32768x512, .bf16⟩
  | .hbm, ⟨68, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1x3072, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S8x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v21 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32_0 : Ref sig .tc := ⟨.hbm, 65, rfl⟩
abbrev main_v32_1 : Ref sig .tc := ⟨.hbm, 66, rfl⟩
abbrev main_v32_2 : Ref sig .tc := ⟨.hbm, 67, rfl⟩
abbrev main_v32_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x1024 : Shape := ⟨3, ![8, 4096, 1024]⟩
abbrev S1024 : Shape := ⟨1, ![1024]⟩
abbrev S1024x5120 : Shape := ⟨2, ![1024, 5120]⟩
abbrev S5120 : Shape := ⟨1, ![5120]⟩
abbrev S64 : Shape := ⟨1, ![64]⟩
abbrev S3x512 : Shape := ⟨2, ![3, 512]⟩
abbrev S512 : Shape := ⟨1, ![512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S8x4096x512 : Shape := ⟨3, ![8, 4096, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4098x512 : Shape := ⟨3, ![8, 4098, 512]⟩
abbrev S1x512 : Shape := ⟨2, ![1, 512]⟩
abbrev S1x1x512 : Shape := ⟨3, ![1, 1, 512]⟩
abbrev S32768x512 : Shape := ⟨2, ![32768, 512]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5120, .f32⟩
  | .hbm, ⟨3, _⟩ => ⟨S5120, .f32⟩
  | .hbm, ⟨4, _⟩ => ⟨S64, .f32⟩
  | .hbm, ⟨5, _⟩ => ⟨S64, .f32⟩
  | .hbm, ⟨6, _⟩ => ⟨S3x512, .f32⟩
  | .hbm, ⟨7, _⟩ => ⟨S512, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x5120, .f32⟩
  | .hbm, ⟨25, _⟩ => ⟨S1x1x5120, .f32⟩
  | .hbm, ⟨26, _⟩ => ⟨S8x4096x5120, .f32⟩
  | .hbm, ⟨27, _⟩ => ⟨S8x4096x5120, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x4096x8x64, .f32⟩
  | .hbm, ⟨35, _⟩ => ⟨S8x4096x8x64, .f32⟩
  | .hbm, ⟨36, _⟩ => ⟨S_, .f32⟩
  | .hbm, ⟨37, _⟩ => ⟨S8x4096x8, .f32⟩
  | .hbm, ⟨38, _⟩ => ⟨S8x4096x8x1, .f32⟩
  | .hbm, ⟨39, _⟩ => ⟨S_, .f32⟩
  | .hbm, ⟨40, _⟩ => ⟨S8x4096x8x1, .f32⟩
  | .hbm, ⟨41, _⟩ => ⟨S8x4096x8x1, .f32⟩
  | .hbm, ⟨42, _⟩ => ⟨S_, .f32⟩
  | .hbm, ⟨43, _⟩ => ⟨S8x4096x8x1, .f32⟩
  | .hbm, ⟨44, _⟩ => ⟨S8x4096x8x1, .f32⟩
  | .hbm, ⟨45, _⟩ => ⟨S8x4096x8x1, .f32⟩
  | .hbm, ⟨46, _⟩ => ⟨S8x4096x8x64, .f32⟩
  | .hbm, ⟨47, _⟩ => ⟨S8x4096x8x64, .f32⟩
  | .hbm, ⟨48, _⟩ => ⟨S1x1x1x64, .f32⟩
  | .hbm, ⟨49, _⟩ => ⟨S8x4096x8x64, .f32⟩
  | .hbm, ⟨50, _⟩ => ⟨S8x4096x8x64, .f32⟩
  | .hbm, ⟨51, _⟩ => ⟨S_, .f32⟩
  | .hbm, ⟨52, _⟩ => ⟨S8x4096x8x64, .f32⟩
  | .hbm, ⟨53, _⟩ => ⟨S8x4096x8x64, .f32⟩
  | .hbm, ⟨54, _⟩ => ⟨S_, .f32⟩
  | .hbm, ⟨55, _⟩ => ⟨S_, .f32⟩
  | .hbm, ⟨56, _⟩ => ⟨S8x4096x8x64, .f32⟩
  | .hbm, ⟨57, _⟩ => ⟨S8x4096x8x64, .f32⟩
  | .hbm, ⟨58, _⟩ => ⟨S8x4096x8x64, .f32⟩
  | .hbm, ⟨59, _⟩ => ⟨S8x4096x8x64, .f32⟩
  | .hbm, ⟨60, _⟩ => ⟨S_, .f32⟩
  | .hbm, ⟨61, _⟩ => ⟨S8x4096x8, .f32⟩
  | .hbm, ⟨62, _⟩ => ⟨S8x4096x8x1, .f32⟩
  | .hbm, ⟨63, _⟩ => ⟨S_, .f32⟩
  | .hbm, ⟨64, _⟩ => ⟨S8x4096x8x1, .f32⟩
  | .hbm, ⟨65, _⟩ => ⟨S8x4096x8x1, .f32⟩
  | .hbm, ⟨66, _⟩ => ⟨S_, .f32⟩
  | .hbm, ⟨67, _⟩ => ⟨S8x4096x8x1, .f32⟩
  | .hbm, ⟨68, _⟩ => ⟨S8x4096x8x1, .f32⟩
  | .hbm, ⟨69, _⟩ => ⟨S8x4096x8x1, .f32⟩
  | .hbm, ⟨70, _⟩ => ⟨S8x4096x8x64, .f32⟩
  | .hbm, ⟨71, _⟩ => ⟨S8x4096x8x64, .f32⟩
  | .hbm, ⟨72, _⟩ => ⟨S1x1x1x64, .f32⟩
  | .hbm, ⟨73, _⟩ => ⟨S8x4096x8x64, .f32⟩
  | .hbm, ⟨74, _⟩ => ⟨S8x4096x8x64, .f32⟩
  | .hbm, ⟨75, _⟩ => ⟨S8x4096x512, .f32⟩
  | .hbm, ⟨76, _⟩ => ⟨S_, .i32⟩
  | .hbm, ⟨77, _⟩ => ⟨S_, .f32⟩
  | .hbm, ⟨78, _⟩ => ⟨S8x4098x512, .f32⟩
  | .hbm, ⟨79, _⟩ => ⟨S1x512, .f32⟩
  | .hbm, ⟨80, _⟩ => ⟨S512, .f32⟩
  | .hbm, ⟨81, _⟩ => ⟨S8x4096x512, .f32⟩
  | .hbm, ⟨82, _⟩ => ⟨S1x1x512, .f32⟩
  | .hbm, ⟨83, _⟩ => ⟨S8x4096x512, .f32⟩
  | .hbm, ⟨84, _⟩ => ⟨S8x4096x512, .f32⟩
  | .hbm, ⟨85, _⟩ => ⟨S1x1x512, .f32⟩
  | .hbm, ⟨86, _⟩ => ⟨S8x4096x512, .f32⟩
  | .hbm, ⟨87, _⟩ => ⟨S8x4096x512, .f32⟩
  | .hbm, ⟨88, _⟩ => ⟨S1x512, .f32⟩
  | .hbm, ⟨89, _⟩ => ⟨S512, .f32⟩
  | .hbm, ⟨90, _⟩ => ⟨S8x4096x512, .f32⟩
  | .hbm, ⟨91, _⟩ => ⟨S1x1x512, .f32⟩
  | .hbm, ⟨92, _⟩ => ⟨S8x4096x512, .f32⟩
  | .hbm, ⟨93, _⟩ => ⟨S8x4096x512, .f32⟩
  | .hbm, ⟨94, _⟩ => ⟨S8x4096x512, .f32⟩
  | .hbm, ⟨95, _⟩ => ⟨S1x512, .f32⟩
  | .hbm, ⟨96, _⟩ => ⟨S512, .f32⟩
  | .hbm, ⟨97, _⟩ => ⟨S8x4096x512, .f32⟩
  | .hbm, ⟨98, _⟩ => ⟨S1x1x512, .f32⟩
  | .hbm, ⟨99, _⟩ => ⟨S8x4096x512, .f32⟩
  | .hbm, ⟨100, _⟩ => ⟨S8x4096x512, .f32⟩
  | .hbm, ⟨101, _⟩ => ⟨S8x4096x512, .f32⟩
  | .hbm, ⟨102, _⟩ => ⟨S8x4096x512, .f32⟩
  | .hbm, ⟨103, _⟩ => ⟨S32768x512, .f32⟩
  | .hbm, ⟨104, _⟩ => ⟨S32768x512, .bf16⟩
  | .hbm, ⟨105, _⟩ => ⟨S32768x512, .f32⟩
  | .hbm, ⟨106, _⟩ => ⟨S32768x512, .bf16⟩
  | .hbm, ⟨107, _⟩ => ⟨S32768x512, .f32⟩
  | .hbm, ⟨108, _⟩ => ⟨S32768x512, .bf16⟩
  | .hbm, ⟨109, _⟩ => ⟨S32768x512, .f32⟩
  | .hbm, ⟨110, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_call0_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x128 : Shape := ⟨2, ![262144, 128]⟩
abbrev S32768x128 : Shape := ⟨2, ![32768, 128]⟩
abbrev S128x8x128 : Shape := ⟨3, ![128, 8, 128]⟩
abbrev S1024x512 : Shape := ⟨2, ![1024, 512]⟩
abbrev S8192x128 : Shape := ⟨2, ![8192, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x128, .i32⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x128, .i32⟩
  | .local _ .vmem, ⟨18, _⟩ => ⟨S8192x128, .i32⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel3Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x2x128 : Shape := ⟨3, ![262144, 2, 128]⟩
abbrev S32768x128 : Shape := ⟨2, ![32768, 128]⟩
abbrev S128x8x128 : Shape := ⟨3, ![128, 8, 128]⟩
abbrev S262144x1x128 : Shape := ⟨3, ![262144, 1, 128]⟩
abbrev S262144x128 : Shape := ⟨2, ![262144, 128]⟩
abbrev S1024x512 : Shape := ⟨2, ![1024, 512]⟩
abbrev S8192x128 : Shape := ⟨2, ![8192, 128]⟩
abbrev S8192x2x128 : Shape := ⟨3, ![8192, 2, 128]⟩
abbrev S8192x1x128 : Shape := ⟨3, ![8192, 1, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩
abbrev S2048x2x128 : Shape := ⟨3, ![2048, 2, 128]⟩
abbrev S2048x1x128 : Shape := ⟨3, ![2048, 1, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x2x128, .bf16⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x2x128, .bf16⟩
  | .local _ .vmem, ⟨18, _⟩ => ⟨S8192x2x128, .bf16⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x2x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x5120, .f32⟩
  | .hbm, ⟨31, _⟩ => ⟨S1x1x5120, .f32⟩
  | .hbm, ⟨32, _⟩ => ⟨S8x4096x5120, .f32⟩
  | .hbm, ⟨33, _⟩ => ⟨S8x4096x5120, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x128 : Shape := ⟨2, ![262144, 128]⟩
abbrev S32768x128 : Shape := ⟨2, ![32768, 128]⟩
abbrev S128x8x128 : Shape := ⟨3, ![128, 8, 128]⟩
abbrev S1024x512 : Shape := ⟨2, ![1024, 512]⟩
abbrev S8192x128 : Shape := ⟨2, ![8192, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x128, .i32⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x128, .i32⟩
  | .local _ .vmem, ⟨18, _⟩ => ⟨S8192x128, .i32⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel4Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x2x128 : Shape := ⟨3, ![262144, 2, 128]⟩
abbrev S32768x128 : Shape := ⟨2, ![32768, 128]⟩
abbrev S128x8x128 : Shape := ⟨3, ![128, 8, 128]⟩
abbrev S262144x1x128 : Shape := ⟨3, ![262144, 1, 128]⟩
abbrev S262144x128 : Shape := ⟨2, ![262144, 128]⟩
abbrev S1024x512 : Shape := ⟨2, ![1024, 512]⟩
abbrev S8192x128 : Shape := ⟨2, ![8192, 128]⟩
abbrev S8192x2x128 : Shape := ⟨3, ![8192, 2, 128]⟩
abbrev S8192x1x128 : Shape := ⟨3, ![8192, 1, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩
abbrev S2048x2x128 : Shape := ⟨3, ![2048, 2, 128]⟩
abbrev S2048x1x128 : Shape := ⟨3, ![2048, 1, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x2x128, .bf16⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x2x128, .bf16⟩
  | .local _ .vmem, ⟨18, _⟩ => ⟨S8192x2x128, .bf16⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x2x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S4x4 : Shape := ⟨2, ![4, 4]⟩
abbrev S32768x4x1 : Shape := ⟨3, ![32768, 4, 1]⟩
abbrev S32768x1x4 : Shape := ⟨3, ![32768, 1, 4]⟩
abbrev S32768x4x4 : Shape := ⟨3, ![32768, 4, 4]⟩
abbrev S1x4x4 : Shape := ⟨3, ![1, 4, 4]⟩
abbrev S32768x4x8 : Shape := ⟨3, ![32768, 4, 8]⟩
abbrev S8x8 : Shape := ⟨2, ![8, 8]⟩
abbrev S32768x4x8x1 : Shape := ⟨4, ![32768, 4, 8, 1]⟩
abbrev S32768x4x1x8 : Shape := ⟨4, ![32768, 4, 1, 8]⟩
abbrev S32768x4x8x8 : Shape := ⟨4, ![32768, 4, 8, 8]⟩
abbrev S1x1x8x8 : Shape := ⟨4, ![1, 1, 8, 8]⟩
abbrev S128x256x32 : Shape := ⟨3, ![128, 256, 32]⟩
abbrev S128x32 : Shape := ⟨2, ![128, 32]⟩
abbrev S128x128 : Shape := ⟨2, ![128, 128]⟩
abbrev S128x1x128 : Shape := ⟨3, ![128, 1, 128]⟩
abbrev S128x8x128 : Shape := ⟨3, ![128, 8, 128]⟩

abbrev nBuf : Space → Nat
  | .hbm => 154
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S1024, .f32⟩
  | 4 => ⟨S1024x5120, .f32⟩
  | 5 => ⟨S5120, .f32⟩
  | 6 => ⟨S512x1024, .f32⟩
  | 7 => ⟨S512x1024, .f32⟩
  | 8 => ⟨S1024x1024, .f32⟩
  | 9 => ⟨S1024, .f32⟩
  | 10 => ⟨S1024x4, .f32⟩
  | 11 => ⟨S4, .f32⟩
  | 12 => ⟨S1024x32, .f32⟩
  | 13 => ⟨S32, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x5120, .f32⟩
  | 31 => ⟨S1x1x5120, .f32⟩
  | 32 => ⟨S8x4096x5120, .f32⟩
  | 33 => ⟨S8x4096x5120, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x1024, .f32⟩
  | 59 => ⟨S32768x1024, .f32⟩
  | 60 => ⟨S32768x1024, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S32768x1, .f32⟩
  | 69 => ⟨S32768x1, .f32⟩
  | 70 => ⟨S32768x1, .f32⟩
  | 71 => ⟨S32768x1024, .f32⟩
  | 72 => ⟨S32768x1024, .f32⟩
  | 73 => ⟨S1x1024, .f32⟩
  | 74 => ⟨S32768x1024, .f32⟩
  | 75 => ⟨S32768x1024, .f32⟩
  | 76 => ⟨S32768x4, .f32⟩
  | 77 => ⟨S1x4, .f32⟩
  | 78 => ⟨S32768x4, .f32⟩
  | 79 => ⟨S32768x4, .f32⟩
  | 80 => ⟨S32768x32, .f32⟩
  | 81 => ⟨S1x32, .f32⟩
  | 82 => ⟨S32768x32, .f32⟩
  | 83 => ⟨S32768x32, .f32⟩
  | 84 => ⟨S4x4, .i32⟩
  | 85 => ⟨S4x4, .i32⟩
  | 86 => ⟨S32768x4x1, .f32⟩
  | 87 => ⟨S32768x1x4, .f32⟩
  | 88 => ⟨S32768x4x4, .f32⟩
  | 89 => ⟨S32768x4x4, .f32⟩
  | 90 => ⟨S32768x4x4, .i1⟩
  | 91 => ⟨S32768x4x4, .f32⟩
  | 92 => ⟨S32768x4x4, .f32⟩
  | 93 => ⟨S32768x4x4, .i1⟩
  | 94 => ⟨S4x4, .i1⟩
  | 95 => ⟨S1x4x4, .i1⟩
  | 96 => ⟨S32768x4x4, .i1⟩
  | 97 => ⟨S32768x4x4, .i1⟩
  | 98 => ⟨S32768x4x4, .i1⟩
  | 99 => ⟨S_, .f32⟩
  | 100 => ⟨S_, .f32⟩
  | 101 => ⟨S32768x4x4, .f32⟩
  | 102 => ⟨S32768x4x4, .f32⟩
  | 103 => ⟨S32768x4x4, .f32⟩
  | 104 => ⟨S32768x4x4, .f32⟩
  | 105 => ⟨S_, .f32⟩
  | 106 => ⟨S32768x4, .f32⟩
  | 107 => ⟨S_, .f32⟩
  | 108 => ⟨S32768x4, .f32⟩
  | 109 => ⟨S32768x4, .i1⟩
  | 110 => ⟨S32768x4x8, .f32⟩
  | 111 => ⟨S8x8, .i32⟩
  | 112 => ⟨S8x8, .i32⟩
  | 113 => ⟨S32768x4x8x1, .f32⟩
  | 114 => ⟨S32768x4x1x8, .f32⟩
  | 115 => ⟨S32768x4x8x8, .f32⟩
  | 116 => ⟨S32768x4x8x8, .f32⟩
  | 117 => ⟨S32768x4x8x8, .i1⟩
  | 118 => ⟨S32768x4x8x8, .f32⟩
  | 119 => ⟨S32768x4x8x8, .f32⟩
  | 120 => ⟨S32768x4x8x8, .i1⟩
  | 121 => ⟨S8x8, .i1⟩
  | 122 => ⟨S1x1x8x8, .i1⟩
  | 123 => ⟨S32768x4x8x8, .i1⟩
  | 124 => ⟨S32768x4x8x8, .i1⟩
  | 125 => ⟨S32768x4x8x8, .i1⟩
  | 126 => ⟨S_, .f32⟩
  | 127 => ⟨S_, .f32⟩
  | _ => ⟨S8x4096x1024, .f32⟩

abbrev hbmTy0_1 (i : Nat) : BufTy := match i % 128 with
  | 0 => ⟨S32768x4x8x8, .f32⟩
  | 1 => ⟨S32768x4x8x8, .f32⟩
  | 2 => ⟨S32768x4x8x8, .f32⟩
  | 3 => ⟨S32768x4x8x8, .f32⟩
  | 4 => ⟨S_, .f32⟩
  | 5 => ⟨S32768x4x8, .f32⟩
  | 6 => ⟨S_, .f32⟩
  | 7 => ⟨S32768x4x8, .f32⟩
  | 8 => ⟨S32768x4x8, .i1⟩
  | 9 => ⟨S32768x4x1, .i1⟩
  | 10 => ⟨S32768x4x8, .i1⟩
  | 11 => ⟨S32768x4x8, .i1⟩
  | 12 => ⟨S_, .f32⟩
  | 13 => ⟨S_, .f32⟩
  | 14 => ⟨S32768x4x8, .f32⟩
  | 15 => ⟨S32768x4x8, .f32⟩
  | 16 => ⟨S32768x4x8, .f32⟩
  | 17 => ⟨S128x256x32, .f32⟩
  | 18 => ⟨S128x256x32, .f32⟩
  | 19 => ⟨S_, .f32⟩
  | 20 => ⟨S128x32, .f32⟩
  | 21 => ⟨S_, .i32⟩
  | 22 => ⟨S_, .f32⟩
  | 23 => ⟨S128x128, .f32⟩
  | 24 => ⟨S128x1x128, .f32⟩
  | 25 => ⟨S128x8x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_cst_10 : Ref sig .tc := ⟨.hbm, 100, rfl⟩
abbrev main_call0_v0 : Ref sig .tc := ⟨.hbm, 101, rfl⟩
abbrev main_call0_v1 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_cst_14 : Ref sig .tc := ⟨.hbm, 127, rfl⟩
abbrev main_call1_v0 : Ref sig .tc := ⟨.hbm, 128, rfl⟩
abbrev main_call1_v1 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_17 : Ref sig .tc := ⟨.hbm, 140, rfl⟩
abbrev main_cst_18 : Ref sig .tc := ⟨.hbm, 141, rfl⟩
abbrev main_call2_v0 : Ref sig .tc := ⟨.hbm, 142, rfl⟩
abbrev main_call2_v1 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_c : Ref sig .tc := ⟨.hbm, 149, rfl⟩
abbrev main_call3_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x128 : Shape := ⟨2, ![262144, 128]⟩
abbrev S32768x128 : Shape := ⟨2, ![32768, 128]⟩
abbrev S128x8x128 : Shape := ⟨3, ![128, 8, 128]⟩
abbrev S1024x512 : Shape := ⟨2, ![1024, 512]⟩
abbrev S8192x128 : Shape := ⟨2, ![8192, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x128, .i32⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x128, .i32⟩
  | .local _ .vmem, ⟨18, _⟩ => ⟨S8192x128, .i32⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel5Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S262144x2x128 : Shape := ⟨3, ![262144, 2, 128]⟩
abbrev S32768x128 : Shape := ⟨2, ![32768, 128]⟩
abbrev S128x8x128 : Shape := ⟨3, ![128, 8, 128]⟩
abbrev S262144x1x128 : Shape := ⟨3, ![262144, 1, 128]⟩
abbrev S262144x128 : Shape := ⟨2, ![262144, 128]⟩
abbrev S1024x512 : Shape := ⟨2, ![1024, 512]⟩
abbrev S8192x128 : Shape := ⟨2, ![8192, 128]⟩
abbrev S8192x2x128 : Shape := ⟨3, ![8192, 2, 128]⟩
abbrev S8192x1x128 : Shape := ⟨3, ![8192, 1, 128]⟩
abbrev S4x8x128 : Shape := ⟨3, ![4, 8, 128]⟩
abbrev S8x256 : Shape := ⟨2, ![8, 256]⟩
abbrev S256x1024 : Shape := ⟨2, ![256, 1024]⟩
abbrev S256x128 : Shape := ⟨2, ![256, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S256x256 : Shape := ⟨2, ![256, 256]⟩
abbrev S32x32 : Shape := ⟨2, ![32, 32]⟩
abbrev S32x1 : Shape := ⟨2, ![32, 1]⟩
abbrev S8x32 : Shape := ⟨2, ![8, 32]⟩
abbrev S8x96 : Shape := ⟨2, ![8, 96]⟩
abbrev S8x128 : Shape := ⟨2, ![8, 128]⟩
abbrev S1x8x128 : Shape := ⟨3, ![1, 8, 128]⟩
abbrev S120x256 : Shape := ⟨2, ![120, 256]⟩
abbrev S1024x1 : Shape := ⟨2, ![1024, 1]⟩
abbrev S512x256 : Shape := ⟨2, ![512, 256]⟩
abbrev S512x128 : Shape := ⟨2, ![512, 128]⟩
abbrev S512x1x128 : Shape := ⟨3, ![512, 1, 128]⟩
abbrev S512x4x128 : Shape := ⟨3, ![512, 4, 128]⟩
abbrev S2048x128 : Shape := ⟨2, ![2048, 128]⟩
abbrev S2048x2x128 : Shape := ⟨3, ![2048, 2, 128]⟩
abbrev S2048x1x128 : Shape := ⟨3, ![2048, 1, 128]⟩

abbrev nBuf : Space → Nat
  | .hbm => 40
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1024, .f32⟩
  | .hbm, ⟨4, _⟩ => ⟨S1024x5120, .f32⟩
  | .hbm, ⟨5, _⟩ => ⟨S5120, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1024x5120, .bf16⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S_, .f32⟩
  | .hbm, ⟨20, _⟩ => ⟨S92, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S32768x512, .f32⟩
  | .hbm, ⟨25, _⟩ => ⟨S32768x512, .bf16⟩
  | .hbm, ⟨26, _⟩ => ⟨S32768x512, .f32⟩
  | .hbm, ⟨27, _⟩ => ⟨S32768x512, .bf16⟩
  | .hbm, ⟨28, _⟩ => ⟨S1x1024, .f32⟩
  | .hbm, ⟨29, _⟩ => ⟨S1024x2048, .bf16⟩
  | .hbm, ⟨30, _⟩ => ⟨S2048, .f32⟩
  | .hbm, ⟨31, _⟩ => ⟨S1x2048, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x1024, .f32⟩
  | .hbm, ⟨36, _⟩ => ⟨S32768x1024, .f32⟩
  | .hbm, ⟨37, _⟩ => ⟨S262144x2x128, .bf16⟩
  | .hbm, ⟨38, _⟩ => ⟨S32768x128, .f32⟩
  | .hbm, ⟨39, _⟩ => ⟨S128x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S8192x2x128, .bf16⟩
  | .local _ .vmem, ⟨18, _⟩ => ⟨S8192x2x128, .bf16⟩
  | .local _ .vmem, ⟨19, _⟩ => ⟨S1024x128, .f32⟩
  | .local _ .vmem, ⟨20, _⟩ => ⟨S1024x128, .f32⟩
  | .local _ .vmem, ⟨21, _⟩ => ⟨S4x8x128, .f32⟩
  | .local _ .vmem, ⟨22, _⟩ => ⟨S4x8x128, .f32⟩
  | .local _ .vmem, ⟨23, _⟩ => ⟨S1024x1024, .bf16⟩
  | .local _ .vmem, ⟨24, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, 0, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x2x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S8x4096x1024 : Shape := ⟨3, ![8, 4096, 1024]⟩
abbrev S8x4096x512 : Shape := ⟨3, ![8, 4096, 512]⟩
abbrev S1024 : Shape := ⟨1, ![1024]⟩
abbrev S1024x5120 : Shape := ⟨2, ![1024, 5120]⟩
abbrev S5120 : Shape := ⟨1, ![5120]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩
abbrev S1x1x5120 : Shape := ⟨3, ![1, 1, 5120]⟩
abbrev S32768x1024 : Shape := ⟨2, ![32768, 1024]⟩
abbrev S32768 : Shape := ⟨1, ![32768]⟩
abbrev S32768x1 : Shape := ⟨2, ![32768, 1]⟩
abbrev S1x1024 : Shape := ⟨2, ![1, 1024]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S4x4 : Shape := ⟨2, ![4, 4]⟩
abbrev S32768x4x1 : Shape := ⟨3, ![32768, 4, 1]⟩
abbrev S32768x1x4 : Shape := ⟨3, ![32768, 1, 4]⟩
abbrev S32768x4x4 : Shape := ⟨3, ![32768, 4, 4]⟩
abbrev S1x4x4 : Shape := ⟨3, ![1, 4, 4]⟩
abbrev S32768x4x8 : Shape := ⟨3, ![32768, 4, 8]⟩
abbrev S8x8 : Shape := ⟨2, ![8, 8]⟩
abbrev S32768x4x8x1 : Shape := ⟨4, ![32768, 4, 8, 1]⟩
abbrev S32768x4x1x8 : Shape := ⟨4, ![32768, 4, 1, 8]⟩
abbrev S32768x4x8x8 : Shape := ⟨4, ![32768, 4, 8, 8]⟩
abbrev S1x1x8x8 : Shape := ⟨4, ![1, 1, 8, 8]⟩
abbrev S32768x2 : Shape := ⟨2, ![32768, 2]⟩
abbrev S256x256 : Shape := ⟨2, ![256, 256]⟩
abbrev S128x256 : Shape := ⟨2, ![128, 256]⟩
abbrev S128x256x1 : Shape := ⟨3, ![128, 256, 1]⟩
abbrev S128x1x256 : Shape := ⟨3, ![128, 1, 256]⟩
abbrev S128x256x256 : Shape := ⟨3, ![128, 256, 256]⟩
abbrev S1x256x256 : Shape := ⟨3, ![1, 256, 256]⟩
abbrev S32768x6 : Shape := ⟨2, ![32768, 6]⟩
abbrev S32768x128 : Shape := ⟨2, ![32768, 128]⟩

abbrev nBuf : Space → Nat
  | .hbm => 325
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S1024, .f32⟩
  | 4 => ⟨S1024x5120, .f32⟩
  | 5 => ⟨S5120, .f32⟩
  | 6 => ⟨S512x1024, .f32⟩
  | 7 => ⟨S512x1024, .f32⟩
  | 8 => ⟨S1024x1024, .f32⟩
  | 9 => ⟨S1024, .f32⟩
  | 10 => ⟨S1024x4, .f32⟩
  | 11 => ⟨S4, .f32⟩
  | 12 => ⟨S1024x32, .f32⟩
  | 13 => ⟨S32, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x5120, .f32⟩
  | 31 => ⟨S1x1x5120, .f32⟩
  | 32 => ⟨S8x4096x5120, .f32⟩
  | 33 => ⟨S8x4096x5120, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x1024, .f32⟩
  | 59 => ⟨S32768x1024, .f32⟩
  | 60 => ⟨S32768x1024, .f32⟩
  | 61 => ⟨S_, .f32⟩
  | 62 => ⟨S32768, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S32768x1, .f32⟩
  | 69 => ⟨S32768x1, .f32⟩
  | 70 => ⟨S32768x1, .f32⟩
  | 71 => ⟨S32768x1024, .f32⟩
  | 72 => ⟨S32768x1024, .f32⟩
  | 73 => ⟨S1x1024, .f32⟩
  | 74 => ⟨S32768x1024, .f32⟩
  | 75 => ⟨S32768x1024, .f32⟩
  | 76 => ⟨S32768x4, .f32⟩
  | 77 => ⟨S1x4, .f32⟩
  | 78 => ⟨S32768x4, .f32⟩
  | 79 => ⟨S32768x4, .f32⟩
  | 80 => ⟨S32768x32, .f32⟩
  | 81 => ⟨S1x32, .f32⟩
  | 82 => ⟨S32768x32, .f32⟩
  | 83 => ⟨S32768x32, .f32⟩
  | 84 => ⟨S4x4, .i32⟩
  | 85 => ⟨S4x4, .i32⟩
  | 86 => ⟨S32768x4x1, .f32⟩
  | 87 => ⟨S32768x1x4, .f32⟩
  | 88 => ⟨S32768x4x4, .f32⟩
  | 89 => ⟨S32768x4x4, .f32⟩
  | 90 => ⟨S32768x4x4, .i1⟩
  | 91 => ⟨S32768x4x4, .f32⟩
  | 92 => ⟨S32768x4x4, .f32⟩
  | 93 => ⟨S32768x4x4, .i1⟩
  | 94 => ⟨S4x4, .i1⟩
  | 95 => ⟨S1x4x4, .i1⟩
  | 96 => ⟨S32768x4x4, .i1⟩
  | 97 => ⟨S32768x4x4, .i1⟩
  | 98 => ⟨S32768x4x4, .i1⟩
  | 99 => ⟨S_, .f32⟩
  | 100 => ⟨S_, .f32⟩
  | 101 => ⟨S32768x4x4, .f32⟩
  | 102 => ⟨S32768x4x4, .f32⟩
  | 103 => ⟨S32768x4x4, .f32⟩
  | 104 => ⟨S32768x4x4, .f32⟩
  | 105 => ⟨S_, .f32⟩
  | 106 => ⟨S32768x4, .f32⟩
  | 107 => ⟨S_, .f32⟩
  | 108 => ⟨S32768x4, .f32⟩
  | 109 => ⟨S32768x4, .i1⟩
  | 110 => ⟨S32768x4x8, .f32⟩
  | 111 => ⟨S8x8, .i32⟩
  | 112 => ⟨S8x8, .i32⟩
  | 113 => ⟨S32768x4x8x1, .f32⟩
  | 114 => ⟨S32768x4x1x8, .f32⟩
  | 115 => ⟨S32768x4x8x8, .f32⟩
  | 116 => ⟨S32768x4x8x8, .f32⟩
  | 117 => ⟨S32768x4x8x8, .i1⟩
  | 118 => ⟨S32768x4x8x8, .f32⟩
  | 119 => ⟨S32768x4x8x8, .f32⟩
  | 120 => ⟨S32768x4x8x8, .i1⟩
  | 121 => ⟨S8x8, .i1⟩
  | 122 => ⟨S1x1x8x8, .i1⟩
  | 123 => ⟨S32768x4x8x8, .i1⟩
  | 124 => ⟨S32768x4x8x8, .i1⟩
  | 125 => ⟨S32768x4x8x8, .i1⟩
  | 126 => ⟨S_, .f32⟩
  | 127 => ⟨S_, .f32⟩
  | _ => ⟨S8x4096x1024, .f32⟩

abbrev hbmTy0_1 (i : Nat) : BufTy := match i % 128 with
  | 0 => ⟨S32768x4x8x8, .f32⟩
  | 1 => ⟨S32768x4x8x8, .f32⟩
  | 2 => ⟨S32768x4x8x8, .f32⟩
  | 3 => ⟨S32768x4x8x8, .f32⟩
  | 4 => ⟨S_, .f32⟩
  | 5 => ⟨S32768x4x8, .f32⟩
  | 6 => ⟨S32, .i32⟩
  | 7 => ⟨S32, .f32⟩
  | 8 => ⟨S32768x32, .f32⟩
  | 9 => ⟨S32768x4x1, .i1⟩
  | 10 => ⟨S_, .f32⟩
  | 11 => ⟨S32768x4x8, .f32⟩
  | 12 => ⟨S32768x4x8, .i1⟩
  | 13 => ⟨S32768x4x8, .i1⟩
  | 14 => ⟨S32768x4x8, .i1⟩
  | 15 => ⟨S32768x32, .i1⟩
  | 16 => ⟨S32768x4x1, .i1⟩
  | 17 => ⟨S_, .f32⟩
  | 18 => ⟨S32768x4x8, .f32⟩
  | 19 => ⟨S32768x4x8, .i1⟩
  | 20 => ⟨S32768x4x8, .i1⟩
  | 21 => ⟨S32768x4x8, .i1⟩
  | 22 => ⟨S32768x32, .i1⟩
  | 23 => ⟨S_, .f32⟩
  | 24 => ⟨S_, .f32⟩
  | 25 => ⟨S32768x32, .f32⟩
  | 26 => ⟨S32768x32, .f32⟩
  | 27 => ⟨S_, .f32⟩
  | 28 => ⟨S32768, .f32⟩
  | 29 => ⟨S_, .f32⟩
  | 30 => ⟨S_, .f32⟩
  | 31 => ⟨S32768x32, .f32⟩
  | 32 => ⟨S32768x32, .f32⟩
  | 33 => ⟨S_, .f32⟩
  | 34 => ⟨S32768, .f32⟩
  | 35 => ⟨S_, .f32⟩
  | 36 => ⟨S32768, .f32⟩
  | 37 => ⟨S_, .f32⟩
  | 38 => ⟨S32768, .f32⟩
  | 39 => ⟨S32768, .f32⟩
  | 40 => ⟨S32768x1, .f32⟩
  | 41 => ⟨S32768x4, .f32⟩
  | 42 => ⟨S32768x4, .f32⟩
  | 43 => ⟨S32768x4, .f32⟩
  | 44 => ⟨S_, .f32⟩
  | 45 => ⟨S32768, .f32⟩
  | 46 => ⟨S32768x1, .f32⟩
  | 47 => ⟨S32768x4, .f32⟩
  | 48 => ⟨S32768x4, .f32⟩
  | 49 => ⟨S_, .f32⟩
  | 50 => ⟨S_, .f32⟩
  | 51 => ⟨S32768x4, .f32⟩
  | 52 => ⟨S32768x4, .f32⟩
  | 53 => ⟨S_, .f32⟩
  | 54 => ⟨S32768, .f32⟩
  | 55 => ⟨S_, .f32⟩
  | 56 => ⟨S_, .f32⟩
  | 57 => ⟨S32768x32, .f32⟩
  | 58 => ⟨S32768x32, .f32⟩
  | 59 => ⟨S_, .f32⟩
  | 60 => ⟨S32768, .f32⟩
  | 61 => ⟨S_, .f32⟩
  | 62 => ⟨S_, .f32⟩
  | 63 => ⟨S32768x32, .f32⟩
  | 64 => ⟨S32768x32, .f32⟩
  | 65 => ⟨S_, .f32⟩
  | 66 => ⟨S32768, .f32⟩
  | 67 => ⟨S32768x1, .f32⟩
  | 68 => ⟨S32768x1, .f32⟩
  | 69 => ⟨S32768x2, .f32⟩
  | 70 => ⟨S32768x1, .f32⟩
  | 71 => ⟨S_, .f32⟩
  | 72 => ⟨S32768, .f32⟩
  | 73 => ⟨S_, .f32⟩
  | 74 => ⟨S32768, .f32⟩
  | 75 => ⟨S32768, .f32⟩
  | 76 => ⟨S32768x1, .f32⟩
  | 77 => ⟨S32768x2, .f32⟩
  | 78 => ⟨S32768x2, .f32⟩
  | 79 => ⟨S32768x2, .f32⟩
  | 80 => ⟨S_, .f32⟩
  | 81 => ⟨S32768, .f32⟩
  | 82 => ⟨S32768x1, .f32⟩
  | 83 => ⟨S32768x2, .f32⟩
  | 84 => ⟨S32768x2, .f32⟩
  | 85 => ⟨S32768x2, .f32⟩
  | 86 => ⟨S32768x2, .f32⟩
  | 87 => ⟨S256x256, .i32⟩
  | 88 => ⟨S256x256, .i32⟩
  | 89 => ⟨S128x256, .f32⟩
  | 90 => ⟨S128x256x1, .f32⟩
  | 91 => ⟨S128x256, .f32⟩
  | 92 => ⟨S128x1x256, .f32⟩
  | 93 => ⟨S128x256x256, .f32⟩
  | 94 => ⟨S128x256x256, .f32⟩
  | 95 => ⟨S128x256x256, .i1⟩
  | 96 => ⟨S128x256x256, .f32⟩
  | 97 => ⟨S128x256x256, .f32⟩
  | 98 => ⟨S128x256x256, .i1⟩
  | 99 => ⟨S256x256, .i1⟩
  | 100 => ⟨S1x256x256, .i1⟩
  | 101 => ⟨S128x256x256, .i1⟩
  | 102 => ⟨S128x256x256, .i1⟩
  | 103 => ⟨S128x256x256, .i1⟩
  | 104 => ⟨S_, .f32⟩
  | 105 => ⟨S_, .f32⟩
  | 106 => ⟨S128x256x256, .f32⟩
  | 107 => ⟨S128x256x256, .f32⟩
  | 108 => ⟨S128x256x256, .f32⟩
  | 109 => ⟨S128x256x256, .f32⟩
  | 110 => ⟨S_, .f32⟩
  | 111 => ⟨S128x256, .f32⟩
  | 112 => ⟨S_, .f32⟩
  | 113 => ⟨S128x256, .f32⟩
  | 114 => ⟨S128x256, .f32⟩
  | 115 => ⟨S128x256, .f32⟩
  | 116 => ⟨S128x1x256, .f32⟩
  | 117 => ⟨S128x256x256, .f32⟩
  | 118 => ⟨S128x256x256, .f32⟩
  | 119 => ⟨S128x256x256, .i1⟩
  | 120 => ⟨S128x256x256, .f32⟩
  | 121 => ⟨S128x256x256, .f32⟩
  | 122 => ⟨S128x256x256, .i1⟩
  | 123 => ⟨S256x256, .i1⟩
  | 124 => ⟨S1x256x256, .i1⟩
  | 125 => ⟨S128x256x256, .i1⟩
  | 126 => ⟨S128x256x256, .i1⟩
  | 127 => ⟨S128x256x256, .i1⟩
  | _ => ⟨S8x4096x1024, .f32⟩

abbrev hbmTy0_2 (i : Nat) : BufTy := match i % 128 with
  | 0 => ⟨S_, .f32⟩
  | 1 => ⟨S_, .f32⟩
  | 2 => ⟨S128x256x256, .f32⟩
  | 3 => ⟨S128x256x256, .f32⟩
  | 4 => ⟨S128x256x256, .f32⟩
  | 5 => ⟨S128x256x256, .f32⟩
  | 6 => ⟨S_, .f32⟩
  | 7 => ⟨S128x256, .f32⟩
  | 8 => ⟨S128x256, .f32⟩
  | 9 => ⟨S32768, .f32⟩
  | 10 => ⟨S128x256, .f32⟩
  | 11 => ⟨S128x256x1, .f32⟩
  | 12 => ⟨S128x256, .f32⟩
  | 13 => ⟨S128x1x256, .f32⟩
  | 14 => ⟨S128x256x256, .f32⟩
  | 15 => ⟨S128x256x256, .f32⟩
  | 16 => ⟨S128x256x256, .i1⟩
  | 17 => ⟨S128x256x256, .f32⟩
  | 18 => ⟨S128x256x256, .f32⟩
  | 19 => ⟨S128x256x256, .i1⟩
  | 20 => ⟨S256x256, .i1⟩
  | 21 => ⟨S1x256x256, .i1⟩
  | 22 => ⟨S128x256x256, .i1⟩
  | 23 => ⟨S128x256x256, .i1⟩
  | 24 => ⟨S128x256x256, .i1⟩
  | 25 => ⟨S_, .f32⟩
  | 26 => ⟨S_, .f32⟩
  | 27 => ⟨S128x256x256, .f32⟩
  | 28 => ⟨S128x256x256, .f32⟩
  | 29 => ⟨S128x256x256, .f32⟩
  | 30 => ⟨S128x256x256, .f32⟩
  | 31 => ⟨S_, .f32⟩
  | 32 => ⟨S128x256, .f32⟩
  | 33 => ⟨S_, .f32⟩
  | 34 => ⟨S128x256, .f32⟩
  | 35 => ⟨S128x256, .f32⟩
  | 36 => ⟨S128x256, .f32⟩
  | 37 => ⟨S128x1x256, .f32⟩
  | 38 => ⟨S128x256x256, .f32⟩
  | 39 => ⟨S128x256x256, .f32⟩
  | 40 => ⟨S128x256x256, .i1⟩
  | 41 => ⟨S128x256x256, .f32⟩
  | 42 => ⟨S128x256x256, .f32⟩
  | 43 => ⟨S128x256x256, .i1⟩
  | 44 => ⟨S256x256, .i1⟩
  | 45 => ⟨S1x256x256, .i1⟩
  | 46 => ⟨S128x256x256, .i1⟩
  | 47 => ⟨S128x256x256, .i1⟩
  | 48 => ⟨S128x256x256, .i1⟩
  | 49 => ⟨S_, .f32⟩
  | 50 => ⟨S_, .f32⟩
  | 51 => ⟨S128x256x256, .f32⟩
  | 52 => ⟨S128x256x256, .f32⟩
  | 53 => ⟨S128x256x256, .f32⟩
  | 54 => ⟨S128x256x256, .f32⟩
  | 55 => ⟨S_, .f32⟩
  | 56 => ⟨S128x256, .f32⟩
  | 57 => ⟨S128x256, .f32⟩
  | 58 => ⟨S32768, .f32⟩
  | 59 => ⟨S32768x1, .f32⟩
  | 60 => ⟨S32768x1, .f32⟩
  | 61 => ⟨S32768x2, .f32⟩
  | 62 => ⟨S32768x1, .f32⟩
  | 63 => ⟨S32768x1, .f32⟩
  | 64 => ⟨S32768x2, .f32⟩
  | 65 => ⟨S32768x6, .f32⟩
  | 66 => ⟨S_, .i32⟩
  | 67 => ⟨S_, .f32⟩
  | 68 => ⟨S32768x128, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_9 : Ref sig .tc := ⟨.hbm, 99, rfl⟩
abbrev main_cst_10 : Ref sig .tc := ⟨.hbm, 100, rfl⟩
abbrev main_call0_v0 : Ref sig .tc := ⟨.hbm, 101, rfl⟩
abbrev main_call0_v1 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_cst_14 : Ref sig .tc := ⟨.hbm, 127, rfl⟩
abbrev main_call1_v0 : Ref sig .tc := ⟨.hbm, 128, rfl⟩
abbrev main_call1_v1 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_16 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_18 : Ref sig .tc := ⟨.hbm, 151, rfl⟩
abbrev main_call2_v0 : Ref sig .tc := ⟨.hbm, 152, rfl⟩
abbrev main_call2_v1 : Ref sig .tc := ⟨.hbm, 153, rfl⟩
abbrev main_v114 : Ref sig .tc := ⟨.hbm, 154, rfl⟩
abbrev main_cst_19 : Ref sig .tc := ⟨.hbm, 155, rfl⟩
abbrev main_v115 : Ref sig .tc := ⟨.hbm, 156, rfl⟩
abbrev main_cst_20 : Ref sig .tc := ⟨.hbm, 157, rfl⟩
abbrev main_call3_v0 : Ref sig .tc := ⟨.hbm, 158, rfl⟩
abbrev main_call3_v1 : Ref sig .tc := ⟨.hbm, 159, rfl⟩
abbrev main_v116 : Ref sig .tc := ⟨.hbm, 160, rfl⟩
abbrev main_cst_21 : Ref sig .tc := ⟨.hbm, 161, rfl⟩
abbrev main_v117 : Ref sig .tc := ⟨.hbm, 162, rfl⟩
abbrev main_cst_22 : Ref sig .tc := ⟨.hbm, 163, rfl⟩
abbrev main_v118 : Ref sig .tc := ⟨.hbm, 164, rfl⟩
abbrev main_cst_23 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_24 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_25 : Ref sig .tc := ⟨.hbm, 177, rfl⟩
abbrev main_call4_v0 : Ref sig .tc := ⟨.hbm, 178, rfl⟩
abbrev main_call4_v1 : Ref sig .tc := ⟨.hbm, 179, rfl⟩
abbrev main_v129 : Ref sig .tc := ⟨.hbm, 180, rfl⟩
abbrev main_cst_26 : Ref sig .tc := ⟨.hbm, 181, rfl⟩
abbrev main_v130 : Ref sig .tc := ⟨.hbm, 182, rfl⟩
abbrev main_cst_27 : Ref sig .tc := ⟨.hbm, 183, rfl⟩
abbrev main_call5_v0 : Ref sig .tc := ⟨.hbm, 184, rfl⟩
abbrev main_call5_v1 : Ref sig .tc := ⟨.hbm, 185, rfl⟩
abbrev main_v131 : Ref sig .tc := ⟨.hbm, 186, rfl⟩
abbrev main_cst_28 : Ref sig .tc := ⟨.hbm, 187, rfl⟩
abbrev main_v132 : Ref sig .tc := ⟨.hbm, 188, rfl⟩
abbrev main_cst_29 : Ref sig .tc := ⟨.hbm, 189, rfl⟩
abbrev main_call6_v0 : Ref sig .tc := ⟨.hbm, 190, rfl⟩
abbrev main_call6_v1 : Ref sig .tc := ⟨.hbm, 191, rfl⟩
abbrev main_v133 : Ref sig .tc := ⟨.hbm, 192, rfl⟩
abbrev main_cst_30 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_31 : Ref sig .tc := ⟨.hbm, 199, rfl⟩
abbrev main_v139 : Ref sig .tc := ⟨.hbm, 200, rfl⟩
abbrev main_cst_32 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_33 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_cst_34 : Ref sig .tc := ⟨.hbm, 232, rfl⟩
abbrev main_cst_35 : Ref sig .tc := ⟨.hbm, 233, rfl⟩
abbrev main_call7_v0 : Ref sig .tc := ⟨.hbm, 234, rfl⟩
abbrev main_call7_v1 : Ref sig .tc := ⟨.hbm, 235, rfl⟩
abbrev main_v169 : Ref sig .tc := ⟨.hbm, 236, rfl⟩
abbrev main_v170 : Ref sig .tc := ⟨.hbm, 237, rfl⟩
abbrev main_cst_36 : Ref sig .tc := ⟨.hbm, 238, rfl⟩
abbrev main_v171 : Ref sig .tc := ⟨.hbm, 239, rfl⟩
abbrev main_cst_37 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_cst_38 : Ref sig .tc := ⟨.hbm, 256, rfl⟩
abbrev main_cst_39 : Ref sig .tc := ⟨.hbm, 257, rfl⟩
abbrev main_call8_v0 : Ref sig .tc := ⟨.hbm, 258, rfl⟩
abbrev main_call8_v1 : Ref sig .tc := ⟨.hbm, 259, rfl⟩
abbrev main_v187 : Ref sig .tc := ⟨.hbm, 260, rfl⟩
abbrev main_v188 : Ref sig .tc := ⟨.hbm, 261, rfl⟩
abbrev main_cst_40 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_cst_41 : Ref sig .tc := ⟨.hbm, 281, rfl⟩
abbrev main_cst_42 : Ref sig .tc := ⟨.hbm, 282, rfl⟩
abbrev main_call9_v0 : Ref sig .tc := ⟨.hbm, 283, rfl⟩
abbrev main_call9_v1 : Ref sig .tc := ⟨.hbm, 284, rfl⟩
abbrev main_v207 : Ref sig .tc := ⟨.hbm, 285, rfl⟩
abbrev main_v208 : Ref sig .tc := ⟨.hbm, 286, rfl⟩
abbrev main_cst_43 : Ref sig .tc := ⟨.hbm, 287, rfl⟩
abbrev main_v209 : Ref sig .tc := ⟨.hbm, 288, rfl⟩
abbrev main_cst_44 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_cst_45 : Ref sig .tc := ⟨.hbm, 305, rfl⟩
abbrev main_cst_46 : Ref sig .tc := ⟨.hbm, 306, rfl⟩
abbrev main_call10_v0 : Ref sig .tc := ⟨.hbm, 307, rfl⟩
abbrev main_call10_v1 : Ref sig .tc := ⟨.hbm, 308, rfl⟩
abbrev main_v225 : Ref sig .tc := ⟨.hbm, 309, rfl⟩
abbrev main_v226 : Ref sig .tc := ⟨.hbm, 310, rfl⟩
abbrev main_cst_47 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_c : Ref sig .tc := ⟨.hbm, 322, rfl⟩
abbrev main_call11_v0 : Ref sig .tc := ⟨.hbm, 323, rfl⟩
abbrev main_v237 : Ref sig .tc := ⟨.hbm, 324, rfl⟩

abbrev nD : Nat := 1
abbrev τ : Topo := Topo.v7x

variable {F : FTy → Type} [FloatOps F]
-- ==== Proof.Head.lean ====
/-
  One head of the attention kernel's body, as the kernel's own operations on a block's queries, keys, values and bias:
  the scores against the three key slabs, the row maximum, the weights, their row sum and the weighted values. The
  kernel's body holds thirty-two copies of these operations; everything about values is proved here once.
-/
module

public import proofs.«01_k».proof.Proof.Gen.KernelIdeal.Skeleton

@[expose] public section

noncomputable section

namespace Cert.KernelIdeal.Head

open Cert.KernelIdeal Cert.KernelIdeal.Gen Idealize.ShloMosaic

variable {F : FTy → Type} [FloatOps F] [Named F]

/-- The lanes of the even head of a pair: the lower half of 128. -/
def low : IVec S256x128 1 := cmpi .slt (iota .tc S256x128 32 [1] iota_S256x128_d1_w32) (broadcast S256x128 64#32)

/-- The lanes of the odd head. -/
def high : IVec S256x128 1 := xori low (constantI S256x128 1 1#1)

/-- A pair's queries with the other head's lanes zeroed. -/
def masked (own : IVec S256x128 1) (q : Vec F S1x256x128 .bf16) : FVec F S256x128 .bf16 :=
  select own (shapeCast S256x128 q shapeCasts_S1x256x128_S256x128) (broadcast S256x128 (Scalar.ofBits .bf16 0x0000#16))

/-- The scores of a block's queries against one slab of keys, with that slab's bias. -/
def score (own : IVec S256x128 1) (q k : Vec F S1x256x128 .bf16) (b : Vec F S1x256x256 .f32) : FVec F S256x256 .f32 :=
  addf (matmul dot_S256x128_S256x128_S256x256_1_1_0_0_n_n none (masked own q)
      (shapeCast S256x128 k shapeCasts_S1x256x128_S256x128) (constant S256x256 .f32 0x00000000#32))
    (shapeCast S256x256 b shapeCasts_S1x256x256_S256x256)

/-- The scores with a slab's penalty: zero, or the mask for a slab before the sequence. -/
def penalised (s : FVec F S256x256 .f32) (p : F .f32) : FVec F S256x256 .f32 := addf s (broadcast S256x256 p)

/-- The lower and the upper 128 columns of a slab. -/
def lo (s : FVec F S256x256 .f32) : FVec F S256x128 .f32 := extractStridedSlice S256x128 ![0, 0] s slices_S256x256_o0_0_S256x128

@[inherit_doc lo]
def hi (s : FVec F S256x256 .f32) : FVec F S256x128 .f32 := extractStridedSlice S256x128 ![0, 128] s slices_S256x256_o0_128_S256x128

/-- The row maximum over the three slabs, folded to 128 lanes first. -/
def rowMax (s0 s1 s2 : FVec F S256x256 .f32) : FVec F S256x1 .f32 :=
  shapeCast S256x1 (multiReduction .maximumf [1] S256
    (maximumf (maximumf (maximumf (maximumf (maximumf (lo s0) (hi s0)) (lo s1)) (hi s1)) (lo s2)) (hi s2))
    0xFF800000#32 reduces_S256x128_S256 (.inl rfl) rfl) shapeCasts_S256_S256x1

/-- A slab's weights: two to the score less the row maximum. -/
def weight (s : FVec F S256x256 .f32) (mx : FVec F S256x1 .f32) : FVec F S256x256 .f32 :=
  exp2 (subf s (broadcastTo S256x256 mx broadcasts_S256x1_S256x256))

/-- The row sum of the weights over the three slabs, folded to 128 lanes first. -/
def rowSum (e0 e1 e2 : FVec F S256x256 .f32) : FVec F S256x1 .f32 :=
  shapeCast S256x1 (multiReduction .add [1] S256
    (addf (addf (addf (addf (addf (lo e0) (hi e0)) (lo e1)) (hi e1)) (lo e2)) (hi e2))
    0x00000000#32 reduces_S256x128_S256 (.inl rfl) rfl) shapeCasts_S256_S256x1

/-- One slab's weights times its values. -/
def valued (e : FVec F S256x256 .f32) (v : Vec F S1x256x128 .bf16) : FVec F S256x128 .f32 :=
  matmul dot_S256x256_S256x128_S256x128_1_0_0_1_n_n none (truncf .bf16 e bitsLt_bf16_f32)
    (shapeCast S256x128 v shapeCasts_S1x256x128_S256x128) (constant S256x128 .f32 0x00000000#32)

/-- The weighted values divided by the row sum, over a pair's 128 lanes. -/
def out (s0 s1 s2 : FVec F S256x256 .f32) (v0 v1 v2 : Vec F S1x256x128 .bf16) : FVec F S256x128 .f32 :=
  mulf (addf (addf (valued (weight s0 (rowMax s0 s1 s2)) v0) (valued (weight s1 (rowMax s0 s1 s2)) v1))
      (valued (weight s2 (rowMax s0 s1 s2)) v2))
    (broadcastTo S256x128 (divf (broadcast S256x1 (Scalar.ofBits .f32 0x3F800000#32))
      (rowSum (weight s0 (rowMax s0 s1 s2)) (weight s1 (rowMax s0 s1 s2)) (weight s2 (rowMax s0 s1 s2))))
      broadcasts_S256x1_S256x128)

/-- What is stored of a pair of heads: the even head's lanes of the one, the odd head's of the other. -/
def pair (ev od : FVec F S256x128 .f32) : FVec F S1x256x128 .bf16 :=
  shapeCast S1x256x128 (truncf .bf16 (select low ev od) bitsLt_bf16_f32) shapeCasts_S256x128_S1x256x128

/-- A pair of heads of a block in which no slab is before the sequence. -/
def pairB (q k0 k1 k2 v0 v1 v2 : Vec F S1x256x128 .bf16) (b0 b1 b2 c0 c1 c2 : Vec F S1x256x256 .f32) :
    FVec F S1x256x128 .bf16 :=
  pair (out (score low q k0 b0) (score low q k1 b1) (score low q k2 b2) v0 v1 v2)
    (out (score high q k0 c0) (score high q k1 c1) (score high q k2 c2) v0 v1 v2)

/-- A pair of heads of a block with its slabs' penalties. -/
def pairA (p0 p1 p2 : F .f32) (q k0 k1 k2 v0 v1 v2 : Vec F S1x256x128 .bf16)
    (b0 b1 b2 c0 c1 c2 : Vec F S1x256x256 .f32) : FVec F S1x256x128 .bf16 :=
  pair (out (penalised (score low q k0 b0) p0) (penalised (score low q k1 b1) p1) (penalised (score low q k2 b2) p2)
      v0 v1 v2)
    (out (penalised (score high q k0 c0) p0) (penalised (score high q k1 c1) p1) (penalised (score high q k2 c2) p2)
      v0 v1 v2)

end Cert.KernelIdeal.Head

end
-- ==== Proof.Pieces.lean ====
/-
  What the kernel's body leaves in its output block. The run's sixteen stores, one per batch of the block and pair of
  heads, are sixteen copies of the one pair of heads of the module Head, at that batch and pair's slices of the input
  blocks.
-/
module

public import proofs.«01_k».proof.Proof.Gen.KernelIdeal.Value
public import proofs.«01_k».proof.Proof.Head

@[expose] public section

set_option maxRecDepth 16384
set_option maxHeartbeats 1000000

noncomputable section

namespace Cert.KernelIdeal.Pieces

open Cert.KernelIdeal Cert.KernelIdeal.Gen Cert.KernelIdeal.Head Idealize.ShloMosaic Idealize.ShloMosaic.TcCoe

variable {F : FTy → Type} [FloatOps F] [Named F]

/-- Batch `bb` and pair `p` of a block lie in it. -/
theorem inbPair : ∀ (bb p : Fin 4) (a : Fin 3),
    (![bb.val, 0, 128 * p.val] : Fin 3 → Nat) a + S1x256x128.size a ≤ S4x256x512.size a := by decide

/-- Head `h` and slab `j` of the bias lie in it. -/
theorem inbBias : ∀ (h : Fin 8) (j : Fin 3) (a : Fin 3),
    (![h.val, 0, 256 * j.val] : Fin 3 → Nat) a + S1x256x256.size a ≤ S8x256x768.size a := by decide

/-- The even and the odd head of a pair. -/
def even (p : Fin 4) : Fin 8 := ⟨2 * p.val, by omega⟩

@[inherit_doc even]
def odd (p : Fin 4) : Fin 8 := ⟨2 * p.val + 1, by omega⟩

/-- The rectangle of batch `bb` and pair `p`. -/
def rect (bb p : Fin 4) : Rect S4x256x512 := Rect.unit ![bb.val, 0, 128 * p.val] S1x256x128.size (inbPair bb p)

/-- A load of batch `bb` and pair `p` of a block. -/
def ldPair (M : Memref sig .tc .vmem S4x256x512 .bf16) (hM : M.IsWhole) (x : Vec F S4x256x512 .bf16) (bb p : Fin 4) :
    Vec F S1x256x128 .bf16 :=
  View.readAt (Elt F) M.view (rect bb p).toLoadRect (hM.unread x)

/-- A load of head `h` and slab `j` of the bias. -/
def ldBias (M : Memref sig .tc .vmem S8x256x768 .f32) (hM : M.IsWhole) (x : Vec F S8x256x768 .f32) (h : Fin 8)
    (j : Fin 3) : Vec F S1x256x256 .f32 :=
  View.readAt (Elt F) M.view (Rect.unit (s := S8x256x768) ![h.val, 0, 256 * j.val] S1x256x256.size (inbBias h j)).toLoadRect (hM.unread x)

/-- The order of the stores, last first. -/
def order : List (Fin 4 × Fin 4) :=
  [(3, 3), (2, 3), (1, 3), (0, 3), (3, 2), (2, 2), (1, 2), (0, 2), (3, 1), (2, 1), (1, 1), (0, 1), (3, 0), (2, 0), (1, 0), (0, 0)]

/-- The store of batch `bb` and pair `p` in case B. -/
def storeB (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec F S4x256x512 .bf16) (x7 : Vec F S8x256x768 .f32) (bp : Fin 4 × Fin 4) : View.Piece (Elt F) S4x256x512 .bf16 :=
  ⟨rect bp.1 bp.2, pairB (ldPair arg2 harg2 x0 bp.1 bp.2) (ldPair arg3 harg3 x1 bp.1 bp.2)
    (ldPair arg4 harg4 x2 bp.1 bp.2) (ldPair arg5 harg5 x3 bp.1 bp.2) (ldPair arg6 harg6 x4 bp.1 bp.2)
    (ldPair arg7 harg7 x5 bp.1 bp.2) (ldPair arg8 harg8 x6 bp.1 bp.2)
    (ldBias arg9 harg9 x7 (even bp.2) 0) (ldBias arg9 harg9 x7 (even bp.2) 1) (ldBias arg9 harg9 x7 (even bp.2) 2)
    (ldBias arg9 harg9 x7 (odd bp.2) 0) (ldBias arg9 harg9 x7 (odd bp.2) 1) (ldBias arg9 harg9 x7 (odd bp.2) 2)⟩

/-- The stores of case B are these, in their order. -/
theorem storesB (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole) (arg10 : Memref sig .tc .vmem S4x256x512 .bf16) (harg10 : arg10.IsWhole) (hc0 : cond0_0 i) (hc1 : ¬cond0_1 i)
    (x0 x1 x2 x3 x4 x5 x6 : Vec F S4x256x512 .bf16) (x7 : Vec F S8x256x768 .f32) :
    (kernelRun0_B c i arg2 harg2 arg3 harg3 arg4 harg4 arg5 harg5 arg6 harg6 arg7 harg7 arg8 harg8 arg9 harg9 arg10 harg10 hc0 hc1 x0 x1 x2 x3 x4 x5 x6 x7).1
      = order.map (storeB arg2 harg2 arg3 harg3 arg4 harg4 arg5 harg5 arg6 harg6 arg7 harg7 arg8 harg8 arg9 harg9 x0 x1 x2 x3 x4 x5 x6 x7) := by
  unfold kernelRun0_B
  rfl

/-- The store of batch `bb` and pair `p` in case A. -/
def storeA (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec F S4x256x512 .bf16) (x7 : Vec F S8x256x768 .f32) (bp : Fin 4 × Fin 4) : View.Piece (Elt F) S4x256x512 .bf16 :=
  ⟨rect bp.1 bp.2, pairA (k0_pay379 (BitVec.ofNat 32 (i 1).val)) (k0_pay380 (BitVec.ofNat 32 (i 1).val)) (k0_pay381 (BitVec.ofNat 32 (i 1).val)) (ldPair arg2 harg2 x0 bp.1 bp.2) (ldPair arg3 harg3 x1 bp.1 bp.2)
    (ldPair arg4 harg4 x2 bp.1 bp.2) (ldPair arg5 harg5 x3 bp.1 bp.2) (ldPair arg6 harg6 x4 bp.1 bp.2)
    (ldPair arg7 harg7 x5 bp.1 bp.2) (ldPair arg8 harg8 x6 bp.1 bp.2)
    (ldBias arg9 harg9 x7 (even bp.2) 0) (ldBias arg9 harg9 x7 (even bp.2) 1) (ldBias arg9 harg9 x7 (even bp.2) 2)
    (ldBias arg9 harg9 x7 (odd bp.2) 0) (ldBias arg9 harg9 x7 (odd bp.2) 1) (ldBias arg9 harg9 x7 (odd bp.2) 2)⟩

/-- The stores of case A are these, in their order. -/
theorem storesA (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole) (arg10 : Memref sig .tc .vmem S4x256x512 .bf16) (harg10 : arg10.IsWhole) (hc0 : ¬cond0_0 i) (hc1 : cond0_1 i)
    (x0 x1 x2 x3 x4 x5 x6 : Vec F S4x256x512 .bf16) (x7 : Vec F S8x256x768 .f32) :
    (kernelRun0_A c i arg2 harg2 arg3 harg3 arg4 harg4 arg5 harg5 arg6 harg6 arg7 harg7 arg8 harg8 arg9 harg9 arg10 harg10 hc0 hc1 x0 x1 x2 x3 x4 x5 x6 x7).1
      = order.map (storeA i arg2 harg2 arg3 harg3 arg4 harg4 arg5 harg5 arg6 harg6 arg7 harg7 arg8 harg8 arg9 harg9 x0 x1 x2 x3 x4 x5 x6 x7) := by
  unfold kernelRun0_A
  rfl

end Cert.KernelIdeal.Pieces

end
-- ==== Proof.HeadValue.lean ====
/-
  One head of the attention kernel's body, read at an index over the extended reals: a score is a sum over the head's 64
  lanes, and the output is the weighted sum over all columns of the three slabs divided by the sum of the weights.
-/
module

public import proofs.«01_k».proof.Proof.Head
public import Idealize.ShloMosaic.Lib.Pointwise

@[expose] public section

noncomputable section

namespace Cert.KernelIdeal.Head

open Cert.KernelIdeal Cert.KernelIdeal.Gen Idealize.ShloMosaic

/-- The columns of the three slabs as one family. -/
def cols {α : Type} (x0 x1 x2 : Fin 256 → α) (c : Fin 3 × Fin 256) : α := ![x0, x1, x2] c.1 c.2

/-- A sum over the columns is the sum of the slabs' sums. -/
theorem sum_cols (g : Fin 3 × Fin 256 → EReal) :
    ∑ c, g c = ∑ x, g (0, x) + ∑ x, g (1, x) + ∑ x, g (2, x) := by
  rw [Fintype.sum_prod_type, Fin.sum_univ_three]

/-- A sum over a slab's columns, folded to 128 lanes. -/
theorem sum_fold (g : Fin 256 → EReal) :
    ∑ x, g x = ∑ x : Fin 128, (g ⟨x.val, by omega⟩ + g ⟨128 + x.val, by omega⟩) := by
  rw [Finset.sum_add_distrib]
  exact Fin.sum_univ_add (M := EReal) (a := 128) (b := 128) g

/-- A column of a slab is a lane of one of its halves. -/
theorem half (x : Fin 256) : ∃ y : Fin 128, x = ⟨y.val, by omega⟩ ∨ x = ⟨128 + y.val, by omega⟩ := by
  by_cases h : x.val < 128
  · exact ⟨⟨x.val, h⟩, .inl rfl⟩
  · exact ⟨⟨x.val - 128, by omega⟩, .inr (Fin.ext (by dsimp only; omega))⟩

/-- A sum over a pair's lanes, by the two heads. -/
theorem sum_lanes (g : Fin 128 → EReal) :
    ∑ x, g x = ∑ d : Fin 64, g ⟨d.val, by omega⟩ + ∑ d : Fin 64, g ⟨64 + d.val, by omega⟩ :=
  Fin.sum_univ_add (M := EReal) (a := 64) (b := 64) g

/-- The constant of the row maximum's accumulator. -/
theorem neg_inf : Ideal.ofBits FTy.f32 0xFF800000#32 = (⊥ : EReal) := by simp [Ideal.ofBits, Ideal.ieee]

theorem low_apply (r : Fin 256) (l : Fin 128) : low (ix2 r l) = if l.val < 64 then 1#1 else 0#1 := by
  pointwise [low]
  have := l.isLt
  unfold IntOp.cmpi
  by_cases h : l.val < 64
  · simp only [h, if_true]; revert h; revert l; decide
  · simp only [h, if_false]; revert h; revert l; decide

theorem high_apply (r : Fin 256) (l : Fin 128) : high (ix2 r l) = if l.val < 64 then 0#1 else 1#1 := by
  pointwise [high]
  rw [low_apply]
  by_cases h : l.val < 64 <;> simp [h] <;> rfl

/-- A score of the even head: the sum over the pair's lower 64 lanes, and the bias. -/
theorem score_low (q k : Vec Ideal S1x256x128 .bf16) (b : Vec Ideal S1x256x256 .f32) (r c : Fin 256) :
    score low q k b (ix2 r c)
      = ∑ d : Fin 64, q (ix3 0 r ⟨d.val, by omega⟩) * k (ix3 0 c ⟨d.val, by omega⟩) + b (ix3 0 r c) := by
  pointwise [score, masked]
  have h : ∀ d : Fin 64, Scalar.select (low (ix2 r ⟨64 + d.val, by omega⟩))
      (q (ix3 0 r ⟨64 + d.val, by omega⟩) * k (ix3 0 c ⟨64 + d.val, by omega⟩)) 0 = (0 : EReal) := fun d => by
    rw [low_apply, if_neg (by simp)]; rfl
  rw [sum_lanes, Finset.sum_eq_zero fun d _ => h d, add_zero]
  refine congrArg (· + b (ix3 0 r c)) (Finset.sum_congr rfl fun d _ => ?_)
  rw [low_apply, if_pos d.isLt]
  rfl

/-- A score of the odd head: the sum over the pair's upper 64 lanes, and the bias. -/
theorem score_high (q k : Vec Ideal S1x256x128 .bf16) (b : Vec Ideal S1x256x256 .f32) (r c : Fin 256) :
    score high q k b (ix2 r c)
      = ∑ d : Fin 64, q (ix3 0 r ⟨64 + d.val, by omega⟩) * k (ix3 0 c ⟨64 + d.val, by omega⟩) + b (ix3 0 r c) := by
  pointwise [score, masked]
  congr 1
  rw [sum_lanes, Finset.sum_eq_zero fun (d : Fin 64) _ => by rw [high_apply, if_pos d.isLt]; rfl, zero_add]
  refine Finset.sum_congr rfl fun d _ => ?_
  rw [high_apply, if_neg (by simp)]
  rfl

/-- The row maximum is the supremum over all columns. -/
theorem rowMax_apply (s0 s1 s2 : FVec Ideal S256x256 .f32) (r : Fin 256) (z : Fin 1) :
    rowMax s0 s1 s2 (ix2 r z)
      = Finset.univ.sup (cols (fun x => s0 (ix2 r x)) (fun x => s1 (ix2 r x)) (fun x => s2 (ix2 r x))) := by
  pointwise [rowMax, lo, hi]
  rw [neg_inf]
  show Finset.univ.sup _ = _
  refine le_antisymm (Finset.sup_le fun x _ => ?_) (Finset.sup_le fun c _ => ?_)
  · have key : ∀ j y, cols (fun x => s0 (ix2 r x)) (fun x => s1 (ix2 r x)) (fun x => s2 (ix2 r x)) (j, y)
        ≤ Finset.univ.sup (cols (fun x => s0 (ix2 r x)) (fun x => s1 (ix2 r x)) (fun x => s2 (ix2 r x))) :=
      fun j y => Finset.le_sup (Finset.mem_univ (j, y))
    exact max_le (max_le (max_le (max_le (max_le (key 0 _) (key 0 _)) (key 1 _)) (key 1 _)) (key 2 _)) (key 2 _)
  · obtain ⟨j, x⟩ := c
    obtain ⟨y, hy⟩ := half x
    refine le_trans ?_ (Finset.le_sup (Finset.mem_univ y))
    fin_cases j <;> rcases hy with rfl | rfl <;> simp [cols]

/-- The row sum is the sum over all columns. -/
theorem rowSum_apply (s0 s1 s2 : FVec Ideal S256x256 .f32) (r : Fin 256) (z : Fin 1) :
    rowSum s0 s1 s2 (ix2 r z)
      = ∑ x, s0 (ix2 r x) + ∑ x, s1 (ix2 r x) + ∑ x, s2 (ix2 r x) := by
  pointwise [rowSum, lo, hi]
  rw [sum_fold fun x => s0 (ix2 r x), sum_fold fun x => s1 (ix2 r x), sum_fold fun x => s2 (ix2 r x),
    ← Finset.sum_add_distrib, ← Finset.sum_add_distrib]
  exact Finset.sum_congr rfl fun x _ => by simp only [add_assoc]

/-- The output of a head in its row's scores and its lane's values. -/
def attend (t w : Fin 3 × Fin 256 → EReal) : EReal :=
  (∑ c, Ideal.exp2 (t c - Finset.univ.sup t) * w c) * Ideal.div 1 (∑ c, Ideal.exp2 (t c - Finset.univ.sup t))

/-- A head's output at a row and a lane. -/
theorem out_apply (s0 s1 s2 : FVec Ideal S256x256 .f32) (v0 v1 v2 : Vec Ideal S1x256x128 .bf16) (r : Fin 256)
    (l : Fin 128) :
    out s0 s1 s2 v0 v1 v2 (ix2 r l)
      = attend (cols (fun x => s0 (ix2 r x)) (fun x => s1 (ix2 r x)) (fun x => s2 (ix2 r x)))
          (cols (fun x => v0 (ix3 0 x l)) (fun x => v1 (ix3 0 x l)) (fun x => v2 (ix3 0 x l))) := by
  pointwise [out, valued, weight]
  rw [rowSum_apply]
  pointwise
  rw [rowMax_apply, attend, sum_cols, sum_cols]
  rfl

/-- What is stored of a pair: the even head's lanes, then the odd head's. -/
theorem pair_apply (ev od : FVec Ideal S256x128 .f32) (r : Fin 256) (l : Fin 128) :
    pair ev od (ix3 0 r l) = if l.val < 64 then ev (ix2 r l) else od (ix2 r l) := by
  pointwise [pair]
  rw [low_apply]
  by_cases h : l.val < 64 <;> simp [h] <;> rfl

end Cert.KernelIdeal.Head

end
-- ==== Proof.BlockValue.lean ====
/-
  What the kernel's body leaves in its output block, at an index: the attention of that query row and head over the three
  slabs' columns, with the slabs' penalties.
-/
module

public import proofs.«01_k».proof.Proof.Pieces
public import proofs.«01_k».proof.Proof.HeadValue

@[expose] public section

noncomputable section

namespace Cert.KernelIdeal.Pieces

open Cert.KernelIdeal Cert.KernelIdeal.Gen Cert.KernelIdeal.Head Idealize.ShloMosaic Idealize.ShloMosaic.TcCoe

/-- A load of a pair at an index. -/
theorem ldPair_apply (M : Memref sig .tc .vmem S4x256x512 .bf16) (hM : M.IsWhole) (x : Vec Ideal S4x256x512 .bf16)
    (bb p : Fin 4) (r : Fin 256) (l : Fin 128) :
    ldPair M hM x bb p (ix3 0 r l) = x (ix3 bb r ⟨128 * p.val + l.val, by omega⟩) := by
  rw [ldPair, View.readAt_eq_ld, hM.read_unread]
  refine congrArg x ?_
  funext a
  apply Fin.ext
  fin_cases a
  · show bb.val + 1 * 0 = bb.val; omega
  · show 0 + 1 * r.val = r.val; omega
  · show 128 * p.val + 1 * l.val = 128 * p.val + l.val; omega

/-- A load of a head's bias at an index. -/
theorem ldBias_apply (M : Memref sig .tc .vmem S8x256x768 .f32) (hM : M.IsWhole) (x : Vec Ideal S8x256x768 .f32)
    (h : Fin 8) (j : Fin 3) (r c : Fin 256) :
    ldBias M hM x h j (ix3 0 r c) = x (ix3 h r ⟨256 * j.val + c.val, by omega⟩) := by
  rw [ldBias, View.readAt_eq_ld, hM.read_unread]
  refine congrArg x ?_
  funext a
  apply Fin.ext
  fin_cases a
  · show h.val + 1 * 0 = h.val; omega
  · show 0 + 1 * r.val = r.val; omega
  · show 256 * j.val + 1 * c.val = 256 * j.val + c.val; omega

/-- A score of a pair's even head, in the block's coordinates. -/
theorem score_even (Mq Mk : Memref sig .tc .vmem S4x256x512 .bf16) (hq : Mq.IsWhole) (hk : Mk.IsWhole)
    (Mb : Memref sig .tc .vmem S8x256x768 .f32) (hb : Mb.IsWhole) (q k : Vec Ideal S4x256x512 .bf16)
    (b : Vec Ideal S8x256x768 .f32) (bb p : Fin 4) (j : Fin 3) (r c : Fin 256) :
    score low (ldPair Mq hq q bb p) (ldPair Mk hk k bb p) (ldBias Mb hb b (even p) j) (ix2 r c)
      = ∑ d : Fin 64, q (ix3 bb r ⟨64 * (even p).val + d.val, by omega⟩)
          * k (ix3 bb c ⟨64 * (even p).val + d.val, by omega⟩) + b (ix3 (even p) r ⟨256 * j.val + c.val, by omega⟩) := by
  rw [score_low, ldBias_apply]
  refine congrArg (· + b _) (Finset.sum_congr rfl fun d _ => ?_)
  rw [ldPair_apply, ldPair_apply]
  have e : (⟨128 * p.val + (d.val), by omega⟩ : Fin 512) = ⟨64 * (even p).val + d.val, by omega⟩ :=
    Fin.ext (by simp only [even]; omega)
  rw [← e]

/-- A score of a pair's odd head, in the block's coordinates. -/
theorem score_odd (Mq Mk : Memref sig .tc .vmem S4x256x512 .bf16) (hq : Mq.IsWhole) (hk : Mk.IsWhole)
    (Mb : Memref sig .tc .vmem S8x256x768 .f32) (hb : Mb.IsWhole) (q k : Vec Ideal S4x256x512 .bf16)
    (b : Vec Ideal S8x256x768 .f32) (bb p : Fin 4) (j : Fin 3) (r c : Fin 256) :
    score high (ldPair Mq hq q bb p) (ldPair Mk hk k bb p) (ldBias Mb hb b (odd p) j) (ix2 r c)
      = ∑ d : Fin 64, q (ix3 bb r ⟨64 * (odd p).val + d.val, by omega⟩)
          * k (ix3 bb c ⟨64 * (odd p).val + d.val, by omega⟩) + b (ix3 (odd p) r ⟨256 * j.val + c.val, by omega⟩) := by
  rw [score_high, ldBias_apply]
  refine congrArg (· + b _) (Finset.sum_congr rfl fun d _ => ?_)
  rw [ldPair_apply, ldPair_apply]
  have e : (⟨128 * p.val + (64 + d.val), by omega⟩ : Fin 512) = ⟨64 * (odd p).val + d.val, by omega⟩ :=
    Fin.ext (by simp only [odd]; omega)
  rw [← e]

/-- The scores of a query row of a head over the three slabs' columns. -/
def scores (q k0 k1 k2 : Vec Ideal S4x256x512 .bf16) (b : Vec Ideal S8x256x768 .f32) (pen : Fin 3 → EReal) (bb : Fin 4)
    (r : Fin 256) (h : Fin 8) (c : Fin 3 × Fin 256) : EReal :=
  (∑ d : Fin 64, q (ix3 bb r ⟨64 * h.val + d.val, by omega⟩)
      * (![k0, k1, k2] c.1) (ix3 bb c.2 ⟨64 * h.val + d.val, by omega⟩)
    + b (ix3 h r ⟨256 * c.1.val + c.2.val, by omega⟩)) + pen c.1

/-- The head of a lane. -/
def headOf (l : Fin 512) : Fin 8 := ⟨l.val / 64, by omega⟩

/-- The attention of a block at an index. -/
def blockAt (q k0 k1 k2 v0 v1 v2 : Vec Ideal S4x256x512 .bf16) (b : Vec Ideal S8x256x768 .f32) (pen : Fin 3 → EReal)
    (bb : Fin 4) (r : Fin 256) (l : Fin 512) : EReal :=
  attend (scores q k0 k1 k2 b pen bb r (headOf l)) (fun c => (![v0, v1, v2] c.1) (ix3 bb c.2 l))

@[inherit_doc blockAt]
def block (q k0 k1 k2 v0 v1 v2 : Vec Ideal S4x256x512 .bf16) (b : Vec Ideal S8x256x768 .f32) (pen : Fin 3 → EReal)
    (y : S4x256x512.Idx) : EReal := blockAt q k0 k1 k2 v0 v1 v2 b pen (y 0) (y 1) (y 2)

/-- An index of a stored slice by its coordinates. -/
theorem idx_eq (x : S1x256x128.Idx) : ∃ (r : Fin 256) (l : Fin 128), x = ix3 0 r l := by
  refine ⟨x 1, x 2, ?_⟩
  funext a
  fin_cases a
  · exact Subsingleton.elim (α := Fin 1) _ _
  · rfl
  · rfl

/-- The block at the coordinates of an index. -/
theorem block_ix3 (q k0 k1 k2 v0 v1 v2 : Vec Ideal S4x256x512 .bf16) (b : Vec Ideal S8x256x768 .f32)
    (pen : Fin 3 → EReal) (bb : Fin 4) (r : Fin 256) (l : Fin 512) :
    block q k0 k1 k2 v0 v1 v2 b pen (ix3 bb r l) = blockAt q k0 k1 k2 v0 v1 v2 b pen bb r l := rfl

/-- Where a pair's lane lies in the block. -/
theorem rect_emb (bb p : Fin 4) (r : Fin 256) (l : Fin 128) :
    (rect bb p).emb (ix3 0 r l) = ix3 bb r ⟨128 * p.val + l.val, by omega⟩ := by
  funext a
  apply Fin.ext
  fin_cases a
  · show bb.val + 1 * 0 = bb.val; omega
  · show 0 + 1 * r.val = r.val; omega
  · show 128 * p.val + 1 * l.val = 128 * p.val + l.val; omega

/-- A store of case B holds the block's attention at its indices. -/
theorem storeB_apply (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec Ideal S4x256x512 .bf16) (x7 : Vec Ideal S8x256x768 .f32) (bb p : Fin 4) (r : Fin 256) (l : Fin 128) :
    (storeB arg2 harg2 arg3 harg3 arg4 harg4 arg5 harg5 arg6 harg6 arg7 harg7 arg8 harg8 arg9 harg9 x0 x1 x2 x3 x4 x5 x6 x7 (bb, p)).2 (ix3 0 r l)
      = blockAt x0 x1 x2 x3 x4 x5 x6 x7 (fun _ => 0) bb r ⟨128 * p.val + l.val, by omega⟩ := by
  show pair _ _ (ix3 0 r l) = _
  rw [pair_apply]
  by_cases h : l.val < 64
  · have e : headOf ⟨128 * p.val + l.val, by omega⟩ = even p := Fin.ext (by simp only [headOf, even]; omega)
    rw [if_pos h, out_apply, blockAt, e]
    refine congrArg₂ attend (funext fun ⟨j, c⟩ => ?_) (funext fun ⟨j, c⟩ => ?_)
    · match j with
      | 0 => exact (score_even ..).trans (add_zero _).symm
      | 1 => exact (score_even ..).trans (add_zero _).symm
      | 2 => exact (score_even ..).trans (add_zero _).symm
    · match j with
      | 0 => exact ldPair_apply ..
      | 1 => exact ldPair_apply ..
      | 2 => exact ldPair_apply ..
  · have e : headOf ⟨128 * p.val + l.val, by omega⟩ = odd p := Fin.ext (by simp only [headOf, odd]; omega)
    rw [if_neg h, out_apply, blockAt, e]
    refine congrArg₂ attend (funext fun ⟨j, c⟩ => ?_) (funext fun ⟨j, c⟩ => ?_)
    · match j with
      | 0 => exact (score_odd ..).trans (add_zero _).symm
      | 1 => exact (score_odd ..).trans (add_zero _).symm
      | 2 => exact (score_odd ..).trans (add_zero _).symm
    · match j with
      | 0 => exact ldPair_apply ..
      | 1 => exact ldPair_apply ..
      | 2 => exact ldPair_apply ..

/-- Every store of case B holds the block's attention where it lies. -/
theorem storeB_at (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec Ideal S4x256x512 .bf16) (x7 : Vec Ideal S8x256x768 .f32) (bp : Fin 4 × Fin 4) (x : S1x256x128.Idx) :
    (storeB (F := Ideal) arg2 harg2 arg3 harg3 arg4 harg4 arg5 harg5 arg6 harg6 arg7 harg7 arg8 harg8 arg9 harg9 x0 x1 x2 x3 x4 x5 x6 x7 bp).2 x
      = block x0 x1 x2 x3 x4 x5 x6 x7 (fun _ => 0) ((rect bp.1 bp.2).emb x) := by
  obtain ⟨r, l, e⟩ := idx_eq x
  subst e
  refine Eq.trans ?_ (congrArg (block x0 x1 x2 x3 x4 x5 x6 x7 (fun _ => 0)) (rect_emb bp.1 bp.2 r l).symm)
  rw [block_ix3]
  exact storeB_apply arg2 harg2 arg3 harg3 arg4 harg4 arg5 harg5 arg6 harg6 arg7 harg7 arg8 harg8 arg9 harg9 x0 x1 x2 x3 x4 x5 x6 x7 bp.1 bp.2 r l

/-- What case B leaves in the output block. -/
theorem outB (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole) (arg10 : Memref sig .tc .vmem S4x256x512 .bf16) (harg10 : arg10.IsWhole) (hc0 : cond0_0 i) (hc1 : ¬cond0_1 i)
    (x0 x1 x2 x3 x4 x5 x6 : Vec Ideal S4x256x512 .bf16) (x7 : Vec Ideal S8x256x768 .f32) (y : S4x256x512.Idx) :
    out0_B_8 c i arg2 harg2 arg3 harg3 arg4 harg4 arg5 harg5 arg6 harg6 arg7 harg7 arg8 harg8 arg9 harg9 arg10 harg10 hc0 hc1 x0 x1 x2 x3 x4 x5 x6 x7 y = block x0 x1 x2 x3 x4 x5 x6 x7 (fun _ => 0) y := by
  have hc := cover0_B_8 c i arg2 harg2 arg3 harg3 arg4 harg4 arg5 harg5 arg6 harg6 arg7 harg7 arg8 harg8 arg9 harg9 arg10 harg10 hc0 hc1 x0 x1 x2 x3 x4 x5 x6 x7 y
  have hr := View.read_writes_eq_canon (VO0_8) (VO0_8.junk) _ (cover0_B_8 c i arg2 harg2 arg3 harg3 arg4 harg4 arg5 harg5 arg6 harg6 arg7 harg7 arg8 harg8 arg9 harg9 arg10 harg10 hc0 hc1 x0 x1 x2 x3 x4 x5 x6 x7)
  rw [storesB] at hc hr
  refine Eq.trans ?_ (View.canon_apply_of_pieces (block x0 x1 x2 x3 x4 x5 x6 x7 (fun _ => 0)) _ (List.forall_mem_map.mpr fun bp _ x => storeB_at arg2 harg2 arg3 harg3 arg4 harg4 arg5 harg5 arg6 harg6 arg7 harg7 arg8 harg8 arg9 harg9 x0 x1 x2 x3 x4 x5 x6 x7 bp x) y hc)
  rw [← hr, ← storesB c i arg2 harg2 arg3 harg3 arg4 harg4 arg5 harg5 arg6 harg6 arg7 harg7 arg8 harg8 arg9 harg9 arg10 harg10 hc0 hc1]
  rfl

/-- A penalised score. -/
theorem penalised_apply (s : FVec Ideal S256x256 .f32) (p : EReal) (r c : Fin 256) :
    penalised (F := Ideal) s p (ix2 r c) = s (ix2 r c) + p := by
  pointwise [penalised]

/-- A store of case A holds the block's attention at its indices. -/
theorem storeA_apply (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec Ideal S4x256x512 .bf16) (x7 : Vec Ideal S8x256x768 .f32) (bb p : Fin 4) (r : Fin 256) (l : Fin 128) :
    (storeA i arg2 harg2 arg3 harg3 arg4 harg4 arg5 harg5 arg6 harg6 arg7 harg7 arg8 harg8 arg9 harg9 x0 x1 x2 x3 x4 x5 x6 x7 (bb, p)).2 (ix3 0 r l)
      = blockAt x0 x1 x2 x3 x4 x5 x6 x7 ![k0_pay379 (F := Ideal) (BitVec.ofNat 32 (i 1).val), k0_pay380 (F := Ideal) (BitVec.ofNat 32 (i 1).val), k0_pay381 (F := Ideal) (BitVec.ofNat 32 (i 1).val)] bb r ⟨128 * p.val + l.val, by omega⟩ := by
  show pair _ _ (ix3 0 r l) = _
  rw [pair_apply]
  by_cases h : l.val < 64
  · have e : headOf ⟨128 * p.val + l.val, by omega⟩ = even p := Fin.ext (by simp only [headOf, even]; omega)
    rw [if_pos h, out_apply, blockAt, e]
    refine congrArg₂ attend (funext fun ⟨j, c⟩ => ?_) (funext fun ⟨j, c⟩ => ?_)
    · match j with
      | 0 => exact (penalised_apply ..).trans (congrArg (· + _) (score_even ..))
      | 1 => exact (penalised_apply ..).trans (congrArg (· + _) (score_even ..))
      | 2 => exact (penalised_apply ..).trans (congrArg (· + _) (score_even ..))
    · match j with
      | 0 => exact ldPair_apply ..
      | 1 => exact ldPair_apply ..
      | 2 => exact ldPair_apply ..
  · have e : headOf ⟨128 * p.val + l.val, by omega⟩ = odd p := Fin.ext (by simp only [headOf, odd]; omega)
    rw [if_neg h, out_apply, blockAt, e]
    refine congrArg₂ attend (funext fun ⟨j, c⟩ => ?_) (funext fun ⟨j, c⟩ => ?_)
    · match j with
      | 0 => exact (penalised_apply ..).trans (congrArg (· + _) (score_odd ..))
      | 1 => exact (penalised_apply ..).trans (congrArg (· + _) (score_odd ..))
      | 2 => exact (penalised_apply ..).trans (congrArg (· + _) (score_odd ..))
    · match j with
      | 0 => exact ldPair_apply ..
      | 1 => exact ldPair_apply ..
      | 2 => exact ldPair_apply ..

/-- Every store of case A holds the block's attention where it lies. -/
theorem storeA_at (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole)
    (x0 x1 x2 x3 x4 x5 x6 : Vec Ideal S4x256x512 .bf16) (x7 : Vec Ideal S8x256x768 .f32) (bp : Fin 4 × Fin 4) (x : S1x256x128.Idx) :
    (storeA (F := Ideal) i arg2 harg2 arg3 harg3 arg4 harg4 arg5 harg5 arg6 harg6 arg7 harg7 arg8 harg8 arg9 harg9 x0 x1 x2 x3 x4 x5 x6 x7 bp).2 x
      = block x0 x1 x2 x3 x4 x5 x6 x7 ![k0_pay379 (F := Ideal) (BitVec.ofNat 32 (i 1).val), k0_pay380 (F := Ideal) (BitVec.ofNat 32 (i 1).val), k0_pay381 (F := Ideal) (BitVec.ofNat 32 (i 1).val)] ((rect bp.1 bp.2).emb x) := by
  obtain ⟨r, l, e⟩ := idx_eq x
  subst e
  refine Eq.trans ?_ (congrArg (block x0 x1 x2 x3 x4 x5 x6 x7 ![k0_pay379 (F := Ideal) (BitVec.ofNat 32 (i 1).val), k0_pay380 (F := Ideal) (BitVec.ofNat 32 (i 1).val), k0_pay381 (F := Ideal) (BitVec.ofNat 32 (i 1).val)]) (rect_emb bp.1 bp.2 r l).symm)
  rw [block_ix3]
  exact storeA_apply i arg2 harg2 arg3 harg3 arg4 harg4 arg5 harg5 arg6 harg6 arg7 harg7 arg8 harg8 arg9 harg9 x0 x1 x2 x3 x4 x5 x6 x7 bp.1 bp.2 r l

/-- What case A leaves in the output block. -/
theorem outA (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x512 .bf16) (harg4 : arg4.IsWhole) (arg5 : Memref sig .tc .vmem S4x256x512 .bf16) (harg5 : arg5.IsWhole) (arg6 : Memref sig .tc .vmem S4x256x512 .bf16) (harg6 : arg6.IsWhole) (arg7 : Memref sig .tc .vmem S4x256x512 .bf16) (harg7 : arg7.IsWhole) (arg8 : Memref sig .tc .vmem S4x256x512 .bf16) (harg8 : arg8.IsWhole) (arg9 : Memref sig .tc .vmem S8x256x768 .f32) (harg9 : arg9.IsWhole) (arg10 : Memref sig .tc .vmem S4x256x512 .bf16) (harg10 : arg10.IsWhole) (hc0 : ¬cond0_0 i) (hc1 : cond0_1 i)
    (x0 x1 x2 x3 x4 x5 x6 : Vec Ideal S4x256x512 .bf16) (x7 : Vec Ideal S8x256x768 .f32) (y : S4x256x512.Idx) :
    out0_A_8 c i arg2 harg2 arg3 harg3 arg4 harg4 arg5 harg5 arg6 harg6 arg7 harg7 arg8 harg8 arg9 harg9 arg10 harg10 hc0 hc1 x0 x1 x2 x3 x4 x5 x6 x7 y = block x0 x1 x2 x3 x4 x5 x6 x7 ![k0_pay379 (F := Ideal) (BitVec.ofNat 32 (i 1).val), k0_pay380 (F := Ideal) (BitVec.ofNat 32 (i 1).val), k0_pay381 (F := Ideal) (BitVec.ofNat 32 (i 1).val)] y := by
  have hc := cover0_A_8 c i arg2 harg2 arg3 harg3 arg4 harg4 arg5 harg5 arg6 harg6 arg7 harg7 arg8 harg8 arg9 harg9 arg10 harg10 hc0 hc1 x0 x1 x2 x3 x4 x5 x6 x7 y
  have hr := View.read_writes_eq_canon (VO0_8) (VO0_8.junk) _ (cover0_A_8 c i arg2 harg2 arg3 harg3 arg4 harg4 arg5 harg5 arg6 harg6 arg7 harg7 arg8 harg8 arg9 harg9 arg10 harg10 hc0 hc1 x0 x1 x2 x3 x4 x5 x6 x7)
  rw [storesA] at hc hr
  refine Eq.trans ?_ (View.canon_apply_of_pieces (block x0 x1 x2 x3 x4 x5 x6 x7 ![k0_pay379 (F := Ideal) (BitVec.ofNat 32 (i 1).val), k0_pay380 (F := Ideal) (BitVec.ofNat 32 (i 1).val), k0_pay381 (F := Ideal) (BitVec.ofNat 32 (i 1).val)]) _ (List.forall_mem_map.mpr fun bp _ x => storeA_at i arg2 harg2 arg3 harg3 arg4 harg4 arg5 harg5 arg6 harg6 arg7 harg7 arg8 harg8 arg9 harg9 x0 x1 x2 x3 x4 x5 x6 x7 bp x) y hc)
  rw [← hr, ← storesA c i arg2 harg2 arg3 harg3 arg4 harg4 arg5 harg5 arg6 harg6 arg7 harg7 arg8 harg8 arg9 harg9 arg10 harg10 hc0 hc1]
  rfl

end Cert.KernelIdeal.Pieces

end
-- ==== Proof.Gather.lean ====
/-
  The gathers of the two programs read at an index: a column of the bias table by its word, and a position of the padded
  keys or values by its word.
-/
module

public import proofs.«01_k».proof.Proof.Gen.KernelIdeal.Skeleton
public import proofs.«01_k».proof.Proof.Gen.ReferenceIdeal.Run
public import Idealize.ShloMosaic.Lib.Pointwise

@[expose] public section

noncomputable section

namespace Cert.Gather

open Idealize.ShloMosaic

/-- The kernel's gather of the bias, by distance. -/
theorem kernel_bias {α : Type} (x : KernelIdeal.S8x320.Idx → α) (idx : IVec KernelIdeal.S1023x1 32) (h : Fin 8)
    (n : Fin 1023) :
    Host.gather KernelIdeal.gather_S8x320_S1023x1_S8x1023_0_1_n_n_1_1_81 x idx (ix2 h n)
      = x (ix2 h ⟨min (idx (ix2 n 0)).toInt.toNat 319, by omega⟩) := by
  unfold Host.gather
  congr 1
  funext a
  refine Fin.ext ?_
  match a with
  | ⟨0, _⟩ => exact (by omega : ∀ x : Nat, 0 + 0 + x = x) _
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (idx z).toInt.toNat 319) ?_
    funext b
    refine Fin.ext ?_
    match b with
    | ⟨0, _⟩ => rfl
    | ⟨1, _⟩ => rfl

/-- The reference's gather of the bias, by query and band position. -/
theorem reference_bias {α : Type} (x : ReferenceIdeal.S8x320.Idx → α) (idx : IVec ReferenceIdeal.S64x576x1 32)
    (h : Fin 8) (r : Fin 64) (k : Fin 576) :
    Host.gather ReferenceIdeal.gather_S8x320_S64x576x1_S8x64x576_0_1_n_n_1_2_81 x idx (ix3 h r k)
      = x (ix2 h ⟨min (idx (ix3 r k 0)).toInt.toNat 319, by omega⟩) := by
  unfold Host.gather
  congr 1
  funext a
  refine Fin.ext ?_
  match a with
  | ⟨0, _⟩ => exact (by omega : ∀ x : Nat, 0 + 0 + x = x) _
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (idx z).toInt.toNat 319) ?_
    funext b
    refine Fin.ext ?_
    match b with
    | ⟨0, _⟩ => rfl
    | ⟨1, _⟩ => rfl
    | ⟨2, _⟩ => rfl

/-- The reference's gather of padded keys or values, by chunk and band position. -/
theorem reference_keys {α : Type} (x : ReferenceIdeal.S8x4608x8x64.Idx → α) (idx : IVec ReferenceIdeal.S64x576x1 32)
    (b : Fin 8) (n : Fin 64) (k : Fin 576) (h : Fin 8) (d : Fin 64) :
    Host.gather ReferenceIdeal.gather_S8x4608x8x64_S64x576x1_S8x64x576x8x64_034_1_n_n_1_2_81864 x idx (ix5 b n k h d)
      = x (ix4 b ⟨min (idx (ix3 n k 0)).toInt.toNat 4607, by omega⟩ h d) := by
  unfold Host.gather
  congr 1
  funext a
  refine Fin.ext ?_
  match a with
  | ⟨0, _⟩ => exact (by omega : ∀ x : Nat, 0 + 0 + x = x) _
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine congrArg (fun z => min (idx z).toInt.toNat 4607) ?_
    funext b
    refine Fin.ext ?_
    match b with
    | ⟨0, _⟩ => rfl
    | ⟨1, _⟩ => rfl
    | ⟨2, _⟩ => rfl
  | ⟨2, _⟩ => exact (by omega : ∀ x : Nat, 0 + 0 + x = x) _
  | ⟨3, _⟩ => exact (by omega : ∀ x : Nat, 0 + 0 + x = x) _

end Cert.Gather

end
-- ==== Proof.HostValue.lean ====
/-
  The kernel's operands as its host code prepares them, read at an index: queries scaled, keys and values as they are,
  and the bias table, which is the relative bias by distance inside a query's band and −∞ outside it.
-/
module

public import proofs.«01_k».proof.Proof.Gather
public import proofs.«01_k».proof.Proof.HeadValue
public import proofs.«01_k».proof.Proof.Gen.KernelIdeal.Value
public import Idealize.ShloMosaic.Lib.Pointwise
public import Idealize.ShloMosaic.Lib.StableHlo.ReadAt

@[expose] public section

noncomputable section

namespace Cert.KernelIdeal.HostValue

open Cert.KernelIdeal Cert.KernelIdeal.Gen Idealize.ShloMosaic Idealize.ShloMosaic.TcCoe

variable (m : (ℓ : Loc nD τ sig) → Buf (Elt Ideal) ℓ)

/-- The queries, keys, values and relative bias as launched. -/
abbrev in0 (c : Dev nD) : FVec Ideal S8x4096x8x64 .f32 := m (c, Proc.tc.devRef main_arg0)

@[inherit_doc in0]
abbrev in1 (c : Dev nD) : FVec Ideal S8x4096x8x64 .f32 := m (c, Proc.tc.devRef main_arg1)

@[inherit_doc in0]
abbrev in2 (c : Dev nD) : FVec Ideal S8x4096x8x64 .f32 := m (c, Proc.tc.devRef main_arg2)

@[inherit_doc in0]
abbrev in3 (c : Dev nD) : FVec Ideal S8x320 .f32 := m (c, Proc.tc.devRef main_arg3)

/-- The reciprocal of the natural logarithm of two, as the host code computes it. -/
theorem log2e : Ideal.div (Ideal.ofBits .f32 0x3F800000#32) (Ideal.log (Ideal.ofBits .f32 0x40000000#32))
    = ((1 / Real.log 2 : ℝ) : EReal) := by
  have h2 : Ideal.ofBits .f32 0x40000000#32 = ((2 : ℝ) : EReal) := by
    simp [Ideal.ofBits, Ideal.ieee, -EReal.coe_mul]; norm_num
  rw [h2, Ideal.log_coe, if_neg (by norm_num), Ideal.ofBits_one_f32,
    Ideal.div_coe (ne_of_gt (Real.log_pos (by norm_num))), one_mul]

/-- One over the square root of the head's width. -/
theorem eighth : Ideal.ofBits .f32 0x3E000000#32 = ((1 / 8 : ℝ) : EReal) := by
  simp [Ideal.ofBits, Ideal.ieee, -EReal.coe_mul]; norm_num

/-- The queries. -/
theorem queries (c : Dev nD) (b : Fin 8) (s : Fin 4096) (l : Fin 512) :
    V m c main_v6 (ix3 b s l)
      = (in0 m c (ix4 b s ⟨l.val / 64, by omega⟩ ⟨l.val % 64, by omega⟩) : EReal)
        * ((1 / 8 * (1 / Real.log 2) : ℝ) : EReal) := by
  unfold V
  after_reads_at
  rw [Ideal.ofBits_one_f32.symm, log2e, eighth, ← EReal.coe_mul]

/-- The keys. -/
theorem keys (c : Dev nD) (b : Fin 8) (s : Fin 4096) (l : Fin 512) :
    V m c main_v8 (ix3 b s l)
      = in1 m c (ix4 b s ⟨l.val / 64, by omega⟩ ⟨l.val % 64, by omega⟩) := by
  unfold V
  after_reads_at

/-- The values. -/
theorem values (c : Dev nD) (b : Fin 8) (s : Fin 4096) (l : Fin 512) :
    V m c main_v10 (ix3 b s l)
      = in2 m c (ix4 b s ⟨l.val / 64, by omega⟩ ⟨l.val % 64, by omega⟩) := by
  unfold V
  after_reads_at

/-- The bias table's column of a distance: the distance limited to −63 … 256. -/
def column (e : Int) : Fin 320 := ⟨(min 256 (max (-63) e) + 63).toNat, by omega⟩

/-- The sign of a word. -/
def signWord (w : BitVec 32) : BitVec 32 := if w = 0 then 0 else if w.msb = true then -1 else 1

/-- Floor division of a word by 64, as the host code computes it. -/
def floorWord (w : BitVec 32) : BitVec 32 :=
  Scalar.select
    (IntOp.andi
      (IntOp.cmpi .ne (signWord w) (signWord 64#32))
      (IntOp.cmpi .ne (IntOp.remsi ArithUnit.host w 64#32) 0#32))
    (IntOp.subi (IntOp.divsi ArithUnit.host w 64#32) 1#32)
    (IntOp.divsi ArithUnit.host w 64#32)

theorem floorWord_eq : ∀ n : Fin 768, floorWord (BitVec.ofNat 32 n.val) = BitVec.ofNat 32 (n.val / 64) := by
  decide +kernel

/-- The band's condition on chunk numbers. -/
theorem band_word : ∀ (a : Fin 12) (b : Fin 4),
    IntOp.andi (IntOp.cmpi .sge (BitVec.ofNat 32 a.val) (IntOp.addi (BitVec.ofNat 32 b.val) 0#32))
      (IntOp.cmpi .sle (BitVec.ofNat 32 a.val) (IntOp.addi (IntOp.addi (BitVec.ofNat 32 b.val) 0#32) 8#32))
      = if b.val ≤ a.val ∧ a.val ≤ b.val + 8 then 1#1 else 0#1 := by
  decide +kernel

/-- The word of the bias table's column. -/
theorem column_word : ∀ n : Fin 1023,
    (fun w : BitVec 32 => min (Scalar.select (IntOp.cmpi .slt w 0#32) (IntOp.addi w 320#32) w).toInt.toNat 319)
      (IntOp.addi (IntOp.minsi 256#32 (IntOp.maxsi 4294967233#32
        (IntOp.addi 767#32 (IntOp.muli 4294967295#32 (BitVec.ofNat 32 n.val))))) 63#32)
      = (column (767 - n.val)).val := by
  decide +kernel

/-- A choice by a word that says whether a condition holds. -/
theorem select_of {P : Prop} [Decidable P] {w : BitVec 1} {x x' y y' : EReal} (hw : w = if P then 1#1 else 0#1)
    (hx : P → x = x') (hy : y = y') : Scalar.select w x y = if P then x' else y' := by
  subst hw
  by_cases h : P
  · rw [if_pos h, if_pos h]; exact hx h
  · rw [if_neg h, if_neg h]; exact hy

/-- The scale of the relative bias. -/
theorem scale_apply (j : S8x320.Idx) :
    broadcastInDim S8x320 ![] bcast_S_S8x320
      (Host.divf (F := Ideal) (constant S_ FTy.f32 1065353216#32) (Host.log (constant S_ FTy.f32 1073741824#32))) j
      = ((1 / Real.log 2 : ℝ) : EReal) := by
  idx_vars j
  pointwise
  rw [← Ideal.ofBits_one_f32]
  exact log2e

/-- The bias table. -/
theorem bias (c : Dev nD) (h : Fin 8) (r : Fin 256) (l : Fin 768) :
    V m c main_v57 (ix3 h r l)
      = (if r.val / 64 ≤ l.val / 64 ∧ l.val / 64 ≤ r.val / 64 + 8 then
          (in3 m c (ix2 h (column (512 + r.val - l.val))) : EReal)
            * ((1 / Real.log 2 : ℝ) : EReal)
        else ⊥) := by
  unfold V
  after_reads_at
  refine select_of ?_ (fun _ => ?_) Head.neg_inf
  · refine Eq.trans ?_ (band_word ⟨l.val / 64, by omega⟩ ⟨r.val / 64, by omega⟩)
    rw [← floorWord_eq l, ← floorWord_eq ⟨r.val, by omega⟩]
    rfl
  · have hn : (r.val * 1024 + (255 + l.val)) % 1025 = 255 + l.val - r.val := by
      have := r.isLt; have := l.isLt; omega
    have hl : (r.val * 1024 + (255 + l.val)) % 1025 < 1023 := by rw [hn]; have := l.isLt; omega
    refine (dif_pos hl).trans ((Gather.kernel_bias _ _ _ _).trans ((mulf_apply _ _ _).trans ?_))
    refine congrArg₂ (· * ·) (congrArg (fun k => in3 m c (ix2 h k)) (Fin.ext ?_)) ?_
    · refine Eq.trans ?_ ((column_word ⟨(r.val * 1024 + (255 + l.val)) % 1025, hl⟩).trans ?_)
      · pointwise
        rfl
      · rw [show (767 : Int) - ((⟨(r.val * 1024 + (255 + l.val)) % 1025, hl⟩ : Fin 1023).val : Int)
          = 512 + r.val - l.val by dsimp only; rw [hn]; have := r.isLt; omega]
    · exact scale_apply _

end Cert.KernelIdeal.HostValue

end
-- ==== Proof.BlockReads.lean ====
module

public import proofs.«01_k».proof.Proof.BlockValue
public import proofs.«01_k».proof.Proof.HostValue
public import Idealize.ShloMosaic.Lib.Pipeline.ValueKit

/-!
# The blocks of the attention call

Grid point `t` of the call takes query block `t % 16` of the four batch rows from `4 * (t / 16)`. It reads
its own 256 query rows, three slabs of 256 key and value rows — its own and the two before, clamped to the start of the
sequence — and the whole bias table. This module reads those blocks off the prepared arrays.
-/

@[expose] public section

noncomputable section

namespace Cert.KernelIdeal.Blocks

open Cert.KernelIdeal Cert.KernelIdeal.Gen Idealize.ShloMosaic Idealize.ShloMosaic.TcCoe

variable (m : (ℓ : Loc nD τ sig) → Buf (Elt Ideal) ℓ)

theorem index0 : ∀ t, win0_0.index t = ![t.val / 16, t.val % 16, 0] := by decide +kernel
theorem index1 : ∀ t, win0_1.index t = ![t.val / 16, t.val % 16 - 2, 0] := by decide +kernel
theorem index2 : ∀ t, win0_2.index t = ![t.val / 16, t.val % 16 - 1, 0] := by decide +kernel
theorem index3 : ∀ t, win0_3.index t = ![t.val / 16, t.val % 16, 0] := by decide +kernel
theorem index4 : ∀ t, win0_4.index t = ![t.val / 16, t.val % 16 - 2, 0] := by decide +kernel
theorem index5 : ∀ t, win0_5.index t = ![t.val / 16, t.val % 16 - 1, 0] := by decide +kernel
theorem index6 : ∀ t, win0_6.index t = ![t.val / 16, t.val % 16, 0] := by decide +kernel
theorem index7 : ∀ t, win0_7.index t = ![0, 0, 0] := by decide +kernel
theorem index8 : ∀ t, win0_8.index t = ![t.val / 16, t.val % 16, 0] := by decide +kernel

/-- The second grid coordinate of a point. -/
theorem coord (t : Fin cfg0.N) : ((grid0.coords t) 1).val = t.val % 16 := by
  revert t; decide +kernel

/-- There are 32 grid points. -/
theorem point_lt (t : Fin cfg0.N) : t.val < 32 := lt_of_lt_of_eq t.isLt N_0

/-- The batch row of a block's row. -/
def batch (t : Fin cfg0.N) (b : Fin 4) : Fin 8 := ⟨4 * (t.val / 16) + b.val, by have := point_lt t; omega⟩

/-- The sequence row of a row of the slab `j` steps back. -/
def row (t : Fin cfg0.N) (j : ℕ) (r : Fin 256) : Fin 4096 := ⟨256 * (t.val % 16 - j) + r.val, by omega⟩

/-- The query block. -/
theorem read0 (c : Dev nD) (t : Fin cfg0.N) (b : Fin 4) (r : Fin 256) (l : Fin 512) :
    iblk m c 0 t (ix3 b r l) = (V m c main_v6 (ix3 (batch t b) (row t 0 r) l) : EReal) := by
  blk_ext [iblk, index0 t, batch, row]

/-- The key slab two steps back. -/
theorem read1 (c : Dev nD) (t : Fin cfg0.N) (b : Fin 4) (r : Fin 256) (l : Fin 512) :
    iblk m c 1 t (ix3 b r l) = (V m c main_v8 (ix3 (batch t b) (row t 2 r) l) : EReal) := by
  blk_ext [iblk, index1 t, batch, row]

/-- The key slab one step back. -/
theorem read2 (c : Dev nD) (t : Fin cfg0.N) (b : Fin 4) (r : Fin 256) (l : Fin 512) :
    iblk m c 2 t (ix3 b r l) = (V m c main_v8 (ix3 (batch t b) (row t 1 r) l) : EReal) := by
  blk_ext [iblk, index2 t, batch, row]

/-- The block's own key slab. -/
theorem read3 (c : Dev nD) (t : Fin cfg0.N) (b : Fin 4) (r : Fin 256) (l : Fin 512) :
    iblk m c 3 t (ix3 b r l) = (V m c main_v8 (ix3 (batch t b) (row t 0 r) l) : EReal) := by
  blk_ext [iblk, index3 t, batch, row]

/-- The value slab two steps back. -/
theorem read4 (c : Dev nD) (t : Fin cfg0.N) (b : Fin 4) (r : Fin 256) (l : Fin 512) :
    iblk m c 4 t (ix3 b r l) = (V m c main_v10 (ix3 (batch t b) (row t 2 r) l) : EReal) := by
  blk_ext [iblk, index4 t, batch, row]

/-- The value slab one step back. -/
theorem read5 (c : Dev nD) (t : Fin cfg0.N) (b : Fin 4) (r : Fin 256) (l : Fin 512) :
    iblk m c 5 t (ix3 b r l) = (V m c main_v10 (ix3 (batch t b) (row t 1 r) l) : EReal) := by
  blk_ext [iblk, index5 t, batch, row]

/-- The block's own value slab. -/
theorem read6 (c : Dev nD) (t : Fin cfg0.N) (b : Fin 4) (r : Fin 256) (l : Fin 512) :
    iblk m c 6 t (ix3 b r l) = (V m c main_v10 (ix3 (batch t b) (row t 0 r) l) : EReal) := by
  blk_ext [iblk, index6 t, batch, row]

/-- The bias table, whole. -/
theorem read7 (c : Dev nD) (t : Fin cfg0.N) (h : Fin 8) (r : Fin 256) (l : Fin 768) :
    iblk m c 7 t (ix3 h r l) = (V m c main_v57 (ix3 h r l) : EReal) := by
  blk_ext [iblk, index7 t]

/-- Where the result's block lies. -/
theorem place8 (t : Fin cfg0.N) (b : Fin 4) (r : Fin 256) (l : Fin 512) :
    (((cfg0.win 8).blk t).view.emb (ix3 b r l) : S8x4096x512.Idx) = ix3 (batch t b) (row t 0 r) l := by
  blk_ext [index8 t, batch, row]

/-- The penalty of a slab: a slab that would lie before the sequence weighs nothing. -/
def penalty (i : ℕ) (j : Fin 3) : EReal := if i + j.val < 2 then ⊥ else 0

/-- The body's test of its block number against a slab's least block. -/
theorem tests : ∀ (i : Fin 16) (j : Fin 3),
    Scalar.cmpi .sge (BitVec.ofNat 32 i.val) (BitVec.ofNat 32 (2 - j.val)) = if i.val + j.val < 2 then 0#1 else 1#1 := by
  decide +kernel

/-- The penalty the body chooses. -/
theorem penalty_of (i : Fin 16) (j : Fin 3) :
    Scalar.select (Scalar.cmpi .sge (BitVec.ofNat 32 i.val) (BitVec.ofNat 32 (2 - j.val)))
      (Scalar.ofBits .f32 0x00000000#32 : Ideal .f32) (Named.named κ "mask" 0xF149F2CA#32) = penalty i.val j := by
  rw [tests i j, penalty]
  by_cases h : i.val + j.val < 2
  · rw [if_pos h, if_pos h]
    exact IdealRules.named_const.ideal_named_scalar _ _ _ _ rfl
  · rw [if_neg h, if_neg h]
    exact Ideal.ofBits_zero_f32

end Cert.KernelIdeal.Blocks

end
-- ==== Proof.KernelValue.lean ====
module

public import proofs.«01_k».proof.Proof.BlockReads

/-!
# The attention call's result

Row `s` of the sequence attends, in head `h`, to 768 columns: the 256 rows of its own block and of the two blocks before
it. A column outside the band, or of a block before the sequence, has score `⊥`.
-/

@[expose] public section

noncomputable section

namespace Cert.KernelIdeal.Blocks

open Cert.KernelIdeal Cert.KernelIdeal.Gen Cert.KernelIdeal.Head Cert.KernelIdeal.Pieces Cert.KernelIdeal.HostValue
  Idealize.ShloMosaic Idealize.ShloMosaic.TcCoe

variable (m : (ℓ : Loc nD τ sig) → Buf (Elt Ideal) ℓ)

/-- The sequence row of a column. -/
def columnRow (s : Fin 4096) (x : Fin 3 × Fin 256) : Fin 4096 :=
  ⟨256 * (s.val / 256 - (2 - x.1.val)) + x.2.val, by omega⟩

/-- A score as the kernel computes it, in units of the logarithm to base two. -/
def score (c : Dev nD) (b : Fin 8) (s : Fin 4096) (h : Fin 8) (x : Fin 3 × Fin 256) : EReal :=
  (∑ d : Fin 64, in0 m c (ix4 b s h d) * ((1 / 8 * (1 / Real.log 2) : ℝ) : EReal) * in1 m c (ix4 b (columnRow s x) h d)
    + (if s.val % 256 / 64 ≤ (256 * x.1.val + x.2.val) / 64 ∧ (256 * x.1.val + x.2.val) / 64 ≤ s.val % 256 / 64 + 8 then
        in3 m c (ix2 h (column (512 + (s.val % 256 : ℕ) - (256 * x.1.val + x.2.val : ℕ)))) * ((1 / Real.log 2 : ℝ) : EReal)
      else ⊥))
  + penalty (s.val / 256) x.1

/-- The result at an index. -/
def resultAt (c : Dev nD) (b : Fin 8) (s : Fin 4096) (l : Fin 512) : EReal :=
  attend (score m c b s (headOf l)) fun x => in2 m c (ix4 b (columnRow s x) (headOf l) ⟨l.val % 64, by omega⟩)

/-- The result. -/
def result (c : Dev nD) : Vec Ideal S8x4096x512 .bf16 := fun y => resultAt m c (y 0) (y 1) (y 2)

/-- One of three slabs, at an index. -/
theorem slab_apply (k0 k1 k2 : Vec Ideal S4x256x512 .bf16) (y : S4x256x512.Idx) (g : Fin 3 → EReal)
    (h0 : k0 y = g 0) (h1 : k1 y = g 1) (h2 : k2 y = g 2) (j : Fin 3) : (![k0, k1, k2] j) y = g j := by
  fin_cases j
  · exact h0
  · exact h1
  · exact h2

/-- One of three penalties. -/
theorem three_apply (p0 p1 p2 : EReal) (g : Fin 3 → EReal) (h0 : p0 = g 0) (h1 : p1 = g 1) (h2 : p2 = g 2) (j : Fin 3) :
    ![p0, p1, p2] j = g j := by
  fin_cases j
  · exact h0
  · exact h1
  · exact h2

/-- The sequence row of a slab's row. -/
theorem columnRow_eq (t : Fin cfg0.N) (r : Fin 256) (j : Fin 3) (x : Fin 256) :
    columnRow (row t 0 r) (j, x) = row t (2 - j.val) x := by
  apply Fin.ext
  show 256 * ((256 * (t.val % 16 - 0) + r.val) / 256 - (2 - j.val)) + x.val = 256 * (t.val % 16 - (2 - j.val)) + x.val
  have := r.isLt
  rw [show (256 * (t.val % 16 - 0) + r.val) / 256 = t.val % 16 by omega]

/-- Lane `64 h + d` is lane `d` of head `h`. -/
theorem lane_index {α : Type} (f : S8x4096x8x64.Idx → α) (b : Fin 8) (s : Fin 4096) (h : Fin 8) (d : Fin 64) :
    f (ix4 b s ⟨(64 * h.val + d.val) / 64, by omega⟩ ⟨(64 * h.val + d.val) % 64, by omega⟩) = f (ix4 b s h d) := by
  have e1 : (⟨(64 * h.val + d.val) / 64, by omega⟩ : Fin 8) = h := Fin.ext (by simp only; omega)
  have e2 : (⟨(64 * h.val + d.val) % 64, by omega⟩ : Fin 64) = d := Fin.ext (by simp only; omega)
  rw [e1, e2]

/-- A query of a block. -/
theorem query_at (c : Dev nD) (t : Fin cfg0.N) (b : Fin 4) (r : Fin 256) (h : Fin 8) (d : Fin 64) :
    iblk m c 0 t (ix3 b r ⟨64 * h.val + d.val, by omega⟩)
      = (in0 m c (ix4 (batch t b) (row t 0 r) h d) * ((1 / 8 * (1 / Real.log 2) : ℝ) : EReal) : EReal) :=
  (read0 m c t _ _ _).trans ((queries m c _ _ _).trans (congrArg (· * _) (lane_index (in0 m c) _ _ _ _)))

/-- A prepared key. -/
theorem key_at (c : Dev nD) (b : Fin 8) (s : Fin 4096) (h : Fin 8) (d : Fin 64) :
    V m c main_v8 (ix3 b s ⟨64 * h.val + d.val, by omega⟩) = (in1 m c (ix4 b s h d) : EReal) :=
  (keys m c _ _ _).trans (lane_index (in1 m c) _ _ _ _)

/-- A key of a column. -/
theorem column_key (c : Dev nD) (t : Fin cfg0.N) (b : Fin 4) (r : Fin 256) (h : Fin 8) (d : Fin 64) (j : Fin 3) (x : Fin 256) :
    (![(iblk m c 1 t : Vec Ideal S4x256x512 .bf16), iblk m c 2 t, iblk m c 3 t] j)
      (ix3 b x ⟨64 * h.val + d.val, by omega⟩)
      = (in1 m c (ix4 (batch t b) (columnRow (row t 0 r) (j, x)) h d) : EReal) := by
  refine (slab_apply (iblk m c 1 t) (iblk m c 2 t) (iblk m c 3 t) _ (fun j => in1 m c (ix4 (batch t b) (row t (2 - j.val) x) h d)) ?_ ?_ ?_ j).trans ?_
  · exact (read1 m c t _ _ _).trans (key_at m c _ _ _ _)
  · exact (read2 m c t _ _ _).trans (key_at m c _ _ _ _)
  · exact (read3 m c t _ _ _).trans (key_at m c _ _ _ _)
  · exact congrArg (fun s => in1 m c (ix4 (batch t b) s h d)) (columnRow_eq t r j x).symm

/-- A value of a column. -/
theorem column_value (c : Dev nD) (t : Fin cfg0.N) (b : Fin 4) (r : Fin 256) (l : Fin 512) (j : Fin 3) (x : Fin 256) :
    (![(iblk m c 4 t : Vec Ideal S4x256x512 .bf16), iblk m c 5 t, iblk m c 6 t] j) (ix3 b x l)
      = (in2 m c (ix4 (batch t b) (columnRow (row t 0 r) (j, x)) (headOf l) ⟨l.val % 64, by omega⟩) : EReal) := by
  refine (slab_apply (iblk m c 4 t) (iblk m c 5 t) (iblk m c 6 t) _ (fun j => in2 m c (ix4 (batch t b) (row t (2 - j.val) x) (headOf l) ⟨l.val % 64, by omega⟩)) ?_ ?_ ?_ j).trans ?_
  · exact (read4 m c t _ _ _).trans (values m c _ _ _)
  · exact (read5 m c t _ _ _).trans (values m c _ _ _)
  · exact (read6 m c t _ _ _).trans (values m c _ _ _)
  · exact congrArg (fun s => in2 m c (ix4 (batch t b) s (headOf l) ⟨l.val % 64, by omega⟩)) (columnRow_eq t r j x).symm

/-- A bias of a block. -/
theorem bias_at (c : Dev nD) (t : Fin cfg0.N) (r : Fin 256) (h : Fin 8) (l : Fin 768) :
    iblk m c 7 t (ix3 h r l)
      = (if (row t 0 r).val % 256 / 64 ≤ l.val / 64 ∧ l.val / 64 ≤ (row t 0 r).val % 256 / 64 + 8 then
          (in3 m c (ix2 h (column (512 + ((row t 0 r).val % 256 : ℕ) - (l.val : ℕ)))) : EReal) * ((1 / Real.log 2 : ℝ) : EReal)
        else ⊥) := by
  have hm : (row t 0 r).val % 256 = r.val := by
    show (256 * (t.val % 16 - 0) + r.val) % 256 = r.val
    have := r.isLt; omega
  rw [hm]
  exact (read7 m c t _ _ _).trans (bias m c _ _ _)

/-- A block's scores are the kernel's scores. -/
theorem scores_eq (c : Dev nD) (t : Fin cfg0.N) (pen : Fin 3 → EReal) (hp : ∀ j, pen j = penalty (t.val % 16) j)
    (b : Fin 4) (r : Fin 256) (h : Fin 8) (x : Fin 3 × Fin 256) :
    scores (iblk m c 0 t) (iblk m c 1 t) (iblk m c 2 t) (iblk m c 3 t) (iblk m c 7 t) pen b r h x
      = score m c (batch t b) (row t 0 r) h x := by
  have hq : (row t 0 r).val / 256 = t.val % 16 := by
    show (256 * (t.val % 16 - 0) + r.val) / 256 = t.val % 16
    have := r.isLt; omega
  unfold scores score
  rw [hq, ← hp, ← bias_at m c t r h ⟨256 * x.1.val + x.2.val, by omega⟩]
  refine congrArg (· + pen x.1) (congrArg (· + _) (Finset.sum_congr rfl fun d _ => ?_))
  rw [← column_key m c t b r h d x.1 x.2, ← query_at m c t b r h d]

/-- What a point writes, at an index, is the result there. -/
theorem blockAt_eq (c : Dev nD) (t : Fin cfg0.N) (pen : Fin 3 → EReal) (hp : ∀ j, pen j = penalty (t.val % 16) j)
    (b : Fin 4) (r : Fin 256) (l : Fin 512) :
    blockAt (iblk m c 0 t) (iblk m c 1 t) (iblk m c 2 t) (iblk m c 3 t) (iblk m c 4 t) (iblk m c 5 t) (iblk m c 6 t)
      (iblk m c 7 t) pen b r l = resultAt m c (batch t b) (row t 0 r) l :=
  congrArg₂ attend (funext fun x => scores_eq m c t pen hp b r (headOf l) x)
    (funext fun x => column_value m c t b r l x.1 x.2)

/-- What a point writes back, at an index. -/
theorem written (c : Dev nD) (t : Fin cfg0.N) (b : Fin 4) (r : Fin 256) (l : Fin 512) :
    (dats m 0 c).flushed 8 t (ix3 b r l) = (resultAt m c (batch t b) (row t 0 r) l : EReal) := by
  by_cases h : 2 ≤ t.val % 16
  · rw [Value.flushed8_B m c t h (by omega)]
    refine Eq.trans ?_ (blockAt_eq m c t (fun _ => 0) (fun j => ?_) b r l)
    · exact outB c (grid0.coords t) _ _ _ _ _ _ _ _ _ _ _ _ _ _ _ _ _ _ _ _ _ _ _ _ _ _ _ _ (ix3 b r l)
    · rw [penalty, if_neg (by omega)]
  · rw [Value.flushed8_A m c t h (by omega)]
    refine Eq.trans ?_ (blockAt_eq m c t ![k0_pay379 (F := Ideal) (BitVec.ofNat 32 ((grid0.coords t) 1).val), k0_pay380 (F := Ideal) (BitVec.ofNat 32 ((grid0.coords t) 1).val), k0_pay381 (F := Ideal) (BitVec.ofNat 32 ((grid0.coords t) 1).val)] (three_apply _ _ _ _ ?_ ?_ ?_) b r l)
    · exact outA c (grid0.coords t) _ _ _ _ _ _ _ _ _ _ _ _ _ _ _ _ _ _ _ _ _ _ _ _ _ _ _ _ (ix3 b r l)
    all_goals rw [← coord t]
    · exact penalty_of ((grid0.coords t) 1) 0
    · exact penalty_of ((grid0.coords t) 1) 1
    · exact penalty_of ((grid0.coords t) 1) 2

/-- An index of a block. -/
theorem block_index (y : S4x256x512.Idx) : y = ix3 (y 0) (y 1) (y 2) :=
  funext fun a => by fin_cases a <;> rfl

/-- The result at an index. -/
theorem result_ix3 (c : Dev nD) (b : Fin 8) (s : Fin 4096) (l : Fin 512) : result m c (ix3 b s l) = resultAt m c b s l := rfl

/-- What a point writes back is the result's block. -/
theorem written_whole (c : Dev nD) (t : Fin cfg0.N) (y : S4x256x512.Idx) :
    (dats m 0 c).flushed 8 t y = (result m c (((cfg0.win 8).blk t).view.emb y) : EReal) := by
  rw [block_index y]
  refine (written m c t _ _ _).trans ?_
  refine Eq.trans ?_ (congrArg (result m c) (place8 t _ _ _).symm)
  exact (result_ix3 m c _ _ _).symm

/-- THE RESULT of the call. -/
theorem result_eq (c : Dev nD) : (dats m 0 c).arrAt 8 cfg0.N = result m c := by
  refine (dats m 0 c).arrAt_eq_of_covers 8 (result m c) (by decide +kernel) ?_
  intro t hf y
  exact written_whole m c t y

end Cert.KernelIdeal.Blocks

end
-- ==== Proof.Band.lean ====
module

public import proofs.«01_k».proof.Proof.HostValue
public import proofs.«01_k».proof.Proof.Gen.ReferenceIdeal.Read

/-!
# The reference's band

Chunk `n`'s queries attend to 576 positions, the chunk's own 64 rows and the 512 before it. This module reads the
reference's gathers of the bias, the keys and the values at an index of the band.
-/

@[expose] public section

noncomputable section

namespace Cert.ReferenceIdeal.Band
open Cert.ReferenceIdeal Cert.ReferenceIdeal.Gen Cert.ReferenceIdeal.Read Idealize.ShloMosaic

/-- The word of a distance along the band. -/
theorem distance_word (r : Fin 64) (k : Fin 576) :
    IntOp.addi (IntOp.subi (BitVec.ofNat 32 r.val) (BitVec.ofNat 32 k.val)) 512#32
      = IntOp.addi 767#32 (IntOp.muli 4294967295#32 (BitVec.ofNat 32 (255 + k.val - r.val))) := by
  have := r.isLt
  have := k.isLt
  unfold IntOp.addi IntOp.subi IntOp.muli
  apply BitVec.eq_of_toNat_eq
  simp only [BitVec.toNat_add, BitVec.toNat_sub, BitVec.toNat_mul, BitVec.toNat_ofNat]
  omega

/-- The word of a position of the padded sequence. -/
theorem position_word (n : Fin 64) (k : Fin 576) :
    IntOp.addi (IntOp.muli (BitVec.ofNat 32 n.val) 64#32) (BitVec.ofNat 32 k.val) = BitVec.ofNat 32 (64 * n.val + k.val) := by
  have := n.isLt
  have := k.isLt
  unfold IntOp.addi IntOp.muli
  apply BitVec.eq_of_toNat_eq
  simp only [BitVec.toNat_add, BitVec.toNat_mul, BitVec.toNat_ofNat]
  omega

/-- The row a position's word gathers. -/
theorem gathered_word : ∀ p : Fin 4608,
    (fun w : BitVec 32 => min (Scalar.select (IntOp.cmpi .slt w 0#32) (IntOp.addi w 4608#32) w).toInt.toNat 4607)
      (BitVec.ofNat 32 p.val) = p.val := by
  decide +kernel

/-- The test of a position against the start of the sequence. -/
theorem valid_word : ∀ p : Fin 4608,
    IntOp.cmpi .sge (IntOp.subi (BitVec.ofNat 32 p.val) 512#32) 0#32 = if 512 ≤ p.val then 1#1 else 0#1 := by
  decide +kernel

/-- The bias column of a distance. -/
theorem column_index (r : Fin 64) (k : Fin 576) :
    min ((val_main_v19 (F := Ideal) (ix3 r k 0)).toInt.toNat) 319 = (KernelIdeal.HostValue.column (512 + r.val - k.val)).val := by
  have h : 255 + k.val - r.val < 1023 := by omega
  have e : val_main_v19 (F := Ideal) (ix3 r k 0) = (fun w : BitVec 32 => Scalar.select (IntOp.cmpi .slt w 0#32) (IntOp.addi w 320#32) w)
      (IntOp.addi (IntOp.minsi 256#32 (IntOp.maxsi 4294967233#32
        (IntOp.addi (IntOp.subi (BitVec.ofNat 32 r.val) (BitVec.ofNat 32 k.val)) 512#32))) 63#32) := by
    pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_c_1, val_main_c_2, val_main_c_3, val_main_c_4, val_main_c_5, val_main_c_6, val_main_call2_v0, val_main_call2_v1, val_main_call2_v2, val_main_call2_v3, val_main_call2_v4]
    rfl
  rw [e, distance_word]
  refine (KernelIdeal.HostValue.column_word ⟨255 + k.val - r.val, h⟩).trans ?_
  have := r.isLt
  rw [show (767 : Int) - ((⟨255 + k.val - r.val, h⟩ : Fin 1023).val : Int) = 512 + r.val - k.val by simp only; omega]

/-- The bias of a row and a position of the band. -/
theorem v20_apply (x3 : S8x320.Idx → EReal) (h : Fin 8) (r : Fin 64) (k : Fin 576) :
    val_main_v20 (F := Ideal) x3 (ix3 h r k) = x3 (ix2 h (KernelIdeal.HostValue.column (512 + r.val - k.val))) := by
  unfold val_main_v20
  refine (Gather.reference_bias x3 _ h r k).trans (congrArg (fun j => x3 (ix2 h j)) (Fin.ext (column_index r k)))

/-- A row of the sequence padded with 512 zero rows in front. -/
def padded (x : S8x4096x8x64.Idx → EReal) (b : Fin 8) (p : Fin 4608) (h : Fin 8) (d : Fin 64) : EReal :=
  if hp : 512 ≤ p.val then x (ix4 b ⟨p.val - 512, by omega⟩ h d) else 0

/-- The padded rows at an index. -/
theorem v0_apply (x : S8x4096x8x64.Idx → EReal) (b : Fin 8) (p : Fin 4608) (h : Fin 8) (d : Fin 64) :
    val_main_v0 (F := Ideal) x (ix4 b p h d) = padded x b p h d := by
  pointwise [val_main_v0, val_main_call0_v0, val_main_c, padded]
  have := p.isLt
  by_cases h1 : 512 ≤ p.val
  · rw [dif_pos h1, dif_pos ⟨h1, by omega⟩]
  · rw [dif_neg h1, dif_neg (fun h2 => h1 h2.1)]
    show ((((0#32).toInt : ℤ) : ℝ) : EReal) = 0
    simp

/-- The padded rows at an index. -/
theorem v1_apply (x : S8x4096x8x64.Idx → EReal) (b : Fin 8) (p : Fin 4608) (h : Fin 8) (d : Fin 64) :
    val_main_v1 (F := Ideal) x (ix4 b p h d) = padded x b p h d := by
  pointwise [val_main_v1, val_main_call1_v0, val_main_c_0, padded]
  have := p.isLt
  by_cases h1 : 512 ≤ p.val
  · rw [dif_pos h1, dif_pos ⟨h1, by omega⟩]
  · rw [dif_neg h1, dif_neg (fun h2 => h1 h2.1)]
    show ((((0#32).toInt : ℤ) : ℝ) : EReal) = 0
    simp

/-- A gathered key of the band. -/
theorem v37_apply (x : S8x4096x8x64.Idx → EReal) (b : Fin 8) (n : Fin 64) (k : Fin 576) (h : Fin 8) (d : Fin 64) :
    val_main_v37 (F := Ideal) x (ix5 b n k h d) = padded x b ⟨64 * n.val + k.val, by omega⟩ h d := by
  unfold val_main_v37
  refine (Gather.reference_keys _ _ b n k h d).trans ?_
  have e : val_main_v36 (F := Ideal) (ix3 n k 0) = (fun w : BitVec 32 => Scalar.select (IntOp.cmpi .slt w 0#32) (IntOp.addi w 4608#32) w)
      (IntOp.addi (IntOp.muli (BitVec.ofNat 32 n.val) 64#32) (BitVec.ofNat 32 k.val)) := by
    pointwise [val_main_v21, val_main_v22, val_main_v23, val_main_v24, val_main_v25, val_main_v26, val_main_v27, val_main_v28, val_main_v29, val_main_v31, val_main_v32, val_main_v33, val_main_v34, val_main_v35, val_main_v36, val_main_c_7, val_main_c_8, val_main_c_9]
  have hi : min (val_main_v36 (F := Ideal) (ix3 n k 0)).toInt.toNat 4607 = 64 * n.val + k.val := by
    rw [e, position_word]
    exact gathered_word ⟨64 * n.val + k.val, by omega⟩
  refine (congrArg (fun j => val_main_v0 (F := Ideal) x (ix4 b j h d)) (Fin.ext (b := ⟨64 * n.val + k.val, by omega⟩) hi)).trans ?_
  exact v0_apply x b ⟨64 * n.val + k.val, by omega⟩ h d

/-- A gathered value of the band. -/
theorem v44_apply (x : S8x4096x8x64.Idx → EReal) (b : Fin 8) (n : Fin 64) (k : Fin 576) (h : Fin 8) (d : Fin 64) :
    val_main_v44 (F := Ideal) x (ix5 b n k h d) = padded x b ⟨64 * n.val + k.val, by omega⟩ h d := by
  unfold val_main_v44
  refine (Gather.reference_keys _ _ b n k h d).trans ?_
  have e : val_main_v43 (F := Ideal) (ix3 n k 0) = (fun w : BitVec 32 => Scalar.select (IntOp.cmpi .slt w 0#32) (IntOp.addi w 4608#32) w)
      (IntOp.addi (IntOp.muli (BitVec.ofNat 32 n.val) 64#32) (BitVec.ofNat 32 k.val)) := by
    pointwise [val_main_v21, val_main_v22, val_main_v23, val_main_v24, val_main_v25, val_main_v26, val_main_v27, val_main_v28, val_main_v29, val_main_v38, val_main_v39, val_main_v40, val_main_v41, val_main_v42, val_main_v43, val_main_c_7, val_main_c_10, val_main_c_11]
  have hi : min (val_main_v43 (F := Ideal) (ix3 n k 0)).toInt.toNat 4607 = 64 * n.val + k.val := by
    rw [e, position_word]
    exact gathered_word ⟨64 * n.val + k.val, by omega⟩
  refine (congrArg (fun j => val_main_v1 (F := Ideal) x (ix4 b j h d)) (Fin.ext (b := ⟨64 * n.val + k.val, by omega⟩) hi)).trans ?_
  exact v1_apply x b ⟨64 * n.val + k.val, by omega⟩ h d

/-- Which positions lie in the sequence. -/
theorem v54_apply (n : Fin 64) (k : Fin 576) :
    val_main_v54 (F := Ideal) (ix2 n k) = if 512 ≤ 64 * n.val + k.val then 1#1 else 0#1 := by
  have e : val_main_v54 (F := Ideal) (ix2 n k)
      = IntOp.cmpi .sge (IntOp.subi (IntOp.addi (IntOp.muli (BitVec.ofNat 32 n.val) 64#32) (BitVec.ofNat 32 k.val)) 512#32) 0#32 := by
    pointwise [val_main_v21, val_main_v22, val_main_v23, val_main_v24, val_main_v25, val_main_v26, val_main_v27, val_main_v28, val_main_v29, val_main_v51, val_main_v52, val_main_v53, val_main_v54, val_main_c_7, val_main_c_12, val_main_c_13]
  rw [e, position_word]
  exact valid_word ⟨64 * n.val + k.val, by omega⟩

end Cert.ReferenceIdeal.Band
end
-- ==== Proof.ReferenceValue.lean ====
module

public import proofs.«01_k».proof.Proof.Band

/-!
# The reference's result

Query `r` of chunk `n` attends, in head `h`, to the 576 positions of its band: a softmax of the scores, with `⊥` at the
positions before the sequence, and the weighted sum of the values.
-/

@[expose] public section

noncomputable section

namespace Cert.ReferenceIdeal.Band

open Cert.ReferenceIdeal Cert.ReferenceIdeal.Gen Cert.ReferenceIdeal.Read Idealize.ShloMosaic

variable (x0 x1 x2 : S8x4096x8x64.Idx → EReal) (x3 : S8x320.Idx → EReal)

/-- A score of the band. -/
def score (b : Fin 8) (n : Fin 64) (h : Fin 8) (r : Fin 64) (k : Fin 576) : EReal :=
  if 512 ≤ 64 * n.val + k.val then
    (∑ d : Fin 64, x0 (ix4 b ⟨64 * n.val + r.val, by omega⟩ h d) * padded x1 b ⟨64 * n.val + k.val, by omega⟩ h d)
        * ((1 / 8 : ℝ) : EReal)
      + x3 (ix2 h (KernelIdeal.HostValue.column (512 + r.val - k.val)))
  else ⊥

/-- The chunked queries at an index. -/
theorem v30_apply (b : Fin 8) (n : Fin 64) (r : Fin 64) (h : Fin 8) (d : Fin 64) :
    val_main_v30 (F := Ideal) x0 (ix5 b n r h d) = x0 (ix4 b ⟨64 * n.val + r.val, by omega⟩ h d) := by
  pointwise [val_main_v30]
  refine congrArg (fun s => x0 (ix4 b s h d)) (Fin.ext ?_)
  show n.val * 64 + r.val = 64 * n.val + r.val
  omega

/-- The products of queries and keys. -/
theorem v45_apply (b : Fin 8) (n : Fin 64) (h : Fin 8) (r : Fin 64) (k : Fin 576) :
    val_main_v45 (F := Ideal) x0 x1 (ix5 b n h r k)
      = ∑ d : Fin 64, x0 (ix4 b ⟨64 * n.val + r.val, by omega⟩ h d) * padded x1 b ⟨64 * n.val + k.val, by omega⟩ h d := by
  refine (val_main_v45_apply x0 x1 _).trans (Finset.sum_congr rfl fun d _ => congrArg₂ (· * ·) ?_ ?_)
  · refine Eq.trans (congrArg _ ?_) (v30_apply x0 b n r h d)
    funext a; fin_cases a <;> rfl
  · refine Eq.trans (congrArg _ ?_) (v37_apply x1 b n k h d)
    funext a; fin_cases a <;> rfl

/-- The masked scores. -/
theorem v56_apply (b : Fin 8) (n : Fin 64) (h : Fin 8) (r : Fin 64) (k : Fin 576) :
    val_main_v56 (F := Ideal) x0 x1 x3 (ix5 b n h r k) = score x0 x1 x3 b n h r k := by
  unfold score
  rw [← v45_apply x0 x1 b n h r k, ← v20_apply x3 h r k, ← KernelIdeal.HostValue.eighth]
  refine Eq.trans ?_ (KernelIdeal.HostValue.select_of (v54_apply n k) (fun _ => rfl) KernelIdeal.Head.neg_inf)
  pointwise [val_main_v56, val_main_v50, val_main_v55, val_main_v47, val_main_v46, val_main_v49, val_main_v48, val_main_call3_v0, val_main_call3_v1, val_main_call3_v2, val_main_cst, val_main_cst_14]
  rfl

/-- A maximum over the band. -/
theorem max_apply (y : FVec Ideal S8x64x8x64x576 .f32) (b : Fin 8) (n : Fin 64) (h : Fin 8) (r : Fin 64) :
    Host.reduce FloatOps.maximumf y (val_main_cst_15 (F := Ideal)) reducesTo_S8x64x8x64x576_S8x64x8x64_d4 h_S_ (ix4 b n h r)
      = Finset.univ.sup fun k : Fin 576 => (y (ix5 b n h r k) : EReal) := by
  pointwise [val_main_cst_15]
  rw [KernelIdeal.Head.neg_inf]
  rfl

/-- A sum over the band. -/
theorem sum_apply (y : FVec Ideal S8x64x8x64x576 .f32) (b : Fin 8) (n : Fin 64) (h : Fin 8) (r : Fin 64) :
    Host.reduceAdd y (val_main_cst_17 (F := Ideal)) reducesTo_S8x64x8x64x576_S8x64x8x64_d4 h_S_ (ix4 b n h r)
      = ∑ k : Fin 576, (y (ix5 b n h r k) : EReal) := by
  pointwise [val_main_cst_17]

/-- The unnormalised weights of scores `y` with row maxima `z`. -/
theorem exp_apply (y : FVec Ideal S8x64x8x64x576 .f32) (z : FVec Ideal S8x64x8x64 .f32) (b : Fin 8) (n : Fin 64) (h : Fin 8)
    (r : Fin 64) (k : Fin 576) :
    Host.exp (subf y (broadcastInDim S8x64x8x64x576 ![0, 1, 2, 3, 4] bcast_S8x64x8x64x1_S8x64x8x64x576_0_1_2_3_4
        (broadcastInDim S8x64x8x64x1 ![0, 1, 2, 3] bcast_S8x64x8x64_S8x64x8x64x1_0_1_2_3 (maximumf (val_main_v58 (F := Ideal)) z)))) (ix5 b n h r k)
      = Ideal.exp ((y (ix5 b n h r k) : EReal) - z (ix4 b n h r)) := by
  pointwise [val_main_v58, val_main_cst_16]
  rw [KernelIdeal.Head.neg_inf, max_eq_right bot_le]

/-- A quotient by row sums `z`. -/
theorem div_apply (y : FVec Ideal S8x64x8x64x576 .f32) (z : FVec Ideal S8x64x8x64 .f32) (b : Fin 8) (n : Fin 64) (h : Fin 8)
    (r : Fin 64) (k : Fin 576) :
    Host.divf y (broadcastInDim S8x64x8x64x576 ![0, 1, 2, 3, 4] bcast_S8x64x8x64x1_S8x64x8x64x576_0_1_2_3_4
        (broadcastInDim S8x64x8x64x1 ![0, 1, 2, 3] bcast_S8x64x8x64_S8x64x8x64x1_0_1_2_3 z)) (ix5 b n h r k)
      = Ideal.div (y (ix5 b n h r k) : EReal) (z (ix4 b n h r)) := by
  pointwise

/-- The maximum of a row's scores. -/
theorem v57_apply (b : Fin 8) (n : Fin 64) (h : Fin 8) (r : Fin 64) :
    val_main_v57 (F := Ideal) x0 x1 x3 (ix4 b n h r) = Finset.univ.sup (score x0 x1 x3 b n h r) :=
  (max_apply _ b n h r).trans (congrArg Finset.univ.sup (funext fun k => v56_apply x0 x1 x3 b n h r k))

/-- The unnormalised weights. -/
theorem v63_apply (b : Fin 8) (n : Fin 64) (h : Fin 8) (r : Fin 64) (k : Fin 576) :
    val_main_v63 (F := Ideal) x0 x1 x3 (ix5 b n h r k)
      = Ideal.exp (score x0 x1 x3 b n h r k - Finset.univ.sup (score x0 x1 x3 b n h r)) := by
  refine (exp_apply (val_main_v56 (F := Ideal) x0 x1 x3) (val_main_v57 (F := Ideal) x0 x1 x3) b n h r k).trans ?_
  exact congrArg Ideal.exp (congrArg₂ (· - ·) (v56_apply x0 x1 x3 b n h r k) (v57_apply x0 x1 x3 b n h r))

/-- The sum of a row's weights. -/
theorem v64_apply (b : Fin 8) (n : Fin 64) (h : Fin 8) (r : Fin 64) :
    val_main_v64 (F := Ideal) x0 x1 x3 (ix4 b n h r)
      = ∑ k : Fin 576, Ideal.exp (score x0 x1 x3 b n h r k - Finset.univ.sup (score x0 x1 x3 b n h r)) :=
  (sum_apply (val_main_v63 (F := Ideal) x0 x1 x3) b n h r).trans
    (Finset.sum_congr rfl fun k _ => v63_apply x0 x1 x3 b n h r k)

/-- The softmax. -/
theorem v67_apply (b : Fin 8) (n : Fin 64) (h : Fin 8) (r : Fin 64) (k : Fin 576) :
    val_main_v67 (F := Ideal) x0 x1 x3 (ix5 b n h r k)
      = Ideal.div (Ideal.exp (score x0 x1 x3 b n h r k - Finset.univ.sup (score x0 x1 x3 b n h r)))
          (∑ k : Fin 576, Ideal.exp (score x0 x1 x3 b n h r k - Finset.univ.sup (score x0 x1 x3 b n h r))) := by
  refine (div_apply (val_main_v63 (F := Ideal) x0 x1 x3) (val_main_v64 (F := Ideal) x0 x1 x3) b n h r k).trans ?_
  exact congrArg₂ Ideal.div (v63_apply x0 x1 x3 b n h r k) (v64_apply x0 x1 x3 b n h r)

/-- The attention of a row. -/
def attention (b : Fin 8) (n : Fin 64) (h : Fin 8) (r : Fin 64) (d : Fin 64) : EReal :=
  ∑ k : Fin 576, Ideal.div (Ideal.exp (score x0 x1 x3 b n h r k - Finset.univ.sup (score x0 x1 x3 b n h r)))
      (∑ k : Fin 576, Ideal.exp (score x0 x1 x3 b n h r k - Finset.univ.sup (score x0 x1 x3 b n h r)))
    * padded x2 b ⟨64 * n.val + k.val, by omega⟩ h d

/-- The attention, as the reference lays it out. -/
theorem v68_apply (b : Fin 8) (n : Fin 64) (h : Fin 8) (d : Fin 64) (r : Fin 64) :
    val_main_v68 (F := Ideal) x0 x1 x2 x3 (ix5 b n h d r) = attention x0 x1 x2 x3 b n h r d := by
  refine (val_main_v68_apply x0 x1 x2 x3 _).trans (Finset.sum_congr rfl fun k _ => ?_)
  rw [mul_comm]
  refine congrArg₂ (· * ·) ?_ ?_
  · refine Eq.trans (congrArg _ ?_) (v67_apply x0 x1 x3 b n h r k)
    funext a; fin_cases a <;> rfl
  · refine Eq.trans (congrArg _ ?_) (v44_apply x2 b n k h d)
    funext a; fin_cases a <;> rfl

/-- THE RESULT of the reference at an index. -/
theorem result_apply (b : Fin 8) (s : Fin 4096) (l : Fin 512) :
    val_main_v71 (F := Ideal) x0 x1 x2 x3 (ix3 b s l)
      = attention x0 x1 x2 x3 b ⟨s.val / 64, by omega⟩ ⟨l.val / 64, by omega⟩ ⟨s.val % 64, by omega⟩ ⟨l.val % 64, by omega⟩ := by
  refine Eq.trans ?_ (v68_apply x0 x1 x2 x3 b ⟨s.val / 64, by omega⟩ ⟨l.val / 64, by omega⟩ ⟨l.val % 64, by omega⟩ ⟨s.val % 64, by omega⟩)
  refine Eq.trans (show _ = val_main_v70 (F := Ideal) x0 x1 x2 x3 (ix3 b s l) from rfl) ?_
  rw [val_main_v70_apply, val_main_v69_apply]
  refine congrArg (val_main_v68 (F := Ideal) x0 x1 x2 x3) ?_
  have hb := b.isLt
  have hs := s.isLt
  have hl := l.isLt
  funext a
  apply Fin.ext
  fin_cases a
  · show ((b.val * 4096 + s.val) * 512 + l.val) / 2097152 = b.val; omega
  · show ((b.val * 4096 + s.val) * 512 + l.val) / 32768 % 64 = s.val / 64; omega
  · show ((b.val * 4096 + s.val) * 512 + l.val) / 64 % 8 = l.val / 64; omega
  · show ((b.val * 4096 + s.val) * 512 + l.val) % 64 = l.val % 64; omega
  · show ((b.val * 4096 + s.val) * 512 + l.val) / 512 % 64 = s.val % 64; omega

end Cert.ReferenceIdeal.Band

end
-- ==== Proof.Softmax.lean ====
/-
  The mathematics of the attention, over the extended reals and with no program in sight: a softmax-weighted sum taken
  with base-two exponentials over a wider set of columns, the extra columns masked out, and divided at the end, is the
  softmax-weighted sum taken with natural exponentials and divided first.
-/
module

public import Idealize.ShloMosaic.PureOps.Ideal
public import Mathlib.Data.EReal.Operations
public import Mathlib.Analysis.SpecialFunctions.Pow.Real

@[expose] public section

noncomputable section

namespace Cert.Softmax

open Idealize.ShloMosaic

/-- A real factor that is not negative goes through a finite sum of extended reals. -/
theorem sum_mul_coe {ι : Type*} (s : Finset ι) (a : ι → EReal) (r : ℝ) (hr : 0 ≤ r) :
    (∑ i ∈ s, a i) * (r : EReal) = ∑ i ∈ s, a i * (r : EReal) := by
  classical
  induction s using Finset.induction_on with
  | empty => simp
  | insert i s hi ih =>
    rw [Finset.sum_insert hi, Finset.sum_insert hi, ← ih]
    exact EReal.right_distrib_of_nonneg_of_ne_top (by exact_mod_cast hr) (EReal.coe_ne_top r) _ _

/-- The sum of real numbers, taken in the extended reals, is the real sum. -/
theorem coe_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- `2 ^ (x / log 2)` is `e ^ x`. -/
theorem rpow_two (x : ℝ) : Real.rpow 2 (x * (1 / Real.log 2)) = Real.exp x := by
  have h : Real.log 2 ≠ 0 := (Real.log_pos (by norm_num)).ne'
  show (2 : ℝ) ^ (x * (1 / Real.log 2)) = Real.exp x
  rw [Real.rpow_def_of_pos (by norm_num)]
  congr 1
  field_simp

/-- What the two sides do with one score: the base-two exponential of the score and the maximum both multiplied by
    `1 / log 2` is the natural exponential of their difference. -/
theorem exp2_scaled (x : EReal) (hx : x ≠ ⊤) (M : ℝ) :
    Ideal.exp2 (x * ((1 / Real.log 2 : ℝ) : EReal) - (M : EReal) * ((1 / Real.log 2 : ℝ) : EReal))
      = Ideal.exp (x - (M : EReal)) := by
  have hL : 0 < 1 / Real.log 2 := one_div_pos.mpr (Real.log_pos (by norm_num))
  induction x with
  | bot => rw [EReal.bot_mul_coe_of_pos hL]; simp [← EReal.coe_mul]
  | top => exact absurd rfl hx
  | coe r =>
    rw [← EReal.coe_mul, ← EReal.coe_mul, ← EReal.coe_sub, ← EReal.coe_sub, Ideal.exp2_coe, Ideal.exp_coe, ← sub_mul,
      rpow_two]

/-- The weights of a softmax over scores none of which is `⊤`, shifted by a real number, are real and not negative. -/
theorem exp_shift (x : EReal) (hx : x ≠ ⊤) (M : ℝ) : ∃ r : ℝ, 0 ≤ r ∧ Ideal.exp (x - (M : EReal)) = (r : EReal) := by
  induction x with
  | bot => exact ⟨0, le_refl _, by simp⟩
  | top => exact absurd rfl hx
  | coe y => exact ⟨Real.exp (y - M), (Real.exp_pos _).le, by rw [← EReal.coe_sub, Ideal.exp_coe]⟩

/-- THE LAW. `s` are the scores of the band, `v` the values there; `t` and `w` are the scores and values of a wider set
    of columns into which the band is sent by `f`, where a column's score is the band's times `1 / log 2`, and `⊥` at a
    column outside the band. No score is `⊤` and one at least is real. Then the base-two sum divided at the end is the
    softmax-weighted sum. -/
theorem law {ι κ : Type*} [Fintype ι] [Fintype κ] (s v : ι → EReal) (t w : κ → EReal) (f : ι → κ)
    (hf : Function.Injective f) (ht : ∀ i, t (f i) = s i * ((1 / Real.log 2 : ℝ) : EReal))
    (hout : ∀ c, c ∉ Set.range f → t c = ⊥) (hw : ∀ i, s i ≠ ⊥ → w (f i) = v i) (hfin : ∀ i, s i ≠ ⊤)
    (hne : ∃ i, s i ≠ ⊥) :
    (∑ c, Ideal.exp2 (t c - Finset.univ.sup t) * w c) * Ideal.div 1 (∑ c, Ideal.exp2 (t c - Finset.univ.sup t))
      = ∑ i, Ideal.div (Ideal.exp (s i - Finset.univ.sup s)) (∑ j, Ideal.exp (s j - Finset.univ.sup s)) * v i := by
  classical
  obtain ⟨i1, hi1⟩ := hne
  obtain ⟨i0, -, hmax⟩ := Finset.exists_mem_eq_sup Finset.univ ⟨i1, Finset.mem_univ _⟩ s
  have hM0 : Finset.univ.sup s ≠ ⊥ := fun h =>
    hi1 (le_bot_iff.mp (h ▸ Finset.le_sup (f := s) (Finset.mem_univ i1)))
  have hM1 : Finset.univ.sup s ≠ ⊤ := hmax ▸ hfin i0
  obtain ⟨M, hM⟩ : ∃ M : ℝ, Finset.univ.sup s = (M : EReal) := ⟨_, (EReal.coe_toReal hM1 hM0).symm⟩
  have hL : 0 < 1 / Real.log 2 := one_div_pos.mpr (Real.log_pos (by norm_num))
  have hL' : (0 : EReal) ≤ ((1 / Real.log 2 : ℝ) : EReal) := by exact_mod_cast hL.le
  have hsup : Finset.univ.sup t = (M : EReal) * ((1 / Real.log 2 : ℝ) : EReal) := by
    apply le_antisymm
    · apply Finset.sup_le
      intro c _
      by_cases hc : c ∈ Set.range f
      · obtain ⟨i, rfl⟩ := hc
        rw [ht]
        exact mul_le_mul_of_nonneg_right (hM ▸ Finset.le_sup (f := s) (Finset.mem_univ i)) hL'
      · rw [hout c hc]; exact bot_le
    · rw [← hM, hmax, ← ht]
      exact Finset.le_sup (f := t) (Finset.mem_univ _)
  rw [hsup, hM]
  have hoff : ∀ c, c ∉ Set.range f →
      Ideal.exp2 (t c - (M : EReal) * ((1 / Real.log 2 : ℝ) : EReal)) = 0 := fun c hc => by
    rw [hout c hc, ← EReal.coe_mul, EReal.bot_sub, Ideal.exp2_bot]
  choose e he0 he using fun i => exp_shift (s i) (hfin i) M
  have hsum : ∑ c, Ideal.exp2 (t c - (M : EReal) * ((1 / Real.log 2 : ℝ) : EReal))
      = ∑ i, Ideal.exp (s i - (M : EReal)) := by
    symm
    apply Fintype.sum_of_injective f hf _ _ (fun c hc => hoff c hc)
    intro i
    rw [ht, exp2_scaled _ (hfin i)]
  have hsumw : ∑ c, Ideal.exp2 (t c - (M : EReal) * ((1 / Real.log 2 : ℝ) : EReal)) * w c
      = ∑ i, Ideal.exp (s i - (M : EReal)) * v i := by
    symm
    apply Fintype.sum_of_injective f hf _ _ (fun c hc => by rw [hoff c hc, zero_mul])
    intro i
    by_cases hi : s i = ⊥
    · rw [ht, exp2_scaled _ (hfin i), hi]; simp
    · rw [ht, exp2_scaled _ (hfin i), hw i hi]
  rw [hsum, hsumw]
  simp only [he]
  rw [← coe_sum]
  have hpos : 0 < ∑ i, e i := by
    apply Finset.sum_pos' (fun i _ => he0 i) ⟨i0, Finset.mem_univ _, ?_⟩
    have h := he i0
    rw [← hmax, hM, ← EReal.coe_sub, sub_self, Ideal.exp_coe] at h
    have h' : Real.exp 0 = e i0 := by exact_mod_cast h
    rw [← h', Real.exp_zero]; exact one_pos
  rw [Ideal.div_coe hpos.ne', one_mul, sum_mul_coe _ _ _ (one_div_pos.mpr hpos).le]
  refine Finset.sum_congr rfl fun i _ => ?_
  rw [Ideal.div_coe hpos.ne', mul_assoc, mul_comm (v i), ← mul_assoc]

end Cert.Softmax

end
-- ==== Proof.Equal.lean ====
module

public import proofs.«01_k».proof.Proof.KernelValue
public import proofs.«01_k».proof.Proof.ReferenceValue
public import proofs.«01_k».proof.Proof.Softmax

/-!
# The two attentions agree

The band of a query row lies in the 768 columns the kernel reads: position `k` of the band is column `64 * j + k`, with
`j` the number of the row's chunk in its block of four. At a column of the band the kernel's score is the reference's
times `1 / log 2`; every other column has score `⊥`. The softmax law then gives the equality.
-/

@[expose] public section

noncomputable section

namespace Cert.Equal

open Cert.KernelIdeal Cert.KernelIdeal.Gen Cert.KernelIdeal.Blocks Cert.KernelIdeal.HostValue Idealize.ShloMosaic
  Idealize.ShloMosaic.TcCoe

variable (m : (ℓ : Loc nD τ sig) → Buf (Elt Ideal) ℓ)

/-- The kernel's column of a position of the band. -/
def toColumn (s : Fin 4096) (k : Fin 576) : Fin 3 × Fin 256 :=
  (⟨(64 * (s.val % 256 / 64) + k.val) / 256, by omega⟩, ⟨(64 * (s.val % 256 / 64) + k.val) % 256, by omega⟩)

/-- The number of a column of the band among the 768. -/
theorem toColumn_val (s : Fin 4096) (k : Fin 576) :
    256 * (toColumn s k).1.val + (toColumn s k).2.val = 64 * (s.val % 256 / 64) + k.val := by
  show 256 * ((64 * (s.val % 256 / 64) + k.val) / 256) + (64 * (s.val % 256 / 64) + k.val) % 256 = _
  omega

theorem toColumn_injective (s : Fin 4096) : Function.Injective (toColumn s) := by
  intro k k' h
  have h1 := toColumn_val s k
  rw [h, toColumn_val s k'] at h1
  exact Fin.ext (by omega)

/-- A column whose chunk is in the band is a column of the band. -/
theorem in_range (s : Fin 4096) (x : Fin 3 × Fin 256)
    (h : s.val % 256 / 64 ≤ (256 * x.1.val + x.2.val) / 64 ∧ (256 * x.1.val + x.2.val) / 64 ≤ s.val % 256 / 64 + 8) :
    x ∈ Set.range (toColumn s) := by
  obtain ⟨j, y⟩ := x
  simp only at h
  have hj := j.isLt
  have hy := y.isLt
  refine ⟨⟨256 * j.val + y.val - 64 * (s.val % 256 / 64), by omega⟩, Prod.ext (Fin.ext ?_) (Fin.ext ?_)⟩
  · show (64 * (s.val % 256 / 64) + (256 * j.val + y.val - 64 * (s.val % 256 / 64))) / 256 = j.val
    omega
  · show (64 * (s.val % 256 / 64) + (256 * j.val + y.val - 64 * (s.val % 256 / 64))) % 256 = y.val
    omega

/-- The chunk of a row. -/
abbrev chunk (s : Fin 4096) : Fin 64 := ⟨s.val / 64, by omega⟩

/-- A row's place in its chunk. -/
abbrev place (s : Fin 4096) : Fin 64 := ⟨s.val % 64, by omega⟩

/-- The reference's score of a band position, from the launched arrays. -/
abbrev bandScore (c : Dev nD) (b : Fin 8) (s : Fin 4096) (h : Fin 8) (k : Fin 576) : EReal :=
  ReferenceIdeal.Band.score (in0 m c) (in1 m c) (in3 m c) b (chunk s) h (place s) k

/-- The row of a column of the band, for a position in the sequence. -/
theorem columnRow_toColumn (s : Fin 4096) (k : Fin 576) (hv : 512 ≤ 64 * (s.val / 64) + k.val) :
    columnRow s (toColumn s k) = ⟨64 * (s.val / 64) + k.val - 512, by omega⟩ := by
  apply Fin.ext
  show 256 * (s.val / 256 - (2 - (64 * (s.val % 256 / 64) + k.val) / 256)) + (64 * (s.val % 256 / 64) + k.val) % 256
    = 64 * (s.val / 64) + k.val - 512
  have := k.isLt
  omega

/-- The scaled sum of products. -/
theorem scaled (q k : Fin 64 → EReal) (b : EReal) (L : ℝ) (hL : 0 ≤ L) :
    ∑ d, q d * ((1 / 8 * L : ℝ) : EReal) * k d + b * (L : EReal)
      = ((∑ d, q d * k d) * ((1 / 8 : ℝ) : EReal) + b) * (L : EReal) := by
  rw [EReal.right_distrib_of_nonneg_of_ne_top (by exact_mod_cast hL) (EReal.coe_ne_top L), mul_assoc, ← EReal.coe_mul,
    Softmax.sum_mul_coe _ _ _ (by positivity)]
  exact congrArg (· + _) (Finset.sum_congr rfl fun d _ => mul_right_comm _ _ _)

/-- A padded row inside the sequence. -/
theorem padded_of (x : S8x4096x8x64.Idx → EReal) (b : Fin 8) (p : Fin 4608) (h : Fin 8) (d : Fin 64) (hp : 512 ≤ p.val) :
    ReferenceIdeal.Band.padded x b p h d = x (ix4 b ⟨p.val - 512, by omega⟩ h d) :=
  dif_pos hp

/-- At a column of the band the kernel's score is the reference's in units of the logarithm to base two. -/
theorem score_toColumn (c : Dev nD) (b : Fin 8) (s : Fin 4096) (h : Fin 8) (k : Fin 576) :
    score m c b s h (toColumn s k) = bandScore m c b s h k * ((1 / Real.log 2 : ℝ) : EReal) := by
  have hL : 0 < 1 / Real.log 2 := one_div_pos.mpr (Real.log_pos (by norm_num))
  have hk := k.isLt
  unfold score bandScore ReferenceIdeal.Band.score
  rw [toColumn_val, if_pos (show s.val % 256 / 64 ≤ (64 * (s.val % 256 / 64) + k.val) / 64
    ∧ (64 * (s.val % 256 / 64) + k.val) / 64 ≤ s.val % 256 / 64 + 8 by omega)]
  by_cases hv : 512 ≤ 64 * (s.val / 64) + k.val
  · have hp : penalty (s.val / 256) (toColumn s k).1 = 0 := by
      refine if_neg ?_
      show ¬ s.val / 256 + (64 * (s.val % 256 / 64) + k.val) / 256 < 2
      omega
    rw [if_pos (show 512 ≤ 64 * (chunk s).val + k.val from hv), hp, add_zero, columnRow_toColumn s k hv]
    refine (scaled (fun d => in0 m c (ix4 b s h d)) _ _ _ hL.le).trans ?_
    have ec : (512 : Int) + ((s.val % 256 : ℕ) : Int) - ((64 * (s.val % 256 / 64) + k.val : ℕ) : Int)
        = 512 + ((s.val % 64 : ℕ) : Int) - k.val := by omega
    rw [ec]
    have es : s = ⟨64 * (s.val / 64) + s.val % 64, by omega⟩ := Fin.ext (by show s.val = 64 * (s.val / 64) + s.val % 64; omega)
    refine congrArg (· * _) (congrArg (· + _) (congrArg (· * _) (Finset.sum_congr rfl fun d _ => ?_)))
    rw [padded_of (in1 m c) b ⟨64 * (chunk s).val + k.val, by omega⟩ h d hv]
    exact congrArg (· * _) (congrArg (fun s => in0 m c (ix4 b s h d)) es)
  · have hp : penalty (s.val / 256) (toColumn s k).1 = ⊥ := by
      refine if_pos ?_
      show s.val / 256 + (64 * (s.val % 256 / 64) + k.val) / 256 < 2
      omega
    rw [if_neg (show ¬ 512 ≤ 64 * (chunk s).val + k.val from hv), hp, EReal.add_bot, EReal.bot_mul_coe_of_pos hL]

/-- Outside the band the kernel's score is `⊥`. -/
theorem score_outside (c : Dev nD) (b : Fin 8) (s : Fin 4096) (h : Fin 8) (x : Fin 3 × Fin 256)
    (hx : x ∉ Set.range (toColumn s)) : score m c b s h x = ⊥ := by
  unfold score
  rw [if_neg (fun hc => hx (in_range s x hc)), EReal.add_bot, EReal.bot_add]

/-- With finite queries, keys and biases, a score of a position in the sequence is a real number. -/
theorem bandScore_real (c : Dev nD) (h0 : ∀ i, ∃ r : ℝ, in0 m c i = (r : EReal)) (h1 : ∀ i, ∃ r : ℝ, in1 m c i = (r : EReal))
    (h3 : ∀ i, ∃ r : ℝ, in3 m c i = (r : EReal)) (b : Fin 8) (s : Fin 4096) (h : Fin 8) (k : Fin 576)
    (hv : 512 ≤ 64 * (s.val / 64) + k.val) : ∃ r : ℝ, bandScore m c b s h k = (r : EReal) := by
  choose a0 e0 using h0
  choose a1 e1 using h1
  choose a3 e3 using h3
  refine ⟨(∑ d : Fin 64, a0 (ix4 b ⟨64 * (s.val / 64) + s.val % 64, by omega⟩ h d)
    * a1 (ix4 b ⟨64 * (s.val / 64) + k.val - 512, by omega⟩ h d)) * (1 / 8)
    + a3 (ix2 h (column (512 + ((s.val % 64 : ℕ) : Int) - k.val))), ?_⟩
  rw [EReal.coe_add, EReal.coe_mul, Softmax.coe_sum]
  refine (if_pos hv).trans (congrArg₂ (· + ·) (congrArg (· * _) (Finset.sum_congr rfl fun d _ => ?_)) (e3 _))
  rw [EReal.coe_mul]
  exact congrArg₂ (· * ·) (e0 _) ((padded_of (in1 m c) b _ h d hv).trans (e1 _))

/-- THE EQUALITY, at an index. -/
theorem result_eq (c : Dev nD) (h0 : ∀ i, ∃ r : ℝ, in0 m c i = (r : EReal)) (h1 : ∀ i, ∃ r : ℝ, in1 m c i = (r : EReal))
    (h3 : ∀ i, ∃ r : ℝ, in3 m c i = (r : EReal)) (b : Fin 8) (s : Fin 4096) (l : Fin 512) :
    resultAt m c b s l = ReferenceIdeal.Band.attention (in0 m c) (in1 m c) (in2 m c) (in3 m c) b (chunk s)
      ⟨l.val / 64, by omega⟩ (place s) ⟨l.val % 64, by omega⟩ := by
  have real := fun k hv => bandScore_real m c h0 h1 h3 b s (Pieces.headOf l) k hv
  have masked : ∀ k : Fin 576, ¬ 512 ≤ 64 * (s.val / 64) + k.val → bandScore m c b s (Pieces.headOf l) k = ⊥ := fun k hv => if_neg hv
  refine Softmax.law (bandScore m c b s (Pieces.headOf l))
    (fun k => ReferenceIdeal.Band.padded (in2 m c) b ⟨64 * (s.val / 64) + k.val, by omega⟩ (Pieces.headOf l) ⟨l.val % 64, by omega⟩)
    (score m c b s (Pieces.headOf l)) _ (toColumn s) (toColumn_injective s) (score_toColumn m c b s _) (score_outside m c b s _)
    (fun k hk => ?_) (fun k => ?_) ⟨⟨512, by omega⟩, ?_⟩
  · by_cases hv : 512 ≤ 64 * (s.val / 64) + k.val
    · rw [padded_of (in2 m c) b _ _ _ hv]
      exact congrArg (fun s => in2 m c (ix4 b s (Pieces.headOf l) ⟨l.val % 64, by omega⟩)) (columnRow_toColumn s k hv)
    · exact absurd (masked k hv) hk
  · by_cases hv : 512 ≤ 64 * (s.val / 64) + k.val
    · obtain ⟨r, hr⟩ := real k hv
      rw [hr]; exact EReal.coe_ne_top r
    · rw [masked k hv]; exact bot_ne_top
  · obtain ⟨r, hr⟩ := real ⟨512, by omega⟩ (by show 512 ≤ 64 * (s.val / 64) + 512; omega)
    rw [hr]; exact EReal.coe_ne_bot r

end Cert.Equal

end
-- ==== Proof.Finite.lean ====
module

public import proofs.«01_k».proof.Pre_finite_scores
public import Idealize.ShloMosaic.Lib.Pointwise
public import Idealize.ShloMosaic.Lib.ReduceAll
public import Idealize.ShloMosaic.Lib.WordArith

/-!
# The precondition, read

`finite_scores` says that the queries, the keys and the bias table hold numbers whose absolute value is below infinity:
real numbers.
-/

@[expose] public section

noncomputable section

namespace Cert.Pre_finite_scores

open Idealize.ShloMosaic

/-- The predicate's facts. -/
instance facts : Cert.Pre_finite_scores.Facts where
  bcast_S_S8x4096x8x64 := by decide
  reducesTo_S8x4096x8x64_S_d0_1_2_3 := by decide
  h_S_ := by decide
  bcast_S_S8x320 := by decide
  reducesTo_S8x320_S_d0_1 := by decide

/-- A number whose absolute value compares below infinity is real. -/
theorem real_of_word (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have hi : FloatOps.ofBits (F := Ideal) .f32 0x7F800000#32 = (⊤ : EReal) := by
    show Ideal.ofBits .f32 0x7F800000#32 = ⊤
    simp [Ideal.ofBits, Ideal.ieee]
  rw [hi] at h
  have hlt : max x (-x) < ⊤ :=
    of_decide_eq_true ((by decide : ∀ b, BitVec.ofBool b = 1#1 → b = true) _ h)
  induction x with
  | coe r => exact ⟨r, rfl⟩
  | bot => simp at hlt
  | top => simp at hlt

/-- The precondition's content. -/
theorem finite (x0 x1 x2 : FVec Ideal S8x4096x8x64 .f32) (x3 : FVec Ideal S8x320 .f32)
    (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have h' := congrFun h (fun a => a.elim0)
  unfold fn at h'
  dsimp only at h'
  obtain ⟨h01, h3⟩ := IntOp.andi_eq_one.1 h'
  obtain ⟨h0, h1⟩ := IntOp.andi_eq_one.1 h01
  haveI : Subsingleton S_.Idx := ⟨fun a b => funext fun i => i.elim0⟩
  exact ⟨fun i => real_of_word _ (Host.reduce_andi_all _ _ _ _ _ h0 i),
    fun i => real_of_word _ (Host.reduce_andi_all _ _ _ _ _ h1 i),
    fun i => real_of_word _ (Host.reduce_andi_all _ _ _ _ _ h3 i)⟩

end Cert.Pre_finite_scores

end
-- ==== Proof.RowMath.lean ====
/-
  The row arithmetic of the input projection: a row's root-mean-square normalisation, and the mean over a head's lanes
  written as a product with a matrix that is 1/64 inside a head and zero elsewhere.
-/
module

public import Idealize.ShloMosaic.PureOps.Ideal
public import Idealize.ShloMosaic.Lib.Pointwise

@[expose] public section

noncomputable section

namespace Cert.Rows

open Idealize.ShloMosaic

/-- The small number under the root. -/
def eps : EReal := Ideal.ofBits .f32 0x358637BD#32

/-- A row's entry over the root of its mean square, times a gain. -/
def normed {n : ℕ} (width : EReal) (x : Fin n → EReal) (g : EReal) (k : Fin n) : EReal :=
  x k * Ideal.rsqrt (Ideal.div (∑ j, x j * x j) width + eps) * g

/-- A square is not negative. -/
theorem square_nonneg (x : EReal) : 0 ≤ x * x := by
  rcases le_total 0 x with h | h
  · exact mul_nonneg h h
  · have h' : 0 ≤ -x := by simpa using EReal.neg_le_neg_iff.mpr h
    have := mul_nonneg h' h'
    rwa [neg_mul_neg] at this

/-- A sum over 512 lanes is a sum over eight heads of 64. -/
theorem sum_heads (f : Fin 512 → EReal) :
    ∑ x, f x = ∑ h : Fin 8, ∑ d : Fin 64, f ⟨64 * h.val + d.val, by omega⟩ := by
  refine (Fintype.sum_equiv finProdFinEquiv.symm f
    (fun p : Fin 8 × Fin 64 => f ⟨64 * p.1.val + p.2.val, by omega⟩) fun x => congrArg f (Fin.ext ?_)).trans
    (Fintype.sum_prod_type _)
  show x.val = 64 * (x.val / 64) + x.val % 64
  omega

/-- A factor goes out of a sum of terms that are not negative. -/
theorem sum_mul_nonneg {n : ℕ} (f : Fin n → EReal) (hf : ∀ i, 0 ≤ f i) (a : EReal) (ha : 0 ≤ a) (hta : a ≠ ⊤) :
    ∑ i, f i * a = (∑ i, f i) * a := by
  have : ∀ s : Finset (Fin n), ∑ i ∈ s, f i * a = (∑ i ∈ s, f i) * a := fun s => by
    induction s using Finset.cons_induction with
    | empty => simp
    | cons i s hi ih =>
      rw [Finset.sum_cons, Finset.sum_cons, ih, EReal.right_distrib_of_nonneg_of_ne_top ha hta]
  exact this _

/-- The mean over a head's lanes. -/
theorem head_mean (f : Fin 512 → EReal) (hf : ∀ i, 0 ≤ f i) (c : Fin 512) :
    ∑ x, f x * (if x.val / 64 = c.val / 64 then ((1 / 64 : ℝ) : EReal) else 0)
      = Ideal.div (∑ d : Fin 64, f ⟨64 * (c.val / 64) + d.val, by omega⟩) ((64 : ℝ) : EReal) := by
  rw [Ideal.div_coe (by norm_num), sum_heads, Finset.sum_eq_single (⟨c.val / 64, by omega⟩ : Fin 8)]
  · rw [← sum_mul_nonneg _ (fun d => hf _) _ (by exact_mod_cast (by norm_num : (0:ℝ) ≤ 1 / 64)) (EReal.coe_ne_top _)]
    refine Finset.sum_congr rfl fun d _ => ?_
    rw [if_pos (by show (64 * (c.val / 64) + d.val) / 64 = c.val / 64; omega)]
  · intro h _ hne
    refine Finset.sum_eq_zero fun d _ => ?_
    rw [if_neg, mul_zero]
    intro he
    exact hne (Fin.ext (by show h.val = c.val / 64; rw [← he]; show h.val = (64 * h.val + d.val) / 64; omega))
  · intro h
    exact absurd (Finset.mem_univ _) h

end Cert.Rows

end
-- ==== Proof.InprojBlock.lean ====
/-
  What the input projection computes for one block of rows, read at an index.
-/
module

public import proofs.«01_k».proof.Proof.Gen.Kernel2Ideal.Skeleton
public import proofs.«01_k».proof.Proof.RowMath
public import Idealize.ShloMosaic.Lib.Pointwise

@[expose] public section

noncomputable section

namespace Cert.Kernel2Ideal.Block

open Cert.Kernel2Ideal Cert.Kernel2Ideal.Gen Idealize.ShloMosaic Idealize.ShloMosaic.TcCoe Cert.Rows

/-- 1024, as a float's value. -/
theorem width1024 : Ideal.ofBits .f32 0x44800000#32 = ((1024 : ℝ) : EReal) := by
  simp [Ideal.ofBits, Ideal.ieee, -EReal.coe_mul]; norm_num

/-- A normalised row. -/
theorem normed_apply (v0 : Vec Ideal S1024x1024 .f32) (v2 : Vec Ideal S1x1024 .f32) (r k : Fin 1024) :
    k0_pay2 (F := Ideal) v0 v2 (ix2 r k)
      = normed ((1024 : ℝ) : EReal) (fun j => (v0 (ix2 r j) : EReal)) (v2 (ix2 0 k)) k := by
  pointwise [k0_pay2]
  rw [width1024]
  rfl

/-- A projected row. -/
theorem proj_apply (v0 : Vec Ideal S1024x1024 .f32) (v2 : Vec Ideal S1x1024 .f32) (v17 : Vec Ideal S1024x1536 .bf16)
    (v20 : Vec Ideal S1x1536 .f32) (r : Fin 1024) (j : Fin 1536) :
    k0_pay3 (F := Ideal) v0 v2 v17 v20 (ix2 r j)
      = (∑ k, normed ((1024 : ℝ) : EReal) (fun j => (v0 (ix2 r j) : EReal)) (v2 (ix2 0 k)) k * v17 (ix2 k j)) + v20 (ix2 0 j) := by
  pointwise [k0_pay3]
  refine congrArg (· + _) (Finset.sum_congr rfl fun k _ => ?_)
  rw [normed_apply]

/-- A head's query before its cast. -/
theorem query_apply (v0 : Vec Ideal S1024x1024 .f32) (v2 : Vec Ideal S1x1024 .f32) (v17 : Vec Ideal S1024x1536 .bf16)
    (v20 : Vec Ideal S1x1536 .f32) (v24 : Vec Ideal S512x512 .bf16) (v27 : Vec Ideal S1x512 .f32) (r : Fin 1024) (l : Fin 512) :
    k0_pay5 (F := Ideal) v0 v2 v17 v20 v24 v27 (ix2 r l)
      = k0_pay3 (F := Ideal) v0 v2 v17 v20 (ix2 r ⟨l.val, by omega⟩)
        * Ideal.rsqrt ((∑ x : Fin 512, k0_pay3 (F := Ideal) v0 v2 v17 v20 (ix2 r ⟨x.val, by omega⟩)
          * k0_pay3 (F := Ideal) v0 v2 v17 v20 (ix2 r ⟨x.val, by omega⟩) * v24 (ix2 x l)) + eps) * v27 (ix2 0 l) := by
  pointwise [k0_pay5, k0_pay4]
  rfl

/-- A head's key before its cast. -/
theorem key_apply (z : FVec Ideal S1024x1536 .f32) (v24 : FVec Ideal S512x512 .bf16) (v41 : Vec Ideal S1x512 .f32)
    (r : Fin 1024) (l : Fin 512) :
    k0_pay6 (F := Ideal) z v24 v41 (ix2 r l)
      = z (ix2 r ⟨512 + l.val, by omega⟩)
        * Ideal.rsqrt ((∑ x : Fin 512, z (ix2 r ⟨512 + x.val, by omega⟩) * z (ix2 r ⟨512 + x.val, by omega⟩) * v24 (ix2 x l)) + eps)
        * v41 (ix2 0 l) := by
  pointwise [k0_pay6]
  rfl

/-- A value. -/
theorem value_apply (z : FVec Ideal S1024x1536 .f32) (r : Fin 1024) (l : Fin 512) :
    k0_pay7 (F := Ideal) z (ix2 r l) = z (ix2 r ⟨1024 + l.val, by omega⟩) := by
  pointwise [k0_pay7]

/-- A projected row of the convolution's three parts. -/
theorem conv_proj_apply (v0 : Vec Ideal S1024x1024 .f32) (v2 : Vec Ideal S1x1024 .f32) (v57 : Vec Ideal S1024x1536 .bf16)
    (v60 : Vec Ideal S1x1536 .f32) (r : Fin 1024) (j : Fin 1536) :
    k0_pay8 (F := Ideal) (k0_pay2 (F := Ideal) v0 v2) v57 v60 (ix2 r j)
      = (∑ k, normed ((1024 : ℝ) : EReal) (fun j => (v0 (ix2 r j) : EReal)) (v2 (ix2 0 k)) k * v57 (ix2 k j)) + v60 (ix2 0 j) := by
  pointwise [k0_pay8]
  refine congrArg (· + _) (Finset.sum_congr rfl fun k _ => ?_)
  rw [normed_apply]

/-- The convolution's outer gate. -/
theorem outer_gate_apply (n : FVec Ideal S1024x1024 .bf16) (v57 : Vec Ideal S1024x1536 .bf16) (v60 : Vec Ideal S1x1536 .f32)
    (r : Fin 1024) (l : Fin 512) :
    k0_pay9 (F := Ideal) n v57 v60 (ix2 r l) = k0_pay8 (F := Ideal) n v57 v60 (ix2 r ⟨512 + l.val, by omega⟩) := by
  pointwise [k0_pay9]

/-- The convolution's gated input. -/
theorem gated_apply (n : FVec Ideal S1024x1024 .bf16) (v57 : Vec Ideal S1024x1536 .bf16) (v60 : Vec Ideal S1x1536 .f32)
    (r : Fin 1024) (l : Fin 512) :
    k0_pay10 (F := Ideal) n v57 v60 (ix2 r l) = k0_pay8 (F := Ideal) n v57 v60 (ix2 r ⟨1024 + l.val, by omega⟩)
      * k0_pay8 (F := Ideal) n v57 v60 (ix2 r ⟨l.val, by omega⟩) := by
  pointwise [k0_pay10]

/-- The rows kept for the next block. -/
theorem kept_apply (u : FVec Ideal S1024x512 .f32) (r : Fin 8) (l : Fin 512) :
    k0_pay12 (F := Ideal) u (ix2 r l) = u (ix2 ⟨1016 + r.val, by omega⟩ l) := by
  pointwise [k0_pay12]

/-- The rows kept before a sequence. -/
theorem none_kept_apply (r : Fin 8) (l : Fin 512) : k0_pay11 (F := Ideal) (ix2 r l) = (0 : EReal) := by
  pointwise [k0_pay11]

/-- The gated convolution from its sum over the two rows before. -/
theorem gate_apply (g u s : FVec Ideal S1024x512 .f32) (w : Vec Ideal S1x512 .f32) (r : Fin 1024) (l : Fin 512) :
    k0_pay1 (F := Ideal) g u s w (ix2 r l) = (g (ix2 r l) * (s (ix2 r l) + w (ix2 0 l) * u (ix2 r l)) : EReal) := by
  pointwise [k0_pay1]

/-- The row `s` above a block's row: of the block, or of the rows kept. -/
def above (s : ℕ) (hs : s ≤ 8) (u : FVec Ideal S1024x512 .f32) (kept : Vec Ideal S8x512 .f32) (r : Fin 1024) (l : Fin 512) : EReal :=
  if h : r.val < s then kept (ix2 ⟨8 + r.val - s, by omega⟩ l) else u (ix2 ⟨r.val - s, by omega⟩ l)

/-- Whether a row of the first eight lies among the first `s`, as the kernel asks it. -/
theorem asks : ∀ r : Fin 8, (IntOp.cmpi .slt (BitVec.ofNat 32 r.val) 2#32 = if r.val < 2 then 1#1 else 0#1)
    ∧ (IntOp.cmpi .slt (BitVec.ofNat 32 r.val) 1#32 = if r.val < 1 then 1#1 else 0#1) := by
  decide +kernel

/-- The row above, from the two rotations. -/
theorem above_eq (s : ℕ) (hs : s ≤ 8) (h0 : 0 < s) (u : FVec Ideal S1024x512 .f32) (kept : Vec Ideal S8x512 .f32)
    (r : Fin 1024) (l : Fin 512) (c : BitVec 1) (hc : r.val < 8 → c = if r.val < s then 1#1 else 0#1) :
    (if r.val < 8 then
      Scalar.select c (kept (ix2 ⟨(r.val + 8 - s) % 8, by omega⟩ l)) (u (ix2 ⟨(r.val + 1024 - s) % 1024, by omega⟩ l))
    else u (ix2 ⟨(8 + (r.val - 8) + 1024 - s) % 1024, by omega⟩ l)) = above s hs u kept r l := by
  have hr := r.isLt
  unfold above
  by_cases h8 : r.val < 8
  · rw [if_pos h8, hc h8]
    by_cases h : r.val < s
    · rw [dif_pos h, if_pos h]
      refine Eq.trans (b := kept (ix2 ⟨(r.val + 8 - s) % 8, by omega⟩ l)) rfl (congrArg (fun x => kept (ix2 x l)) (Fin.ext ?_))
      show (r.val + 8 - s) % 8 = 8 + r.val - s
      omega
    · rw [dif_neg h, if_neg h]
      refine Eq.trans (b := u (ix2 ⟨(r.val + 1024 - s) % 1024, by omega⟩ l)) rfl (congrArg (fun x => u (ix2 x l)) (Fin.ext ?_))
      show (r.val + 1024 - s) % 1024 = r.val - s
      omega
  · rw [if_neg h8, dif_neg (by omega)]
    refine congrArg (fun x => u (ix2 x l)) (Fin.ext ?_)
    show (8 + (r.val - 8) + 1024 - s) % 1024 = r.val - s
    omega

/-- The convolution's sum over the two rows before. -/
theorem taps_apply (u : FVec Ideal S1024x512 .f32) (kept : Vec Ideal S8x512 .f32) (b w0 w1 : Vec Ideal S1x512 .f32)
    (r : Fin 1024) (l : Fin 512) :
    k0_pay13 (F := Ideal) u kept b w0 w1 (ix2 r l)
      = (b (ix2 0 l) + w0 (ix2 0 l) * above 2 (by omega) u kept r l + w1 (ix2 0 l) * above 1 (by omega) u kept r l : EReal) := by
  pointwise [k0_pay13]
  rw [← above_eq 2 (by omega) (by omega) u kept r l (IntOp.cmpi .slt (BitVec.ofNat 32 r.val) 2#32) fun h => (asks ⟨r.val, h⟩).1,
    ← above_eq 1 (by omega) (by omega) u kept r l (IntOp.cmpi .slt (BitVec.ofNat 32 r.val) 1#32) fun h => (asks ⟨r.val, h⟩).2]
  rfl

end Cert.Kernel2Ideal.Block

end
-- ==== Proof.InprojHost.lean ====
/-
  The input projection's operands as its host code prepares them, read at an index: the tokens as rows, the two slices of
  the weight, the gains laid out over the heads, and the matrix that averages over a head's lanes.
-/
module

public import proofs.«01_k».proof.Proof.Gen.Kernel2Ideal.Value
public import Idealize.ShloMosaic.Lib.Pointwise
public import Idealize.ShloMosaic.Lib.StableHlo.ReadAt

@[expose] public section

noncomputable section

namespace Cert.Kernel2Ideal.Host

open Cert.Kernel2Ideal Cert.Kernel2Ideal.Gen Idealize.ShloMosaic Idealize.ShloMosaic.TcCoe

variable (m : (ℓ : Loc nD τ sig) → Buf (Elt Ideal) ℓ)

/-- The tokens as launched. -/
abbrev inX (c : Dev nD) : FVec Ideal S8x4096x1024 .f32 := m (c, Proc.tc.devRef main_arg0)
/-- The mixer's gain as launched. -/
abbrev inG (c : Dev nD) : FVec Ideal S1024 .f32 := m (c, Proc.tc.devRef main_arg1)
/-- The projection's weight as launched. -/
abbrev inW (c : Dev nD) : FVec Ideal S1024x5120 .f32 := m (c, Proc.tc.devRef main_arg2)
/-- The projection's bias as launched. -/
abbrev inB (c : Dev nD) : FVec Ideal S5120 .f32 := m (c, Proc.tc.devRef main_arg3)
/-- The query gain as launched. -/
abbrev inQ (c : Dev nD) : FVec Ideal S64 .f32 := m (c, Proc.tc.devRef main_arg4)
/-- The key gain as launched. -/
abbrev inK (c : Dev nD) : FVec Ideal S64 .f32 := m (c, Proc.tc.devRef main_arg5)
/-- The convolution's weight as launched. -/
abbrev inCw (c : Dev nD) : FVec Ideal S3x512 .f32 := m (c, Proc.tc.devRef main_arg6)
/-- The convolution's bias as launched. -/
abbrev inCb (c : Dev nD) : FVec Ideal S512 .f32 := m (c, Proc.tc.devRef main_arg7)

/-- The reciprocal of the natural logarithm of two, as the host code computes it. -/
theorem log2e : Ideal.div (Ideal.ofBits .f32 0x3F800000#32) (Ideal.log (Ideal.ofBits .f32 0x40000000#32))
    = ((1 / Real.log 2 : ℝ) : EReal) := by
  have h2 : Ideal.ofBits .f32 0x40000000#32 = ((2 : ℝ) : EReal) := by
    simp [Ideal.ofBits, Ideal.ieee, -EReal.coe_mul]; norm_num
  rw [h2, Ideal.log_coe, if_neg (by norm_num), Ideal.ofBits_one_f32,
    Ideal.div_coe (ne_of_gt (Real.log_pos (by norm_num))), one_mul]

/-- One over the square root of the head's width. -/
theorem eighth : Ideal.ofBits .f32 0x3E000000#32 = ((1 / 8 : ℝ) : EReal) := by
  simp [Ideal.ofBits, Ideal.ieee, -EReal.coe_mul]; norm_num

/-- The tokens as rows. -/
theorem rows (c : Dev nD) (r : Fin 32768) (k : Fin 1024) :
    V m c main_v25 (ix2 r k) = (inX m c (ix3 ⟨r.val / 4096, by omega⟩ ⟨r.val % 4096, by omega⟩ k) : EReal) := by
  unfold V
  after_reads_at

/-- The mixer's gain. -/
theorem gain (c : Dev nD) (k : Fin 1024) : V m c main_v26 (ix2 0 k) = (inG m c (ix1 k) : EReal) := by
  unfold V
  after_reads_at

/-- The weight of queries, keys and values. -/
theorem weight (c : Dev nD) (k : Fin 1024) (j : Fin 1536) :
    V m c main_v27 (ix2 k j) = (inW m c (ix2 k ⟨j.val, by omega⟩) : EReal) := by
  unfold V
  after_reads_at

/-- The weight of the convolution's parts. -/
theorem conv_weight (c : Dev nD) (k : Fin 1024) (j : Fin 1536) :
    V m c main_v28 (ix2 k j) = (inW m c (ix2 k ⟨1536 + j.val, by omega⟩) : EReal) := by
  unfold V
  after_reads_at

/-- The bias. -/
theorem bias (c : Dev nD) (j : Fin 3072) : V m c main_v30 (ix2 0 j) = (inB m c (ix1 ⟨j.val, by omega⟩) : EReal) := by
  unfold V
  after_reads_at

/-- The query gain over the heads. -/
theorem query_gain (c : Dev nD) (l : Fin 512) :
    V m c main_v9 (ix2 0 l) = (inQ m c (ix1 ⟨l.val % 64, by omega⟩) * ((1 / 8 * (1 / Real.log 2) : ℝ) : EReal) : EReal) := by
  unfold V
  after_reads_at
  rw [Ideal.ofBits_one_f32.symm, log2e, eighth, ← EReal.coe_mul]

/-- The key gain over the heads. -/
theorem key_gain (c : Dev nD) (l : Fin 512) : V m c main_v13 (ix2 0 l) = (inK m c (ix1 ⟨l.val % 64, by omega⟩) : EReal) := by
  unfold V
  after_reads_at

/-- The convolution's weight. -/
theorem taps (c : Dev nD) (k : Fin 3) (l : Fin 512) :
    V m c main_v24 (ix2 ⟨k.val, by omega⟩ l) = (inCw m c (ix2 k l) : EReal) := by
  unfold V
  after_reads_at

/-- The convolution's bias. -/
theorem conv_bias (c : Dev nD) (l : Fin 512) : V m c main_v31 (ix2 0 l) = (inCb m c (ix1 l) : EReal) := by
  unfold V
  after_reads_at

/-- The sign of a word. -/
def signWord (w : BitVec 32) : BitVec 32 := if w = 0 then 0 else if w.msb = true then -1 else 1

/-- A lane's head, as the host code computes it. -/
def headWord (w : BitVec 32) : BitVec 32 :=
  Scalar.select
    (IntOp.andi
      (IntOp.cmpi .ne (signWord w) (signWord 64#32))
      (IntOp.cmpi .ne (IntOp.remsi ArithUnit.host w 64#32) 0#32))
    (IntOp.subi (IntOp.divsi ArithUnit.host w 64#32) 1#32)
    (IntOp.divsi ArithUnit.host w 64#32)

theorem headWord_eq : ∀ n : Fin 512, headWord (BitVec.ofNat 32 n.val) = BitVec.ofNat 32 (n.val / 64) := by
  decide +kernel

/-- Whether two heads are the same. -/
theorem same_word : ∀ a b : Fin 8,
    IntOp.cmpi .eq (BitVec.ofNat 32 a.val) (BitVec.ofNat 32 b.val) = if a.val = b.val then 1#1 else 0#1 := by
  decide +kernel

/-- A choice by a word that says whether a condition holds. -/
theorem select_of {P : Prop} [Decidable P] {w : BitVec 1} {x x' y y' : EReal} (hw : w = if P then 1#1 else 0#1)
    (hx : x = x') (hy : y = y') : Scalar.select w x y = if P then x' else y' := by
  subst hw hx hy
  by_cases h : P
  · rw [if_pos h, if_pos h]; rfl
  · rw [if_neg h, if_neg h]; rfl

/-- One over the head's width. -/
theorem sixty_fourth : Ideal.ofBits .f32 1015021568#32 = ((1 / 64 : ℝ) : EReal) := by
  simp [Ideal.ofBits, Ideal.ieee, -EReal.coe_mul]; norm_num

/-- The matrix that averages over a head's lanes. -/
theorem head_matrix (c : Dev nD) (x l : Fin 512) :
    V m c main_v22 (ix2 x l) = (if x.val / 64 = l.val / 64 then ((1 / 64 : ℝ) : EReal) else 0) := by
  unfold V
  after_reads_at
  refine select_of ?_ sixty_fourth rfl
  refine Eq.trans ?_ (same_word ⟨x.val / 64, by omega⟩ ⟨l.val / 64, by omega⟩)
  rw [← headWord_eq x, ← headWord_eq l]
  rfl

end Cert.Kernel2Ideal.Host

end
-- ==== Proof.InprojReads.lean ====
/-
  The blocks of the input projection: grid point `t` takes the rows from `1024 * t` and reads every weight whole.
-/
module

public import proofs.«01_k».proof.Proof.Gen.Kernel2Ideal.Value
public import Idealize.ShloMosaic.Lib.Pipeline.ValueKit
public import Idealize.ShloMosaic.Lib.Pointwise

@[expose] public section

noncomputable section

namespace Cert.Kernel2Ideal.Reads

open Cert.Kernel2Ideal Cert.Kernel2Ideal.Gen Idealize.ShloMosaic Idealize.ShloMosaic.TcCoe

variable (m : (ℓ : Loc nD τ sig) → Buf (Elt Ideal) ℓ)

theorem index0 : ∀ t, win0_0.index t = ![t.val, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index9 : ∀ t, win0_9.index t = ![0, 0] := by decide +kernel
theorem index10 : ∀ t, win0_10.index t = ![t.val, 0] := by decide +kernel
theorem index11 : ∀ t, win0_11.index t = ![t.val, 0] := by decide +kernel
theorem index12 : ∀ t, win0_12.index t = ![t.val, 0] := by decide +kernel
theorem index13 : ∀ t, win0_13.index t = ![t.val, 0] := by decide +kernel

/-- There are 32 grid points. -/
theorem point_lt (t : Fin cfg0.N) : t.val < 32 := lt_of_lt_of_eq t.isLt N_0

/-- A block's row among all rows. -/
def row (t : Fin cfg0.N) (r : Fin 1024) : Fin 32768 := ⟨1024 * t.val + r.val, by have := point_lt t; omega⟩

theorem read0 (c : Dev nD) (t : Fin cfg0.N) (r k : Fin 1024) :
    iblk m c 0 t (ix2 r k) = (V m c main_v25 (ix2 (row t r) k) : EReal) := by
  blk_ext [iblk, index0 t, row]

theorem read1 (c : Dev nD) (t : Fin cfg0.N) (k : Fin 1024) :
    iblk m c 1 t (ix2 0 k) = (V m c main_v26 (ix2 0 k) : EReal) := by
  blk_ext [iblk, index1 t]

theorem read2 (c : Dev nD) (t : Fin cfg0.N) (k : Fin 1024) (j : Fin 1536) :
    iblk m c 2 t (ix2 k j) = (V m c main_v27 (ix2 k j) : EReal) := by
  blk_ext [iblk, index2 t]

theorem read3 (c : Dev nD) (t : Fin cfg0.N) (k : Fin 1024) (j : Fin 1536) :
    iblk m c 3 t (ix2 k j) = (V m c main_v28 (ix2 k j) : EReal) := by
  blk_ext [iblk, index3 t]

theorem read4 (c : Dev nD) (t : Fin cfg0.N) (j : Fin 3072) :
    iblk m c 4 t (ix2 0 j) = (V m c main_v30 (ix2 0 j) : EReal) := by
  blk_ext [iblk, index4 t]

theorem read5 (c : Dev nD) (t : Fin cfg0.N) (l : Fin 512) :
    iblk m c 5 t (ix2 0 l) = (V m c main_v9 (ix2 0 l) : EReal) := by
  blk_ext [iblk, index5 t]

theorem read6 (c : Dev nD) (t : Fin cfg0.N) (l : Fin 512) :
    iblk m c 6 t (ix2 0 l) = (V m c main_v13 (ix2 0 l) : EReal) := by
  blk_ext [iblk, index6 t]

theorem read7 (c : Dev nD) (t : Fin cfg0.N) (x l : Fin 512) :
    iblk m c 7 t (ix2 x l) = (V m c main_v22 (ix2 x l) : EReal) := by
  blk_ext [iblk, index7 t]

theorem read8 (c : Dev nD) (t : Fin cfg0.N) (k : Fin 8) (l : Fin 512) :
    iblk m c 8 t (ix2 k l) = (V m c main_v24 (ix2 k l) : EReal) := by
  blk_ext [iblk, index8 t]

theorem read9 (c : Dev nD) (t : Fin cfg0.N) (l : Fin 512) :
    iblk m c 9 t (ix2 0 l) = (V m c main_v31 (ix2 0 l) : EReal) := by
  blk_ext [iblk, index9 t]

/-- Where an element of a result's block lies in the result. -/
theorem place10 (t : Fin cfg0.N) (r : Fin 1024) (l : Fin 512) : ((cfg0.win 10).blk t).view.emb (ix2 r l) = ix2 (row t r) l := by
  blk_ext [index10 t, row]

@[inherit_doc place10]
theorem place11 (t : Fin cfg0.N) (r : Fin 1024) (l : Fin 512) : ((cfg0.win 11).blk t).view.emb (ix2 r l) = ix2 (row t r) l := by
  blk_ext [index11 t, row]

@[inherit_doc place10]
theorem place12 (t : Fin cfg0.N) (r : Fin 1024) (l : Fin 512) : ((cfg0.win 12).blk t).view.emb (ix2 r l) = ix2 (row t r) l := by
  blk_ext [index12 t, row]

@[inherit_doc place10]
theorem place13 (t : Fin cfg0.N) (r : Fin 1024) (l : Fin 512) : ((cfg0.win 13).blk t).view.emb (ix2 r l) = ix2 (row t r) l := by
  blk_ext [index13 t, row]

end Cert.Kernel2Ideal.Reads

end
-- ==== Proof.InprojPieces.lean ====
/-
  What a grid point of the input projection leaves in its four blocks and in the rows it keeps, in both of the body's
  cases: A at the start of a sequence, where the rows kept are zeros, and B elsewhere, where they are the point's before.
-/
module

public import proofs.«01_k».proof.Proof.Gen.Kernel2Ideal.Value
public import Idealize.ShloMosaic.Lib.Pipeline.ValueKit
public import Idealize.ShloMosaic.Lib.VecWindow
public import Idealize.ShloMosaic.Lib.Pointwise

@[expose] public section

noncomputable section

namespace Cert.Kernel2Ideal.Pieces

open Cert.Kernel2Ideal Cert.Kernel2Ideal.Gen Idealize.ShloMosaic Idealize.ShloMosaic.TcCoe

variable {F : FTy → Type} [FloatOps F]

/-- The bias of queries, keys and values. -/
def low (x4 : Vec F S1x3072 .f32) : Vec F S1x1536 .f32 :=
  View.ld x4 (Rect.unit ![0, 0] S1x1536.size inb_S1x3072_S1x1536_0_0)

/-- The bias of the convolution's parts. -/
def up (x4 : Vec F S1x3072 .f32) : Vec F S1x1536 .f32 :=
  View.ld x4 (Rect.unit ![0, 1536] S1x1536.size inb_S1x3072_S1x1536_0_1536)

/-- The convolution's weights. -/
def tap0 (x8 : Vec F S8x512 .f32) : Vec F S1x512 .f32 := View.ld x8 (Rect.unit ![0, 0] S1x512.size inb_S8x512_S1x512_0_0)
@[inherit_doc tap0]
def tap1 (x8 : Vec F S8x512 .f32) : Vec F S1x512 .f32 := View.ld x8 (Rect.unit ![1, 0] S1x512.size inb_S8x512_S1x512_1_0)
@[inherit_doc tap0]
def tap2 (x8 : Vec F S8x512 .f32) : Vec F S1x512 .f32 := View.ld x8 (Rect.unit ![2, 0] S1x512.size inb_S8x512_S1x512_2_0)

/-- The convolution's gated input. -/
def u (x0 : Vec F S1024x1024 .f32) (x1 : Vec F S1x1024 .f32) (x3 : Vec F S1024x1536 .bf16) (x4 : Vec F S1x3072 .f32) :
    FVec F S1024x512 .f32 := k0_pay10 (k0_pay2 x0 x1) x3 (up x4)

/-- The gated convolution, from the rows kept. -/
def conv (x0 : Vec F S1024x1024 .f32) (x1 : Vec F S1x1024 .f32) (x3 : Vec F S1024x1536 .bf16) (x4 : Vec F S1x3072 .f32)
    (x8 : Vec F S8x512 .f32) (x9 : Vec F S1x512 .f32) (kept : Vec F S8x512 .f32) : Vec F S1024x512 .bf16 :=
  k0_pay1 (k0_pay9 (k0_pay2 x0 x1) x3 (up x4)) (u x0 x1 x3 x4) (k0_pay13 (u x0 x1 x3 x4) kept x9 (tap0 x8) (tap1 x8)) (tap2 x8)

/-- Both offsets of a whole block are zero. -/
theorem zeros : ∀ a : Fin 2, (![0, 0] : Fin 2 → ℕ) a = 0 := by decide

/-- A load of the whole block. -/
theorem ld_self {a b : ℕ} {e : EltTy} (inb : ∀ k, (![0, 0] : Fin 2 → ℕ) k + (![a, b] : Fin 2 → ℕ) k ≤ (⟨2, ![a, b]⟩ : Shape).size k)
    (X : Vec F ⟨2, ![a, b]⟩ e) : View.ld X (Rect.unit ![0, 0] ![a, b] inb) = X :=
  View.ld_unit_lit inb X zeros

/-- The queries, in case A. -/
theorem outA_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = k0_pay5 x0 x1 x2 (low x4) x7 x5 := by
  unfold out0_A_10
  rw [View.read_writes_junk_eq_canon]
  unfold kernelRun0_A
  dsimp only
  refine (View.canon_cons_unit_lit _ _ _ zeros).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v81, kernelRun0_A.sl.HS0_1, View.readAt_full, View.readCov_full, Memref.IsWhole.read_unread]
  simp only [low, up, tap0, tap1, tap2, u, conv, View.readAt_eq_ld, Memref.IsWhole.read_unread, ld_self]

/-- The keys, in case A. -/
theorem outA_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = k0_pay6 (k0_pay3 x0 x1 x2 (low x4)) (k0_pay4 x7) x6 := by
  unfold out0_A_11
  rw [View.read_writes_junk_eq_canon]
  unfold kernelRun0_A
  dsimp only
  refine (View.canon_cons_unit_lit _ _ _ zeros).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v81, kernelRun0_A.sl.HS0_1, View.readAt_full, View.readCov_full, Memref.IsWhole.read_unread]
  simp only [low, up, tap0, tap1, tap2, u, conv, View.readAt_eq_ld, Memref.IsWhole.read_unread, ld_self]

/-- The values, in case A. -/
theorem outA_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = k0_pay7 (k0_pay3 x0 x1 x2 (low x4)) := by
  unfold out0_A_12
  rw [View.read_writes_junk_eq_canon]
  unfold kernelRun0_A
  dsimp only
  refine (View.canon_cons_unit_lit _ _ _ zeros).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v81, kernelRun0_A.sl.HS0_1, View.readAt_full, View.readCov_full, Memref.IsWhole.read_unread]
  simp only [low, up, tap0, tap1, tap2, u, conv, View.readAt_eq_ld, Memref.IsWhole.read_unread, ld_self]

/-- The gated convolution, in case A. -/
theorem outA_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = conv x0 x1 x3 x4 x8 x9 k0_pay11 := by
  unfold out0_A_13
  rw [View.read_writes_junk_eq_canon]
  unfold kernelRun0_A
  dsimp only
  refine (View.canon_cons_unit_lit _ _ _ zeros).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v81, kernelRun0_A.sl.HS0_1, View.readAt_full, View.readCov_full, Memref.IsWhole.read_unread]
  simp only [low, up, tap0, tap1, tap2, u, conv, View.readAt_eq_ld, Memref.IsWhole.read_unread, ld_self]
  rw [View.readCov_cons_toLoadRect]

/-- The rows kept, in case A. -/
theorem keptA (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = k0_pay12 (u x0 x1 x3 x4) := by
  unfold sout0_A_0
  rw [View.read_writes_junk_eq_canon]
  unfold kernelRun0_A
  dsimp only
  refine (View.canon_cons_unit_lit _ _ _ zeros).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.v81, kernelRun0_A.sl.HS0_1, View.readAt_full, View.readCov_full, Memref.IsWhole.read_unread]
  simp only [low, up, tap0, tap1, tap2, u, conv, View.readAt_eq_ld, Memref.IsWhole.read_unread, ld_self]

/-- The queries, in case B. -/
theorem outB_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : ¬cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) (xs0 : Vec F S8x512 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = k0_pay5 x0 x1 x2 (low x4) x7 x5 := by
  unfold out0_B_10
  rw [View.read_writes_junk_eq_canon]
  unfold kernelRun0_B
  dsimp only
  refine (View.canon_cons_unit_lit _ _ _ zeros).trans ?_
  simp only [kernelRun0_B.sl.r, kernelRun0_B.sl.r_1, kernelRun0_B.sl.r_2, kernelRun0_B.sl.r_3, kernelRun0_B.sl.r_4, kernelRun0_B.sl.r_5, kernelRun0_B.sl.r_6, View.readAt_full, View.readCov_full, Memref.IsWhole.read_unread]
  simp only [low, up, tap0, tap1, tap2, u, conv, View.readAt_eq_ld, Memref.IsWhole.read_unread, ld_self]

/-- The keys, in case B. -/
theorem outB_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : ¬cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) (xs0 : Vec F S8x512 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = k0_pay6 (k0_pay3 x0 x1 x2 (low x4)) (k0_pay4 x7) x6 := by
  unfold out0_B_11
  rw [View.read_writes_junk_eq_canon]
  unfold kernelRun0_B
  dsimp only
  refine (View.canon_cons_unit_lit _ _ _ zeros).trans ?_
  simp only [kernelRun0_B.sl.r, kernelRun0_B.sl.r_1, kernelRun0_B.sl.r_2, kernelRun0_B.sl.r_3, kernelRun0_B.sl.r_4, kernelRun0_B.sl.r_5, kernelRun0_B.sl.r_6, View.readAt_full, View.readCov_full, Memref.IsWhole.read_unread]
  simp only [low, up, tap0, tap1, tap2, u, conv, View.readAt_eq_ld, Memref.IsWhole.read_unread, ld_self]

/-- The values, in case B. -/
theorem outB_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : ¬cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) (xs0 : Vec F S8x512 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = k0_pay7 (k0_pay3 x0 x1 x2 (low x4)) := by
  unfold out0_B_12
  rw [View.read_writes_junk_eq_canon]
  unfold kernelRun0_B
  dsimp only
  refine (View.canon_cons_unit_lit _ _ _ zeros).trans ?_
  simp only [kernelRun0_B.sl.r, kernelRun0_B.sl.r_1, kernelRun0_B.sl.r_2, kernelRun0_B.sl.r_3, kernelRun0_B.sl.r_4, kernelRun0_B.sl.r_5, kernelRun0_B.sl.r_6, View.readAt_full, View.readCov_full, Memref.IsWhole.read_unread]
  simp only [low, up, tap0, tap1, tap2, u, conv, View.readAt_eq_ld, Memref.IsWhole.read_unread, ld_self]

/-- The gated convolution, in case B. -/
theorem outB_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : ¬cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) (xs0 : Vec F S8x512 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = conv x0 x1 x3 x4 x8 x9 xs0 := by
  unfold out0_B_13
  rw [View.read_writes_junk_eq_canon]
  unfold kernelRun0_B
  dsimp only
  refine (View.canon_cons_unit_lit _ _ _ zeros).trans ?_
  simp only [kernelRun0_B.sl.r, kernelRun0_B.sl.r_1, kernelRun0_B.sl.r_2, kernelRun0_B.sl.r_3, kernelRun0_B.sl.r_4, kernelRun0_B.sl.r_5, kernelRun0_B.sl.r_6, View.readAt_full, View.readCov_full, Memref.IsWhole.read_unread]
  simp only [low, up, tap0, tap1, tap2, u, conv, View.readAt_eq_ld, Memref.IsWhole.read_unread, ld_self]

/-- The rows kept, in case B. -/
theorem keptB (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1x3072 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S8x512 .f32) (harg9 : arg9.IsWhole) (arg10 : Memref sig .tc .vmem S1x512 .f32) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S8x512 .f32) (harg15 : arg15.IsWhole) (hc0 : ¬cond0_0 i) (x0 : Vec F S1024x1024 .f32) (x1 : Vec F S1x1024 .f32) (x2 : Vec F S1024x1536 .bf16) (x3 : Vec F S1024x1536 .bf16) (x4 : Vec F S1x3072 .f32) (x5 : Vec F S1x512 .f32) (x6 : Vec F S1x512 .f32) (x7 : Vec F S512x512 .bf16) (x8 : Vec F S8x512 .f32) (x9 : Vec F S1x512 .f32) (xs0 : Vec F S8x512 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = k0_pay12 (u x0 x1 x3 x4) := by
  unfold sout0_B_0
  rw [View.read_writes_junk_eq_canon]
  unfold kernelRun0_B
  dsimp only
  refine (View.canon_cons_unit_lit _ _ _ zeros).trans ?_
  simp only [kernelRun0_B.sl.r, kernelRun0_B.sl.r_1, kernelRun0_B.sl.r_2, kernelRun0_B.sl.r_3, kernelRun0_B.sl.r_4, kernelRun0_B.sl.r_5, kernelRun0_B.sl.r_6, View.readAt_full, View.readCov_full, Memref.IsWhole.read_unread]
  simp only [low, up, tap0, tap1, tap2, u, conv, View.readAt_eq_ld, Memref.IsWhole.read_unread, ld_self]

end Cert.Kernel2Ideal.Pieces

end
-- ==== Proof.InprojSpec.lean ====
/-
  The input projection's four results, written from the launched arrays: normalised queries and keys per head, values, and
  the gated convolution over the two rows before.
-/
module

public import proofs.«01_k».proof.Proof.RowMath

@[expose] public section

noncomputable section

namespace Cert.Rows

open Idealize.ShloMosaic

variable (x : FVec Ideal ⟨3, ![8, 4096, 1024]⟩ .f32) (g : FVec Ideal ⟨1, ![1024]⟩ .f32) (w : FVec Ideal ⟨2, ![1024, 5120]⟩ .f32)
  (bias : FVec Ideal ⟨1, ![5120]⟩ .f32) (gq gk : FVec Ideal ⟨1, ![64]⟩ .f32) (cw : FVec Ideal ⟨2, ![3, 512]⟩ .f32)
  (cb : FVec Ideal ⟨1, ![512]⟩ .f32)

/-- The projection of the normalised row `s` of batch row `b`. -/
def projected (b : Fin 8) (s : Fin 4096) (j : Fin 5120) : EReal :=
  ∑ k, normed ((1024 : ℝ) : EReal) (fun j => (x (ix3 b s j) : EReal)) (g (ix1 k)) k * w (ix2 k j) + bias (ix1 j)

/-- The part of a projected row that starts at `o`. -/
def part (o : ℕ) (ho : o + 512 ≤ 5120) (b : Fin 8) (s : Fin 4096) (l : Fin 512) : EReal :=
  projected x g w bias b s ⟨o + l.val, by omega⟩

/-- A row normalised head by head. -/
def headNormed (z : Fin 512 → EReal) (g : Fin 64 → EReal) (l : Fin 512) : EReal :=
  normed ((64 : ℝ) : EReal) (fun d : Fin 64 => z ⟨64 * (l.val / 64) + d.val, by omega⟩) (g ⟨l.val % 64, by omega⟩) ⟨l.val % 64, by omega⟩

/-- A query, scaled by one over the root of the head's width and put in units of the logarithm to base two. -/
def query (b : Fin 8) (s : Fin 4096) (l : Fin 512) : EReal :=
  headNormed (part x g w bias 0 (by omega) b s) (fun d => gq (ix1 d)) l * ((1 / 8 * (1 / Real.log 2) : ℝ) : EReal)

/-- A key. -/
def key (b : Fin 8) (s : Fin 4096) (l : Fin 512) : EReal :=
  headNormed (part x g w bias 512 (by omega) b s) (fun d => gk (ix1 d)) l

/-- A value. -/
def value (b : Fin 8) (s : Fin 4096) (l : Fin 512) : EReal := part x g w bias 1024 (by omega) b s l

/-- The convolution's gated input. -/
def gated (b : Fin 8) (s : Fin 4096) (l : Fin 512) : EReal :=
  part x g w bias 2560 (by omega) b s l * part x g w bias 1536 (by omega) b s l

/-- The gated input `j` rows before, which is zero before the sequence. -/
def before (j : ℕ) (b : Fin 8) (s : Fin 4096) (l : Fin 512) : EReal :=
  if j ≤ s.val then gated x g w bias b ⟨s.val - j, by omega⟩ l else 0

/-- The gated convolution. -/
def convolved (b : Fin 8) (s : Fin 4096) (l : Fin 512) : EReal :=
  part x g w bias 2048 (by omega) b s l
    * (cb (ix1 l) + cw (ix2 0 l) * before x g w bias 2 b s l + cw (ix2 1 l) * before x g w bias 1 b s l
      + cw (ix2 2 l) * gated x g w bias b s l)

end Cert.Rows

end
-- ==== Proof.InprojValue.lean ====
/-
  What the input projection leaves in its four results: at row `r`, the queries, keys, values and gated convolution of
  the row's token.
-/
module

public import proofs.«01_k».proof.Proof.InprojBlock
public import proofs.«01_k».proof.Proof.InprojHost
public import proofs.«01_k».proof.Proof.InprojReads
public import proofs.«01_k».proof.Proof.InprojPieces
public import proofs.«01_k».proof.Proof.InprojSpec

@[expose] public section

noncomputable section

namespace Cert.Kernel2Ideal.Inproj

open Cert.Kernel2Ideal Cert.Kernel2Ideal.Gen Cert.Kernel2Ideal.Block Cert.Kernel2Ideal.Host Cert.Kernel2Ideal.Reads
  Cert.Kernel2Ideal.Pieces Idealize.ShloMosaic Idealize.ShloMosaic.TcCoe Cert.Rows

variable (m : (ℓ : Loc nD τ sig) → Buf (Elt Ideal) ℓ) (c : Dev nD)

/-- The batch row of a row. -/
def batch (r : Fin 32768) : Fin 8 := ⟨r.val / 4096, by omega⟩

/-- The sequence row of a row. -/
def place (r : Fin 32768) : Fin 4096 := ⟨r.val % 4096, by omega⟩

/-- The bias of queries, keys and values at an index. -/
theorem low_apply (x4 : Vec Ideal S1x3072 .f32) (j : Fin 1536) : low x4 (ix2 0 j) = x4 (ix2 0 ⟨j.val, by omega⟩) := by
  unfold low
  refine congrArg x4 (funext fun a => Fin.ext ?_)
  fin_cases a
  · rfl
  · show 0 + 1 * j.val = j.val; omega

/-- The bias of the convolution's parts at an index. -/
theorem up_apply (x4 : Vec Ideal S1x3072 .f32) (j : Fin 1536) : up x4 (ix2 0 j) = x4 (ix2 0 ⟨1536 + j.val, by omega⟩) := by
  unfold up
  refine congrArg x4 (funext fun a => Fin.ext ?_)
  fin_cases a
  · rfl
  · show 1536 + 1 * j.val = 1536 + j.val; omega

theorem tap0_apply (x8 : Vec Ideal S8x512 .f32) (l : Fin 512) : tap0 x8 (ix2 0 l) = x8 (ix2 0 l) := by
  unfold tap0
  refine congrArg x8 (funext fun a => Fin.ext ?_)
  fin_cases a
  · rfl
  · show 0 + 1 * l.val = l.val; omega

theorem tap1_apply (x8 : Vec Ideal S8x512 .f32) (l : Fin 512) : tap1 x8 (ix2 0 l) = x8 (ix2 1 l) := by
  unfold tap1
  refine congrArg x8 (funext fun a => Fin.ext ?_)
  fin_cases a
  · rfl
  · show 0 + 1 * l.val = l.val; omega

theorem tap2_apply (x8 : Vec Ideal S8x512 .f32) (l : Fin 512) : tap2 x8 (ix2 0 l) = x8 (ix2 2 l) := by
  unfold tap2
  refine congrArg x8 (funext fun a => Fin.ext ?_)
  fin_cases a
  · rfl
  · show 0 + 1 * l.val = l.val; omega

/-- A normalised row of a block. -/
theorem normed_eq (t : Fin cfg0.N) (r k : Fin 1024) :
    normed ((1024 : ℝ) : EReal) (fun j => (iblk m c 0 t (ix2 r j) : EReal)) (iblk m c 1 t (ix2 0 k)) k
      = normed ((1024 : ℝ) : EReal) (fun j => (inX m c (ix3 (batch (row t r)) (place (row t r)) j) : EReal)) (inG m c (ix1 k)) k := by
  have e1 : (fun j => (iblk m c 0 t (ix2 r j) : EReal))
      = fun j => (inX m c (ix3 (batch (row t r)) (place (row t r)) j) : EReal) :=
    funext fun j => (read0 m c t r j).trans (rows m c _ _)
  have e2 : (iblk m c 1 t (ix2 0 k) : EReal) = inG m c (ix1 k) := (read1 m c t k).trans (gain m c k)
  exact congrArg₂ (fun f a => normed ((1024 : ℝ) : EReal) f a k) e1 e2

/-- The projected rows of a block. -/
abbrev low_rows (t : Fin cfg0.N) : FVec Ideal S1024x1536 .f32 :=
  k0_pay3 (F := Ideal) (iblk m c 0 t) (iblk m c 1 t) (iblk m c 2 t) (low (iblk m c 4 t))

@[inherit_doc low_rows]
abbrev up_rows (t : Fin cfg0.N) : FVec Ideal S1024x1536 .f32 :=
  k0_pay8 (F := Ideal) (k0_pay2 (F := Ideal) (iblk m c 0 t) (iblk m c 1 t)) (iblk m c 3 t) (up (iblk m c 4 t))

/-- A part of a block's projected row. -/
theorem low_part (t : Fin cfg0.N) (r : Fin 1024) (o : ℕ) (ho : o + 512 ≤ 1536) (l : Fin 512) (j : Fin 1536) (h : j.val = o + l.val) :
    low_rows m c t (ix2 r j)
      = part (inX m c) (inG m c) (inW m c) (inB m c) o (ho.trans (by norm_num)) (batch (row t r)) (place (row t r)) l := by
  have hj : j = ⟨o + l.val, by omega⟩ := Fin.ext h
  rw [hj]
  refine (proj_apply _ _ _ _ r _).trans ?_
  refine congrArg₂ (· + ·) (Finset.sum_congr rfl fun k _ => congrArg₂ (· * ·) (normed_eq m c t r k) ?_) ?_
  · exact (read2 m c t k _).trans (weight m c k _)
  · exact (low_apply _ _).trans ((read4 m c t _).trans (bias m c _))

@[inherit_doc low_part]
theorem up_part (t : Fin cfg0.N) (r : Fin 1024) (o : ℕ) (ho : o + 512 ≤ 1536) (l : Fin 512) (j : Fin 1536) (h : j.val = o + l.val) :
    up_rows m c t (ix2 r j)
      = part (inX m c) (inG m c) (inW m c) (inB m c) (1536 + o) ((Nat.add_le_add_left ho 1536).trans (by norm_num)) (batch (row t r)) (place (row t r)) l := by
  have hj : j = ⟨o + l.val, by omega⟩ := Fin.ext h
  rw [hj]
  have e : (⟨1536 + (o + l.val), by omega⟩ : Fin 5120) = ⟨1536 + o + l.val, by omega⟩ := Fin.ext (by dsimp only; omega)
  unfold part
  rw [← e]
  refine (conv_proj_apply _ _ _ _ r _).trans ?_
  refine congrArg₂ (· + ·) (Finset.sum_congr rfl fun k _ => congrArg₂ (· * ·) (normed_eq m c t r k) ?_) ?_
  · exact (read3 m c t k _).trans (conv_weight m c k _)
  · exact (up_apply _ _).trans ((read4 m c t _).trans (bias m c _))

/-- A row normalised head by head, as the kernel computes it: its squares averaged by a product with a matrix. -/
theorem head_normed_eq (z : Fin 512 → EReal) (a : Fin 512 → Fin 512 → EReal) (g : Fin 64 → EReal) (l : Fin 512)
    (ha : ∀ x, a x l = if x.val / 64 = l.val / 64 then ((1 / 64 : ℝ) : EReal) else 0) :
    z l * Ideal.rsqrt ((∑ x : Fin 512, z x * z x * a x l) + eps) * g ⟨l.val % 64, by omega⟩ = headNormed z g l := by
  have e : (⟨64 * (l.val / 64) + l.val % 64, by omega⟩ : Fin 512) = l := Fin.ext (by dsimp only; omega)
  unfold headNormed normed
  rw [← head_mean (fun x => z x * z x) (fun x => square_nonneg _) l]
  dsimp only
  rw [e]
  refine congrArg (· * _) (congrArg (z l * ·) (congrArg Ideal.rsqrt (congrArg (· + eps) (Finset.sum_congr rfl fun x _ => ?_))))
  rw [ha]

/-- The matrix that averages, of a block. -/
theorem matrix_eq (t : Fin cfg0.N) (x l : Fin 512) :
    (iblk m c 7 t (ix2 x l) : EReal) = if x.val / 64 = l.val / 64 then ((1 / 64 : ℝ) : EReal) else 0 :=
  (read7 m c t x l).trans (head_matrix m c x l)

/-- The queries of a block. -/
theorem query_eq (t : Fin cfg0.N) (r : Fin 1024) (l : Fin 512) :
    k0_pay5 (F := Ideal) (iblk m c 0 t) (iblk m c 1 t) (iblk m c 2 t) (low (iblk m c 4 t)) (iblk m c 7 t) (iblk m c 5 t) (ix2 r l)
      = query (inX m c) (inG m c) (inW m c) (inB m c) (inQ m c) (batch (row t r)) (place (row t r)) l := by
  have hz : ∀ x : Fin 512, low_rows m c t (ix2 r ⟨x.val, by omega⟩) = part (inX m c) (inG m c) (inW m c) (inB m c) 0 (by omega) (batch (row t r)) (place (row t r)) x :=
    fun x => low_part m c t r 0 (by omega) x _ (by dsimp only; omega)
  have hg : (iblk m c 5 t (ix2 0 l) : EReal) = inQ m c (ix1 ⟨l.val % 64, by omega⟩) * ((1 / 8 * (1 / Real.log 2) : ℝ) : EReal) :=
    (read5 m c t l).trans (query_gain m c l)
  refine (query_apply _ _ _ _ _ _ r l).trans ?_
  unfold query
  rw [← head_normed_eq _ (fun x l => iblk m c 7 t (ix2 x l)) _ l (fun x => matrix_eq m c t x l), mul_assoc _ _ (((1 / 8 * (1 / Real.log 2) : ℝ)) : EReal)]
  exact congrArg₂ (· * ·) (congrArg₂ (· * ·) (hz l) (congrArg Ideal.rsqrt (congrArg (· + eps) (Finset.sum_congr rfl fun x _ =>
    congrArg (· * _) (congrArg₂ (· * ·) (hz x) (hz x)))))) hg

/-- The keys of a block. -/
theorem key_eq (t : Fin cfg0.N) (r : Fin 1024) (l : Fin 512) :
    k0_pay6 (F := Ideal) (low_rows m c t) (k0_pay4 (F := Ideal) (iblk m c 7 t)) (iblk m c 6 t) (ix2 r l)
      = key (inX m c) (inG m c) (inW m c) (inB m c) (inK m c) (batch (row t r)) (place (row t r)) l := by
  have hz : ∀ x : Fin 512, low_rows m c t (ix2 r ⟨512 + x.val, by omega⟩) = part (inX m c) (inG m c) (inW m c) (inB m c) 512 (by omega) (batch (row t r)) (place (row t r)) x :=
    fun x => low_part m c t r 512 (by omega) x _ rfl
  have hg : (iblk m c 6 t (ix2 0 l) : EReal) = inK m c (ix1 ⟨l.val % 64, by omega⟩) := (read6 m c t l).trans (key_gain m c l)
  have h4 : ∀ x l, k0_pay4 (F := Ideal) (iblk m c 7 t) (ix2 x l) = (iblk m c 7 t (ix2 x l) : EReal) := fun x l => by
    pointwise [k0_pay4]
  refine (key_apply _ _ _ r l).trans ?_
  unfold key
  rw [← head_normed_eq _ (fun x l => iblk m c 7 t (ix2 x l)) _ l (fun x => matrix_eq m c t x l)]
  exact congrArg₂ (· * ·) (congrArg₂ (· * ·) (hz l) (congrArg Ideal.rsqrt (congrArg (· + eps) (Finset.sum_congr rfl fun x _ =>
    congrArg₂ (· * ·) (congrArg₂ (· * ·) (hz x) (hz x)) (h4 x l))))) hg

/-- The values of a block. -/
theorem value_eq (t : Fin cfg0.N) (r : Fin 1024) (l : Fin 512) :
    k0_pay7 (F := Ideal) (low_rows m c t) (ix2 r l)
      = value (inX m c) (inG m c) (inW m c) (inB m c) (batch (row t r)) (place (row t r)) l :=
  (value_apply _ r l).trans (low_part m c t r 1024 (by omega) l _ rfl)

/-- The convolution's gated input in a block. -/
abbrev gated_rows (t : Fin cfg0.N) : FVec Ideal S1024x512 .f32 :=
  u (iblk m c 0 t) (iblk m c 1 t) (iblk m c 3 t) (iblk m c 4 t)

@[inherit_doc gated_rows]
theorem gated_eq (t : Fin cfg0.N) (r : Fin 1024) (l : Fin 512) :
    gated_rows m c t (ix2 r l) = gated (inX m c) (inG m c) (inW m c) (inB m c) (batch (row t r)) (place (row t r)) l :=
  (gated_apply _ _ _ r l).trans (congrArg₂ (· * ·) (up_part m c t r 1024 (by omega) l _ rfl)
    (up_part m c t r 0 (by omega) l _ (by dsimp only; omega)))

/-- The gated input `j` rows before, from the rows kept. -/
theorem above_eq_before (t : Fin cfg0.N) (kept : Vec Ideal S8x512 .f32) (j : ℕ) (hj : j ≤ 8) (r : Fin 1024) (l : Fin 512)
    (hk : ∀ h : r.val < j, (kept (ix2 ⟨8 + r.val - j, by omega⟩ l) : EReal)
      = before (inX m c) (inG m c) (inW m c) (inB m c) j (batch (row t r)) (place (row t r)) l) :
    above j hj (gated_rows m c t) kept r l
      = before (inX m c) (inG m c) (inW m c) (inB m c) j (batch (row t r)) (place (row t r)) l := by
  unfold above
  by_cases h : r.val < j
  · rw [dif_pos h]; exact hk h
  · rw [dif_neg h]
    have hr := r.isLt
    have ht := point_lt t
    refine (gated_eq m c t _ l).trans ?_
    unfold before
    rw [if_pos (show j ≤ (place (row t r)).val by show j ≤ (1024 * t.val + r.val) % 4096; omega)]
    refine congrArg₂ (fun b s => gated (inX m c) (inG m c) (inW m c) (inB m c) b s l) (Fin.ext ?_) (Fin.ext ?_)
    · show (1024 * t.val + (r.val - j)) / 4096 = (1024 * t.val + r.val) / 4096
      omega
    · show (1024 * t.val + (r.val - j)) % 4096 = (1024 * t.val + r.val) % 4096 - j
      omega

/-- The gated convolution of a block, from the rows kept. -/
theorem conv_eq (t : Fin cfg0.N) (kept : Vec Ideal S8x512 .f32)
    (hk : ∀ (j : ℕ) (hj : j ≤ 8) (r : Fin 1024) (l : Fin 512) (h : r.val < j), (kept (ix2 ⟨8 + r.val - j, by omega⟩ l) : EReal)
      = before (inX m c) (inG m c) (inW m c) (inB m c) j (batch (row t r)) (place (row t r)) l)
    (r : Fin 1024) (l : Fin 512) :
    conv (iblk m c 0 t) (iblk m c 1 t) (iblk m c 3 t) (iblk m c 4 t) (iblk m c 8 t) (iblk m c 9 t) kept (ix2 r l)
      = convolved (inX m c) (inG m c) (inW m c) (inB m c) (inCw m c) (inCb m c) (batch (row t r)) (place (row t r)) l := by
  have t0 : (tap0 (iblk m c 8 t) (ix2 0 l) : EReal) = inCw m c (ix2 0 l) :=
    (tap0_apply _ l).trans ((read8 m c t 0 l).trans (taps m c 0 l))
  have t1 : (tap1 (iblk m c 8 t) (ix2 0 l) : EReal) = inCw m c (ix2 1 l) :=
    (tap1_apply _ l).trans ((read8 m c t 1 l).trans (taps m c 1 l))
  have t2 : (tap2 (iblk m c 8 t) (ix2 0 l) : EReal) = inCw m c (ix2 2 l) :=
    (tap2_apply _ l).trans ((read8 m c t 2 l).trans (taps m c 2 l))
  have tb : (iblk m c 9 t (ix2 0 l) : EReal) = inCb m c (ix1 l) := (read9 m c t l).trans (conv_bias m c l)
  unfold conv
  refine (gate_apply _ _ _ _ r l).trans ?_
  refine congrArg₂ (· * ·) ((outer_gate_apply _ _ _ r l).trans (up_part m c t r 512 (by omega) l _ rfl)) ?_
  refine congrArg₂ (· + ·) ((taps_apply _ _ _ _ _ r l).trans ?_) (congrArg₂ (· * ·) t2 (gated_eq m c t r l))
  exact congrArg₂ (· + ·) (congrArg₂ (· + ·) tb (congrArg₂ (· * ·) t0 (above_eq_before m c t kept 2 (by omega) r l (hk 2 (by omega) r l))))
    (congrArg₂ (· * ·) t1 (above_eq_before m c t kept 1 (by omega) r l (hk 1 (by omega) r l)))

/-- The rows a point keeps. -/
theorem kept_eq (t : Fin cfg0.N) : (outsAt0 m c t.val t.isLt).2.2.2.2 = k0_pay12 (gated_rows m c t) := by
  by_cases h : t.val % 4 = 0
  · rw [outsAt0_A m c t h]
    dsimp only
    exact keptA (F := Ideal) ..
  · rw [outsAt0_B m c t h]
    dsimp only
    exact keptB (F := Ideal) ..

/-- A block's rows, and the rows kept before them, at a point that does not begin a sequence. -/
theorem kept_before (t : Fin cfg0.N) (h0 : ¬ t.val % 4 = 0) (hlt : t.val - 1 < cfg0.N) (j : ℕ) (hj : j ≤ 8) (r : Fin 1024)
    (l : Fin 512) (h : r.val < j) :
    ((outsAt0 m c (t.val - 1) hlt).2.2.2.2 (ix2 ⟨8 + r.val - j, by omega⟩ l) : EReal)
      = before (inX m c) (inG m c) (inW m c) (inB m c) j (batch (row t r)) (place (row t r)) l := by
  have ht := point_lt t
  rw [kept_eq m c ⟨t.val - 1, hlt⟩]
  refine (kept_apply _ _ l).trans ((gated_eq m c ⟨t.val - 1, hlt⟩ _ l).trans ?_)
  unfold before
  rw [if_pos (show j ≤ (place (row t r)).val by show j ≤ (1024 * t.val + r.val) % 4096; omega)]
  refine congrArg₂ (fun b s => gated (inX m c) (inG m c) (inW m c) (inB m c) b s l) (Fin.ext ?_) (Fin.ext ?_)
  · show (1024 * (t.val - 1) + (1016 + (8 + r.val - j))) / 4096 = (1024 * t.val + r.val) / 4096
    omega
  · show (1024 * (t.val - 1) + (1016 + (8 + r.val - j))) % 4096 = (1024 * t.val + r.val) % 4096 - j
    omega

/-- Before a sequence there is nothing. -/
theorem none_before (t : Fin cfg0.N) (h0 : t.val % 4 = 0) (j : ℕ) (r : Fin 1024) (l : Fin 512) (h : r.val < j) :
    before (inX m c) (inG m c) (inW m c) (inB m c) j (batch (row t r)) (place (row t r)) l = 0 :=
  if_neg (by
    show ¬ j ≤ (1024 * t.val + r.val) % 4096
    have := r.isLt
    omega)

/-- The four results. -/
def queries : Vec Ideal S32768x512 .bf16 := fun y => query (inX m c) (inG m c) (inW m c) (inB m c) (inQ m c) (batch (y 0)) (place (y 0)) (y 1)
@[inherit_doc queries]
def keys : Vec Ideal S32768x512 .bf16 := fun y => key (inX m c) (inG m c) (inW m c) (inB m c) (inK m c) (batch (y 0)) (place (y 0)) (y 1)
@[inherit_doc queries]
def values : Vec Ideal S32768x512 .bf16 := fun y => value (inX m c) (inG m c) (inW m c) (inB m c) (batch (y 0)) (place (y 0)) (y 1)
@[inherit_doc queries]
def convs : Vec Ideal S32768x512 .bf16 := fun y => convolved (inX m c) (inG m c) (inW m c) (inB m c) (inCw m c) (inCb m c) (batch (y 0)) (place (y 0)) (y 1)

/-- What a point writes back of the queries. -/
theorem written10 (t : Fin cfg0.N) (r : Fin 1024) (l : Fin 512) :
    (dats m 0 c).flushed 10 t (ix2 r l) = (queries m c (ix2 (row t r) l) : EReal) := by
  by_cases h : t.val % 4 = 0
  · rw [Value.flushed10_A m c t h]
    exact (congrFun (outA_10 ..) (ix2 r l)).trans (query_eq m c t r l)
  · rw [Value.flushed10_B m c t h]
    exact (congrFun (outB_10 ..) (ix2 r l)).trans (query_eq m c t r l)

/-- What a point writes back of the keys. -/
theorem written11 (t : Fin cfg0.N) (r : Fin 1024) (l : Fin 512) :
    (dats m 0 c).flushed 11 t (ix2 r l) = (keys m c (ix2 (row t r) l) : EReal) := by
  by_cases h : t.val % 4 = 0
  · rw [Value.flushed11_A m c t h]
    exact (congrFun (outA_11 ..) (ix2 r l)).trans (key_eq m c t r l)
  · rw [Value.flushed11_B m c t h]
    exact (congrFun (outB_11 ..) (ix2 r l)).trans (key_eq m c t r l)

/-- What a point writes back of the values. -/
theorem written12 (t : Fin cfg0.N) (r : Fin 1024) (l : Fin 512) :
    (dats m 0 c).flushed 12 t (ix2 r l) = (values m c (ix2 (row t r) l) : EReal) := by
  by_cases h : t.val % 4 = 0
  · rw [Value.flushed12_A m c t h]
    exact (congrFun (outA_12 ..) (ix2 r l)).trans (value_eq m c t r l)
  · rw [Value.flushed12_B m c t h]
    exact (congrFun (outB_12 ..) (ix2 r l)).trans (value_eq m c t r l)

/-- What a point writes back of the gated convolution. -/
theorem written13 (t : Fin cfg0.N) (r : Fin 1024) (l : Fin 512) :
    (dats m 0 c).flushed 13 t (ix2 r l) = (convs m c (ix2 (row t r) l) : EReal) := by
  by_cases h : t.val % 4 = 0
  · rw [Value.flushed13_A m c t h]
    exact (congrFun (outA_13 ..) (ix2 r l)).trans (conv_eq m c t _ (fun j hj r l hr =>
      (none_kept_apply _ l).trans (none_before m c t h j r l hr).symm) r l)
  · rw [Value.flushed13_B m c t h]
    exact (congrFun (outB_13 ..) (ix2 r l)).trans (conv_eq m c t _ (fun j hj r l hr => kept_before m c t h _ j hj r l hr) r l)

/-- An index of a block. -/
theorem block_index (y : S1024x512.Idx) : y = ix2 (y 0) (y 1) := funext fun a => by fin_cases a <;> rfl

/-- THE RESULTS of the call. -/
theorem queries_eq : (dats m 0 c).arrAt 10 cfg0.N = queries m c := by
  refine (dats m 0 c).arrAt_eq_of_covers 10 (queries m c) (by decide +kernel) ?_
  intro t hf y
  rw [block_index y]
  exact (written10 m c t _ _).trans (congrArg (queries m c) (place10 t _ _).symm)

@[inherit_doc queries_eq]
theorem keys_eq : (dats m 0 c).arrAt 11 cfg0.N = keys m c := by
  refine (dats m 0 c).arrAt_eq_of_covers 11 (keys m c) (by decide +kernel) ?_
  intro t hf y
  rw [block_index y]
  exact (written11 m c t _ _).trans (congrArg (keys m c) (place11 t _ _).symm)

@[inherit_doc queries_eq]
theorem values_eq : (dats m 0 c).arrAt 12 cfg0.N = values m c := by
  refine (dats m 0 c).arrAt_eq_of_covers 12 (values m c) (by decide +kernel) ?_
  intro t hf y
  rw [block_index y]
  exact (written12 m c t _ _).trans (congrArg (values m c) (place12 t _ _).symm)

@[inherit_doc queries_eq]
theorem convs_eq : (dats m 0 c).arrAt 13 cfg0.N = convs m c := by
  refine (dats m 0 c).arrAt_eq_of_covers 13 (convs m c) (by decide +kernel) ?_
  intro t hf y
  rw [block_index y]
  exact (written13 m c t _ _).trans (congrArg (convs m c) (place13 t _ _).symm)

end Cert.Kernel2Ideal.Inproj

end
-- ==== Proof.InprojReference.lean ====
/-
  The input projection's reference, read at an index.
-/
module

public import proofs.«01_k».proof.Proof.Gen.Reference2Ideal.Read
public import proofs.«01_k».proof.Proof.InprojSpec
public import proofs.«01_k».proof.Proof.InprojHost
public import Idealize.ShloMosaic.Lib.Pointwise

@[expose] public section

noncomputable section

namespace Cert.Reference2Ideal.Rows

open Cert.Reference2Ideal Cert.Reference2Ideal.Gen Cert.Reference2Ideal.Read Idealize.ShloMosaic Idealize.ShloMosaic.TcCoe Cert.Rows

variable (x : FVec Ideal S8x4096x1024 .f32) (g : FVec Ideal S1024 .f32) (w : FVec Ideal S1024x5120 .f32)
  (bias : FVec Ideal S5120 .f32) (gq gk : FVec Ideal S64 .f32) (cw : FVec Ideal S3x512 .f32) (cb : FVec Ideal S512 .f32)

/-- 1024, as a float's value. -/
theorem width1024 : Ideal.ofBits .f32 0x44800000#32 = ((1024 : ℝ) : EReal) := by
  simp [Ideal.ofBits, Ideal.ieee, -EReal.coe_mul]; norm_num

/-- 64, as a float's value. -/
theorem width64 : Ideal.ofBits .f32 0x42800000#32 = ((64 : ℝ) : EReal) := by
  simp [Ideal.ofBits, Ideal.ieee, -EReal.coe_mul]; norm_num

/-- A normalised row. -/
theorem normed_apply (b : Fin 8) (s : Fin 4096) (k : Fin 1024) :
    val_main_v12 (F := Ideal) x g (ix3 b s k) = normed ((1024 : ℝ) : EReal) (fun j => (x (ix3 b s j) : EReal)) (g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [width1024]
  rfl

/-- A projected row. -/
theorem projected_apply (b : Fin 8) (s : Fin 4096) (j : Fin 5120) :
    val_main_v16 (F := Ideal) x g w bias (ix3 b s j) = projected x g w bias b s j := by
  pointwise [val_main_v16, val_main_v15, val_main_v14, val_main_v13]
  refine congrArg (· + _) (Finset.sum_congr rfl fun k _ => ?_)
  rw [normed_apply]

/-- A part of a projected row. -/
theorem part_at (o : ℕ) (ho : o + 512 ≤ 5120) (b : Fin 8) (s : Fin 4096) (l : Fin 512) (j : Fin 5120) (h : j.val = o + l.val) :
    val_main_v16 (F := Ideal) x g w bias (ix3 b s j) = part x g w bias o ho b s l :=
  (projected_apply x g w bias b s j).trans (congrArg (projected x g w bias b s) (Fin.ext h))

/-- The natural logarithm of two. -/
theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee, -EReal.coe_mul]; norm_num
  rw [h2, Ideal.log_coe, if_neg (by norm_num)]

/-- A query's scale, applied one factor after the other. -/
theorem scale_eq (a e l : EReal) (he : e = ((1 / 8 : ℝ) : EReal)) (hl : l = ((Real.log 2 : ℝ) : EReal)) :
    Ideal.div (a * e) l = a * ((1 / 8 * (1 / Real.log 2) : ℝ) : EReal) := by
  subst he hl
  rw [Ideal.div_coe (ne_of_gt (Real.log_pos (by norm_num))), mul_assoc, ← EReal.coe_mul]

/-- A query. -/
theorem query_apply (r : Fin 32768) (l : Fin 512) :
    val_main_v83 (F := Ideal) x g w bias gq (ix2 r l)
      = query x g w bias gq ⟨r.val / 4096, by omega⟩ ⟨r.val % 4096, by omega⟩ l := by
  pointwise [val_main_v83, val_main_v82, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v17, val_main_cst_2, val_main_cst_3, val_main_cst_4, val_main_cst_5, val_main_cst_6]
  refine (scale_eq _ _ _ Kernel2Ideal.Host.eighth log_two).trans ?_
  unfold query headNormed normed
  refine congrArg (· * _) (congrArg₂ (· * ·) (congrArg₂ (· * ·) (part_at x g w bias 0 (by omega) _ _ ⟨64 * (l.val / 64) + l.val % 64, by omega⟩ _ ?_)
    (congrArg Ideal.rsqrt (congrArg (· + _) (congrArg₂ Ideal.div (Finset.sum_congr rfl fun d _ =>
      congrArg₂ (· * ·) (part_at x g w bias 0 (by omega) _ _ ⟨64 * (l.val / 64) + d.val, by omega⟩ _ ?_)
        (part_at x g w bias 0 (by omega) _ _ ⟨64 * (l.val / 64) + d.val, by omega⟩ _ ?_)) width64)))) rfl)
  all_goals dsimp only
  all_goals omega

/-- A key. -/
theorem key_apply (r : Fin 32768) (l : Fin 512) :
    val_main_v85 (F := Ideal) x g w bias gk (ix2 r l)
      = key x g w bias gk ⟨r.val / 4096, by omega⟩ ⟨r.val % 4096, by omega⟩ l := by
  pointwise [val_main_v85, val_main_v84, val_main_v55, val_main_v54, val_main_v53, val_main_v52, val_main_v51, val_main_v50, val_main_v49, val_main_v48, val_main_v47, val_main_v46, val_main_v45, val_main_v44, val_main_v43, val_main_v42, val_main_v18, val_main_cst_7, val_main_cst_8, val_main_cst_9]
  refine congrArg₂ (· * ·) (congrArg₂ (· * ·) (part_at x g w bias 512 (by omega) _ _ ⟨64 * (l.val / 64) + l.val % 64, by omega⟩ _ ?_)
    (congrArg Ideal.rsqrt (congrArg (· + _) (congrArg₂ Ideal.div (Finset.sum_congr rfl fun d _ =>
      congrArg₂ (· * ·) (part_at x g w bias 512 (by omega) _ _ ⟨64 * (l.val / 64) + d.val, by omega⟩ _ ?_)
        (part_at x g w bias 512 (by omega) _ _ ⟨64 * (l.val / 64) + d.val, by omega⟩ _ ?_)) width64)))) rfl
  all_goals dsimp only
  all_goals omega

/-- A value. -/
theorem value_apply (r : Fin 32768) (l : Fin 512) :
    val_main_v87 (F := Ideal) x g w bias (ix2 r l)
      = value x g w bias ⟨r.val / 4096, by omega⟩ ⟨r.val % 4096, by omega⟩ l := by
  pointwise [val_main_v87, val_main_v86, val_main_v19]
  exact part_at x g w bias 1024 (by omega) _ _ l _ rfl

/-- The convolution's gated input. -/
theorem gated_apply (b : Fin 8) (s : Fin 4096) (l : Fin 512) :
    val_main_v56 (F := Ideal) x g w bias (ix3 b s l) = gated x g w bias b s l := by
  pointwise [val_main_v56, val_main_v22, val_main_v20]
  exact congrArg₂ (· * ·) (part_at x g w bias 2560 (by omega) _ _ l _ rfl) (part_at x g w bias 1536 (by omega) _ _ l _ rfl)

/-- The padding is zero. -/
theorem pad_zero (i : S_.Idx) : val_main_call0_v0 (F := Ideal) i = (0 : EReal) := by
  pointwise [val_main_call0_v0, val_main_c]
  show (((0#32 : BitVec 32).toInt : ℝ) : EReal) = 0
  simp

/-- A row of the padded gated input. -/
theorem shifted (j : ℕ) (hj : j < 4096) (b : Fin 8) (s : Fin 4096) (l : Fin 512) (P : Prop) [Decidable P] (s' : P → Fin 4096)
    (i : S_.Idx) (hP : P ↔ j ≤ s.val) (hs : ∀ h, (s' h).val = s.val - j) :
    (if h : P then val_main_v56 (F := Ideal) x g w bias (ix3 b (s' h) l) else val_main_call0_v0 (F := Ideal) i)
      = before x g w bias j b s l := by
  unfold before
  by_cases h : P
  · rw [dif_pos h, if_pos (hP.mp h)]
    exact (gated_apply x g w bias b _ l).trans (congrArg (fun s => gated x g w bias b s l) (Fin.ext (hs h)))
  · rw [dif_neg h, if_neg (fun q => h (hP.mpr q))]
    exact pad_zero i

/-- The convolution's sum from its terms. -/
theorem combine (p p' c w0 w1 w2 s2 s2' s1 s1' s0 s0' : EReal) (hp : p = p') (h2 : s2 = s2') (h1 : s1 = s1') (h0 : s0 = s0') :
    p * (c + w0 * s2 + w1 * s1 + w2 * s0) = p' * (c + w0 * s2' + w1 * s1' + w2 * s0') := by
  rw [hp, h2, h1, h0]

/-- The gated convolution. -/
theorem convolved_apply (r : Fin 32768) (l : Fin 512) :
    val_main_v89 (F := Ideal) x g w bias cw cb (ix2 r l)
      = convolved x g w bias cw cb ⟨r.val / 4096, by omega⟩ ⟨r.val % 4096, by omega⟩ l := by
  pointwise [val_main_v89, val_main_v88, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v21, val_main_c]
  refine combine _ _ _ _ _ _ _ _ _ _ _ _ ?_ ?_ ?_ ?_
  · exact part_at x g w bias 2048 (by omega) _ _ l _ rfl
  · refine shifted x g w bias 2 (by omega) ⟨r.val / 4096, by omega⟩ ⟨r.val % 4096, by omega⟩ l _ (fun h => ⟨r.val % 4096 - 2, by omega⟩) _ ?_ ?_
    · show (_ ∧ _ ∧ _) ↔ 2 ≤ r.val % 4096
      omega
    · intro h; rfl
  · refine shifted x g w bias 1 (by omega) ⟨r.val / 4096, by omega⟩ ⟨r.val % 4096, by omega⟩ l _ (fun h => ⟨1 + r.val % 4096 - 2, by omega⟩) _ ?_ ?_
    · show (_ ∧ _ ∧ _) ↔ 1 ≤ r.val % 4096
      omega
    · intro h
      show 1 + r.val % 4096 - 2 = r.val % 4096 - 1
      omega
  · exact (dif_pos ⟨by omega, by omega⟩).trans (gated_apply x g w bias _ _ l)

end Cert.Reference2Ideal.Rows

end
-- ==== Proof.Inproj.lean ====
/-
  The input projection: from the same arrays the kernel's queries, keys, values and gated convolution are the reference's.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.InprojValue
public import proofs.«01_k».proof.Proof.InprojReference
public import Idealize.ShloMosaic.Adequacy
public import Idealize.ShloMosaic.Init

@[expose] public section

noncomputable section

namespace Cert.Inproj

open Idealize.ShloMosaic Idealize.SL.Sem Kernel2Ideal.Host Kernel2Ideal.Inproj

variable (m : (ℓ : Loc Kernel2Ideal.nD Kernel2Ideal.τ Kernel2Ideal.sig) → Buf (Elt Ideal) ℓ) (c : Dev Kernel2Ideal.nD)

/-- An index of a result. -/
theorem result_index (y : Kernel2Ideal.S32768x512.Idx) : y = ix2 (y 0) (y 1) := funext fun a => by fin_cases a <;> rfl

/-- The queries agree. -/
theorem queries_agree : Reference2Ideal.Read.val_main_v83 (F := Ideal) (inX m c) (inG m c) (inW m c) (inB m c) (inQ m c) = queries m c := by
  funext y
  rw [result_index y]
  exact Reference2Ideal.Rows.query_apply _ _ _ _ _ _ _

/-- The keys agree. -/
theorem keys_agree : Reference2Ideal.Read.val_main_v85 (F := Ideal) (inX m c) (inG m c) (inW m c) (inB m c) (inK m c) = keys m c := by
  funext y
  rw [result_index y]
  exact Reference2Ideal.Rows.key_apply _ _ _ _ _ _ _

/-- The values agree. -/
theorem values_agree : Reference2Ideal.Read.val_main_v87 (F := Ideal) (inX m c) (inG m c) (inW m c) (inB m c) = values m c := by
  funext y
  rw [result_index y]
  exact Reference2Ideal.Rows.value_apply _ _ _ _ _ _

/-- The gated convolutions agree. -/
theorem convs_agree : Reference2Ideal.Read.val_main_v89 (F := Ideal) (inX m c) (inG m c) (inW m c) (inB m c) (inCw m c) (inCb m c) = convs m c := by
  funext y
  rw [result_index y]
  exact Reference2Ideal.Rows.convolved_apply _ _ _ _ _ _ _ _

/-- The value claim. -/
theorem algebraic : algebraic_Kernel2Ideal_Reference2Ideal := by
  intro m g m' g' _ hm
  refine ⟨fun c => queries m c, fun c => keys m c, fun c => values m c, fun c => convs m c, ?_, ?_⟩
  · refine (θ_run Kernel2Ideal.defs _ _).mono (fun r h c => ?_) (Kernel2Ideal.Value.run_blocks (F := Ideal) m g)
    obtain ⟨h0, h1, h2, h3, h⟩ := h c
    exact ⟨h0.trans (queries_eq m c), h1.trans (keys_eq m c), h2.trans (values_eq m c), h3.trans (convs_eq m c), h⟩
  · refine (θ_run Reference2Ideal.defs _ _).mono (fun r h c => ?_) (Reference2Ideal.Value.run (F := Ideal) m' g')
    obtain ⟨e0, e1, e2, e3, e4, e5, e6, e7⟩ := hm c
    obtain ⟨h0, h1, h2, h3, h⟩ := h c
    refine ⟨h0.trans ((Reference2Ideal.Read.val_main_v83_eq m' c).trans ?_), h1.trans ((Reference2Ideal.Read.val_main_v85_eq m' c).trans ?_),
      h2.trans ((Reference2Ideal.Read.val_main_v87_eq _ _ _ _).trans ?_), h3.trans ((Reference2Ideal.Read.val_main_v89_eq m' c).trans ?_), h⟩
    · rw [e0, e1, e2, e3, e4]; exact queries_agree m c
    · rw [e0, e1, e2, e3, e5]; exact keys_agree m c
    · rw [e0, e1, e2, e3]; exact values_agree m c
    · rw [e0, e1, e2, e3, e6, e7]; exact convs_agree m c

/-- The reference's frame. -/
theorem reference_frame : quiescent_Reference2Ideal := fun m ρ _ =>
  (θ_run Reference2Ideal.defs _ _).mono (fun r h => ⟨fun c => (h c).2.2.2.2, funext fun s => nomatch s⟩)
    (Reference2Ideal.Value.run (F := Ideal) m ρ)

end Cert.Inproj

end
-- ==== Proof.MergeSpec.lean ====
/-
  The merge of the two mixers, of one token: its gates and the residual stream after it, over the extended reals.
-/
module

public import proofs.«01_k».proof.Proof.InprojSpec

@[expose] public section

noncomputable section

namespace Cert.Rows

open Idealize.ShloMosaic

/-- The logistic function, as a quotient. -/
def sigmoid (e : EReal) : EReal := Ideal.div 1 (1 + Ideal.exp (-e))

variable (x : FVec Ideal ⟨3, ![8, 4096, 1024]⟩ .f32) (ya yc : FVec Ideal ⟨3, ![8, 4096, 512]⟩ .f32)
  (g : FVec Ideal ⟨1, ![1024]⟩ .f32) (w : FVec Ideal ⟨2, ![1024, 5120]⟩ .f32) (bias : FVec Ideal ⟨1, ![5120]⟩ .f32)
  (wa wc : FVec Ideal ⟨2, ![512, 1024]⟩ .f32) (wo : FVec Ideal ⟨2, ![1024, 1024]⟩ .f32)

/-- The gate that starts at column `o` of the projection. -/
def gate (o : ℕ) (ho : o + 1024 ≤ 5120) (b : Fin 8) (s : Fin 4096) (l : Fin 1024) : EReal :=
  sigmoid (projected x g w bias b s ⟨o + l.val, by omega⟩)

/-- A mixer's result, brought to the width of the stream. -/
def widened (y : FVec Ideal ⟨3, ![8, 4096, 512]⟩ .f32) (v : FVec Ideal ⟨2, ![512, 1024]⟩ .f32) (b : Fin 8) (s : Fin 4096)
    (l : Fin 1024) : EReal :=
  ∑ k : Fin 512, y (ix3 b s k) * v (ix2 k l)

/-- The two mixers under their gates. -/
def merged (b : Fin 8) (s : Fin 4096) (l : Fin 1024) : EReal :=
  gate x g w bias 3072 (by omega) b s l * widened ya wa b s l + gate x g w bias 4096 (by omega) b s l * widened yc wc b s l

/-- The residual stream after the merge. -/
def stream (b : Fin 8) (s : Fin 4096) (l : Fin 1024) : EReal :=
  x (ix3 b s l) + ∑ k : Fin 1024, merged x ya yc g w bias wa wc b s k * wo (ix2 k l)

end Cert.Rows

end
-- ==== Proof.MergeBlock.lean ====
/-
  What the merge computes for one block of rows, read at an index.
-/
module

public import proofs.«01_k».proof.Proof.Gen.Kernel3Ideal.Skeleton
public import proofs.«01_k».proof.Proof.MergeSpec
public import Idealize.ShloMosaic.Lib.Pointwise

@[expose] public section

noncomputable section

namespace Cert.Kernel3Ideal.Block

open Cert.Kernel3Ideal Cert.Kernel3Ideal.Gen Idealize.ShloMosaic Idealize.ShloMosaic.TcCoe Cert.Rows

/-- 1024, as a float's value. -/
theorem width1024 : Ideal.ofBits .f32 0x44800000#32 = ((1024 : ℝ) : EReal) := by
  simp [Ideal.ofBits, Ideal.ieee, -EReal.coe_mul]; norm_num

/-- The quotient, in the kernel's spelling. -/
theorem sigmoid_eq (e : EReal) : Ideal.div 1 (1 + Ideal.exp (0 - e)) = sigmoid e := by
  unfold sigmoid
  rw [sub_eq_add_neg, zero_add]

/-- A block's rows, normalised. -/
def rows (v625 : Vec Ideal S1024x1024 .f32) (v627 : Vec Ideal S1x1024 .f32) : FVec Ideal S1024x1024 .bf16 :=
  k0_pay122 (F := Ideal) (k0_pay119 v625) (k0_pay120 v627) (k0_pay121 v625)

@[inherit_doc rows]
theorem normed_apply (v625 : Vec Ideal S1024x1024 .f32) (v627 : Vec Ideal S1x1024 .f32) (r k : Fin 1024) :
    rows v625 v627 (ix2 r k)
      = normed ((1024 : ℝ) : EReal) (fun j => (v625 (ix2 r j) : EReal)) (v627 (ix2 0 k)) k := by
  unfold rows
  pointwise [k0_pay122, k0_pay121, k0_pay120, k0_pay119]
  rw [width1024]
  rfl

/-- The second gate. -/
theorem gate_apply (v625 : Vec Ideal S1024x1024 .f32) (v627 : Vec Ideal S1x1024 .f32) (v662 : Vec Ideal S1024x1024 .bf16)
    (v665 : Vec Ideal S1x1024 .f32) (r l : Fin 1024) :
    k0_pay124 (F := Ideal) (k0_pay119 v625) (k0_pay120 v627) (k0_pay121 v625) v662 v665 (ix2 r l)
      = sigmoid ((∑ k, rows v625 v627 (ix2 r k) * v662 (ix2 k l)) + v665 (ix2 0 l)) := by
  rw [← sigmoid_eq]
  pointwise [k0_pay124]
  rfl

/-- The first mixer under its gate. -/
theorem attention_apply (v625 : Vec Ideal S1024x1024 .f32) (v627 : Vec Ideal S1x1024 .f32) (v642 : Vec Ideal S1024x1024 .bf16)
    (v645 : Vec Ideal S1x1024 .f32) (v656 : Vec Ideal S1024x512 .bf16) (v658 : Vec Ideal S512x1024 .bf16) (r l : Fin 1024) :
    k0_pay123 (F := Ideal) (k0_pay119 v625) (k0_pay120 v627) (k0_pay121 v625) v642 v645 v656 v658 (ix2 r l)
      = sigmoid ((∑ k, rows v625 v627 (ix2 r k) * v642 (ix2 k l)) + v645 (ix2 0 l)) * ∑ k : Fin 512, v656 (ix2 r k) * v658 (ix2 k l) := by
  rw [← sigmoid_eq]
  pointwise [k0_pay123]
  rfl

/-- The residual stream. -/
theorem stream_apply (v625 : Vec Ideal S1024x1024 .f32) (v661 v675 : FVec Ideal S1024x1024 .f32) (v676 : Vec Ideal S1024x512 .bf16)
    (v678 : Vec Ideal S512x1024 .bf16) (v684 : Vec Ideal S1024x1024 .bf16) (r l : Fin 1024) :
    k0_pay125 (F := Ideal) (k0_pay119 v625) v661 v675 v676 v678 v684 (ix2 r l)
      = v625 (ix2 r l) + ∑ j : Fin 1024, (v661 (ix2 r j) + v675 (ix2 r j) * ∑ k : Fin 512, v676 (ix2 r k) * v678 (ix2 k j)) * v684 (ix2 j l) := by
  pointwise [k0_pay125, k0_pay119]

end Cert.Kernel3Ideal.Block

end
-- ==== Proof.MergeHost.lean ====
/-
  The merge's operands as its host code prepares them, read at an index: tokens and mixers as rows, and the gates' columns
  of the projection.
-/
module

public import proofs.«01_k».proof.Proof.Gen.Kernel3Ideal.Value
public import Idealize.ShloMosaic.Lib.Pointwise
public import Idealize.ShloMosaic.Lib.StableHlo.ReadAt

@[expose] public section

noncomputable section

namespace Cert.Kernel3Ideal.Host

open Cert.Kernel3Ideal Cert.Kernel3Ideal.Gen Idealize.ShloMosaic Idealize.ShloMosaic.TcCoe

variable (m : (ℓ : Loc nD τ sig) → Buf (Elt Ideal) ℓ)

/-- The tokens as launched. -/
abbrev inX (c : Dev nD) : FVec Ideal S8x4096x1024 .f32 := m (c, Proc.tc.devRef main_arg0)
/-- The attention as launched. -/
abbrev inA (c : Dev nD) : FVec Ideal S8x4096x512 .f32 := m (c, Proc.tc.devRef main_arg1)
/-- The gated convolution as launched. -/
abbrev inC (c : Dev nD) : FVec Ideal S8x4096x512 .f32 := m (c, Proc.tc.devRef main_arg2)
/-- The mixer's gain as launched. -/
abbrev inG (c : Dev nD) : FVec Ideal S1024 .f32 := m (c, Proc.tc.devRef main_arg3)
/-- The projection's weight as launched. -/
abbrev inW (c : Dev nD) : FVec Ideal S1024x5120 .f32 := m (c, Proc.tc.devRef main_arg4)
/-- The projection's bias as launched. -/
abbrev inB (c : Dev nD) : FVec Ideal S5120 .f32 := m (c, Proc.tc.devRef main_arg5)
/-- The attention's widening as launched. -/
abbrev inWa (c : Dev nD) : FVec Ideal S512x1024 .f32 := m (c, Proc.tc.devRef main_arg6)
/-- The convolution's widening as launched. -/
abbrev inWc (c : Dev nD) : FVec Ideal S512x1024 .f32 := m (c, Proc.tc.devRef main_arg7)
/-- The output projection as launched. -/
abbrev inWo (c : Dev nD) : FVec Ideal S1024x1024 .f32 := m (c, Proc.tc.devRef main_arg8)

/-- The tokens as rows. -/
theorem rows (c : Dev nD) (r : Fin 32768) (k : Fin 1024) :
    V m c main_v7 (ix2 r k) = (inX m c (ix3 ⟨r.val / 4096, by omega⟩ ⟨r.val % 4096, by omega⟩ k) : EReal) := by
  unfold V
  after_reads_at

/-- The attention as rows. -/
theorem attention (c : Dev nD) (r : Fin 32768) (k : Fin 512) :
    V m c main_v9 (ix2 r k) = (inA m c (ix3 ⟨r.val / 4096, by omega⟩ ⟨r.val % 4096, by omega⟩ k) : EReal) := by
  unfold V
  after_reads_at

/-- The gated convolution as rows. -/
theorem convolution (c : Dev nD) (r : Fin 32768) (k : Fin 512) :
    V m c main_v11 (ix2 r k) = (inC m c (ix3 ⟨r.val / 4096, by omega⟩ ⟨r.val % 4096, by omega⟩ k) : EReal) := by
  unfold V
  after_reads_at

/-- The mixer's gain. -/
theorem gain (c : Dev nD) (k : Fin 1024) : V m c main_v12 (ix2 0 k) = (inG m c (ix1 k) : EReal) := by
  unfold V
  after_reads_at

/-- The gates' weight. -/
theorem gate_weight (c : Dev nD) (k : Fin 1024) (j : Fin 2048) :
    V m c main_v13 (ix2 k j) = (inW m c (ix2 k ⟨3072 + j.val, by omega⟩) : EReal) := by
  unfold V
  after_reads_at

/-- The gates' bias. -/
theorem gate_bias (c : Dev nD) (j : Fin 2048) : V m c main_v15 (ix2 0 j) = (inB m c (ix1 ⟨3072 + j.val, by omega⟩) : EReal) := by
  unfold V
  after_reads_at

/-- The attention's widening. -/
theorem attention_weight (c : Dev nD) (k : Fin 512) (l : Fin 1024) : V m c main_v16 (ix2 k l) = (inWa m c (ix2 k l) : EReal) := by
  unfold V
  after_reads_at

/-- The convolution's widening. -/
theorem convolution_weight (c : Dev nD) (k : Fin 512) (l : Fin 1024) : V m c main_v17 (ix2 k l) = (inWc m c (ix2 k l) : EReal) := by
  unfold V
  after_reads_at

/-- The output projection. -/
theorem output_weight (c : Dev nD) (k l : Fin 1024) : V m c main_v18 (ix2 k l) = (inWo m c (ix2 k l) : EReal) := by
  unfold V
  after_reads_at

end Cert.Kernel3Ideal.Host

end
-- ==== Proof.MergeReads.lean ====
/-
  Where the merge's blocks lie: the blocks each grid point reads and the one it writes, by rows of the whole arrays. The last
  two points of the grid read and write the same rows.
-/
module

public import proofs.«01_k».proof.Proof.Gen.Kernel3Ideal.Value
public import Idealize.ShloMosaic.Lib.Pointwise
public import Idealize.ShloMosaic.Lib.Pipeline.ValueKit

@[expose] public section

noncomputable section

namespace Cert.Kernel3Ideal.Reads

open Cert.Kernel3Ideal Cert.Kernel3Ideal.Gen Idealize.ShloMosaic Idealize.ShloMosaic.TcCoe

variable (m : (ℓ : Loc nD τ sig) → Buf (Elt Ideal) ℓ)

theorem index0 : ∀ t, win0_0.index t = ![min t.val 31, 0] := by decide +kernel
theorem index1 : ∀ t, win0_1.index t = ![min t.val 31, 0] := by decide +kernel
theorem index2 : ∀ t, win0_2.index t = ![min t.val 31, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index12 : ∀ t, win0_12.index t = ![min t.val 31, 0] := by decide +kernel

/-- A block's row among all rows. -/
def row (t : Fin cfg0.N) (r : Fin 1024) : Fin 32768 := ⟨1024 * min t.val 31 + r.val, by omega⟩

theorem read0 (c : Dev nD) (t : Fin cfg0.N) (r k : Fin 1024) :
    iblk m c 0 t (ix2 r k) = (V m c main_v7 (ix2 (row t r) k) : EReal) := by
  blk_ext [iblk, index0 t, row]

theorem read1 (c : Dev nD) (t : Fin cfg0.N) (r : Fin 1024) (k : Fin 512) :
    iblk m c 1 t (ix2 r k) = (V m c main_v9 (ix2 (row t r) k) : EReal) := by
  blk_ext [iblk, index1 t, row]

theorem read2 (c : Dev nD) (t : Fin cfg0.N) (r : Fin 1024) (k : Fin 512) :
    iblk m c 2 t (ix2 r k) = (V m c main_v11 (ix2 (row t r) k) : EReal) := by
  blk_ext [iblk, index2 t, row]

theorem read3 (c : Dev nD) (t : Fin cfg0.N) (k : Fin 1024) :
    iblk m c 3 t (ix2 0 k) = (V m c main_v12 (ix2 0 k) : EReal) := by
  blk_ext [iblk, index3 t]

theorem read4 (c : Dev nD) (t : Fin cfg0.N) (k : Fin 1024) (j : Fin 2048) :
    iblk m c 4 t (ix2 k j) = (V m c main_v13 (ix2 k j) : EReal) := by
  blk_ext [iblk, index4 t]

theorem read5 (c : Dev nD) (t : Fin cfg0.N) (j : Fin 2048) :
    iblk m c 5 t (ix2 0 j) = (V m c main_v15 (ix2 0 j) : EReal) := by
  blk_ext [iblk, index5 t]

theorem read6 (c : Dev nD) (t : Fin cfg0.N) (k : Fin 512) (l : Fin 1024) :
    iblk m c 6 t (ix2 k l) = (V m c main_v16 (ix2 k l) : EReal) := by
  blk_ext [iblk, index6 t]

theorem read7 (c : Dev nD) (t : Fin cfg0.N) (k : Fin 512) (l : Fin 1024) :
    iblk m c 7 t (ix2 k l) = (V m c main_v17 (ix2 k l) : EReal) := by
  blk_ext [iblk, index7 t]

theorem read8 (c : Dev nD) (t : Fin cfg0.N) (k l : Fin 1024) :
    iblk m c 8 t (ix2 k l) = (V m c main_v18 (ix2 k l) : EReal) := by
  blk_ext [iblk, index8 t]

/-- Where a block of the result lies. -/
theorem place12 (t : Fin cfg0.N) (r l : Fin 1024) : ((cfg0.win 12).blk t).view.emb (ix2 r l) = ix2 (row t r) l := by
  blk_ext [index12 t, row]

end Cert.Kernel3Ideal.Reads

end
-- ==== Proof.MergePieces.lean ====
/-
  What a grid point of the merge leaves in the block of its first result, in both of the body's cases: A at the first
  point and B elsewhere. Nothing that the point keeps enters it.
-/
module

public import proofs.«01_k».proof.Proof.Gen.Kernel3Ideal.Value
public import Idealize.ShloMosaic.Lib.Pipeline.ValueKit
public import Idealize.ShloMosaic.Lib.VecWindow
public import Idealize.ShloMosaic.Lib.Pointwise

@[expose] public section

noncomputable section

namespace Cert.Kernel3Ideal.Pieces

open Cert.Kernel3Ideal Cert.Kernel3Ideal.Gen Idealize.ShloMosaic Idealize.ShloMosaic.TcCoe

variable {F : FTy → Type} [FloatOps F]

/-- The weight of the attention's gate. -/
def firstWeight (x4 : Vec F S1024x2048 .bf16) : Vec F S1024x1024 .bf16 :=
  View.ld x4 (Rect.unit ![0, 0] S1024x1024.size inb_S1024x2048_S1024x1024_0_0)

/-- The weight of the convolution's gate. -/
def secondWeight (x4 : Vec F S1024x2048 .bf16) : Vec F S1024x1024 .bf16 :=
  View.ld x4 (Rect.unit ![0, 1024] S1024x1024.size inb_S1024x2048_S1024x1024_0_1024)

/-- The bias of the attention's gate. -/
def firstBias (x5 : Vec F S1x2048 .f32) : Vec F S1x1024 .f32 :=
  View.ld x5 (Rect.unit ![0, 0] S1x1024.size inb_S1x2048_S1x1024_0_0)

/-- The bias of the convolution's gate. -/
def secondBias (x5 : Vec F S1x2048 .f32) : Vec F S1x1024 .f32 :=
  View.ld x5 (Rect.unit ![0, 1024] S1x1024.size inb_S1x2048_S1x1024_0_1024)

/-- The residual stream of a block, from the blocks the point reads. -/
def hidden (x0 : Vec F S1024x1024 .f32) (x1 x2 : Vec F S1024x512 .bf16) (x3 : Vec F S1x1024 .f32) (x4 : Vec F S1024x2048 .bf16)
    (x5 : Vec F S1x2048 .f32) (x6 x7 : Vec F S512x1024 .bf16) (x8 : Vec F S1024x1024 .bf16) : Vec F S1024x1024 .f32 :=
  k0_pay125 (k0_pay119 x0)
    (k0_pay123 (k0_pay119 x0) (k0_pay120 x3) (k0_pay121 x0) (firstWeight x4) (firstBias x5) x1 x6)
    (k0_pay124 (k0_pay119 x0) (k0_pay120 x3) (k0_pay121 x0) (secondWeight x4) (secondBias x5)) x2 x7 x8

/-- Both offsets of a whole block are zero. -/
theorem zeros : ∀ a : Fin 2, (![0, 0] : Fin 2 → ℕ) a = 0 := by decide

/-- A load of the whole block. -/
theorem ld_self {a b : ℕ} {e : EltTy} (inb : ∀ k, (![0, 0] : Fin 2 → ℕ) k + (![a, b] : Fin 2 → ℕ) k ≤ (⟨2, ![a, b]⟩ : Shape).size k)
    (X : Vec F ⟨2, ![a, b]⟩ e) : View.ld X (Rect.unit ![0, 0] ![a, b] inb) = X :=
  View.ld_unit_lit inb X zeros

/-- The residual stream, in case A. -/
theorem outA_12 (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11
      = hidden x0 x1 x2 x3 x4 x5 x6 x7 x8 := by
  unfold out0_A_12
  rw [View.read_writes_junk_eq_canon]
  unfold kernelRun0_A
  dsimp only
  refine (View.canon_cons_unit_lit _ _ _ zeros).trans ?_
  simp only [kernelRun0_A.sl.r_59, kernelRun0_A.sl.r_60, kernelRun0_A.sl.r_61, kernelRun0_A.sl.r_62, kernelRun0_A.sl.r_63, View.readAt_full, View.readCov_full, Memref.IsWhole.read_unread]
  simp only [hidden, firstWeight, secondWeight, firstBias, secondBias, View.readAt_eq_ld, Memref.IsWhole.read_unread, ld_self]

/-- The residual stream, in case B. -/
theorem outB_12 (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : ¬cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) (xs0 : Vec F S1024x1024 .bf16) (xs1 : Vec F S1024x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1
      = hidden x0 x1 x2 x3 x4 x5 x6 x7 x8 := by
  unfold out0_B_12
  rw [View.read_writes_junk_eq_canon]
  unfold kernelRun0_B
  dsimp only
  refine (View.canon_cons_unit_lit _ _ _ zeros).trans ?_
  simp only [kernelRun0_B.sl.r_63, kernelRun0_B.sl.r_64, kernelRun0_B.sl.r_65, kernelRun0_B.sl.r_66, kernelRun0_B.sl.r_67, View.readAt_full, View.readCov_full, Memref.IsWhole.read_unread]
  simp only [hidden, firstWeight, secondWeight, firstBias, secondBias, View.readAt_eq_ld, Memref.IsWhole.read_unread, ld_self]

end Cert.Kernel3Ideal.Pieces

end
-- ==== Proof.MergeValue.lean ====
/-
  What the merge leaves in its first result: at row `r`, the residual stream of the row's token.
-/
module

public import proofs.«01_k».proof.Proof.MergeBlock
public import proofs.«01_k».proof.Proof.MergeHost
public import proofs.«01_k».proof.Proof.MergeReads
public import proofs.«01_k».proof.Proof.MergePieces

@[expose] public section

noncomputable section

namespace Cert.Kernel3Ideal.Merge

open Cert.Kernel3Ideal Cert.Kernel3Ideal.Gen Cert.Kernel3Ideal.Host Cert.Kernel3Ideal.Reads
  Cert.Kernel3Ideal.Pieces Idealize.ShloMosaic Idealize.ShloMosaic.TcCoe Cert.Rows

variable (m : (ℓ : Loc nD τ sig) → Buf (Elt Ideal) ℓ) (c : Dev nD)

/-- The batch row of a row. -/
def batch (r : Fin 32768) : Fin 8 := ⟨r.val / 4096, by omega⟩

/-- The sequence row of a row. -/
def place (r : Fin 32768) : Fin 4096 := ⟨r.val % 4096, by omega⟩

/-- The first gate's weight at an index. -/
theorem first_weight_apply (x4 : Vec Ideal S1024x2048 .bf16) (k l : Fin 1024) :
    firstWeight x4 (ix2 k l) = x4 (ix2 k ⟨l.val, by omega⟩) := by
  unfold firstWeight
  refine congrArg x4 (funext fun a => Fin.ext ?_)
  fin_cases a
  · show 0 + 1 * k.val = k.val; omega
  · show 0 + 1 * l.val = l.val; omega

/-- The second gate's weight at an index. -/
theorem second_weight_apply (x4 : Vec Ideal S1024x2048 .bf16) (k l : Fin 1024) :
    secondWeight x4 (ix2 k l) = x4 (ix2 k ⟨1024 + l.val, by omega⟩) := by
  unfold secondWeight
  refine congrArg x4 (funext fun a => Fin.ext ?_)
  fin_cases a
  · show 0 + 1 * k.val = k.val; omega
  · show 1024 + 1 * l.val = 1024 + l.val; omega

/-- The first gate's bias at an index. -/
theorem first_bias_apply (x5 : Vec Ideal S1x2048 .f32) (l : Fin 1024) : firstBias x5 (ix2 0 l) = x5 (ix2 0 ⟨l.val, by omega⟩) := by
  unfold firstBias
  refine congrArg x5 (funext fun a => Fin.ext ?_)
  fin_cases a
  · rfl
  · show 0 + 1 * l.val = l.val; omega

/-- The second gate's bias at an index. -/
theorem second_bias_apply (x5 : Vec Ideal S1x2048 .f32) (l : Fin 1024) :
    secondBias x5 (ix2 0 l) = x5 (ix2 0 ⟨1024 + l.val, by omega⟩) := by
  unfold secondBias
  refine congrArg x5 (funext fun a => Fin.ext ?_)
  fin_cases a
  · rfl
  · show 1024 + 1 * l.val = 1024 + l.val; omega

/-- The product of a row of a block and a column of a weight. -/
def product (y : Vec Ideal S1024x512 .bf16) (v : Vec Ideal S512x1024 .bf16) (r l : Fin 1024) : EReal :=
  ∑ k : Fin 512, y (ix2 r k) * v (ix2 k l)

/-- The attention's gate, from the blocks a point reads. -/
def firstGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * firstWeight x4 (ix2 k l)) + firstBias x5 (ix2 0 l))

/-- The convolution's gate, from the blocks a point reads. -/
def secondGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * secondWeight x4 (ix2 k l)) + secondBias x5 (ix2 0 l))

/-- The residual stream of a block, from the blocks a point reads. -/
theorem hidden_apply (x0 : Vec Ideal S1024x1024 .f32) (x1 x2 : Vec Ideal S1024x512 .bf16) (x3 : Vec Ideal S1x1024 .f32)
    (x4 : Vec Ideal S1024x2048 .bf16) (x5 : Vec Ideal S1x2048 .f32) (x6 x7 : Vec Ideal S512x1024 .bf16)
    (x8 : Vec Ideal S1024x1024 .bf16) (r l : Fin 1024) :
    Pieces.hidden x0 x1 x2 x3 x4 x5 x6 x7 x8 (ix2 r l)
      = (x0 (ix2 r l) + ∑ j : Fin 1024, (firstGate x0 x3 x4 x5 r j * product x1 x6 r j + secondGate x0 x3 x4 x5 r j * product x2 x7 r j)
          * x8 (ix2 j l) : EReal) := by
  unfold Pieces.hidden
  refine (Block.stream_apply _ _ _ _ _ _ r l).trans ?_
  refine congrArg (x0 (ix2 r l) + ·) (Finset.sum_congr rfl fun j _ => congrArg (· * x8 (ix2 j l)) ?_)
  exact congrArg₂ (fun a b => a + b * product x2 x7 r j) (Block.attention_apply x0 x3 _ _ x1 x6 r j) (Block.gate_apply x0 x3 _ _ r j)

/-- A normalised row of a block. -/
theorem normed_eq (t : Fin cfg0.N) (r k : Fin 1024) :
    Block.rows (iblk m c 0 t) (iblk m c 3 t) (ix2 r k)
      = normed ((1024 : ℝ) : EReal) (fun j => (inX m c (ix3 (batch (row t r)) (place (row t r)) j) : EReal)) (inG m c (ix1 k)) k := by
  have e1 : (fun j => (iblk m c 0 t (ix2 r j) : EReal))
      = fun j => (inX m c (ix3 (batch (row t r)) (place (row t r)) j) : EReal) :=
    funext fun j => (read0 m c t r j).trans (Host.rows m c _ _)
  have e2 : (iblk m c 3 t (ix2 0 k) : EReal) = inG m c (ix1 k) := (read3 m c t k).trans (gain m c k)
  exact (Block.normed_apply _ _ r k).trans (congrArg₂ (fun f a => normed ((1024 : ℝ) : EReal) f a k) e1 e2)

/-- The first gate of a block. -/
theorem first_gate (t : Fin cfg0.N) (r l : Fin 1024) :
    firstGate (iblk m c 0 t) (iblk m c 3 t) (iblk m c 4 t) (iblk m c 5 t) r l
      = gate (inX m c) (inG m c) (inW m c) (inB m c) 3072 (by omega) (batch (row t r)) (place (row t r)) l := by
  refine congrArg sigmoid (congrArg₂ (· + ·) (Finset.sum_congr rfl fun k _ => congrArg₂ (· * ·) (normed_eq m c t r k) ?_) ?_)
  · exact (first_weight_apply _ _ _).trans ((read4 m c t k _).trans (gate_weight m c k _))
  · exact (first_bias_apply _ _).trans ((read5 m c t _).trans (gate_bias m c _))

/-- The second gate of a block. -/
theorem second_gate (t : Fin cfg0.N) (r l : Fin 1024) :
    secondGate (iblk m c 0 t) (iblk m c 3 t) (iblk m c 4 t) (iblk m c 5 t) r l
      = gate (inX m c) (inG m c) (inW m c) (inB m c) 4096 (by omega) (batch (row t r)) (place (row t r)) l := by
  have e : (⟨3072 + (1024 + l.val), by omega⟩ : Fin 5120) = ⟨4096 + l.val, by omega⟩ := Fin.ext (by dsimp only; omega)
  unfold gate
  rw [← e]
  refine congrArg sigmoid (congrArg₂ (· + ·) (Finset.sum_congr rfl fun k _ => congrArg₂ (· * ·) (normed_eq m c t r k) ?_) ?_)
  · exact (second_weight_apply _ _ _).trans ((read4 m c t k _).trans (gate_weight m c k _))
  · exact (second_bias_apply _ _).trans ((read5 m c t _).trans (gate_bias m c _))

/-- The attention of a block, brought to the width of the stream. -/
theorem attention_eq (t : Fin cfg0.N) (r l : Fin 1024) :
    product (iblk m c 1 t) (iblk m c 6 t) r l
      = widened (inA m c) (inWa m c) (batch (row t r)) (place (row t r)) l :=
  Finset.sum_congr rfl fun k _ => congrArg₂ (· * ·) ((read1 m c t r k).trans (attention m c _ _))
    ((read6 m c t k l).trans (attention_weight m c k l))

/-- The convolution of a block, brought to the width of the stream. -/
theorem convolution_eq (t : Fin cfg0.N) (r l : Fin 1024) :
    product (iblk m c 2 t) (iblk m c 7 t) r l
      = widened (inC m c) (inWc m c) (batch (row t r)) (place (row t r)) l :=
  Finset.sum_congr rfl fun k _ => congrArg₂ (· * ·) ((read2 m c t r k).trans (convolution m c _ _))
    ((read7 m c t k l).trans (convolution_weight m c k l))

/-- The residual stream of a block. -/
theorem stream_eq (t : Fin cfg0.N) (r l : Fin 1024) :
    Pieces.hidden (iblk m c 0 t) (iblk m c 1 t) (iblk m c 2 t) (iblk m c 3 t) (iblk m c 4 t) (iblk m c 5 t) (iblk m c 6 t) (iblk m c 7 t)
        (iblk m c 8 t) (ix2 r l)
      = stream (inX m c) (inA m c) (inC m c) (inG m c) (inW m c) (inB m c) (inWa m c) (inWc m c) (inWo m c) (batch (row t r))
          (place (row t r)) l := by
  refine (hidden_apply _ _ _ _ _ _ _ _ _ r l).trans ?_
  refine congrArg₂ (· + ·) ((read0 m c t r l).trans (Host.rows m c _ _)) (Finset.sum_congr rfl fun j _ => congrArg₂ (· * ·) ?_ ?_)
  · exact congrArg₂ (· + ·) (congrArg₂ (· * ·) (first_gate m c t r j) (attention_eq m c t r j))
      (congrArg₂ (· * ·) (second_gate m c t r j) (convolution_eq m c t r j))
  · exact (read8 m c t j l).trans (output_weight m c j l)

/-- The first result. -/
def result : Vec Ideal S32768x1024 .f32 := fun y =>
  stream (inX m c) (inA m c) (inC m c) (inG m c) (inW m c) (inB m c) (inWa m c) (inWc m c) (inWo m c) (batch (y 0)) (place (y 0)) (y 1)

/-- What a point writes back. -/
theorem written12 (t : Fin cfg0.N) (r l : Fin 1024) :
    (dats m 0 c).flushed 12 t (ix2 r l) = (result m c (ix2 (row t r) l) : EReal) := by
  by_cases h : t.val % 33 = 0
  · rw [Value.flushed12_A m c t h]
    exact (congrFun (outA_12 ..) (ix2 r l)).trans (stream_eq m c t r l)
  · rw [Value.flushed12_B m c t h]
    exact (congrFun (outB_12 ..) (ix2 r l)).trans (stream_eq m c t r l)

/-- An index of a block. -/
theorem block_index (y : S1024x1024.Idx) : y = ix2 (y 0) (y 1) := funext fun a => by fin_cases a <;> rfl

/-- THE RESULT of the call. -/
theorem result_eq : (dats m 0 c).arrAt 12 cfg0.N = result m c := by
  refine (dats m 0 c).arrAt_eq_of_covers 12 (result m c) (by decide +kernel) ?_
  intro t hf y
  rw [block_index y]
  exact (written12 m c t _ _).trans (congrArg (result m c) (place12 t _ _).symm)

end Cert.Kernel3Ideal.Merge

end
-- ==== Proof.MergeReference.lean ====
/-
  The merge's reference, read at an index.
-/
module

public import proofs.«01_k».proof.Proof.Gen.Reference3Ideal.Read
public import proofs.«01_k».proof.Proof.MergeSpec
public import Idealize.ShloMosaic.Lib.Pointwise

@[expose] public section

noncomputable section

namespace Cert.Reference3Ideal.Rows

open Cert.Reference3Ideal Cert.Reference3Ideal.Gen Cert.Reference3Ideal.Read Idealize.ShloMosaic Idealize.ShloMosaic.TcCoe Cert.Rows

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

/-- 1024, as a float's value. -/
theorem width1024 : Ideal.ofBits .f32 0x44800000#32 = ((1024 : ℝ) : EReal) := by
  simp [Ideal.ofBits, Ideal.ieee, -EReal.coe_mul]; norm_num

/-- A normalised row. -/
theorem normed_apply (b : Fin 8) (s : Fin 4096) (k : Fin 1024) :
    val_main_v12 (F := Ideal) x g (ix3 b s k) = normed ((1024 : ℝ) : EReal) (fun j => (x (ix3 b s j) : EReal)) (g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [width1024]
  rfl

/-- A projected row. -/
theorem projected_apply (b : Fin 8) (s : Fin 4096) (j : Fin 5120) :
    val_main_v16 (F := Ideal) x g w bias (ix3 b s j) = projected x g w bias b s j := by
  pointwise [val_main_v16, val_main_v15, val_main_v14, val_main_v13]
  refine congrArg (· + _) (Finset.sum_congr rfl fun k _ => ?_)
  rw [normed_apply]

/-- The gate of the attention. -/
theorem gate_attention (b : Fin 8) (s : Fin 4096) (l : Fin 1024) :
    val_main_v24 (F := Ideal) x g w bias (ix3 b s l) = gate x g w bias 3072 (by omega) b s l := by
  unfold gate sigmoid
  rw [← projected_apply]
  pointwise [val_main_v24, val_main_v23, val_main_v22, val_main_v21, val_main_v20, val_main_v19, val_main_v17, val_main_cst_2, val_main_cst_3]

/-- The gate of the convolution. -/
theorem gate_convolution (b : Fin 8) (s : Fin 4096) (l : Fin 1024) :
    val_main_v32 (F := Ideal) x g w bias (ix3 b s l) = gate x g w bias 4096 (by omega) b s l := by
  unfold gate sigmoid
  rw [← projected_apply]
  pointwise [val_main_v32, val_main_v31, val_main_v30, val_main_v29, val_main_v28, val_main_v27, val_main_v18, val_main_cst_4, val_main_cst_5]

/-- The two mixers under their gates. -/
theorem merged_apply (b : Fin 8) (s : Fin 4096) (l : Fin 1024) :
    val_main_v35 (F := Ideal) x ya yc g w bias wa wc (ix3 b s l) = merged x ya yc g w bias wa wc b s l := by
  unfold merged
  rw [← gate_attention, ← gate_convolution]
  pointwise [val_main_v35, val_main_v34, val_main_v33, val_main_v26, val_main_v25]
  rfl

/-- The residual stream after the merge. -/
theorem stream_apply (r : Fin 32768) (l : Fin 1024) :
    val_main_v38 (F := Ideal) x ya yc g w bias wa wc wo (ix2 r l)
      = stream x ya yc g w bias wa wc wo ⟨r.val / 4096, by omega⟩ ⟨r.val % 4096, by omega⟩ l := by
  pointwise [val_main_v38, val_main_v37, val_main_v36]
  refine congrArg (_ + ·) (Finset.sum_congr rfl fun k _ => ?_)
  rw [merged_apply]

end Cert.Reference3Ideal.Rows

end
-- ==== Proof.Merge.lean ====
/-
  The merge: from the same arrays the kernel's residual stream is the reference's.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MergeValue
public import proofs.«01_k».proof.Proof.MergeReference
public import Idealize.ShloMosaic.Adequacy
public import Idealize.ShloMosaic.Init
public import Idealize.ShloMosaic.Lib.Bf16Pair
public import Idealize.ShloMosaic.Lib.Bf16PairInverse

@[expose] public section

noncomputable section

namespace Cert.Merge

open Idealize.ShloMosaic Idealize.SL.Sem Kernel3Ideal.Host Kernel3Ideal.Merge

variable (m : (ℓ : Loc Kernel3Ideal.nD Kernel3Ideal.τ Kernel3Ideal.sig) → Buf (Elt Ideal) ℓ) (c : Dev Kernel3Ideal.nD)

/-- An index of the result. -/
theorem result_index (y : Kernel3Ideal.S32768x1024.Idx) : y = ix2 (y 0) (y 1) := funext fun a => by fin_cases a <;> rfl

/-- The streams agree. -/
theorem streams_agree : Reference3Ideal.Read.val_main_v38 (F := Ideal) (inX m c) (inA m c) (inC m c) (inG m c) (inW m c) (inB m c)
    (inWa m c) (inWc m c) (inWo m c) = result m c := by
  funext y
  rw [result_index y]
  exact Reference3Ideal.Rows.stream_apply _ _ _ _ _ _ _ _ _ _ _

/-- The value claim. -/
theorem algebraic : algebraic_Kernel3Ideal_Reference3Ideal := by
  intro m g m' g' _ hm
  refine ⟨fun c => result m c, ?_, ?_⟩
  · refine (θ_run Kernel3Ideal.defs _ _).mono (fun r h c => ?_) (Kernel3Ideal.Value.run_blocks (F := Ideal) m g)
    obtain ⟨h0, _, _, _, h⟩ := h c
    exact ⟨h0.trans (result_eq m c), h⟩
  · refine (θ_run Reference3Ideal.defs _ _).mono (fun r h c => ?_) (Reference3Ideal.Value.run (F := Ideal) m' g')
    obtain ⟨e0, e1, e2, e3, e4, e5, e6, e7, e8, _⟩ := hm c
    obtain ⟨h0, h⟩ := h c
    refine ⟨h0.trans ((Reference3Ideal.Read.val_main_v38_eq _ _ _ _ _ _ _ _ _).trans ?_), h⟩
    rw [e0, e1, e2, e3, e4, e5, e6, e7, e8]
    exact streams_agree m c

/-- The reference's frame. -/
theorem reference_frame : quiescent_Reference3Ideal := fun m ρ _ =>
  (θ_run Reference3Ideal.defs _ _).mono (fun r h => ⟨fun c => (h c).2, funext fun s => nomatch s⟩)
    (Reference3Ideal.Value.run (F := Ideal) m ρ)

/-- The packed rows are read as pairs of halves: each such reading keeps what the words hold. -/
theorem preserves : preserves_Kernel3_Kernel3Ideal :=
  ⟨IdealRules.bf16_pair.bufferStatement _ _, IdealRules.bf16_pair.bufferStatement _ _,
    IdealRules.bf16_pair.statement _ _, IdealRules.bf16_pack.statement _⟩

end Cert.Merge

end
-- ==== Proof.CountBlock.lean ====
/-
  What the merge computes for one block of rows, read at an index.
-/
module

public import proofs.«01_k».proof.Proof.Gen.Kernel4Ideal.Skeleton
public import proofs.«01_k».proof.Proof.MergeSpec
public import Idealize.ShloMosaic.Lib.Pointwise

@[expose] public section

noncomputable section

namespace Cert.Kernel4Ideal.Block

open Cert.Kernel4Ideal Cert.Kernel4Ideal.Gen Idealize.ShloMosaic Idealize.ShloMosaic.TcCoe Cert.Rows

/-- 1024, as a float's value. -/
theorem width1024 : Ideal.ofBits .f32 0x44800000#32 = ((1024 : ℝ) : EReal) := by
  simp [Ideal.ofBits, Ideal.ieee, -EReal.coe_mul]; norm_num

/-- The quotient, in the kernel's spelling. -/
theorem sigmoid_eq (e : EReal) : Ideal.div 1 (1 + Ideal.exp (0 - e)) = sigmoid e := by
  unfold sigmoid
  rw [sub_eq_add_neg, zero_add]

/-- A block's rows, normalised. -/
def rows (v625 : Vec Ideal S1024x1024 .f32) (v627 : Vec Ideal S1x1024 .f32) : FVec Ideal S1024x1024 .bf16 :=
  k0_pay122 (F := Ideal) (k0_pay119 v625) (k0_pay120 v627) (k0_pay121 v625)

@[inherit_doc rows]
theorem normed_apply (v625 : Vec Ideal S1024x1024 .f32) (v627 : Vec Ideal S1x1024 .f32) (r k : Fin 1024) :
    rows v625 v627 (ix2 r k)
      = normed ((1024 : ℝ) : EReal) (fun j => (v625 (ix2 r j) : EReal)) (v627 (ix2 0 k)) k := by
  unfold rows
  pointwise [k0_pay122, k0_pay121, k0_pay120, k0_pay119]
  rw [width1024]
  rfl

/-- The second gate. -/
theorem gate_apply (v625 : Vec Ideal S1024x1024 .f32) (v627 : Vec Ideal S1x1024 .f32) (v662 : Vec Ideal S1024x1024 .bf16)
    (v665 : Vec Ideal S1x1024 .f32) (r l : Fin 1024) :
    k0_pay124 (F := Ideal) (k0_pay119 v625) (k0_pay120 v627) (k0_pay121 v625) v662 v665 (ix2 r l)
      = sigmoid ((∑ k, rows v625 v627 (ix2 r k) * v662 (ix2 k l)) + v665 (ix2 0 l)) := by
  rw [← sigmoid_eq]
  pointwise [k0_pay124]
  rfl

/-- The first mixer under its gate. -/
theorem attention_apply (v625 : Vec Ideal S1024x1024 .f32) (v627 : Vec Ideal S1x1024 .f32) (v642 : Vec Ideal S1024x1024 .bf16)
    (v645 : Vec Ideal S1x1024 .f32) (v656 : Vec Ideal S1024x512 .bf16) (v658 : Vec Ideal S512x1024 .bf16) (r l : Fin 1024) :
    k0_pay123 (F := Ideal) (k0_pay119 v625) (k0_pay120 v627) (k0_pay121 v625) v642 v645 v656 v658 (ix2 r l)
      = sigmoid ((∑ k, rows v625 v627 (ix2 r k) * v642 (ix2 k l)) + v645 (ix2 0 l)) * ∑ k : Fin 512, v656 (ix2 r k) * v658 (ix2 k l) := by
  rw [← sigmoid_eq]
  pointwise [k0_pay123]
  rfl

/-- The residual stream. -/
theorem stream_apply (v625 : Vec Ideal S1024x1024 .f32) (v661 v675 : FVec Ideal S1024x1024 .f32) (v676 : Vec Ideal S1024x512 .bf16)
    (v678 : Vec Ideal S512x1024 .bf16) (v684 : Vec Ideal S1024x1024 .bf16) (r l : Fin 1024) :
    k0_pay125 (F := Ideal) (k0_pay119 v625) v661 v675 v676 v678 v684 (ix2 r l)
      = v625 (ix2 r l) + ∑ j : Fin 1024, (v661 (ix2 r j) + v675 (ix2 r j) * ∑ k : Fin 512, v676 (ix2 r k) * v678 (ix2 k j)) * v684 (ix2 j l) := by
  pointwise [k0_pay125, k0_pay119]

/-- The scores. -/
theorem scores_apply (v626 v661 v675 : FVec Ideal S1024x1024 .f32) (v676 : Vec Ideal S1024x512 .bf16) (v678 : Vec Ideal S512x1024 .bf16)
    (v684 : Vec Ideal S1024x1024 .bf16) (v689 : Vec Ideal S1x1024 .f32) (v707 : Vec Ideal S1024x128 .bf16) (v710 : Vec Ideal S1x128 .f32)
    (r : Fin 1024) (l : Fin 128) :
    k0_pay130 (F := Ideal) (k0_pay128 v626 v661 v675 v676 v678 v684 v689 v707) (k0_pay129 v710) (ix2 r l)
      = (∑ k : Fin 1024, normed ((1024 : ℝ) : EReal) (fun j => (k0_pay125 v626 v661 v675 v676 v678 v684 (ix2 r j) : EReal)) (v689 (ix2 0 k)) k
          * v707 (ix2 k l)) + v710 (ix2 0 l) := by
  pointwise [k0_pay130, k0_pay129, k0_pay128, k0_pay126]
  rw [width1024]
  rfl

end Cert.Kernel4Ideal.Block

end
-- ==== Proof.CountHost.lean ====
/-
  The merge's operands as its host code prepares them, read at an index: tokens and mixers as rows, the gates' columns of
  the projection, and the router's weights side by side.
-/
module

public import proofs.«01_k».proof.Proof.Gen.Kernel4Ideal.Value
public import Idealize.ShloMosaic.Lib.Pointwise
public import Idealize.ShloMosaic.Lib.StableHlo.ReadAt

@[expose] public section

noncomputable section

namespace Cert.Kernel4Ideal.Host

open Cert.Kernel4Ideal Cert.Kernel4Ideal.Gen Idealize.ShloMosaic Idealize.ShloMosaic.TcCoe

variable (m : (ℓ : Loc nD τ sig) → Buf (Elt Ideal) ℓ)

/-- The tokens as launched. -/
abbrev inX (c : Dev nD) : FVec Ideal S8x4096x1024 .f32 := m (c, Proc.tc.devRef main_arg0)
/-- The attention as launched. -/
abbrev inA (c : Dev nD) : FVec Ideal S8x4096x512 .f32 := m (c, Proc.tc.devRef main_arg1)
/-- The gated convolution as launched. -/
abbrev inC (c : Dev nD) : FVec Ideal S8x4096x512 .f32 := m (c, Proc.tc.devRef main_arg2)
/-- The mixer's gain as launched. -/
abbrev inG (c : Dev nD) : FVec Ideal S1024 .f32 := m (c, Proc.tc.devRef main_arg3)
/-- The projection's weight as launched. -/
abbrev inW (c : Dev nD) : FVec Ideal S1024x5120 .f32 := m (c, Proc.tc.devRef main_arg4)
/-- The projection's bias as launched. -/
abbrev inB (c : Dev nD) : FVec Ideal S5120 .f32 := m (c, Proc.tc.devRef main_arg5)
/-- The attention's widening as launched. -/
abbrev inWa (c : Dev nD) : FVec Ideal S512x1024 .f32 := m (c, Proc.tc.devRef main_arg6)
/-- The convolution's widening as launched. -/
abbrev inWc (c : Dev nD) : FVec Ideal S512x1024 .f32 := m (c, Proc.tc.devRef main_arg7)
/-- The output projection as launched. -/
abbrev inWo (c : Dev nD) : FVec Ideal S1024x1024 .f32 := m (c, Proc.tc.devRef main_arg8)
/-- The second gain as launched. -/
abbrev inGf (c : Dev nD) : FVec Ideal S1024 .f32 := m (c, Proc.tc.devRef main_arg9)
/-- The groups' weight as launched. -/
abbrev inWg (c : Dev nD) : FVec Ideal S1024x4 .f32 := m (c, Proc.tc.devRef main_arg10)
/-- The groups' bias as launched. -/
abbrev inBg (c : Dev nD) : FVec Ideal S4 .f32 := m (c, Proc.tc.devRef main_arg11)
/-- The experts' weight as launched. -/
abbrev inWr (c : Dev nD) : FVec Ideal S1024x32 .f32 := m (c, Proc.tc.devRef main_arg12)
/-- The experts' bias as launched. -/
abbrev inBr (c : Dev nD) : FVec Ideal S32 .f32 := m (c, Proc.tc.devRef main_arg13)

/-- The tokens as rows. -/
theorem rows (c : Dev nD) (r : Fin 32768) (k : Fin 1024) :
    V m c main_v7 (ix2 r k) = (inX m c (ix3 ⟨r.val / 4096, by omega⟩ ⟨r.val % 4096, by omega⟩ k) : EReal) := by
  unfold V
  after_reads_at

/-- The attention as rows. -/
theorem attention (c : Dev nD) (r : Fin 32768) (k : Fin 512) :
    V m c main_v9 (ix2 r k) = (inA m c (ix3 ⟨r.val / 4096, by omega⟩ ⟨r.val % 4096, by omega⟩ k) : EReal) := by
  unfold V
  after_reads_at

/-- The gated convolution as rows. -/
theorem convolution (c : Dev nD) (r : Fin 32768) (k : Fin 512) :
    V m c main_v11 (ix2 r k) = (inC m c (ix3 ⟨r.val / 4096, by omega⟩ ⟨r.val % 4096, by omega⟩ k) : EReal) := by
  unfold V
  after_reads_at

/-- The mixer's gain. -/
theorem gain (c : Dev nD) (k : Fin 1024) : V m c main_v12 (ix2 0 k) = (inG m c (ix1 k) : EReal) := by
  unfold V
  after_reads_at

/-- The gates' weight. -/
theorem gate_weight (c : Dev nD) (k : Fin 1024) (j : Fin 2048) :
    V m c main_v13 (ix2 k j) = (inW m c (ix2 k ⟨3072 + j.val, by omega⟩) : EReal) := by
  unfold V
  after_reads_at

/-- The gates' bias. -/
theorem gate_bias (c : Dev nD) (j : Fin 2048) : V m c main_v15 (ix2 0 j) = (inB m c (ix1 ⟨3072 + j.val, by omega⟩) : EReal) := by
  unfold V
  after_reads_at

/-- The attention's widening. -/
theorem attention_weight (c : Dev nD) (k : Fin 512) (l : Fin 1024) : V m c main_v16 (ix2 k l) = (inWa m c (ix2 k l) : EReal) := by
  unfold V
  after_reads_at

/-- The convolution's widening. -/
theorem convolution_weight (c : Dev nD) (k : Fin 512) (l : Fin 1024) : V m c main_v17 (ix2 k l) = (inWc m c (ix2 k l) : EReal) := by
  unfold V
  after_reads_at

/-- The output projection. -/
theorem output_weight (c : Dev nD) (k l : Fin 1024) : V m c main_v18 (ix2 k l) = (inWo m c (ix2 k l) : EReal) := by
  unfold V
  after_reads_at

/-- The second gain. -/
theorem second_gain (c : Dev nD) (k : Fin 1024) : V m c main_v19 (ix2 0 k) = (inGf m c (ix1 k) : EReal) := by
  unfold V
  after_reads_at

/-- The experts' weight lies in the first lanes. -/
theorem expert_weight (c : Dev nD) (k : Fin 1024) (e : Fin 32) :
    V m c main_v3 (ix2 k ⟨e.val, by omega⟩) = (inWr m c (ix2 k e) : EReal) := by
  unfold V
  after_reads_at
  exact congrFun (StableHlo.upto_unwritten [main_v0, main_cst, main_v1] rfl (by decide) _) _

/-- The groups' weight lies after it. -/
theorem group_weight (c : Dev nD) (k : Fin 1024) (g : Fin 4) :
    V m c main_v3 (ix2 k ⟨32 + g.val, by omega⟩) = (inWg m c (ix2 k g) : EReal) := by
  unfold V
  after_reads_at
  exact congrFun (StableHlo.upto_unwritten [main_v0, main_cst, main_v1] rfl (by decide) _) _

/-- The experts' bias lies in the first lanes. -/
theorem expert_bias (c : Dev nD) (e : Fin 32) : V m c main_v6 (ix2 0 ⟨e.val, by omega⟩) = (inBr m c (ix1 e) : EReal) := by
  unfold V
  after_reads_at
  exact congrFun (StableHlo.upto_unwritten [main_v0, main_cst, main_v1, main_v2, main_v3, main_cst_0, main_v4] rfl (by decide) _) _

/-- The groups' bias lies after it. -/
theorem group_bias (c : Dev nD) (g : Fin 4) : V m c main_v6 (ix2 0 ⟨32 + g.val, by omega⟩) = (inBg m c (ix1 g) : EReal) := by
  unfold V
  after_reads_at
  exact congrFun (StableHlo.upto_unwritten [main_v0, main_cst, main_v1, main_v2, main_v3, main_cst_0, main_v4] rfl (by decide) _) _

end Cert.Kernel4Ideal.Host

end
-- ==== Proof.CountReads.lean ====
/-
  Where the merge's blocks lie: the blocks each grid point reads, by rows of the whole arrays, and the block of counts it
  writes, by tiles.
-/
module

public import proofs.«01_k».proof.Proof.Gen.Kernel4Ideal.Value
public import Idealize.ShloMosaic.Lib.Pointwise
public import Idealize.ShloMosaic.Lib.Pipeline.ValueKit

@[expose] public section

noncomputable section

namespace Cert.Kernel4Ideal.Reads

open Cert.Kernel4Ideal Cert.Kernel4Ideal.Gen Idealize.ShloMosaic Idealize.ShloMosaic.TcCoe

variable (m : (ℓ : Loc nD τ sig) → Buf (Elt Ideal) ℓ)

theorem index0 : ∀ t, win0_0.index t = ![min t.val 31, 0] := by decide +kernel
theorem index1 : ∀ t, win0_1.index t = ![min t.val 31, 0] := by decide +kernel
theorem index2 : ∀ t, win0_2.index t = ![min t.val 31, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index9 : ∀ t, win0_9.index t = ![0, 0] := by decide +kernel
theorem index10 : ∀ t, win0_10.index t = ![0, 0] := by decide +kernel
theorem index11 : ∀ t, win0_11.index t = ![0, 0] := by decide +kernel
theorem index15 : ∀ t, win0_15.index t = ![t.val - 1, 0, 0] := by decide +kernel

/-- A block's row among all rows. -/
def row (t : Fin cfg0.N) (r : Fin 1024) : Fin 32768 := ⟨1024 * min t.val 31 + r.val, by omega⟩

theorem read0 (c : Dev nD) (t : Fin cfg0.N) (r k : Fin 1024) :
    iblk m c 0 t (ix2 r k) = (V m c main_v7 (ix2 (row t r) k) : EReal) := by
  blk_ext [iblk, index0 t, row]

theorem read1 (c : Dev nD) (t : Fin cfg0.N) (r : Fin 1024) (k : Fin 512) :
    iblk m c 1 t (ix2 r k) = (V m c main_v9 (ix2 (row t r) k) : EReal) := by
  blk_ext [iblk, index1 t, row]

theorem read2 (c : Dev nD) (t : Fin cfg0.N) (r : Fin 1024) (k : Fin 512) :
    iblk m c 2 t (ix2 r k) = (V m c main_v11 (ix2 (row t r) k) : EReal) := by
  blk_ext [iblk, index2 t, row]

theorem read3 (c : Dev nD) (t : Fin cfg0.N) (k : Fin 1024) :
    iblk m c 3 t (ix2 0 k) = (V m c main_v12 (ix2 0 k) : EReal) := by
  blk_ext [iblk, index3 t]

theorem read4 (c : Dev nD) (t : Fin cfg0.N) (k : Fin 1024) (j : Fin 2048) :
    iblk m c 4 t (ix2 k j) = (V m c main_v13 (ix2 k j) : EReal) := by
  blk_ext [iblk, index4 t]

theorem read5 (c : Dev nD) (t : Fin cfg0.N) (j : Fin 2048) :
    iblk m c 5 t (ix2 0 j) = (V m c main_v15 (ix2 0 j) : EReal) := by
  blk_ext [iblk, index5 t]

theorem read6 (c : Dev nD) (t : Fin cfg0.N) (k : Fin 512) (l : Fin 1024) :
    iblk m c 6 t (ix2 k l) = (V m c main_v16 (ix2 k l) : EReal) := by
  blk_ext [iblk, index6 t]

theorem read7 (c : Dev nD) (t : Fin cfg0.N) (k : Fin 512) (l : Fin 1024) :
    iblk m c 7 t (ix2 k l) = (V m c main_v17 (ix2 k l) : EReal) := by
  blk_ext [iblk, index7 t]

theorem read8 (c : Dev nD) (t : Fin cfg0.N) (k l : Fin 1024) :
    iblk m c 8 t (ix2 k l) = (V m c main_v18 (ix2 k l) : EReal) := by
  blk_ext [iblk, index8 t]

theorem read9 (c : Dev nD) (t : Fin cfg0.N) (k : Fin 1024) :
    iblk m c 9 t (ix2 0 k) = (V m c main_v19 (ix2 0 k) : EReal) := by
  blk_ext [iblk, index9 t]

theorem read10 (c : Dev nD) (t : Fin cfg0.N) (k : Fin 1024) (l : Fin 128) :
    iblk m c 10 t (ix2 k l) = (V m c main_v3 (ix2 k l) : EReal) := by
  blk_ext [iblk, index10 t]

theorem read11 (c : Dev nD) (t : Fin cfg0.N) (l : Fin 128) :
    iblk m c 11 t (ix2 0 l) = (V m c main_v6 (ix2 0 l) : EReal) := by
  blk_ext [iblk, index11 t]

/-- A point's number. -/
theorem point_lt (t : Fin cfg0.N) : t.val < 33 := t.isLt

/-- A tile of a block of the counts among all tiles: a point writes those of the point before. -/
def tileAt (t : Fin cfg0.N) (q : Fin 4) : Fin 128 := ⟨4 * (t.val - 1) + q.val, by have := point_lt t; omega⟩

/-- Where a block of the counts lies. -/
theorem place15 (t : Fin cfg0.N) (q : Fin 4) (s : Fin 8) (l : Fin 128) :
    ((cfg0.win 15).blk t).view.emb (ix3 q s l) = ix3 (tileAt t q) s l := by
  blk_ext [index15 t, tileAt]

end Cert.Kernel4Ideal.Reads

end
-- ==== Proof.CountPieces.lean ====
/-
  What a grid point of the merge leaves in the block of its counts, from the scores that it kept from the point before, and
  the scores that it keeps itself: case A at the first point and B elsewhere.
-/
module

public import proofs.«01_k».proof.Proof.Gen.Kernel4Ideal.Value
public import Idealize.ShloMosaic.Lib.Pipeline.ValueKit
public import Idealize.ShloMosaic.Lib.VecWindow
public import Idealize.ShloMosaic.Lib.Pointwise

@[expose] public section

noncomputable section

namespace Cert.Kernel4Ideal.Pieces

open Cert.Kernel4Ideal Cert.Kernel4Ideal.Gen Idealize.ShloMosaic Idealize.ShloMosaic.TcCoe

variable {F : FTy → Type} [FloatOps F]

/-- The weight of the attention's gate. -/
def firstWeight (x4 : Vec F S1024x2048 .bf16) : Vec F S1024x1024 .bf16 :=
  View.ld x4 (Rect.unit ![0, 0] S1024x1024.size inb_S1024x2048_S1024x1024_0_0)

/-- The weight of the convolution's gate. -/
def secondWeight (x4 : Vec F S1024x2048 .bf16) : Vec F S1024x1024 .bf16 :=
  View.ld x4 (Rect.unit ![0, 1024] S1024x1024.size inb_S1024x2048_S1024x1024_0_1024)

/-- The bias of the attention's gate. -/
def firstBias (x5 : Vec F S1x2048 .f32) : Vec F S1x1024 .f32 :=
  View.ld x5 (Rect.unit ![0, 0] S1x1024.size inb_S1x2048_S1x1024_0_0)

/-- The bias of the convolution's gate. -/
def secondBias (x5 : Vec F S1x2048 .f32) : Vec F S1x1024 .f32 :=
  View.ld x5 (Rect.unit ![0, 1024] S1x1024.size inb_S1x2048_S1x1024_0_1024)

/-- The residual stream of a block, from the blocks the point reads. -/
def hidden (x0 : Vec F S1024x1024 .f32) (x1 x2 : Vec F S1024x512 .bf16) (x3 : Vec F S1x1024 .f32) (x4 : Vec F S1024x2048 .bf16)
    (x5 : Vec F S1x2048 .f32) (x6 x7 : Vec F S512x1024 .bf16) (x8 : Vec F S1024x1024 .bf16) : Vec F S1024x1024 .f32 :=
  k0_pay125 (k0_pay119 x0)
    (k0_pay123 (k0_pay119 x0) (k0_pay120 x3) (k0_pay121 x0) (firstWeight x4) (firstBias x5) x1 x6)
    (k0_pay124 (k0_pay119 x0) (k0_pay120 x3) (k0_pay121 x0) (secondWeight x4) (secondBias x5)) x2 x7 x8

/-- Both offsets of a whole block are zero. -/
theorem zeros : ∀ a : Fin 2, (![0, 0] : Fin 2 → ℕ) a = 0 := by decide

/-- A load of the whole block. -/
theorem ld_self {a b : ℕ} {e : EltTy} (inb : ∀ k, (![0, 0] : Fin 2 → ℕ) k + (![a, b] : Fin 2 → ℕ) k ≤ (⟨2, ![a, b]⟩ : Shape).size k)
    (X : Vec F ⟨2, ![a, b]⟩ e) : View.ld X (Rect.unit ![0, 0] ![a, b] inb) = X :=
  View.ld_unit_lit inb X zeros

/-- The scores of a block's rows, from the blocks the point reads. -/
def scores (x0 : Vec F S1024x1024 .f32) (x1 x2 : Vec F S1024x512 .bf16) (x3 : Vec F S1x1024 .f32) (x4 : Vec F S1024x2048 .bf16)
    (x5 : Vec F S1x2048 .f32) (x6 x7 : Vec F S512x1024 .bf16) (x8 : Vec F S1024x1024 .bf16) (x9 : Vec F S1x1024 .f32)
    (x10 : Vec F S1024x128 .bf16) (x11 : Vec F S1x128 .f32) : Vec F S1024x128 .f32 :=
  k0_pay130 (k0_pay128 (k0_pay119 x0)
    (k0_pay123 (k0_pay119 x0) (k0_pay120 x3) (k0_pay121 x0) (firstWeight x4) (firstBias x5) x1 x6)
    (k0_pay124 (k0_pay119 x0) (k0_pay120 x3) (k0_pay121 x0) (secondWeight x4) (secondBias x5)) x2 x7 x8 x9 x10) (k0_pay129 x11)

/-- The counts of a tile of 256 rows, from its scores. -/
def tally (v : Vec F S256x128 .f32) : FVec F S1x8x128 .f32 :=
  k0_pay29 (k0_pay20 k0_pay4 (k0_pay5 v) (k0_pay8 v) (k0_pay10 v)) (k0_pay21 k0_pay4 (k0_pay5 v) (k0_pay8 v) (k0_pay10 v))

/-- The tiles of a block's scores. -/
def tile0 (v : Vec F S1024x128 .f32) : Vec F S256x128 .f32 :=
  View.ld v (Rect.unit ![0, 0] S256x128.size inb_S1024x128_S256x128_0_0)
@[inherit_doc tile0]
def tile1 (v : Vec F S1024x128 .f32) : Vec F S256x128 .f32 :=
  View.ld v (Rect.unit ![256, 0] S256x128.size inb_S1024x128_S256x128_256_0)
@[inherit_doc tile0]
def tile2 (v : Vec F S1024x128 .f32) : Vec F S256x128 .f32 :=
  View.ld v (Rect.unit ![512, 0] S256x128.size inb_S1024x128_S256x128_512_0)
@[inherit_doc tile0]
def tile3 (v : Vec F S1024x128 .f32) : Vec F S256x128 .f32 :=
  View.ld v (Rect.unit ![768, 0] S256x128.size inb_S1024x128_S256x128_768_0)

/-- The scores kept, in case A. -/
theorem keptA (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11
      = scores x0 x1 x2 x3 x4 x5 x6 x7 x8 x9 x10 x11 := by
  unfold sout0_A_1
  rw [View.read_writes_junk_eq_canon]
  unfold kernelRun0_A
  dsimp only
  refine (View.canon_cons_unit_lit _ _ _ zeros).trans ?_
  simp only [kernelRun0_A.sl.r_59, kernelRun0_A.sl.r_60, kernelRun0_A.sl.r_61, kernelRun0_A.sl.r_62, kernelRun0_A.sl.r_63, kernelRun0_A.sl.r_64, kernelRun0_A.sl.r_65, View.readAt_full, View.readCov_full, Memref.IsWhole.read_unread]
  simp only [scores, firstWeight, secondWeight, firstBias, secondBias, View.readAt_eq_ld, Memref.IsWhole.read_unread, ld_self]

/-- The scores kept, in case B. -/
theorem keptB (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : ¬cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) (xs0 : Vec F S1024x1024 .bf16) (xs1 : Vec F S1024x128 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1
      = scores x0 x1 x2 x3 x4 x5 x6 x7 x8 x9 x10 x11 := by
  unfold sout0_B_1
  rw [View.read_writes_junk_eq_canon]
  unfold kernelRun0_B
  dsimp only
  refine (View.canon_cons_unit_lit _ _ _ zeros).trans ?_
  simp only [kernelRun0_B.sl.r_63, kernelRun0_B.sl.r_64, kernelRun0_B.sl.r_65, kernelRun0_B.sl.r_66, kernelRun0_B.sl.r_67, kernelRun0_B.sl.r_68, kernelRun0_B.sl.r_69, View.readAt_full, View.readCov_full, Memref.IsWhole.read_unread]
  simp only [scores, firstWeight, secondWeight, firstBias, secondBias, View.readAt_eq_ld, Memref.IsWhole.read_unread, ld_self]

/-- The counts, in case B. -/
theorem outB_15 (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : ¬cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) (xs0 : Vec F S1024x1024 .bf16) (xs1 : Vec F S1024x128 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1
      = View.canon [⟨Rect.unit (s := S4x8x128) ![3, 0, 0] S1x8x128.size inb_S4x8x128_S1x8x128_3_0_0, tally (tile3 xs1)⟩,
          ⟨Rect.unit (s := S4x8x128) ![2, 0, 0] S1x8x128.size inb_S4x8x128_S1x8x128_2_0_0, tally (tile2 xs1)⟩,
          ⟨Rect.unit (s := S4x8x128) ![1, 0, 0] S1x8x128.size inb_S4x8x128_S1x8x128_1_0_0, tally (tile1 xs1)⟩,
          ⟨Rect.unit (s := S4x8x128) ![0, 0, 0] S1x8x128.size inb_S4x8x128_S1x8x128_0_0_0, tally (tile0 xs1)⟩] := by
  unfold out0_B_15
  rw [View.read_writes_junk_eq_canon]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59]
  simp only [View.readAt_full, View.readCov_full, View.readAt_eq_ld, Memref.IsWhole.read_unread]

  rfl

end Cert.Kernel4Ideal.Pieces

end
-- ==== Proof.CountColumn.lean ====
/-
  Choosing from a column of scores: the first of the greatest entries, the one after it, and how they are found by a greatest
  and a least value.
-/
module

public import Mathlib.Data.EReal.Operations
public import Mathlib.Algebra.BigOperators.Fin
public import Mathlib.Data.Finset.Max
public import Idealize.ShloMosaic.Lib.Pointwise

@[expose] public section

noncomputable section

open scoped Classical

namespace Cert.Column

/-- Entry `j` comes before entry `i` in decreasing order, of equal ones the first. -/
def Before {n : ℕ} (v : Fin n → EReal) (i j : Fin n) : Prop := v i < v j ∨ (v j = v i ∧ j < i)

/-- How many entries come before an entry. -/
def rank {n : ℕ} (v : Fin n → EReal) (i : Fin n) : EReal := ∑ j, if Before v i j then 1 else 0

/-- Nothing comes before the entry. -/
def IsFirst {n : ℕ} (v : Fin n → EReal) (i : Fin n) : Prop := ∀ j, ¬ Before v i j

/-- A row's number. -/
def num (r : ℕ) : EReal := ((r : ℝ) : EReal)

theorem num_inj {a b : ℕ} : num a = num b ↔ a = b := by simp [num]

theorem num_le {a b : ℕ} : num a ≤ num b ↔ a ≤ b := by simp [num]

theorem num_lt {a b : ℕ} : num a < num b ↔ a < b := by simp [num]

/-- The least row that holds the greatest entry. -/
def firstRow (v : Fin 8 → EReal) : EReal :=
  Finset.univ.inf fun r : Fin 8 => if v r = Finset.univ.sup v then num r.val else num 8

theorem rank_eq {n : ℕ} (v : Fin n → EReal) (i : Fin n) :
    rank v i = num (Finset.univ.filter fun j => Before v i j).card := by
  unfold rank num
  rw [Finset.sum_ite, Finset.sum_const_zero, add_zero, Finset.sum_const]
  simp

theorem rank_lt_one {n : ℕ} (v : Fin n → EReal) (i : Fin n) : rank v i < 1 ↔ IsFirst v i := by
  have h1 : (1 : EReal) = num 1 := by simp [num]
  rw [rank_eq, h1, num_lt, Nat.lt_one_iff, Finset.card_eq_zero, Finset.filter_eq_empty_iff]
  simp [IsFirst]

theorem rank_lt_two {n : ℕ} (v : Fin n → EReal) (i : Fin n) :
    rank v i < 2 ↔ (Finset.univ.filter fun j => Before v i j).card ≤ 1 := by
  have h1 : (2 : EReal) = num 2 := by
    simp only [num, Nat.cast_ofNat]
    rfl
  rw [rank_eq, h1, num_lt, Nat.lt_succ_iff]

theorem exists_first {n : ℕ} (v : Fin (n + 1) → EReal) : ∃ i, IsFirst v i := by
  obtain ⟨m, -, hm⟩ := Finset.exists_max_image Finset.univ v Finset.univ_nonempty
  obtain ⟨i, hi, hl⟩ := Finset.exists_min_image (Finset.univ.filter fun j => v j = v m) id ⟨m, by simp⟩
  have hv : v i = v m := (Finset.mem_filter.1 hi).2
  refine ⟨i, fun j hj => ?_⟩
  rcases hj with h | ⟨h, hlt⟩
  · exact absurd (hm j (Finset.mem_univ _)) (not_le.2 (hv ▸ h))
  · exact absurd (hl j (by simp [h, hv])) (not_le.2 hlt)

theorem first_ge {n : ℕ} {v : Fin n → EReal} {i : Fin n} (h : IsFirst v i) (j : Fin n) : v j ≤ v i :=
  not_lt.1 fun hl => h j (.inl hl)

theorem firstRow_eq {v : Fin 8 → EReal} {i : Fin 8} (h : IsFirst v i) : firstRow v = num i.val := by
  have hs : Finset.univ.sup v = v i :=
    le_antisymm (Finset.sup_le fun j _ => first_ge h j) (Finset.le_sup (Finset.mem_univ i))
  unfold firstRow
  rw [hs]
  apply le_antisymm
  · exact (Finset.inf_le (Finset.mem_univ i)).trans (by simp)
  · refine Finset.le_inf fun j _ => ?_
    split
    · rename_i hj
      exact num_le.2 (not_lt.1 fun hl => h j (.inr ⟨hj, hl⟩))
    · exact num_le.2 (by omega)

theorem first_unique {n : ℕ} {v : Fin n → EReal} {i j : Fin n} (hi : IsFirst v i) (hj : IsFirst v j) : i = j := by
  have he : v i = v j := le_antisymm (first_ge hj i) (first_ge hi j)
  rcases lt_trichotomy i j with h | h | h
  · exact absurd (.inr ⟨he, h⟩) (hj i)
  · exact h
  · exact absurd (.inr ⟨he.symm, h⟩) (hi j)

/-- A column with its first entry replaced by the least value. -/
def without (v : Fin 8 → EReal) : Fin 8 → EReal := fun r => if num r.val = firstRow v then ⊥ else v r

theorem without_eq {v : Fin 8 → EReal} {i : Fin 8} (h : IsFirst v i) (r : Fin 8) :
    without v r = if r = i then ⊥ else v r := by
  unfold without
  simp only [firstRow_eq h, num_inj, Fin.ext_iff]

/-- The first two entries are those that fewer than two come before. -/
theorem two_rows {v : Fin 8 → EReal} (hv : ∀ r, v r ≠ ⊥) :
    ∃ a b : Fin 8, a ≠ b ∧ firstRow v = num a.val ∧ firstRow (without v) = num b.val ∧ ∀ e, rank v e < 2 ↔ (e = a ∨ e = b) := by
  obtain ⟨a, ha⟩ := exists_first v
  obtain ⟨b, hb⟩ := exists_first (without v)
  have hba : b ≠ a := by
    rintro rfl
    obtain ⟨j, hj⟩ : ∃ j : Fin 8, j ≠ b := exists_ne b
    refine hb j (.inl ?_)
    rw [without_eq ha, without_eq ha, if_pos rfl, if_neg hj]
    exact bot_lt_iff_ne_bot.2 (hv j)
  refine ⟨a, b, fun h => hba h.symm, firstRow_eq ha, firstRow_eq hb, fun e => ?_⟩
  rw [rank_lt_two]
  by_cases he : e = a
  · subst he
    have : (Finset.univ.filter fun j => Before v e j) = ∅ := Finset.filter_eq_empty_iff.2 fun j _ => ha j
    simp [this]
  · have hea : Before v e a := by
      rcases lt_or_eq_of_le (first_ge ha e) with h | h
      · exact .inl h
      · refine .inr ⟨h.symm, ?_⟩
        rcases lt_trichotomy e a with hl | hl | hl
        · exact absurd (.inr ⟨h, hl⟩) (ha e)
        · exact absurd hl he
        · exact hl
    have hw : IsFirst (without v) e ↔ ∀ j, j ≠ a → ¬ Before v e j := by
      constructor
      · intro h j hj hbj
        refine h j ?_
        unfold Before
        rw [without_eq ha, without_eq ha, if_neg he, if_neg hj]
        exact hbj
      · intro h j hbj
        unfold Before at hbj
        rw [without_eq ha, without_eq ha, if_neg he] at hbj
        by_cases hj : j = a
        · rw [if_pos hj] at hbj
          rcases hbj with h' | ⟨h', -⟩
          · exact absurd h' not_lt_bot
          · exact hv e h'.symm
        · rw [if_neg hj] at hbj
          exact h j hj hbj
    have hone : (Finset.univ.filter fun j => Before v e j).card ≤ 1 ↔ IsFirst (without v) e := by
      rw [hw, Finset.card_le_one]
      constructor
      · intro h j hj hbj
        exact hj (h j (by simpa using hbj) a (by simpa using hea))
      · intro h x hx y hy
        have hx' : x = a := by
          by_contra hn
          exact h x hn (by simpa using hx)
        have hy' : y = a := by
          by_contra hn
          exact h y hn (by simpa using hy)
        rw [hx', hy']
    rw [hone]
    constructor
    · intro h
      exact .inr (first_unique h hb)
    · rintro (h | h)
      · exact absurd h he
      · exact h ▸ hb

/-- Four scores, and the least value below them. -/
def padded (g : Fin 4 → EReal) : Fin 8 → EReal := fun r => if h : r.val < 4 then g ⟨r.val, h⟩ else ⊥

theorem padded_row (g : Fin 4 → EReal) :
    ∃ a : Fin 4, firstRow (padded g) = num a.val ∧ ∀ e, IsFirst g e ↔ e = a := by
  obtain ⟨a, ha⟩ := exists_first g
  refine ⟨a, ?_, fun e => ⟨fun h => first_unique h ha, fun h => h ▸ ha⟩⟩
  have : IsFirst (padded g) ⟨a.val, by omega⟩ := by
    intro j hj
    unfold Before padded at hj
    simp only [a.isLt, dite_true] at hj
    by_cases h : j.val < 4
    · simp only [h, dite_true] at hj
      exact ha ⟨j.val, h⟩ hj
    · simp only [h, dite_false] at hj
      rcases hj with h' | ⟨-, h'⟩
      · exact absurd h' not_lt_bot
      · have : j.val < a.val := h'
        omega
  exact firstRow_eq this

/-- The experts' scores of a group, and the choice of a row, from a row of 128 lanes: 32 experts, then 4 groups. -/
def groupScores (L : Fin 128 → EReal) : Fin 4 → EReal := fun g => L ⟨32 + g.val, by omega⟩

@[inherit_doc groupScores]
def expertScores (L : Fin 128 → EReal) (g : Fin 4) : Fin 8 → EReal := fun r => L ⟨8 * g.val + r.val, by omega⟩

/-- The chosen group's number. -/
def groupNum (L : Fin 128 → EReal) : EReal := firstRow (padded (groupScores L))

/-- The chosen group's scores, taken one group after the other. -/
def picked (L : Fin 128 → EReal) (r : Fin 8) : EReal :=
  if groupNum L = num 3 then L ⟨24 + r.val, by omega⟩
  else if groupNum L = num 2 then L ⟨16 + r.val, by omega⟩
  else if groupNum L = num 1 then L ⟨8 + r.val, by omega⟩
  else L ⟨r.val, by omega⟩

/-- Whether an expert is one of the two. -/
def mark (L : Fin 128 → EReal) (e : ℕ) : EReal :=
  (if num e = groupNum L * num 8 + firstRow (picked L) then 1 else 0)
    + (if num e = groupNum L * num 8 + firstRow (without (picked L)) then 1 else 0)

/-- Whether an expert is among the first two of the first group. -/
def Chosen (L : Fin 128 → EReal) (g : Fin 4) (r : Fin 8) : Prop :=
  rank (groupScores L) g < 1 ∧ rank (expertScores L g) r < 2

theorem num_comb (g a : ℕ) : num g * num 8 + num a = num (g * 8 + a) := by
  unfold num
  rw [← EReal.coe_mul, ← EReal.coe_add]
  push_cast
  rfl

theorem mark_eq (L : Fin 128 → EReal) (hL : ∀ l : Fin 128, l.val < 32 → L l ≠ ⊥) (g : Fin 4) (r : Fin 8) :
    mark L (8 * g.val + r.val) = if Chosen L g r then 1 else 0 := by
  obtain ⟨q, hq, hg⟩ := padded_row (groupScores L)
  have hp : picked L = expertScores L q := by
    funext s
    unfold picked expertScores groupNum
    rw [hq]
    simp only [num_inj]
    fin_cases q <;> simp
  obtain ⟨a, b, hab, ha, hb, hr⟩ := two_rows (v := expertScores L q) (fun s => hL _ (by show 8 * q.val + s.val < 32; omega))
  have hn : groupNum L = num q.val := hq
  have hm : mark L (8 * g.val + r.val)
      = (if 8 * g.val + r.val = q.val * 8 + a.val then 1 else 0) + (if 8 * g.val + r.val = q.val * 8 + b.val then 1 else 0) := by
    unfold mark
    rw [hp, ha, hb, hn, num_comb, num_comb]
    exact congrArg₂ (· + ·) (if_congr num_inj rfl rfl) (if_congr num_inj rfl rfl)
  have hc : Chosen L g r ↔ g = q ∧ rank (expertScores L g) r < 2 := by
    unfold Chosen
    rw [rank_lt_one, hg]
  rw [hm, if_congr hc rfl rfl]
  by_cases h : g = q
  · subst h
    have e1 : 8 * g.val + r.val = g.val * 8 + a.val ↔ r = a := by rw [Fin.ext_iff]; omega
    have e2 : 8 * g.val + r.val = g.val * 8 + b.val ↔ r = b := by rw [Fin.ext_iff]; omega
    have e3 : (if g = g ∧ rank (expertScores L g) r < 2 then (1 : EReal) else 0) = if r = a ∨ r = b then 1 else 0 :=
      if_congr ((and_iff_right rfl).trans (hr r)) rfl rfl
    rw [if_congr e1 rfl rfl, if_congr e2 rfl rfl, e3]
    by_cases h1 : r = a
    · have h2 : ¬ r = b := fun h2 => hab (h1.symm.trans h2)
      simp [h1, hab]
    · by_cases h2 : r = b <;> simp [h1, h2, Ne.symm hab]
  · have hv : g.val ≠ q.val := fun hv => h (Fin.ext hv)
    rw [if_neg (by omega), if_neg (by omega), if_neg (by simp [h]), add_zero]

end Cert.Column

end
-- ==== Proof.CountSpec.lean ====
/-
  The scores of a token after the merge and how often the experts are chosen, over the extended reals.
-/
module

public import proofs.«01_k».proof.Proof.MergeSpec
public import proofs.«01_k».proof.Proof.CountColumn

@[expose] public section

noncomputable section

open scoped Classical

namespace Cert.Rows

open Idealize.ShloMosaic Cert.Column

/-- The arrays the scores are computed from. -/
structure Arrays where
  /-- The tokens. -/
  x : FVec Ideal ⟨3, ![8, 4096, 1024]⟩ .f32
  /-- The attention. -/
  ya : FVec Ideal ⟨3, ![8, 4096, 512]⟩ .f32
  /-- The gated convolution. -/
  yc : FVec Ideal ⟨3, ![8, 4096, 512]⟩ .f32
  /-- The mixer's gain. -/
  g : FVec Ideal ⟨1, ![1024]⟩ .f32
  /-- The projection's weight. -/
  w : FVec Ideal ⟨2, ![1024, 5120]⟩ .f32
  /-- The projection's bias. -/
  bias : FVec Ideal ⟨1, ![5120]⟩ .f32
  /-- The attention's widening. -/
  wa : FVec Ideal ⟨2, ![512, 1024]⟩ .f32
  /-- The convolution's widening. -/
  wc : FVec Ideal ⟨2, ![512, 1024]⟩ .f32
  /-- The output projection. -/
  wo : FVec Ideal ⟨2, ![1024, 1024]⟩ .f32
  /-- The second gain. -/
  gf : FVec Ideal ⟨1, ![1024]⟩ .f32
  /-- The groups' weight. -/
  wg : FVec Ideal ⟨2, ![1024, 4]⟩ .f32
  /-- The groups' bias. -/
  bg : FVec Ideal ⟨1, ![4]⟩ .f32
  /-- The experts' weight. -/
  wr : FVec Ideal ⟨2, ![1024, 32]⟩ .f32
  /-- The experts' bias. -/
  br : FVec Ideal ⟨1, ![32]⟩ .f32

variable (a : Arrays)

/-- A row of the residual stream. -/
def streamRow (r : Fin 32768) (l : Fin 1024) : EReal :=
  stream a.x a.ya a.yc a.g a.w a.bias a.wa a.wc a.wo ⟨r.val / 4096, by omega⟩ ⟨r.val % 4096, by omega⟩ l

/-- It normalised. -/
def streamNormed (r : Fin 32768) (k : Fin 1024) : EReal :=
  normed ((1024 : ℝ) : EReal) (streamRow a r) (a.gf (ix1 k)) k

/-- The score of a group. -/
def groupScore (r : Fin 32768) (g : Fin 4) : EReal := (∑ k, streamNormed a r k * a.wg (ix2 k g)) + a.bg (ix1 g)

/-- The score of an expert. -/
def expertScore (r : Fin 32768) (e : Fin 32) : EReal := (∑ k, streamNormed a r k * a.wr (ix2 k e)) + a.br (ix1 e)

/-- Whether a row goes to an expert of a group. -/
def Goes (r : Fin 32768) (g : Fin 4) (e : Fin 8) : Prop :=
  rank (groupScore a r) g < 1 ∧ rank (fun e : Fin 8 => expertScore a r ⟨8 * g.val + e.val, by omega⟩) e < 2

/-- How many rows of a tile go to an expert; the lanes past the experts hold zero. -/
def count (tile l : Fin 128) : EReal :=
  if h : l.val < 32 then
    ∑ t : Fin 256, if Goes a ⟨256 * tile.val + t.val, by omega⟩ ⟨l.val / 8, by omega⟩ ⟨l.val % 8, by omega⟩ then 1 else 0
  else 0

end Cert.Rows

end
-- ==== Proof.CountScores.lean ====
/-
  The scores that the merge keeps at a grid point: at row `r`, those of the row's token.
-/
module

public import proofs.«01_k».proof.Proof.CountBlock
public import proofs.«01_k».proof.Proof.CountHost
public import proofs.«01_k».proof.Proof.CountReads
public import proofs.«01_k».proof.Proof.CountPieces
public import proofs.«01_k».proof.Proof.CountSpec

@[expose] public section

noncomputable section

namespace Cert.Kernel4Ideal.Count

open Cert.Kernel4Ideal Cert.Kernel4Ideal.Gen Cert.Kernel4Ideal.Host Cert.Kernel4Ideal.Reads
  Cert.Kernel4Ideal.Pieces Idealize.ShloMosaic Idealize.ShloMosaic.TcCoe Cert.Rows

variable (m : (ℓ : Loc nD τ sig) → Buf (Elt Ideal) ℓ) (c : Dev nD)

/-- The batch row of a row. -/
def batch (r : Fin 32768) : Fin 8 := ⟨r.val / 4096, by omega⟩

/-- The sequence row of a row. -/
def place (r : Fin 32768) : Fin 4096 := ⟨r.val % 4096, by omega⟩

/-- The first gate's weight at an index. -/
theorem first_weight_apply (x4 : Vec Ideal S1024x2048 .bf16) (k l : Fin 1024) :
    firstWeight x4 (ix2 k l) = x4 (ix2 k ⟨l.val, by omega⟩) := by
  unfold firstWeight
  refine congrArg x4 (funext fun a => Fin.ext ?_)
  fin_cases a
  · show 0 + 1 * k.val = k.val; omega
  · show 0 + 1 * l.val = l.val; omega

/-- The second gate's weight at an index. -/
theorem second_weight_apply (x4 : Vec Ideal S1024x2048 .bf16) (k l : Fin 1024) :
    secondWeight x4 (ix2 k l) = x4 (ix2 k ⟨1024 + l.val, by omega⟩) := by
  unfold secondWeight
  refine congrArg x4 (funext fun a => Fin.ext ?_)
  fin_cases a
  · show 0 + 1 * k.val = k.val; omega
  · show 1024 + 1 * l.val = 1024 + l.val; omega

/-- The first gate's bias at an index. -/
theorem first_bias_apply (x5 : Vec Ideal S1x2048 .f32) (l : Fin 1024) : firstBias x5 (ix2 0 l) = x5 (ix2 0 ⟨l.val, by omega⟩) := by
  unfold firstBias
  refine congrArg x5 (funext fun a => Fin.ext ?_)
  fin_cases a
  · rfl
  · show 0 + 1 * l.val = l.val; omega

/-- The second gate's bias at an index. -/
theorem second_bias_apply (x5 : Vec Ideal S1x2048 .f32) (l : Fin 1024) :
    secondBias x5 (ix2 0 l) = x5 (ix2 0 ⟨1024 + l.val, by omega⟩) := by
  unfold secondBias
  refine congrArg x5 (funext fun a => Fin.ext ?_)
  fin_cases a
  · rfl
  · show 1024 + 1 * l.val = 1024 + l.val; omega

/-- The product of a row of a block and a column of a weight. -/
def product (y : Vec Ideal S1024x512 .bf16) (v : Vec Ideal S512x1024 .bf16) (r l : Fin 1024) : EReal :=
  ∑ k : Fin 512, y (ix2 r k) * v (ix2 k l)

/-- The attention's gate, from the blocks a point reads. -/
def firstGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * firstWeight x4 (ix2 k l)) + firstBias x5 (ix2 0 l))

/-- The convolution's gate, from the blocks a point reads. -/
def secondGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * secondWeight x4 (ix2 k l)) + secondBias x5 (ix2 0 l))

/-- The residual stream of a block, from the blocks a point reads. -/
theorem hidden_apply (x0 : Vec Ideal S1024x1024 .f32) (x1 x2 : Vec Ideal S1024x512 .bf16) (x3 : Vec Ideal S1x1024 .f32)
    (x4 : Vec Ideal S1024x2048 .bf16) (x5 : Vec Ideal S1x2048 .f32) (x6 x7 : Vec Ideal S512x1024 .bf16)
    (x8 : Vec Ideal S1024x1024 .bf16) (r l : Fin 1024) :
    Pieces.hidden x0 x1 x2 x3 x4 x5 x6 x7 x8 (ix2 r l)
      = (x0 (ix2 r l) + ∑ j : Fin 1024, (firstGate x0 x3 x4 x5 r j * product x1 x6 r j + secondGate x0 x3 x4 x5 r j * product x2 x7 r j)
          * x8 (ix2 j l) : EReal) := by
  unfold Pieces.hidden
  refine (Block.stream_apply _ _ _ _ _ _ r l).trans ?_
  refine congrArg (x0 (ix2 r l) + ·) (Finset.sum_congr rfl fun j _ => congrArg (· * x8 (ix2 j l)) ?_)
  exact congrArg₂ (fun a b => a + b * product x2 x7 r j) (Block.attention_apply x0 x3 _ _ x1 x6 r j) (Block.gate_apply x0 x3 _ _ r j)

/-- A normalised row of a block. -/
theorem normed_eq (t : Fin cfg0.N) (r k : Fin 1024) :
    Block.rows (iblk m c 0 t) (iblk m c 3 t) (ix2 r k)
      = normed ((1024 : ℝ) : EReal) (fun j => (inX m c (ix3 (batch (row t r)) (place (row t r)) j) : EReal)) (inG m c (ix1 k)) k := by
  have e1 : (fun j => (iblk m c 0 t (ix2 r j) : EReal))
      = fun j => (inX m c (ix3 (batch (row t r)) (place (row t r)) j) : EReal) :=
    funext fun j => (read0 m c t r j).trans (Host.rows m c _ _)
  have e2 : (iblk m c 3 t (ix2 0 k) : EReal) = inG m c (ix1 k) := (read3 m c t k).trans (gain m c k)
  exact (Block.normed_apply _ _ r k).trans (congrArg₂ (fun f a => normed ((1024 : ℝ) : EReal) f a k) e1 e2)

/-- The first gate of a block. -/
theorem first_gate (t : Fin cfg0.N) (r l : Fin 1024) :
    firstGate (iblk m c 0 t) (iblk m c 3 t) (iblk m c 4 t) (iblk m c 5 t) r l
      = gate (inX m c) (inG m c) (inW m c) (inB m c) 3072 (by omega) (batch (row t r)) (place (row t r)) l := by
  refine congrArg sigmoid (congrArg₂ (· + ·) (Finset.sum_congr rfl fun k _ => congrArg₂ (· * ·) (normed_eq m c t r k) ?_) ?_)
  · exact (first_weight_apply _ _ _).trans ((read4 m c t k _).trans (gate_weight m c k _))
  · exact (first_bias_apply _ _).trans ((read5 m c t _).trans (gate_bias m c _))

/-- The second gate of a block. -/
theorem second_gate (t : Fin cfg0.N) (r l : Fin 1024) :
    secondGate (iblk m c 0 t) (iblk m c 3 t) (iblk m c 4 t) (iblk m c 5 t) r l
      = gate (inX m c) (inG m c) (inW m c) (inB m c) 4096 (by omega) (batch (row t r)) (place (row t r)) l := by
  have e : (⟨3072 + (1024 + l.val), by omega⟩ : Fin 5120) = ⟨4096 + l.val, by omega⟩ := Fin.ext (by dsimp only; omega)
  unfold gate
  rw [← e]
  refine congrArg sigmoid (congrArg₂ (· + ·) (Finset.sum_congr rfl fun k _ => congrArg₂ (· * ·) (normed_eq m c t r k) ?_) ?_)
  · exact (second_weight_apply _ _ _).trans ((read4 m c t k _).trans (gate_weight m c k _))
  · exact (second_bias_apply _ _).trans ((read5 m c t _).trans (gate_bias m c _))

/-- The attention of a block, brought to the width of the stream. -/
theorem attention_eq (t : Fin cfg0.N) (r l : Fin 1024) :
    product (iblk m c 1 t) (iblk m c 6 t) r l
      = widened (inA m c) (inWa m c) (batch (row t r)) (place (row t r)) l :=
  Finset.sum_congr rfl fun k _ => congrArg₂ (· * ·) ((read1 m c t r k).trans (attention m c _ _))
    ((read6 m c t k l).trans (attention_weight m c k l))

/-- The convolution of a block, brought to the width of the stream. -/
theorem convolution_eq (t : Fin cfg0.N) (r l : Fin 1024) :
    product (iblk m c 2 t) (iblk m c 7 t) r l
      = widened (inC m c) (inWc m c) (batch (row t r)) (place (row t r)) l :=
  Finset.sum_congr rfl fun k _ => congrArg₂ (· * ·) ((read2 m c t r k).trans (convolution m c _ _))
    ((read7 m c t k l).trans (convolution_weight m c k l))

/-- The residual stream of a block. -/
theorem stream_eq (t : Fin cfg0.N) (r l : Fin 1024) :
    Pieces.hidden (iblk m c 0 t) (iblk m c 1 t) (iblk m c 2 t) (iblk m c 3 t) (iblk m c 4 t) (iblk m c 5 t) (iblk m c 6 t) (iblk m c 7 t)
        (iblk m c 8 t) (ix2 r l)
      = stream (inX m c) (inA m c) (inC m c) (inG m c) (inW m c) (inB m c) (inWa m c) (inWc m c) (inWo m c) (batch (row t r))
          (place (row t r)) l := by
  refine (hidden_apply _ _ _ _ _ _ _ _ _ r l).trans ?_
  refine congrArg₂ (· + ·) ((read0 m c t r l).trans (Host.rows m c _ _)) (Finset.sum_congr rfl fun j _ => congrArg₂ (· * ·) ?_ ?_)
  · exact congrArg₂ (· + ·) (congrArg₂ (· * ·) (first_gate m c t r j) (attention_eq m c t r j))
      (congrArg₂ (· * ·) (second_gate m c t r j) (convolution_eq m c t r j))
  · exact (read8 m c t j l).trans (output_weight m c j l)

/-- The launched arrays. -/
def arrays : Arrays where
  x := inX m c
  ya := inA m c
  yc := inC m c
  g := inG m c
  w := inW m c
  bias := inB m c
  wa := inWa m c
  wc := inWc m c
  wo := inWo m c
  gf := inGf m c
  wg := inWg m c
  bg := inBg m c
  wr := inWr m c
  br := inBr m c

/-- The product of a block's normalised stream and a weight's column. -/
def weighed (h : Vec Ideal S1024x1024 .f32) (x9 : Vec Ideal S1x1024 .f32) (x10 : Vec Ideal S1024x128 .bf16) (r : Fin 1024) (l : Fin 128) : EReal :=
  ∑ k : Fin 1024, normed ((1024 : ℝ) : EReal) (fun j => (h (ix2 r j) : EReal)) (x9 (ix2 0 k)) k * x10 (ix2 k l)

/-- The scores of a block, from the blocks a point reads. -/
theorem scores_apply (x0 : Vec Ideal S1024x1024 .f32) (x1 x2 : Vec Ideal S1024x512 .bf16) (x3 : Vec Ideal S1x1024 .f32)
    (x4 : Vec Ideal S1024x2048 .bf16) (x5 : Vec Ideal S1x2048 .f32) (x6 x7 : Vec Ideal S512x1024 .bf16)
    (x8 : Vec Ideal S1024x1024 .bf16) (x9 : Vec Ideal S1x1024 .f32) (x10 : Vec Ideal S1024x128 .bf16) (x11 : Vec Ideal S1x128 .f32)
    (r : Fin 1024) (l : Fin 128) :
    Pieces.scores x0 x1 x2 x3 x4 x5 x6 x7 x8 x9 x10 x11 (ix2 r l)
      = (weighed (Pieces.hidden x0 x1 x2 x3 x4 x5 x6 x7 x8) x9 x10 r l + x11 (ix2 0 l) : EReal) := by
  unfold Pieces.scores
  exact Block.scores_apply _ _ _ _ _ _ _ _ _ r l

/-- The scores a point computes. -/
def scoresAt (t : Fin cfg0.N) : Vec Ideal S1024x128 .f32 :=
  Pieces.scores (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The normalised stream of a block under a weight's column. -/
theorem weighed_eq (t : Fin cfg0.N) (r : Fin 1024) (l : Fin 128) (f : Fin 1024 → EReal)
    (hf : ∀ k, (iblk m c 10 t (ix2 k l) : EReal) = f k) :
    weighed (Pieces.hidden (iblk m c 0 t) (iblk m c 1 t) (iblk m c 2 t) (iblk m c 3 t) (iblk m c 4 t) (iblk m c 5 t) (iblk m c 6 t)
        (iblk m c 7 t) (iblk m c 8 t)) (iblk m c 9 t) (iblk m c 10 t) r l
      = ∑ k, streamNormed (arrays m c) (row t r) k * f k := by
  refine Finset.sum_congr rfl fun k _ => congrArg₂ (· * ·) ?_ (hf k)
  exact congrArg₂ (fun f a => normed ((1024 : ℝ) : EReal) f a k) (funext fun j => stream_eq m c t r j)
    ((read9 m c t k).trans (second_gain m c k))

/-- An expert's score. -/
theorem expert_eq (t : Fin cfg0.N) (r : Fin 1024) (e : Fin 32) :
    (scoresAt m c t (ix2 r ⟨e.val, by omega⟩) : EReal) = expertScore (arrays m c) (row t r) e := by
  unfold scoresAt
  refine (scores_apply _ _ _ _ _ _ _ _ _ _ _ _ r _).trans ?_
  exact congrArg₂ (· + ·) (weighed_eq m c t r _ _ fun k => (read10 m c t k _).trans (expert_weight m c k e))
    ((read11 m c t _).trans (expert_bias m c e))

/-- A group's score. -/
theorem group_eq (t : Fin cfg0.N) (r : Fin 1024) (g : Fin 4) :
    (scoresAt m c t (ix2 r ⟨32 + g.val, by omega⟩) : EReal) = groupScore (arrays m c) (row t r) g := by
  unfold scoresAt
  refine (scores_apply _ _ _ _ _ _ _ _ _ _ _ _ r _).trans ?_
  exact congrArg₂ (· + ·) (weighed_eq m c t r _ _ fun k => (read10 m c t k _).trans (group_weight m c k g))
    ((read11 m c t _).trans (group_bias m c g))

/-- The scores a point keeps. -/
theorem kept_eq (t : Fin cfg0.N) : (outsAt0 m c t.val t.isLt).2.2.2.2.2 = scoresAt m c t := by
  by_cases h : t.val % 33 = 0
  · rw [outsAt0_A m c t h]
    dsimp only
    exact keptA (F := Ideal) ..
  · rw [outsAt0_B m c t h]
    dsimp only
    exact keptB (F := Ideal) ..

end Cert.Kernel4Ideal.Count

end
-- ==== Proof.CountTile.lean ====
/-
  The counts of a tile of 256 rows, read at an index.
-/
module

public import proofs.«01_k».proof.Proof.CountPieces
public import proofs.«01_k».proof.Proof.CountColumn

@[expose] public section

noncomputable section

open scoped Classical

namespace Cert.Kernel4Ideal.Tile

open Cert.Kernel4Ideal Cert.Kernel4Ideal.Gen Cert.Kernel4Ideal.Pieces Idealize.ShloMosaic Idealize.ShloMosaic.TcCoe Cert.Column

/-- The scores of a tile's row. -/
def lanes (v : Vec Ideal S256x128 .f32) (t : Fin 256) : Fin 128 → EReal := fun l => v (ix2 t l)

/-- A small word's value as a float. -/
theorem word_num (n : ℕ) (h : n < 128) : FloatOps.sitofp (F := Ideal) .f32 (BitVec.ofNat 32 n) = num n := by
  show (((BitVec.ofNat 32 n).toInt : ℝ) : EReal) = num n
  have e : (BitVec.ofNat 32 n).toInt = (n : ℤ) := by
    have hn : (BitVec.ofNat 32 n).toNat = n := by
      rw [BitVec.toNat_ofNat]
      omega
    rw [BitVec.toInt_eq_toNat_of_lt (by rw [hn]; omega), hn]
  rw [e, Int.cast_natCast]
  rfl

/-- A comparison's word as a float. -/
theorem flag_num (p : Prop) [Decidable p] :
    FloatOps.sitofp (F := Ideal) .f32 (BitVec.setWidth 32 (BitVec.ofBool (decide p))) = if p then 1 else 0 := by
  by_cases h : p
  · rw [if_pos h, decide_eq_true h]
    show (((BitVec.setWidth 32 (BitVec.ofBool true)).toInt : ℝ) : EReal) = 1
    have e : (BitVec.setWidth 32 (BitVec.ofBool true)).toInt = 1 := by decide
    rw [e]
    simp
  · rw [if_neg h, decide_eq_false h]
    show (((BitVec.setWidth 32 (BitVec.ofBool false)).toInt : ℝ) : EReal) = 0
    have e : (BitVec.setWidth 32 (BitVec.ofBool false)).toInt = 0 := by decide
    rw [e]
    simp

/-- Eight, as a float's value. -/
theorem eight : Ideal.ofBits .f32 0x41000000#32 = num 8 := by
  simp [Ideal.ofBits, Ideal.ieee, num, -EReal.coe_mul]; norm_num

/-- Four, as a float's value. -/
theorem four : Ideal.ofBits .f32 0x40800000#32 = num 4 := by
  simp [Ideal.ofBits, Ideal.ieee, num, -EReal.coe_mul]; norm_num

/-- Three, as a float's value. -/
theorem three : Ideal.ofBits .f32 0x40400000#32 = num 3 := by
  simp [Ideal.ofBits, Ideal.ieee, num, -EReal.coe_mul]; norm_num

/-- Two, as a float's value. -/
theorem two : Ideal.ofBits .f32 0x40000000#32 = num 2 := by
  simp [Ideal.ofBits, Ideal.ieee, num, -EReal.coe_mul]; norm_num

/-- One. -/
theorem one : (1 : EReal) = num 1 := by simp [num]

/-- The least value. -/
theorem least : Ideal.ofBits .f32 0xFF800000#32 = (⊥ : EReal) := by
  simp [Ideal.ofBits, Ideal.ieee]

/-- The greatest value. -/
theorem greatest : Ideal.ofBits .f32 0x7F800000#32 = (⊤ : EReal) := by
  simp [Ideal.ofBits, Ideal.ieee]

/-- The rows are numbered. -/
theorem row_apply (r : Fin 8) (t : Fin 256) : k0_pay4 (F := Ideal) (ix2 r t) = num r.val := by
  pointwise [k0_pay4]
  exact word_num r.val (by omega)

/-- The groups' scores, above rows of the least value. -/
theorem group_apply (v : Vec Ideal S256x128 .f32) (r : Fin 8) (t : Fin 256) :
    k0_pay6 (F := Ideal) v (ix2 r t) = padded (groupScores (lanes v t)) r := by
  pointwise [k0_pay6, k0_pay5, row_apply]
  rw [four, least]
  unfold padded
  by_cases h : r.val < 4
  · rw [if_pos (num_lt.2 h), dif_pos h]
    rfl
  · rw [if_neg (fun hn => h (num_lt.1 hn)), dif_neg h]

/-- Their greatest. -/
theorem max_apply (v : Vec Ideal S256x128 .f32) (t : Fin 256) :
    k0_pay7 (F := Ideal) v (ix2 0 t) = Finset.univ.sup (padded (groupScores (lanes v t))) := by
  pointwise [k0_pay7, group_apply]
  rw [least]
  rfl

/-- The chosen group's number. -/
theorem num_apply (v : Vec Ideal S256x128 .f32) (t : Fin 256) :
    k0_pay8 (F := Ideal) v (ix2 0 t) = groupNum (lanes v t) := by
  pointwise [k0_pay8, max_apply, group_apply, row_apply]
  rw [greatest, eight]
  rfl

/-- The chosen group's scores. -/
theorem picked_apply (v : Vec Ideal S256x128 .f32) (r : Fin 8) (t : Fin 256) :
    k0_pay11 (F := Ideal) (k0_pay5 v) (k0_pay8 v) (k0_pay10 v) (ix2 r t) = picked (lanes v t) r := by
  pointwise [k0_pay11, k0_pay5, k0_pay10, num_apply]
  rw [three, two, one]
  rfl

/-- Their greatest. -/
theorem best_apply (v : Vec Ideal S256x128 .f32) (t : Fin 256) :
    k0_pay12 (F := Ideal) (k0_pay5 v) (k0_pay8 v) (k0_pay10 v) (ix2 0 t) = Finset.univ.sup (picked (lanes v t)) := by
  pointwise [k0_pay12, picked_apply]
  rw [least]
  rfl

/-- The row of the first expert. -/
theorem first_apply (v : Vec Ideal S256x128 .f32) (t : Fin 256) :
    k0_pay13 (F := Ideal) k0_pay4 (k0_pay5 v) (k0_pay8 v) (k0_pay10 v) (ix2 0 t) = firstRow (picked (lanes v t)) := by
  pointwise [k0_pay13, best_apply, picked_apply, row_apply]
  rw [greatest, eight]
  rfl

/-- The scores without it. -/
theorem rest_apply (v : Vec Ideal S256x128 .f32) (r : Fin 8) (t : Fin 256) :
    k0_pay14 (F := Ideal) k0_pay4 (k0_pay5 v) (k0_pay8 v) (k0_pay10 v) (ix2 r t) = without (picked (lanes v t)) r := by
  pointwise [k0_pay14, first_apply, picked_apply, row_apply]
  rw [least]
  rfl

/-- Their greatest. -/
theorem next_apply (v : Vec Ideal S256x128 .f32) (t : Fin 256) :
    k0_pay15 (F := Ideal) k0_pay4 (k0_pay5 v) (k0_pay8 v) (k0_pay10 v) (ix2 0 t) = Finset.univ.sup (without (picked (lanes v t))) := by
  pointwise [k0_pay15, rest_apply]
  rw [least]
  rfl

/-- The first expert's number. -/
theorem expert1_apply (v : Vec Ideal S256x128 .f32) (t : Fin 256) :
    k0_pay20 (F := Ideal) k0_pay4 (k0_pay5 v) (k0_pay8 v) (k0_pay10 v) (ix2 0 t)
      = groupNum (lanes v t) * num 8 + firstRow (picked (lanes v t)) := by
  pointwise [k0_pay20, first_apply, num_apply]
  rw [eight]

/-- The second expert's number. -/
theorem expert2_apply (v : Vec Ideal S256x128 .f32) (t : Fin 256) :
    k0_pay21 (F := Ideal) k0_pay4 (k0_pay5 v) (k0_pay8 v) (k0_pay10 v) (ix2 0 t)
      = groupNum (lanes v t) * num 8 + firstRow (without (picked (lanes v t))) := by
  pointwise [k0_pay21, next_apply, rest_apply, num_apply, row_apply]
  rw [eight, greatest]
  rfl

/-- THE COUNTS of a tile. -/
theorem tally_apply (v : Vec Ideal S256x128 .f32) (s : Fin 8) (l : Fin 128) :
    (tally (F := Ideal) v (ix3 0 s l) : EReal) = if l.val < 32 then ∑ t : Fin 256, mark (lanes v t) l.val else 0 := by
  unfold tally
  pointwise [k0_pay29, k0_pay25, k0_pay24, k0_pay23, k0_pay22, expert1_apply, expert2_apply]
  by_cases h : l.val < 32
  · rw [dif_pos h, if_pos h]
    refine Finset.sum_congr rfl fun t _ => ?_
    rw [word_num l.val (by omega), flag_num, flag_num]
    rfl
  · rw [dif_neg h, if_neg h]

end Cert.Kernel4Ideal.Tile

end
-- ==== Proof.CountValue.lean ====
/-
  What the merge leaves in its counts: of each tile of 256 rows, how many go to each expert.
-/
module

public import proofs.«01_k».proof.Proof.CountScores
public import proofs.«01_k».proof.Proof.CountTile

@[expose] public section

noncomputable section

open scoped Classical

namespace Cert.Kernel4Ideal.Count

open Cert.Kernel4Ideal Cert.Kernel4Ideal.Gen Cert.Kernel4Ideal.Host Cert.Kernel4Ideal.Reads
  Cert.Kernel4Ideal.Pieces Idealize.ShloMosaic Idealize.ShloMosaic.TcCoe Cert.Rows Cert.Column

variable (m : (ℓ : Loc nD τ sig) → Buf (Elt Ideal) ℓ) (c : Dev nD)

/-- A row of a block's scores. -/
def scoreRow (v : Vec Ideal S1024x128 .f32) (q : ℕ) (hq : q < 4) (t : Fin 256) : Fin 128 → EReal :=
  fun l => v (ix2 ⟨256 * q + t.val, by omega⟩ l)

/-- The counts of a block's tiles. -/
def tallies (v : Vec Ideal S1024x128 .f32) : Vec Ideal S4x8x128 .f32 := fun y =>
  if (y 2).val < 32 then ∑ t : Fin 256, mark (scoreRow v (y 0).val (y 0).isLt t) (y 2).val else 0

/-- An index of a tile's counts. -/
theorem tile_index (y : S1x8x128.Idx) : y = ix3 0 (y 1) (y 2) := funext fun a => by
  fin_cases a
  · exact Subsingleton.elim (α := Fin 1) _ _
  · rfl
  · rfl

/-- A stored tile is a part of the block's counts. -/
theorem stored (v : Vec Ideal S1024x128 .f32) (w : Vec Ideal S256x128 .f32) (q : ℕ) (hq : q < 4)
    (inb : ∀ a : Fin S4x8x128.rank, (![q, 0, 0] : Fin 3 → ℕ) a + S1x8x128.size a ≤ S4x8x128.size a)
    (hw : ∀ t, Tile.lanes w t = scoreRow v q hq t) (y : S1x8x128.Idx) :
    (tally (F := Ideal) w y : EReal) = tallies v ((Rect.unit (s := S4x8x128) ![q, 0, 0] S1x8x128.size inb).emb y) := by
  have h0 : (((Rect.unit (s := S4x8x128) ![q, 0, 0] S1x8x128.size inb).emb y) 0).val = q := by
    show q + 1 * (y 0).val = q
    have : (y 0).val < 1 := (y 0).isLt
    omega
  have h2 : (((Rect.unit (s := S4x8x128) ![q, 0, 0] S1x8x128.size inb).emb y) 2).val = (y 2).val := by
    show 0 + 1 * (y 2).val = (y 2).val
    omega
  have key : ∀ z : S4x8x128.Idx, (z 0).val = q → (z 2).val = (y 2).val → (tally (F := Ideal) w y : EReal) = tallies v z := by
    intro z hz0 hz2
    subst hz0
    refine (congrArg (tally (F := Ideal) w) (tile_index y)).trans ((Tile.tally_apply w _ _).trans ?_)
    unfold tallies
    rw [hz2]
    simp only [hw]
  exact key _ h0 h2

/-- The counts a point stores, from the scores kept before it. -/
theorem canon_eq (v : Vec Ideal S1024x128 .f32) (y : S4x8x128.Idx) :
    View.canon (Val := Elt Ideal) [⟨Rect.unit (s := S4x8x128) ![3, 0, 0] S1x8x128.size inb_S4x8x128_S1x8x128_3_0_0, tally (tile3 v)⟩,
          ⟨Rect.unit (s := S4x8x128) ![2, 0, 0] S1x8x128.size inb_S4x8x128_S1x8x128_2_0_0, tally (tile2 v)⟩,
          ⟨Rect.unit (s := S4x8x128) ![1, 0, 0] S1x8x128.size inb_S4x8x128_S1x8x128_1_0_0, tally (tile1 v)⟩,
          ⟨Rect.unit (s := S4x8x128) ![0, 0, 0] S1x8x128.size inb_S4x8x128_S1x8x128_0_0_0, tally (tile0 v)⟩] y
      = tallies v y := by
  refine View.canon_apply_of_pieces (tallies v) _ ?_ y (View.cover_of_tiled_head _ _ _ (by rfl) y)
  intro p hp
  simp only [List.mem_cons, List.not_mem_nil, or_false] at hp
  rcases hp with rfl | rfl | rfl | rfl
  · refine stored v _ 3 (by omega) inb_S4x8x128_S1x8x128_3_0_0 fun t => funext fun l => congrArg v (funext fun a => Fin.ext ?_)
    fin_cases a
    · show 768 + 1 * t.val = 256 * 3 + t.val; omega
    · show 0 + 1 * l.val = l.val; omega
  · refine stored v _ 2 (by omega) inb_S4x8x128_S1x8x128_2_0_0 fun t => funext fun l => congrArg v (funext fun a => Fin.ext ?_)
    fin_cases a
    · show 512 + 1 * t.val = 256 * 2 + t.val; omega
    · show 0 + 1 * l.val = l.val; omega
  · refine stored v _ 1 (by omega) inb_S4x8x128_S1x8x128_1_0_0 fun t => funext fun l => congrArg v (funext fun a => Fin.ext ?_)
    fin_cases a
    · show 256 + 1 * t.val = 256 * 1 + t.val; omega
    · show 0 + 1 * l.val = l.val; omega
  · refine stored v _ 0 (by omega) inb_S4x8x128_S1x8x128_0_0_0 fun t => funext fun l => congrArg v (funext fun a => Fin.ext ?_)
    fin_cases a
    · show 0 + 1 * t.val = 256 * 0 + t.val; omega
    · show 0 + 1 * l.val = l.val; omega

/-- The counts. -/
def result : Vec Ideal S128x8x128 .f32 := fun y => Rows.count (arrays m c) (y 0) (y 2)

/-- Whether a row goes to an expert, from the block's scores. -/
theorem goes_iff (t : Fin cfg0.N) (q : Fin 4) (tok : Fin 256) (r : Fin 32768) (hr : r = row t ⟨256 * q.val + tok.val, by omega⟩)
    (g : Fin 4) (e : Fin 8) :
    Chosen (scoreRow (scoresAt m c t) q.val q.isLt tok) g e ↔ Goes (arrays m c) r g e := by
  subst hr
  have hg : groupScores (scoreRow (scoresAt m c t) q.val q.isLt tok) = groupScore (arrays m c) (row t ⟨256 * q.val + tok.val, by omega⟩) :=
    funext fun g => group_eq m c t _ g
  have he : expertScores (scoreRow (scoresAt m c t) q.val q.isLt tok) g
      = fun e : Fin 8 => expertScore (arrays m c) (row t ⟨256 * q.val + tok.val, by omega⟩) ⟨8 * g.val + e.val, by omega⟩ :=
    funext fun e => expert_eq m c t _ ⟨8 * g.val + e.val, by omega⟩
  unfold Chosen Goes
  rw [hg, he]

/-- What a point after the first writes back. -/
theorem written15 (hs : ∀ r e, expertScore (arrays m c) r e ≠ ⊥) (t : Fin cfg0.N) (h : ¬ t.val % 33 = 0) (q : Fin 4) (s : Fin 8) (l : Fin 128) :
    (dats m 0 c).flushed 15 t (ix3 q s l) = (result m c (ix3 (tileAt t q) s l) : EReal) := by
  have ht := point_lt t
  have hlt : t.val - 1 < cfg0.N := lt_of_le_of_lt (Nat.sub_le _ _) t.isLt
  rw [Value.flushed15_B m c t h]
  refine (congrFun (outB_15 ..) (ix3 q s l)).trans ((canon_eq _ _).trans ?_)
  have hk := kept_eq m c ⟨t.val - 1, hlt⟩
  refine (congrArg (fun v => tallies v (ix3 q s l)) hk).trans ?_
  show (if l.val < 32 then _ else _) = Rows.count (arrays m c) (tileAt t q) l
  unfold Rows.count
  by_cases hl : l.val < 32
  · rw [if_pos hl, dif_pos hl]
    refine Finset.sum_congr rfl fun tok _ => ?_
    have hm := mark_eq (scoreRow (scoresAt m c ⟨t.val - 1, hlt⟩) q.val q.isLt tok)
      (fun l hl h => hs _ ⟨l.val, hl⟩ ((expert_eq m c ⟨t.val - 1, hlt⟩ _ ⟨l.val, hl⟩).symm.trans h))
      ⟨l.val / 8, by omega⟩ ⟨l.val % 8, by omega⟩
    have e : 8 * (l.val / 8) + l.val % 8 = l.val := by omega
    dsimp only at hm
    rw [e] at hm
    refine hm.trans (if_congr (goes_iff m c ⟨t.val - 1, hlt⟩ q tok _ (Fin.ext ?_) _ _) rfl rfl)
    show 256 * (4 * (t.val - 1) + q.val) + tok.val = 1024 * min (t.val - 1) 31 + (256 * q.val + tok.val)
    omega
  · rw [if_neg hl, dif_neg hl]

/-- An index of a block. -/
theorem block_index (y : S4x8x128.Idx) : y = ix3 (y 0) (y 1) (y 2) := funext fun a => by fin_cases a <;> rfl

/-- Only the points after the first write counts back. -/
theorem later : ∀ t : Fin cfg0.N, (cfg0.win 15).flush t = true → ¬ t.val % 33 = 0 := by decide +kernel

/-- THE COUNTS of the call. -/
theorem result_eq (hs : ∀ r e, expertScore (arrays m c) r e ≠ ⊥) : (dats m 0 c).arrAt 15 cfg0.N = result m c := by
  refine (dats m 0 c).arrAt_eq_of_covers 15 (result m c) (by decide +kernel) ?_
  intro t hf y
  rw [block_index y]
  exact (written15 m c hs t (later t hf) _ _ _).trans (congrArg (result m c) (place15 t _ _ _).symm)

end Cert.Kernel4Ideal.Count

end
-- ==== Proof.CountReference.lean ====
/-
  The scores that the counts' reference computes, read at an index.
-/
module

public import proofs.«01_k».proof.Proof.Gen.Reference4Ideal.Read
public import proofs.«01_k».proof.Proof.CountSpec
public import Idealize.ShloMosaic.Lib.Pointwise

@[expose] public section

noncomputable section

namespace Cert.Reference4Ideal.Rows

open Cert.Reference4Ideal Cert.Reference4Ideal.Gen Cert.Reference4Ideal.Read Idealize.ShloMosaic Idealize.ShloMosaic.TcCoe Cert.Rows

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

/-- 1024, as a float's value. -/
theorem width1024 : Ideal.ofBits .f32 0x44800000#32 = ((1024 : ℝ) : EReal) := by
  simp [Ideal.ofBits, Ideal.ieee, -EReal.coe_mul]; norm_num

/-- A normalised row. -/
theorem normed_apply (b : Fin 8) (s : Fin 4096) (k : Fin 1024) :
    val_main_v12 (F := Ideal) x g (ix3 b s k) = normed ((1024 : ℝ) : EReal) (fun j => (x (ix3 b s j) : EReal)) (g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [width1024]
  rfl

/-- A projected row. -/
theorem projected_apply (b : Fin 8) (s : Fin 4096) (j : Fin 5120) :
    val_main_v16 (F := Ideal) x g w bias (ix3 b s j) = projected x g w bias b s j := by
  pointwise [val_main_v16, val_main_v15, val_main_v14, val_main_v13]
  refine congrArg (· + _) (Finset.sum_congr rfl fun k _ => ?_)
  rw [normed_apply]

/-- The gate of the attention. -/
theorem gate_attention (b : Fin 8) (s : Fin 4096) (l : Fin 1024) :
    val_main_v24 (F := Ideal) x g w bias (ix3 b s l) = gate x g w bias 3072 (by omega) b s l := by
  unfold gate sigmoid
  rw [← projected_apply]
  pointwise [val_main_v24, val_main_v23, val_main_v22, val_main_v21, val_main_v20, val_main_v19, val_main_v17, val_main_cst_2, val_main_cst_3]

/-- The gate of the convolution. -/
theorem gate_convolution (b : Fin 8) (s : Fin 4096) (l : Fin 1024) :
    val_main_v32 (F := Ideal) x g w bias (ix3 b s l) = gate x g w bias 4096 (by omega) b s l := by
  unfold gate sigmoid
  rw [← projected_apply]
  pointwise [val_main_v32, val_main_v31, val_main_v30, val_main_v29, val_main_v28, val_main_v27, val_main_v18, val_main_cst_4, val_main_cst_5]

/-- The two mixers under their gates. -/
theorem merged_apply (b : Fin 8) (s : Fin 4096) (l : Fin 1024) :
    val_main_v35 (F := Ideal) x ya yc g w bias wa wc (ix3 b s l) = merged x ya yc g w bias wa wc b s l := by
  unfold merged
  rw [← gate_attention, ← gate_convolution]
  pointwise [val_main_v35, val_main_v34, val_main_v33, val_main_v26, val_main_v25]
  rfl

/-- The residual stream after the merge. -/
theorem stream_apply (r : Fin 32768) (l : Fin 1024) :
    val_main_v38 (F := Ideal) x ya yc g w bias wa wc wo (ix2 r l)
      = stream x ya yc g w bias wa wc wo ⟨r.val / 4096, by omega⟩ ⟨r.val % 4096, by omega⟩ l := by
  pointwise [val_main_v38, val_main_v37, val_main_v36]
  refine congrArg (_ + ·) (Finset.sum_congr rfl fun k _ => ?_)
  rw [merged_apply]

variable (gf : FVec Ideal S1024 .f32) (wg : FVec Ideal S1024x4 .f32) (bg : FVec Ideal S4 .f32) (wr : FVec Ideal S1024x32 .f32)
  (br : FVec Ideal S32 .f32)

/-- The arrays. -/
abbrev arrays : Arrays := ⟨x, ya, yc, g, w, bias, wa, wc, wo, gf, wg, bg, wr, br⟩

/-- The stream normalised. -/
theorem second_apply (r : Fin 32768) (k : Fin 1024) :
    val_main_v51 (F := Ideal) x ya yc g w bias wa wc wo gf (ix2 r k)
      = streamNormed (arrays x ya yc g w bias wa wc wo gf wg bg wr br) r k := by
  unfold streamNormed
  have hs : streamRow (arrays x ya yc g w bias wa wc wo gf wg bg wr br) r
      = fun l => (val_main_v38 (F := Ideal) x ya yc g w bias wa wc wo (ix2 r l) : EReal) :=
    funext fun l => (stream_apply x ya yc g w bias wa wc wo r l).symm
  rw [hs]
  pointwise [val_main_v51, val_main_v50, val_main_v49, val_main_v48, val_main_v47, val_main_v46, val_main_v45, val_main_v44, val_main_v43, val_main_v42, val_main_v41, val_main_v40, val_main_v39, val_main_cst_6, val_main_cst_7, val_main_cst_8]
  rw [width1024]
  rfl

/-- A group's score. -/
theorem group_apply (r : Fin 32768) (e : Fin 4) :
    val_main_v55 (F := Ideal) x ya yc g w bias wa wc wo gf wg bg (ix2 r e)
      = groupScore (arrays x ya yc g w bias wa wc wo gf wg bg wr br) r e := by
  pointwise [val_main_v55, val_main_v54, val_main_v53, val_main_v52]
  refine congrArg (· + _) (Finset.sum_congr rfl fun k _ => ?_)
  rw [second_apply x ya yc g w bias wa wc wo gf wg bg wr br]

/-- An expert's score. -/
theorem expert_apply (r : Fin 32768) (e : Fin 32) :
    val_main_v59 (F := Ideal) x ya yc g w bias wa wc wo gf wr br (ix2 r e)
      = expertScore (arrays x ya yc g w bias wa wc wo gf wg bg wr br) r e := by
  pointwise [val_main_v59, val_main_v58, val_main_v57, val_main_v56]
  refine congrArg (· + _) (Finset.sum_congr rfl fun k _ => ?_)
  rw [second_apply x ya yc g w bias wa wc wo gf wg bg wr br]

end Cert.Reference4Ideal.Rows

end
-- ==== Proof.CountChoice.lean ====
/-
  How the counts' reference chooses, read at an index.
-/
module

public import proofs.«01_k».proof.Proof.Gen.Reference4Ideal.Read
public import proofs.«01_k».proof.Proof.CountReference
public import Idealize.ShloMosaic.Lib.Pointwise

@[expose] public section

noncomputable section

open scoped Classical

namespace Cert.Reference4Ideal.Rows

open Cert.Reference4Ideal Cert.Reference4Ideal.Gen Cert.Reference4Ideal.Read Idealize.ShloMosaic Idealize.ShloMosaic.TcCoe Cert.Rows Cert.Column

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

variable (gf : FVec Ideal S1024 .f32) (wg : FVec Ideal S1024x4 .f32) (bg : FVec Ideal S4 .f32) (wr : FVec Ideal S1024x32 .f32)
  (br : FVec Ideal S32 .f32)

/-- A choice between one and zero by three comparisons. -/
theorem select_before {n : ℕ} (hn : n ≤ 8) (a b : EReal) (i j : Fin n) {d : Decidable (a < b ∨ (b = a ∧ j < i))} :
    Scalar.select (IntOp.ori (BitVec.ofBool (decide (a < b))) (IntOp.andi (BitVec.ofBool (decide (b = a))) (IntOp.cmpi .slt (BitVec.ofNat 32 j.val) (BitVec.ofNat 32 i.val))))
        (1 : EReal) 0 = @ite EReal (a < b ∨ (b = a ∧ j < i)) d 1 0 := by
  have hlt : (IntOp.cmpi .slt (BitVec.ofNat 32 j.val) (BitVec.ofNat 32 i.val)) = BitVec.ofBool (decide (j < i)) := by
    have key : ∀ i j : Fin 8, IntOp.cmpi .slt (BitVec.ofNat 32 j.val) (BitVec.ofNat 32 i.val) = BitVec.ofBool (decide (j.val < i.val)) := by
      decide
    refine (key (i.castLE hn) (j.castLE hn)).trans (congrArg BitVec.ofBool ?_)
    simp only [Fin.val_castLE, Fin.lt_def]
  rw [hlt]
  by_cases h1 : a < b <;> by_cases h2 : b = a <;> by_cases h3 : j < i <;> simp [h1, h2, h3, Scalar.select, IntOp.ori, IntOp.andi]

/-- Whether a group comes before another. -/
theorem group_before (r : Fin 32768) (e j : Fin 4) :
    val_main_v76 (F := Ideal) x ya yc g w bias wa wc wo gf wg bg (ix3 r e j)
      = if Before (fun l : Fin 4 => (val_main_v55 (F := Ideal) x ya yc g w bias wa wc wo gf wg bg (ix2 r l) : EReal)) e j then 1 else 0 := by
  unfold Before
  show val_main_v75 (F := Ideal) x ya yc g w bias wa wc wo gf wg bg (ix3 r e j) = _
  pointwise [val_main_v75, val_main_v74, val_main_v73, val_main_v72, val_main_v71, val_main_v70, val_main_v69, val_main_v68, val_main_v67, val_main_v66, val_main_v65, val_main_v64, val_main_v63, val_main_v62, val_main_v61, val_main_v60, val_main_call0_v0, val_main_call0_v1, val_main_cst_9, val_main_cst_10]
  exact select_before (by omega) _ _ e j

/-- A group's rank. -/
theorem group_rank (r : Fin 32768) (e : Fin 4) :
    val_main_v77 (F := Ideal) x ya yc g w bias wa wc wo gf wg bg (ix2 r e)
      = rank (groupScore (arrays x ya yc g w bias wa wc wo gf wg bg wr br) r) e := by
  have hs : groupScore (arrays x ya yc g w bias wa wc wo gf wg bg wr br) r
      = fun l => (val_main_v55 (F := Ideal) x ya yc g w bias wa wc wo gf wg bg (ix2 r l) : EReal) :=
    funext fun l => (group_apply x ya yc g w bias wa wc wo gf wg bg wr br r l).symm
  rw [hs]
  unfold rank
  pointwise [val_main_v77, val_main_cst_11]
  exact Finset.sum_congr rfl fun j _ => group_before x ya yc g w bias wa wc wo gf wg bg r e j

/-- Whether an expert comes before another of its group. -/
theorem expert_before (r : Fin 32768) (q : Fin 4) (e j : Fin 8) :
    val_main_v97 (F := Ideal) x ya yc g w bias wa wc wo gf wr br (ix4 r q e j)
      = if Before (fun l : Fin 8 => (val_main_v80 (F := Ideal) x ya yc g w bias wa wc wo gf wr br (ix3 r q l) : EReal)) e j then 1 else 0 := by
  unfold Before
  show val_main_v96 (F := Ideal) x ya yc g w bias wa wc wo gf wr br (ix4 r q e j) = _
  pointwise [val_main_v96, val_main_v95, val_main_v94, val_main_v93, val_main_v92, val_main_v91, val_main_v90, val_main_v89, val_main_v88, val_main_v87, val_main_v86, val_main_v85, val_main_v84, val_main_v83, val_main_v82, val_main_v81, val_main_call1_v0, val_main_call1_v1, val_main_cst_13, val_main_cst_14]
  exact select_before (by omega) _ _ e j

/-- An expert's rank in its group. -/
theorem expert_rank (r : Fin 32768) (q : Fin 4) (e : Fin 8) :
    val_main_v98 (F := Ideal) x ya yc g w bias wa wc wo gf wr br (ix3 r q e)
      = rank (fun e : Fin 8 => expertScore (arrays x ya yc g w bias wa wc wo gf wg bg wr br) r ⟨8 * q.val + e.val, by omega⟩) e := by
  have hs : (fun e : Fin 8 => expertScore (arrays x ya yc g w bias wa wc wo gf wg bg wr br) r ⟨8 * q.val + e.val, by omega⟩)
      = fun l => (val_main_v80 (F := Ideal) x ya yc g w bias wa wc wo gf wr br (ix3 r q l) : EReal) := by
    funext l
    refine (expert_apply x ya yc g w bias wa wc wo gf wg bg wr br r _).symm.trans ?_
    pointwise [val_main_v80]
    exact congrArg (fun k => val_main_v59 (F := Ideal) x ya yc g w bias wa wc wo gf wr br (ix2 r k)) (Fin.ext (by show 8 * q.val + l.val = q.val * 8 + l.val; omega))
  rw [hs]
  unfold rank
  pointwise [val_main_v98, val_main_cst_15]
  exact Finset.sum_congr rfl fun j _ => expert_before x ya yc g w bias wa wc wo gf wr br r q e j

/-- The mark of an expert. -/
theorem mark_apply (r : Fin 32768) (q : Fin 4) (e : Fin 8) :
    val_main_v104 (F := Ideal) x ya yc g w bias wa wc wo gf wg bg wr br (ix3 r q e)
      = if Goes (arrays x ya yc g w bias wa wc wo gf wg bg wr br) r q e then 1 else 0 := by
  unfold Goes
  rw [← expert_rank, ← group_rank]
  pointwise [val_main_v104, val_main_v103, val_main_v102, val_main_v101, val_main_v100, val_main_v99, val_main_v78, val_main_v79, val_main_call2_v0, val_main_call2_v1, val_main_cst_12, val_main_cst_16, val_main_cst_17, val_main_cst_18]
  have h2 : Ideal.ofBits .f32 0x40000000#32 = (2 : EReal) := by
    simp [Ideal.ofBits, Ideal.ieee, -EReal.coe_mul]; norm_num; rfl
  rw [h2]
  generalize (val_main_v77 (F := Ideal) x ya yc g w bias wa wc wo gf wg bg (ix2 r q) : EReal) = u
  generalize (val_main_v98 (F := Ideal) x ya yc g w bias wa wc wo gf wr br (ix3 r q e) : EReal) = v
  by_cases h1 : u < 1 <;> by_cases h2 : v < 2 <;> simp [h1, h2, Scalar.select, IntOp.andi]

/-- The marks by tile, token and lane. -/
theorem marks_apply (tile : Fin 128) (t : Fin 256) (l : Fin 32) :
    val_main_v106 (F := Ideal) x ya yc g w bias wa wc wo gf wg bg wr br (ix3 tile t l)
      = if Goes (arrays x ya yc g w bias wa wc wo gf wg bg wr br) ⟨256 * tile.val + t.val, by omega⟩ ⟨l.val / 8, by omega⟩ ⟨l.val % 8, by omega⟩
        then 1 else 0 := by
  rw [← mark_apply]
  show val_main_v105 (F := Ideal) x ya yc g w bias wa wc wo gf wg bg wr br (ix3 tile t l) = _
  pointwise [val_main_v105]
  exact congrArg (fun k => val_main_v104 (F := Ideal) x ya yc g w bias wa wc wo gf wg bg wr br (ix3 k ⟨l.val / 8, by omega⟩ ⟨l.val % 8, by omega⟩))
    (Fin.ext (by show tile.val * 256 + t.val = 256 * tile.val + t.val; omega))

/-- The counts. -/
theorem count_apply (tile : Fin 128) (s : Fin 8) (l : Fin 128) :
    val_main_v110 (F := Ideal) x ya yc g w bias wa wc wo gf wg bg wr br (ix3 tile s l)
      = Rows.count (arrays x ya yc g w bias wa wc wo gf wg bg wr br) tile l := by
  unfold Rows.count
  pointwise [val_main_v110, val_main_v109, val_main_v108, val_main_v107, val_main_cst_19, val_main_call3_v0, val_main_c]
  split
  · exact Finset.sum_congr rfl fun t _ => marks_apply x ya yc g w bias wa wc wo gf wg bg wr br tile t ⟨l.val, _⟩
  · show ((((0#32 : BitVec 32).toInt : ℝ)) : EReal) = 0
    simp

end Cert.Reference4Ideal.Rows

end
-- ==== Proof.CountPre.lean ====
/-
  The counts' precondition, read: `scored_experts` says that no expert's score is minus infinity.
-/
module

public import proofs.«01_k».proof.Pre_scored_experts
public import proofs.«01_k».proof.Proof.CountReference
public import Idealize.ShloMosaic.Lib.Pointwise
public import Idealize.ShloMosaic.Lib.ReduceAll
public import Idealize.ShloMosaic.Lib.WordArith

@[expose] public section

noncomputable section

namespace Cert.Pre_scored_experts

open Idealize.ShloMosaic Cert.Rows

/-- The predicate's facts. -/
instance facts : Cert.Pre_scored_experts.Facts where
  reducesTo_S8x4096x1024_S8x4096_d2 := by decide
  h_S_ := by decide
  bcast_S8x4096_S8x4096x1_0_1 := by decide
  bcast_S_S8x4096x1 := by decide
  bcast_S8x4096x1_S8x4096x1024_0_1_2 := by decide
  bcast_S1024_S1x1x1024_2 := by decide
  bcast_S1x1x1024_S8x4096x1024_0_1_2 := by decide
  bcast_S5120_S1x1x5120_2 := by decide
  bcast_S1x1x5120_S8x4096x5120_0_1_2 := by decide
  slices_S8x4096x5120_S8x4096x1024_0_0_3072 := by decide
  slices_S8x4096x5120_S8x4096x1024_0_0_4096 := by decide
  bcast_S_S8x4096x1024 := by decide
  shapeCasts_S8x4096x1024_S32768x1024 := by decide
  reducesTo_S32768x1024_S32768_d1 := by decide
  bcast_S32768_S32768x1_0 := by decide
  bcast_S_S32768x1 := by decide
  bcast_S32768x1_S32768x1024_0_1 := by decide
  bcast_S1024_S1x1024_1 := by decide
  bcast_S1x1024_S32768x1024_0_1 := by decide
  bcast_S4_S1x4_1 := by decide
  bcast_S1x4_S32768x4_0_1 := by decide
  bcast_S32_S1x32_1 := by decide
  bcast_S1x32_S32768x32_0_1 := by decide
  bcast_S_S32768x32 := by decide
  reducesTo_S32768x32_S_d0_1 := by decide
  dot_S8x4096x1024_S1024x5120_S8x4096x5120_2_0_01_1_n_n_wf := by decide
  dot_S8x4096x512_S512x1024_S8x4096x1024_2_0_01_1_n_n_wf := by decide
  dot_S8x4096x1024_S1024x1024_S8x4096x1024_2_0_01_1_n_n_wf := by decide
  dot_S32768x1024_S1024x4_S32768x4_1_0_0_1_n_n_wf := by decide
  dot_S32768x1024_S1024x32_S32768x32_1_0_0_1_n_n_wf := by decide

/-- A number that compares above minus infinity is not minus infinity. -/
theorem above_of_word (x : EReal)
    (h : FloatOps.cmpf (F := Ideal) (φ := .f32) .ogt x (FloatOps.ofBits (F := Ideal) .f32 0xFF800000#32) = 1#1) : x ≠ ⊥ := by
  have hi : FloatOps.ofBits (F := Ideal) .f32 0xFF800000#32 = (⊥ : EReal) := by
    show Ideal.ofBits .f32 0xFF800000#32 = ⊥
    simp [Ideal.ofBits, Ideal.ieee]
  rw [hi] at h
  have hlt : ⊥ < x := of_decide_eq_true ((by decide : ∀ b, BitVec.ofBool b = 1#1 → b = true) _ h)
  exact hlt.ne'

/-- The predicate's last step. -/
theorem fn_eq (x0 : FVec Ideal S8x4096x1024 .f32) (x1 : FVec Ideal S8x4096x512 .f32) (x2 : FVec Ideal S8x4096x512 .f32) (x3 : FVec Ideal S1024 .f32) (x4 : FVec Ideal S1024x5120 .f32) (x5 : FVec Ideal S5120 .f32) (x6 : FVec Ideal S512x1024 .f32) (x7 : FVec Ideal S512x1024 .f32) (x8 : FVec Ideal S1024x1024 .f32) (x9 : FVec Ideal S1024 .f32) (x10 : FVec Ideal S1024x4 .f32) (x11 : FVec Ideal S4 .f32) (x12 : FVec Ideal S1024x32 .f32) (x13 : FVec Ideal S32 .f32) :
    fn (F := Ideal) x0 x1 x2 x3 x4 x5 x6 x7 x8 x9 x10 x11 x12 x13
      = Host.reduce IntOp.andi (cmpf .ogt (Reference4Ideal.Read.val_main_v59 (F := Ideal) x0 x1 x2 x3 x4 x5 x6 x7 x8 x9 x12 x13)
          (broadcastInDim S32768x32 ![] Facts.bcast_S_S32768x32 (constant (F := Ideal) S_ .f32 0xFF800000#32)))
          (constantI S_ 1 1#1) Facts.reducesTo_S32768x32_S_d0_1 Facts.h_S_ := rfl

/-- The precondition's content. -/
theorem scored (x0 : FVec Ideal S8x4096x1024 .f32) (x1 : FVec Ideal S8x4096x512 .f32) (x2 : FVec Ideal S8x4096x512 .f32) (x3 : FVec Ideal S1024 .f32) (x4 : FVec Ideal S1024x5120 .f32) (x5 : FVec Ideal S5120 .f32) (x6 : FVec Ideal S512x1024 .f32) (x7 : FVec Ideal S512x1024 .f32) (x8 : FVec Ideal S1024x1024 .f32) (x9 : FVec Ideal S1024 .f32) (x10 : FVec Ideal S1024x4 .f32) (x11 : FVec Ideal S4 .f32) (x12 : FVec Ideal S1024x32 .f32) (x13 : FVec Ideal S32 .f32)
    (h : fn (F := Ideal) x0 x1 x2 x3 x4 x5 x6 x7 x8 x9 x10 x11 x12 x13 = fun _ => 1#1) (r : Fin 32768) (e : Fin 32) :
    expertScore ⟨x0, x1, x2, x3, x4, x5, x6, x7, x8, x9, x10, x11, x12, x13⟩ r e ≠ ⊥ := by
  have h' := congrFun ((fn_eq x0 x1 x2 x3 x4 x5 x6 x7 x8 x9 x10 x11 x12 x13).symm.trans h) (fun a => a.elim0)
  haveI : Subsingleton S_.Idx := ⟨fun a b => funext fun i => i.elim0⟩
  have hv := above_of_word _ (Host.reduce_andi_all _ _ _ _ _ h' (ix2 r e))
  exact fun hb => hv ((Reference4Ideal.Rows.expert_apply x0 x1 x2 x3 x4 x5 x6 x7 x8 x9 x10 x11 x12 x13 r e).trans hb)

end Cert.Pre_scored_experts

end
-- ==== Proof.Count.lean ====
/-
  The merge's counts: from the same arrays, with no expert's score minus infinity, the kernel's are the reference's.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.CountValue
public import proofs.«01_k».proof.Proof.CountChoice
public import proofs.«01_k».proof.Proof.CountPre
public import Idealize.ShloMosaic.Adequacy
public import Idealize.ShloMosaic.Init
public import Idealize.ShloMosaic.Lib.Bf16Pair
public import Idealize.ShloMosaic.Lib.Bf16PairInverse

@[expose] public section

noncomputable section

namespace Cert.Count

open Idealize.ShloMosaic Idealize.SL.Sem Kernel4Ideal.Host Kernel4Ideal.Count

variable (m : (ℓ : Loc Kernel4Ideal.nD Kernel4Ideal.τ Kernel4Ideal.sig) → Buf (Elt Ideal) ℓ) (c : Dev Kernel4Ideal.nD)

/-- An index of the result. -/
theorem result_index (y : Kernel4Ideal.S128x8x128.Idx) : y = ix3 (y 0) (y 1) (y 2) := funext fun a => by fin_cases a <;> rfl

/-- The counts agree. -/
theorem counts_agree : Reference4Ideal.Read.val_main_v110 (F := Ideal) (inX m c) (inA m c) (inC m c) (inG m c) (inW m c) (inB m c)
    (inWa m c) (inWc m c) (inWo m c) (inGf m c) (inWg m c) (inBg m c) (inWr m c) (inBr m c) = result m c := by
  funext y
  rw [result_index y]
  exact Reference4Ideal.Rows.count_apply _ _ _ _ _ _ _ _ _ _ _ _ _ _ _ _ _

/-- No expert's score is minus infinity. -/
theorem above (hp : Pre_Kernel4Ideal_scored_experts m) (r : Fin 32768) (e : Fin 32) : Rows.expertScore (arrays m c) r e ≠ ⊥ :=
  Pre_scored_experts.scored _ _ _ _ _ _ _ _ _ _ _ _ _ _ (hp c) r e

/-- The value claim. -/
theorem algebraic : algebraic_Kernel4Ideal_Reference4Ideal_pre_scored_experts := by
  intro m g m' g' hp hm
  refine ⟨fun c => result m c, ?_, ?_⟩
  · refine (θ_run Kernel4Ideal.defs _ _).mono (fun r h c => ?_) (Kernel4Ideal.Value.run_blocks (F := Ideal) m g)
    obtain ⟨_, _, _, h3, h⟩ := h c
    exact ⟨h3.trans (result_eq m c (above m c hp)), h⟩
  · refine (θ_run Reference4Ideal.defs _ _).mono (fun r h c => ?_) (Reference4Ideal.Value.run (F := Ideal) m' g')
    obtain ⟨e0, e1, e2, e3, e4, e5, e6, e7, e8, e9, e10, e11, e12, e13⟩ := hm c
    obtain ⟨h0, h⟩ := h c
    refine ⟨h0.trans ((Reference4Ideal.Read.val_main_v110_eq m' c).trans ?_), h⟩
    rw [e0, e1, e2, e3, e4, e5, e6, e7, e8, e9, e10, e11, e12, e13]
    exact counts_agree m c

/-- The reference's frame. -/
theorem reference_frame : quiescent_Reference4Ideal := fun m ρ _ =>
  (θ_run Reference4Ideal.defs _ _).mono (fun r h => ⟨fun c => (h c).2, funext fun s => nomatch s⟩)
    (Reference4Ideal.Value.run (F := Ideal) m ρ)

/-- The packed rows are read as pairs of halves: each such reading keeps what the words hold. -/
theorem preserves : preserves_Kernel4_Kernel4Ideal :=
  ⟨IdealRules.bf16_pair.bufferStatement _ _, IdealRules.bf16_pair.bufferStatement _ _,
    IdealRules.bf16_pair.statement _ _, IdealRules.bf16_pack.statement _⟩

end Cert.Count

end
-- ==== Proof.RouteBlock.lean ====
/-
  What the merge computes for one block of rows, read at an index.
-/
module

public import proofs.«01_k».proof.Proof.Gen.Kernel5Ideal.Skeleton
public import proofs.«01_k».proof.Proof.MergeSpec
public import Idealize.ShloMosaic.Lib.Pointwise

@[expose] public section

noncomputable section

namespace Cert.Kernel5Ideal.Block

open Cert.Kernel5Ideal Cert.Kernel5Ideal.Gen Idealize.ShloMosaic Idealize.ShloMosaic.TcCoe Cert.Rows

/-- 1024, as a float's value. -/
theorem width1024 : Ideal.ofBits .f32 0x44800000#32 = ((1024 : ℝ) : EReal) := by
  simp [Ideal.ofBits, Ideal.ieee, -EReal.coe_mul]; norm_num

/-- The quotient, in the kernel's spelling. -/
theorem sigmoid_eq (e : EReal) : Ideal.div 1 (1 + Ideal.exp (0 - e)) = sigmoid e := by
  unfold sigmoid
  rw [sub_eq_add_neg, zero_add]

/-- A block's rows, normalised. -/
def rows (v625 : Vec Ideal S1024x1024 .f32) (v627 : Vec Ideal S1x1024 .f32) : FVec Ideal S1024x1024 .bf16 :=
  k0_pay122 (F := Ideal) (k0_pay119 v625) (k0_pay120 v627) (k0_pay121 v625)

@[inherit_doc rows]
theorem normed_apply (v625 : Vec Ideal S1024x1024 .f32) (v627 : Vec Ideal S1x1024 .f32) (r k : Fin 1024) :
    rows v625 v627 (ix2 r k)
      = normed ((1024 : ℝ) : EReal) (fun j => (v625 (ix2 r j) : EReal)) (v627 (ix2 0 k)) k := by
  unfold rows
  pointwise [k0_pay122, k0_pay121, k0_pay120, k0_pay119]
  rw [width1024]
  rfl

/-- The second gate. -/
theorem gate_apply (v625 : Vec Ideal S1024x1024 .f32) (v627 : Vec Ideal S1x1024 .f32) (v662 : Vec Ideal S1024x1024 .bf16)
    (v665 : Vec Ideal S1x1024 .f32) (r l : Fin 1024) :
    k0_pay124 (F := Ideal) (k0_pay119 v625) (k0_pay120 v627) (k0_pay121 v625) v662 v665 (ix2 r l)
      = sigmoid ((∑ k, rows v625 v627 (ix2 r k) * v662 (ix2 k l)) + v665 (ix2 0 l)) := by
  rw [← sigmoid_eq]
  pointwise [k0_pay124]
  rfl

/-- The first mixer under its gate. -/
theorem attention_apply (v625 : Vec Ideal S1024x1024 .f32) (v627 : Vec Ideal S1x1024 .f32) (v642 : Vec Ideal S1024x1024 .bf16)
    (v645 : Vec Ideal S1x1024 .f32) (v656 : Vec Ideal S1024x512 .bf16) (v658 : Vec Ideal S512x1024 .bf16) (r l : Fin 1024) :
    k0_pay123 (F := Ideal) (k0_pay119 v625) (k0_pay120 v627) (k0_pay121 v625) v642 v645 v656 v658 (ix2 r l)
      = sigmoid ((∑ k, rows v625 v627 (ix2 r k) * v642 (ix2 k l)) + v645 (ix2 0 l)) * ∑ k : Fin 512, v656 (ix2 r k) * v658 (ix2 k l) := by
  rw [← sigmoid_eq]
  pointwise [k0_pay123]
  rfl

/-- The residual stream. -/
theorem stream_apply (v625 : Vec Ideal S1024x1024 .f32) (v661 v675 : FVec Ideal S1024x1024 .f32) (v676 : Vec Ideal S1024x512 .bf16)
    (v678 : Vec Ideal S512x1024 .bf16) (v684 : Vec Ideal S1024x1024 .bf16) (r l : Fin 1024) :
    k0_pay125 (F := Ideal) (k0_pay119 v625) v661 v675 v676 v678 v684 (ix2 r l)
      = v625 (ix2 r l) + ∑ j : Fin 1024, (v661 (ix2 r j) + v675 (ix2 r j) * ∑ k : Fin 512, v676 (ix2 r k) * v678 (ix2 k j)) * v684 (ix2 j l) := by
  pointwise [k0_pay125, k0_pay119]

/-- The scores. -/
theorem scores_apply (v626 v661 v675 : FVec Ideal S1024x1024 .f32) (v676 : Vec Ideal S1024x512 .bf16) (v678 : Vec Ideal S512x1024 .bf16)
    (v684 : Vec Ideal S1024x1024 .bf16) (v689 : Vec Ideal S1x1024 .f32) (v707 : Vec Ideal S1024x128 .bf16) (v710 : Vec Ideal S1x128 .f32)
    (r : Fin 1024) (l : Fin 128) :
    k0_pay130 (F := Ideal) (k0_pay128 v626 v661 v675 v676 v678 v684 v689 v707) (k0_pay129 v710) (ix2 r l)
      = (∑ k : Fin 1024, normed ((1024 : ℝ) : EReal) (fun j => (k0_pay125 v626 v661 v675 v676 v678 v684 (ix2 r j) : EReal)) (v689 (ix2 0 k)) k
          * v707 (ix2 k l)) + v710 (ix2 0 l) := by
  pointwise [k0_pay130, k0_pay129, k0_pay128, k0_pay126]
  rw [width1024]
  rfl

end Cert.Kernel5Ideal.Block

end
-- ==== Proof.RouteHost.lean ====
/-
  The merge's operands as its host code prepares them, read at an index: tokens and mixers as rows, the gates' columns of
  the projection, and the router's weights side by side.
-/
module

public import proofs.«01_k».proof.Proof.Gen.Kernel5Ideal.Value
public import Idealize.ShloMosaic.Lib.Pointwise
public import Idealize.ShloMosaic.Lib.StableHlo.ReadAt

@[expose] public section

noncomputable section

namespace Cert.Kernel5Ideal.Host

open Cert.Kernel5Ideal Cert.Kernel5Ideal.Gen Idealize.ShloMosaic Idealize.ShloMosaic.TcCoe

variable (m : (ℓ : Loc nD τ sig) → Buf (Elt Ideal) ℓ)

/-- The tokens as launched. -/
abbrev inX (c : Dev nD) : FVec Ideal S8x4096x1024 .f32 := m (c, Proc.tc.devRef main_arg0)
/-- The attention as launched. -/
abbrev inA (c : Dev nD) : FVec Ideal S8x4096x512 .f32 := m (c, Proc.tc.devRef main_arg1)
/-- The gated convolution as launched. -/
abbrev inC (c : Dev nD) : FVec Ideal S8x4096x512 .f32 := m (c, Proc.tc.devRef main_arg2)
/-- The mixer's gain as launched. -/
abbrev inG (c : Dev nD) : FVec Ideal S1024 .f32 := m (c, Proc.tc.devRef main_arg3)
/-- The projection's weight as launched. -/
abbrev inW (c : Dev nD) : FVec Ideal S1024x5120 .f32 := m (c, Proc.tc.devRef main_arg4)
/-- The projection's bias as launched. -/
abbrev inB (c : Dev nD) : FVec Ideal S5120 .f32 := m (c, Proc.tc.devRef main_arg5)
/-- The attention's widening as launched. -/
abbrev inWa (c : Dev nD) : FVec Ideal S512x1024 .f32 := m (c, Proc.tc.devRef main_arg6)
/-- The convolution's widening as launched. -/
abbrev inWc (c : Dev nD) : FVec Ideal S512x1024 .f32 := m (c, Proc.tc.devRef main_arg7)
/-- The output projection as launched. -/
abbrev inWo (c : Dev nD) : FVec Ideal S1024x1024 .f32 := m (c, Proc.tc.devRef main_arg8)
/-- The second gain as launched. -/
abbrev inGf (c : Dev nD) : FVec Ideal S1024 .f32 := m (c, Proc.tc.devRef main_arg9)
/-- The groups' weight as launched. -/
abbrev inWg (c : Dev nD) : FVec Ideal S1024x4 .f32 := m (c, Proc.tc.devRef main_arg10)
/-- The groups' bias as launched. -/
abbrev inBg (c : Dev nD) : FVec Ideal S4 .f32 := m (c, Proc.tc.devRef main_arg11)
/-- The experts' weight as launched. -/
abbrev inWr (c : Dev nD) : FVec Ideal S1024x32 .f32 := m (c, Proc.tc.devRef main_arg12)
/-- The experts' bias as launched. -/
abbrev inBr (c : Dev nD) : FVec Ideal S32 .f32 := m (c, Proc.tc.devRef main_arg13)

/-- The tokens as rows. -/
theorem rows (c : Dev nD) (r : Fin 32768) (k : Fin 1024) :
    V m c main_v7 (ix2 r k) = (inX m c (ix3 ⟨r.val / 4096, by omega⟩ ⟨r.val % 4096, by omega⟩ k) : EReal) := by
  unfold V
  after_reads_at

/-- The attention as rows. -/
theorem attention (c : Dev nD) (r : Fin 32768) (k : Fin 512) :
    V m c main_v9 (ix2 r k) = (inA m c (ix3 ⟨r.val / 4096, by omega⟩ ⟨r.val % 4096, by omega⟩ k) : EReal) := by
  unfold V
  after_reads_at

/-- The gated convolution as rows. -/
theorem convolution (c : Dev nD) (r : Fin 32768) (k : Fin 512) :
    V m c main_v11 (ix2 r k) = (inC m c (ix3 ⟨r.val / 4096, by omega⟩ ⟨r.val % 4096, by omega⟩ k) : EReal) := by
  unfold V
  after_reads_at

/-- The mixer's gain. -/
theorem gain (c : Dev nD) (k : Fin 1024) : V m c main_v12 (ix2 0 k) = (inG m c (ix1 k) : EReal) := by
  unfold V
  after_reads_at

/-- The gates' weight. -/
theorem gate_weight (c : Dev nD) (k : Fin 1024) (j : Fin 2048) :
    V m c main_v13 (ix2 k j) = (inW m c (ix2 k ⟨3072 + j.val, by omega⟩) : EReal) := by
  unfold V
  after_reads_at

/-- The gates' bias. -/
theorem gate_bias (c : Dev nD) (j : Fin 2048) : V m c main_v15 (ix2 0 j) = (inB m c (ix1 ⟨3072 + j.val, by omega⟩) : EReal) := by
  unfold V
  after_reads_at

/-- The attention's widening. -/
theorem attention_weight (c : Dev nD) (k : Fin 512) (l : Fin 1024) : V m c main_v16 (ix2 k l) = (inWa m c (ix2 k l) : EReal) := by
  unfold V
  after_reads_at

/-- The convolution's widening. -/
theorem convolution_weight (c : Dev nD) (k : Fin 512) (l : Fin 1024) : V m c main_v17 (ix2 k l) = (inWc m c (ix2 k l) : EReal) := by
  unfold V
  after_reads_at

/-- The output projection. -/
theorem output_weight (c : Dev nD) (k l : Fin 1024) : V m c main_v18 (ix2 k l) = (inWo m c (ix2 k l) : EReal) := by
  unfold V
  after_reads_at

/-- The second gain. -/
theorem second_gain (c : Dev nD) (k : Fin 1024) : V m c main_v19 (ix2 0 k) = (inGf m c (ix1 k) : EReal) := by
  unfold V
  after_reads_at

/-- The experts' weight lies in the first lanes. -/
theorem expert_weight (c : Dev nD) (k : Fin 1024) (e : Fin 32) :
    V m c main_v3 (ix2 k ⟨e.val, by omega⟩) = (inWr m c (ix2 k e) : EReal) := by
  unfold V
  after_reads_at
  exact congrFun (StableHlo.upto_unwritten [main_v0, main_cst, main_v1] rfl (by decide) _) _

/-- The groups' weight lies after it. -/
theorem group_weight (c : Dev nD) (k : Fin 1024) (g : Fin 4) :
    V m c main_v3 (ix2 k ⟨32 + g.val, by omega⟩) = (inWg m c (ix2 k g) : EReal) := by
  unfold V
  after_reads_at
  exact congrFun (StableHlo.upto_unwritten [main_v0, main_cst, main_v1] rfl (by decide) _) _

/-- The experts' bias lies in the first lanes. -/
theorem expert_bias (c : Dev nD) (e : Fin 32) : V m c main_v6 (ix2 0 ⟨e.val, by omega⟩) = (inBr m c (ix1 e) : EReal) := by
  unfold V
  after_reads_at
  exact congrFun (StableHlo.upto_unwritten [main_v0, main_cst, main_v1, main_v2, main_v3, main_cst_0, main_v4] rfl (by decide) _) _

/-- The groups' bias lies after it. -/
theorem group_bias (c : Dev nD) (g : Fin 4) : V m c main_v6 (ix2 0 ⟨32 + g.val, by omega⟩) = (inBg m c (ix1 g) : EReal) := by
  unfold V
  after_reads_at
  exact congrFun (StableHlo.upto_unwritten [main_v0, main_cst, main_v1, main_v2, main_v3, main_cst_0, main_v4] rfl (by decide) _) _

end Cert.Kernel5Ideal.Host

end
-- ==== Proof.RouteReads.lean ====
/-
  Where the merge's blocks lie: the blocks each grid point reads, by rows of the whole arrays, and the block of counts it
  writes, by tiles.
-/
module

public import proofs.«01_k».proof.Proof.Gen.Kernel5Ideal.Value
public import Idealize.ShloMosaic.Lib.Pointwise
public import Idealize.ShloMosaic.Lib.Pipeline.ValueKit

@[expose] public section

noncomputable section

namespace Cert.Kernel5Ideal.Reads

open Cert.Kernel5Ideal Cert.Kernel5Ideal.Gen Idealize.ShloMosaic Idealize.ShloMosaic.TcCoe

variable (m : (ℓ : Loc nD τ sig) → Buf (Elt Ideal) ℓ)

theorem index0 : ∀ t, win0_0.index t = ![min t.val 31, 0] := by decide +kernel
theorem index1 : ∀ t, win0_1.index t = ![min t.val 31, 0] := by decide +kernel
theorem index2 : ∀ t, win0_2.index t = ![min t.val 31, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index9 : ∀ t, win0_9.index t = ![0, 0] := by decide +kernel
theorem index10 : ∀ t, win0_10.index t = ![0, 0] := by decide +kernel
theorem index11 : ∀ t, win0_11.index t = ![0, 0] := by decide +kernel
theorem index14 : ∀ t, win0_14.index t = ![t.val - 1, 0] := by decide +kernel

/-- A block's row among all rows. -/
def row (t : Fin cfg0.N) (r : Fin 1024) : Fin 32768 := ⟨1024 * min t.val 31 + r.val, by omega⟩

theorem read0 (c : Dev nD) (t : Fin cfg0.N) (r k : Fin 1024) :
    iblk m c 0 t (ix2 r k) = (V m c main_v7 (ix2 (row t r) k) : EReal) := by
  blk_ext [iblk, index0 t, row]

theorem read1 (c : Dev nD) (t : Fin cfg0.N) (r : Fin 1024) (k : Fin 512) :
    iblk m c 1 t (ix2 r k) = (V m c main_v9 (ix2 (row t r) k) : EReal) := by
  blk_ext [iblk, index1 t, row]

theorem read2 (c : Dev nD) (t : Fin cfg0.N) (r : Fin 1024) (k : Fin 512) :
    iblk m c 2 t (ix2 r k) = (V m c main_v11 (ix2 (row t r) k) : EReal) := by
  blk_ext [iblk, index2 t, row]

theorem read3 (c : Dev nD) (t : Fin cfg0.N) (k : Fin 1024) :
    iblk m c 3 t (ix2 0 k) = (V m c main_v12 (ix2 0 k) : EReal) := by
  blk_ext [iblk, index3 t]

theorem read4 (c : Dev nD) (t : Fin cfg0.N) (k : Fin 1024) (j : Fin 2048) :
    iblk m c 4 t (ix2 k j) = (V m c main_v13 (ix2 k j) : EReal) := by
  blk_ext [iblk, index4 t]

theorem read5 (c : Dev nD) (t : Fin cfg0.N) (j : Fin 2048) :
    iblk m c 5 t (ix2 0 j) = (V m c main_v15 (ix2 0 j) : EReal) := by
  blk_ext [iblk, index5 t]

theorem read6 (c : Dev nD) (t : Fin cfg0.N) (k : Fin 512) (l : Fin 1024) :
    iblk m c 6 t (ix2 k l) = (V m c main_v16 (ix2 k l) : EReal) := by
  blk_ext [iblk, index6 t]

theorem read7 (c : Dev nD) (t : Fin cfg0.N) (k : Fin 512) (l : Fin 1024) :
    iblk m c 7 t (ix2 k l) = (V m c main_v17 (ix2 k l) : EReal) := by
  blk_ext [iblk, index7 t]

theorem read8 (c : Dev nD) (t : Fin cfg0.N) (k l : Fin 1024) :
    iblk m c 8 t (ix2 k l) = (V m c main_v18 (ix2 k l) : EReal) := by
  blk_ext [iblk, index8 t]

theorem read9 (c : Dev nD) (t : Fin cfg0.N) (k : Fin 1024) :
    iblk m c 9 t (ix2 0 k) = (V m c main_v19 (ix2 0 k) : EReal) := by
  blk_ext [iblk, index9 t]

theorem read10 (c : Dev nD) (t : Fin cfg0.N) (k : Fin 1024) (l : Fin 128) :
    iblk m c 10 t (ix2 k l) = (V m c main_v3 (ix2 k l) : EReal) := by
  blk_ext [iblk, index10 t]

theorem read11 (c : Dev nD) (t : Fin cfg0.N) (l : Fin 128) :
    iblk m c 11 t (ix2 0 l) = (V m c main_v6 (ix2 0 l) : EReal) := by
  blk_ext [iblk, index11 t]

/-- A point's number. -/
theorem point_lt (t : Fin cfg0.N) : t.val < 33 := t.isLt

/-- A row of a block of the table among all rows: a point writes those of the point before. -/
def rowAt (t : Fin cfg0.N) (r : Fin 1024) : Fin 32768 := ⟨1024 * (t.val - 1) + r.val, by have := point_lt t; omega⟩

/-- Where a block of the table lies. -/
theorem place14 (t : Fin cfg0.N) (r : Fin 1024) (l : Fin 128) :
    ((cfg0.win 14).blk t).view.emb (ix2 r l) = ix2 (rowAt t r) l := by
  blk_ext [index14 t, rowAt]

end Cert.Kernel5Ideal.Reads

end
-- ==== Proof.RoutePieces.lean ====
/-
  What a grid point of the merge leaves in the block of its routing table, from the scores that it kept from the point before, and
  the scores that it keeps itself: case A at the first point and B elsewhere.
-/
module

public import proofs.«01_k».proof.Proof.Gen.Kernel5Ideal.Value
public import Idealize.ShloMosaic.Lib.Pipeline.ValueKit
public import Idealize.ShloMosaic.Lib.VecWindow
public import Idealize.ShloMosaic.Lib.Pointwise

@[expose] public section

noncomputable section

namespace Cert.Kernel5Ideal.Pieces

open Cert.Kernel5Ideal Cert.Kernel5Ideal.Gen Idealize.ShloMosaic Idealize.ShloMosaic.TcCoe

variable {F : FTy → Type} [FloatOps F]

/-- The weight of the attention's gate. -/
def firstWeight (x4 : Vec F S1024x2048 .bf16) : Vec F S1024x1024 .bf16 :=
  View.ld x4 (Rect.unit ![0, 0] S1024x1024.size inb_S1024x2048_S1024x1024_0_0)

/-- The weight of the convolution's gate. -/
def secondWeight (x4 : Vec F S1024x2048 .bf16) : Vec F S1024x1024 .bf16 :=
  View.ld x4 (Rect.unit ![0, 1024] S1024x1024.size inb_S1024x2048_S1024x1024_0_1024)

/-- The bias of the attention's gate. -/
def firstBias (x5 : Vec F S1x2048 .f32) : Vec F S1x1024 .f32 :=
  View.ld x5 (Rect.unit ![0, 0] S1x1024.size inb_S1x2048_S1x1024_0_0)

/-- The bias of the convolution's gate. -/
def secondBias (x5 : Vec F S1x2048 .f32) : Vec F S1x1024 .f32 :=
  View.ld x5 (Rect.unit ![0, 1024] S1x1024.size inb_S1x2048_S1x1024_0_1024)

/-- The residual stream of a block, from the blocks the point reads. -/
def hidden (x0 : Vec F S1024x1024 .f32) (x1 x2 : Vec F S1024x512 .bf16) (x3 : Vec F S1x1024 .f32) (x4 : Vec F S1024x2048 .bf16)
    (x5 : Vec F S1x2048 .f32) (x6 x7 : Vec F S512x1024 .bf16) (x8 : Vec F S1024x1024 .bf16) : Vec F S1024x1024 .f32 :=
  k0_pay125 (k0_pay119 x0)
    (k0_pay123 (k0_pay119 x0) (k0_pay120 x3) (k0_pay121 x0) (firstWeight x4) (firstBias x5) x1 x6)
    (k0_pay124 (k0_pay119 x0) (k0_pay120 x3) (k0_pay121 x0) (secondWeight x4) (secondBias x5)) x2 x7 x8

/-- Both offsets of a whole block are zero. -/
theorem zeros : ∀ a : Fin 2, (![0, 0] : Fin 2 → ℕ) a = 0 := by decide

/-- A load of the whole block. -/
theorem ld_self {a b : ℕ} {e : EltTy} (inb : ∀ k, (![0, 0] : Fin 2 → ℕ) k + (![a, b] : Fin 2 → ℕ) k ≤ (⟨2, ![a, b]⟩ : Shape).size k)
    (X : Vec F ⟨2, ![a, b]⟩ e) : View.ld X (Rect.unit ![0, 0] ![a, b] inb) = X :=
  View.ld_unit_lit inb X zeros

/-- The scores of a block's rows, from the blocks the point reads. -/
def scores (x0 : Vec F S1024x1024 .f32) (x1 x2 : Vec F S1024x512 .bf16) (x3 : Vec F S1x1024 .f32) (x4 : Vec F S1024x2048 .bf16)
    (x5 : Vec F S1x2048 .f32) (x6 x7 : Vec F S512x1024 .bf16) (x8 : Vec F S1024x1024 .bf16) (x9 : Vec F S1x1024 .f32)
    (x10 : Vec F S1024x128 .bf16) (x11 : Vec F S1x128 .f32) : Vec F S1024x128 .f32 :=
  k0_pay130 (k0_pay128 (k0_pay119 x0)
    (k0_pay123 (k0_pay119 x0) (k0_pay120 x3) (k0_pay121 x0) (firstWeight x4) (firstBias x5) x1 x6)
    (k0_pay124 (k0_pay119 x0) (k0_pay120 x3) (k0_pay121 x0) (secondWeight x4) (secondBias x5)) x2 x7 x8 x9 x10) (k0_pay129 x11)

/-- The routing table of a tile of 256 rows, from its scores. -/
def table (v : Vec F S256x128 .f32) : FVec F S256x128 .f32 :=
  k0_pay32 k0_pay4 (k0_pay18 k0_pay4 (k0_pay5 v) (k0_pay8 v) (k0_pay9 v) (k0_pay10 v))
    (k0_pay19 k0_pay4 (k0_pay5 v) (k0_pay8 v) (k0_pay9 v) (k0_pay10 v))
    (k0_pay20 k0_pay4 (k0_pay5 v) (k0_pay8 v) (k0_pay10 v)) (k0_pay21 k0_pay4 (k0_pay5 v) (k0_pay8 v) (k0_pay10 v))
    (k0_pay27 (k0_pay20 k0_pay4 (k0_pay5 v) (k0_pay8 v) (k0_pay10 v)) (k0_pay21 k0_pay4 (k0_pay5 v) (k0_pay8 v) (k0_pay10 v)))
    (k0_pay28 (k0_pay20 k0_pay4 (k0_pay5 v) (k0_pay8 v) (k0_pay10 v)) (k0_pay21 k0_pay4 (k0_pay5 v) (k0_pay8 v) (k0_pay10 v)))
    k0_pay30 (k0_pay31 (F := F) k0_pay4)

/-- The tiles of a block's scores. -/
def tile0 (v : Vec F S1024x128 .f32) : Vec F S256x128 .f32 :=
  View.ld v (Rect.unit ![0, 0] S256x128.size inb_S1024x128_S256x128_0_0)
@[inherit_doc tile0]
def tile1 (v : Vec F S1024x128 .f32) : Vec F S256x128 .f32 :=
  View.ld v (Rect.unit ![256, 0] S256x128.size inb_S1024x128_S256x128_256_0)
@[inherit_doc tile0]
def tile2 (v : Vec F S1024x128 .f32) : Vec F S256x128 .f32 :=
  View.ld v (Rect.unit ![512, 0] S256x128.size inb_S1024x128_S256x128_512_0)
@[inherit_doc tile0]
def tile3 (v : Vec F S1024x128 .f32) : Vec F S256x128 .f32 :=
  View.ld v (Rect.unit ![768, 0] S256x128.size inb_S1024x128_S256x128_768_0)

/-- The scores kept, in case A. -/
theorem keptA (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11
      = scores x0 x1 x2 x3 x4 x5 x6 x7 x8 x9 x10 x11 := by
  unfold sout0_A_1
  rw [View.read_writes_junk_eq_canon]
  unfold kernelRun0_A
  dsimp only
  refine (View.canon_cons_unit_lit _ _ _ zeros).trans ?_
  simp only [kernelRun0_A.sl.r_59, kernelRun0_A.sl.r_60, kernelRun0_A.sl.r_61, kernelRun0_A.sl.r_62, kernelRun0_A.sl.r_63, kernelRun0_A.sl.r_64, kernelRun0_A.sl.r_65, View.readAt_full, View.readCov_full, Memref.IsWhole.read_unread]
  simp only [scores, firstWeight, secondWeight, firstBias, secondBias, View.readAt_eq_ld, Memref.IsWhole.read_unread, ld_self]

/-- The scores kept, in case B. -/
theorem keptB (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : ¬cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) (xs0 : Vec F S1024x1024 .bf16) (xs1 : Vec F S1024x128 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1
      = scores x0 x1 x2 x3 x4 x5 x6 x7 x8 x9 x10 x11 := by
  unfold sout0_B_1
  rw [View.read_writes_junk_eq_canon]
  unfold kernelRun0_B
  dsimp only
  refine (View.canon_cons_unit_lit _ _ _ zeros).trans ?_
  simp only [kernelRun0_B.sl.r_63, kernelRun0_B.sl.r_64, kernelRun0_B.sl.r_65, kernelRun0_B.sl.r_66, kernelRun0_B.sl.r_67, kernelRun0_B.sl.r_68, kernelRun0_B.sl.r_69, View.readAt_full, View.readCov_full, Memref.IsWhole.read_unread]
  simp only [scores, firstWeight, secondWeight, firstBias, secondBias, View.readAt_eq_ld, Memref.IsWhole.read_unread, ld_self]

/-- The second tile's payloads are the first's. -/
theorem layout1 (p : FVec F S8x256 .f32) (w1 w2 e1 e2 q1 : FVec F S1x256 .f32) (q2 : FVec F S256 .f32) :
    k0_pay60 p w1 w2 e1 e2 q1 q2 = k0_pay32 p w1 w2 e1 e2 q1 (k0_pay58 q2) k0_pay30 (k0_pay31 p) := rfl
@[inherit_doc layout1]
theorem place1a (a b : FVec F S1x256 .f32) (c : FVec F S256 .f32) : k0_pay56 a b c = k0_pay27 (k0_pay49 a b) (k0_pay50 a c) := rfl
@[inherit_doc layout1]
theorem place1b (a b : FVec F S1x256 .f32) (c : FVec F S256 .f32) :
    k0_pay58 (k0_pay57 a b c) = k0_pay28 (k0_pay49 a b) (k0_pay50 a c) := rfl

/-- The third tile's payloads are the first's. -/
theorem layout2 (p : FVec F S8x256 .f32) (w1 w2 e1 e2 q1 q2 : FVec F S1x256 .f32) :
    k0_pay90 p q1 q2 (k0_pay87 p w1 e1 e2) (k0_pay88 p) (k0_pay89 w2) = k0_pay32 p w1 w2 e1 e2 q1 q2 k0_pay30 (k0_pay31 p) := rfl
@[inherit_doc layout2]
theorem place2a (p : FVec F S8x256 .f32) (a : FVec F S1x256 .f32) (d : FVec F S8x256 .f32) (b : IVec S8x256 1) (c : F .f32) :
    k0_pay84 (k0_pay79 p a b c) (k0_pay81 p a d b c) (k0_pay82 p a d b c) = k0_pay27 (k0_pay76 p a b c) (k0_pay77 p a d b c) := rfl
@[inherit_doc layout2]
theorem place2b (p : FVec F S8x256 .f32) (a : FVec F S1x256 .f32) (d : FVec F S8x256 .f32) (b : IVec S8x256 1) (c : F .f32) :
    k0_pay85 (k0_pay80 p a d b c) (k0_pay81 p a d b c) (k0_pay82 p a d b c) = k0_pay28 (k0_pay76 p a b c) (k0_pay77 p a d b c) := rfl

/-- The last tile's payloads are the first's. -/
theorem layout3 (p : FVec F S8x256 .f32) (w1 w2 e1 e2 q1 q2 : FVec F S1x256 .f32) :
    k0_pay118 p w1 w2 e1 e2 q1 q2 k0_pay116 (k0_pay117 p) = k0_pay32 p w1 w2 e1 e2 q1 q2 k0_pay30 (k0_pay31 p) := rfl
@[inherit_doc layout3]
theorem place3a (a b : FVec F S1x256 .f32) : k0_pay113 a b = k0_pay27 a b := rfl
@[inherit_doc layout3]
theorem place3b (a b : FVec F S1x256 .f32) : k0_pay114 a b = k0_pay28 a b := rfl

/-- The routing table, in case B. -/
theorem outB_14 (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S1024x1024 .f32) (harg13 : arg13.IsWhole) (arg14 : Memref sig .tc .vmem S8192x2x128 .bf16) (harg14 : arg14.IsWhole) (arg15 : Memref sig .tc .vmem S1024x128 .f32) (harg15 : arg15.IsWhole) (arg16 : Memref sig .tc .vmem S4x8x128 .f32) (harg16 : arg16.IsWhole) (arg17 : Memref sig .tc .vmem S1024x1024 .bf16) (harg17 : arg17.IsWhole) (arg18 : Memref sig .tc .vmem S1024x128 .f32) (harg18 : arg18.IsWhole) (hc0 : ¬cond0_0 i) (x0 : Vec F S1024x1024 .f32) (x1 : Vec F S1024x512 .bf16) (x2 : Vec F S1024x512 .bf16) (x3 : Vec F S1x1024 .f32) (x4 : Vec F S1024x2048 .bf16) (x5 : Vec F S1x2048 .f32) (x6 : Vec F S512x1024 .bf16) (x7 : Vec F S512x1024 .bf16) (x8 : Vec F S1024x1024 .bf16) (x9 : Vec F S1x1024 .f32) (x10 : Vec F S1024x128 .bf16) (x11 : Vec F S1x128 .f32) (xs0 : Vec F S1024x1024 .bf16) (xs1 : Vec F S1024x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 xs1
      = View.canon [⟨Rect.unit (s := S1024x128) ![768, 0] S256x128.size inb_S1024x128_S256x128_768_0, table (tile3 xs1)⟩,
          ⟨Rect.unit (s := S1024x128) ![512, 0] S256x128.size inb_S1024x128_S256x128_512_0, table (tile2 xs1)⟩,
          ⟨Rect.unit (s := S1024x128) ![256, 0] S256x128.size inb_S1024x128_S256x128_256_0, table (tile1 xs1)⟩,
          ⟨Rect.unit (s := S1024x128) ![0, 0] S256x128.size inb_S1024x128_S256x128_0_0, table (tile0 xs1)⟩] := by
  unfold out0_B_14
  rw [View.read_writes_junk_eq_canon]
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62]
  simp only [View.readAt_full, View.readCov_full, View.readAt_eq_ld, Memref.IsWhole.read_unread]
  refine congrArg View.canon (congrArg₂ List.cons ?_ (congrArg₂ List.cons ?_ (congrArg₂ List.cons ?_ (congrArg₂ List.cons ?_ rfl))))
  · refine congrArg (Sigma.mk _) ((layout3 ..).trans ?_)
    rw [place3a, place3b]
    unfold table
    congr 1
  · refine congrArg (Sigma.mk _) ((layout2 ..).trans ?_)
    rw [place2a, place2b]
    unfold table
    congr 1
  · refine congrArg (Sigma.mk _) ((layout1 ..).trans ?_)
    rw [place1a, place1b]
    unfold table
    congr 1
  · rfl

end Cert.Kernel5Ideal.Pieces

end
-- ==== Proof.RouteScores.lean ====
/-
  The scores that the merge keeps at a grid point: at row `r`, those of the row's token.
-/
module

public import proofs.«01_k».proof.Proof.RouteBlock
public import proofs.«01_k».proof.Proof.RouteHost
public import proofs.«01_k».proof.Proof.RouteReads
public import proofs.«01_k».proof.Proof.RoutePieces
public import proofs.«01_k».proof.Proof.CountSpec

@[expose] public section

noncomputable section

namespace Cert.Kernel5Ideal.Route

open Cert.Kernel5Ideal Cert.Kernel5Ideal.Gen Cert.Kernel5Ideal.Host Cert.Kernel5Ideal.Reads
  Cert.Kernel5Ideal.Pieces Idealize.ShloMosaic Idealize.ShloMosaic.TcCoe Cert.Rows

variable (m : (ℓ : Loc nD τ sig) → Buf (Elt Ideal) ℓ) (c : Dev nD)

/-- The batch row of a row. -/
def batch (r : Fin 32768) : Fin 8 := ⟨r.val / 4096, by omega⟩

/-- The sequence row of a row. -/
def place (r : Fin 32768) : Fin 4096 := ⟨r.val % 4096, by omega⟩

/-- The first gate's weight at an index. -/
theorem first_weight_apply (x4 : Vec Ideal S1024x2048 .bf16) (k l : Fin 1024) :
    firstWeight x4 (ix2 k l) = x4 (ix2 k ⟨l.val, by omega⟩) := by
  unfold firstWeight
  refine congrArg x4 (funext fun a => Fin.ext ?_)
  fin_cases a
  · show 0 + 1 * k.val = k.val; omega
  · show 0 + 1 * l.val = l.val; omega

/-- The second gate's weight at an index. -/
theorem second_weight_apply (x4 : Vec Ideal S1024x2048 .bf16) (k l : Fin 1024) :
    secondWeight x4 (ix2 k l) = x4 (ix2 k ⟨1024 + l.val, by omega⟩) := by
  unfold secondWeight
  refine congrArg x4 (funext fun a => Fin.ext ?_)
  fin_cases a
  · show 0 + 1 * k.val = k.val; omega
  · show 1024 + 1 * l.val = 1024 + l.val; omega

/-- The first gate's bias at an index. -/
theorem first_bias_apply (x5 : Vec Ideal S1x2048 .f32) (l : Fin 1024) : firstBias x5 (ix2 0 l) = x5 (ix2 0 ⟨l.val, by omega⟩) := by
  unfold firstBias
  refine congrArg x5 (funext fun a => Fin.ext ?_)
  fin_cases a
  · rfl
  · show 0 + 1 * l.val = l.val; omega

/-- The second gate's bias at an index. -/
theorem second_bias_apply (x5 : Vec Ideal S1x2048 .f32) (l : Fin 1024) :
    secondBias x5 (ix2 0 l) = x5 (ix2 0 ⟨1024 + l.val, by omega⟩) := by
  unfold secondBias
  refine congrArg x5 (funext fun a => Fin.ext ?_)
  fin_cases a
  · rfl
  · show 1024 + 1 * l.val = 1024 + l.val; omega

/-- The product of a row of a block and a column of a weight. -/
def product (y : Vec Ideal S1024x512 .bf16) (v : Vec Ideal S512x1024 .bf16) (r l : Fin 1024) : EReal :=
  ∑ k : Fin 512, y (ix2 r k) * v (ix2 k l)

/-- The attention's gate, from the blocks a point reads. -/
def firstGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * firstWeight x4 (ix2 k l)) + firstBias x5 (ix2 0 l))

/-- The convolution's gate, from the blocks a point reads. -/
def secondGate (x0 : Vec Ideal S1024x1024 .f32) (x3 : Vec Ideal S1x1024 .f32) (x4 : Vec Ideal S1024x2048 .bf16)
    (x5 : Vec Ideal S1x2048 .f32) (r l : Fin 1024) : EReal :=
  sigmoid ((∑ k : Fin 1024, Block.rows x0 x3 (ix2 r k) * secondWeight x4 (ix2 k l)) + secondBias x5 (ix2 0 l))

/-- The residual stream of a block, from the blocks a point reads. -/
theorem hidden_apply (x0 : Vec Ideal S1024x1024 .f32) (x1 x2 : Vec Ideal S1024x512 .bf16) (x3 : Vec Ideal S1x1024 .f32)
    (x4 : Vec Ideal S1024x2048 .bf16) (x5 : Vec Ideal S1x2048 .f32) (x6 x7 : Vec Ideal S512x1024 .bf16)
    (x8 : Vec Ideal S1024x1024 .bf16) (r l : Fin 1024) :
    Pieces.hidden x0 x1 x2 x3 x4 x5 x6 x7 x8 (ix2 r l)
      = (x0 (ix2 r l) + ∑ j : Fin 1024, (firstGate x0 x3 x4 x5 r j * product x1 x6 r j + secondGate x0 x3 x4 x5 r j * product x2 x7 r j)
          * x8 (ix2 j l) : EReal) := by
  unfold Pieces.hidden
  refine (Block.stream_apply _ _ _ _ _ _ r l).trans ?_
  refine congrArg (x0 (ix2 r l) + ·) (Finset.sum_congr rfl fun j _ => congrArg (· * x8 (ix2 j l)) ?_)
  exact congrArg₂ (fun a b => a + b * product x2 x7 r j) (Block.attention_apply x0 x3 _ _ x1 x6 r j) (Block.gate_apply x0 x3 _ _ r j)

/-- A normalised row of a block. -/
theorem normed_eq (t : Fin cfg0.N) (r k : Fin 1024) :
    Block.rows (iblk m c 0 t) (iblk m c 3 t) (ix2 r k)
      = normed ((1024 : ℝ) : EReal) (fun j => (inX m c (ix3 (batch (row t r)) (place (row t r)) j) : EReal)) (inG m c (ix1 k)) k := by
  have e1 : (fun j => (iblk m c 0 t (ix2 r j) : EReal))
      = fun j => (inX m c (ix3 (batch (row t r)) (place (row t r)) j) : EReal) :=
    funext fun j => (read0 m c t r j).trans (Host.rows m c _ _)
  have e2 : (iblk m c 3 t (ix2 0 k) : EReal) = inG m c (ix1 k) := (read3 m c t k).trans (gain m c k)
  exact (Block.normed_apply _ _ r k).trans (congrArg₂ (fun f a => normed ((1024 : ℝ) : EReal) f a k) e1 e2)

/-- The first gate of a block. -/
theorem first_gate (t : Fin cfg0.N) (r l : Fin 1024) :
    firstGate (iblk m c 0 t) (iblk m c 3 t) (iblk m c 4 t) (iblk m c 5 t) r l
      = gate (inX m c) (inG m c) (inW m c) (inB m c) 3072 (by omega) (batch (row t r)) (place (row t r)) l := by
  refine congrArg sigmoid (congrArg₂ (· + ·) (Finset.sum_congr rfl fun k _ => congrArg₂ (· * ·) (normed_eq m c t r k) ?_) ?_)
  · exact (first_weight_apply _ _ _).trans ((read4 m c t k _).trans (gate_weight m c k _))
  · exact (first_bias_apply _ _).trans ((read5 m c t _).trans (gate_bias m c _))

/-- The second gate of a block. -/
theorem second_gate (t : Fin cfg0.N) (r l : Fin 1024) :
    secondGate (iblk m c 0 t) (iblk m c 3 t) (iblk m c 4 t) (iblk m c 5 t) r l
      = gate (inX m c) (inG m c) (inW m c) (inB m c) 4096 (by omega) (batch (row t r)) (place (row t r)) l := by
  have e : (⟨3072 + (1024 + l.val), by omega⟩ : Fin 5120) = ⟨4096 + l.val, by omega⟩ := Fin.ext (by dsimp only; omega)
  unfold gate
  rw [← e]
  refine congrArg sigmoid (congrArg₂ (· + ·) (Finset.sum_congr rfl fun k _ => congrArg₂ (· * ·) (normed_eq m c t r k) ?_) ?_)
  · exact (second_weight_apply _ _ _).trans ((read4 m c t k _).trans (gate_weight m c k _))
  · exact (second_bias_apply _ _).trans ((read5 m c t _).trans (gate_bias m c _))

/-- The attention of a block, brought to the width of the stream. -/
theorem attention_eq (t : Fin cfg0.N) (r l : Fin 1024) :
    product (iblk m c 1 t) (iblk m c 6 t) r l
      = widened (inA m c) (inWa m c) (batch (row t r)) (place (row t r)) l :=
  Finset.sum_congr rfl fun k _ => congrArg₂ (· * ·) ((read1 m c t r k).trans (attention m c _ _))
    ((read6 m c t k l).trans (attention_weight m c k l))

/-- The convolution of a block, brought to the width of the stream. -/
theorem convolution_eq (t : Fin cfg0.N) (r l : Fin 1024) :
    product (iblk m c 2 t) (iblk m c 7 t) r l
      = widened (inC m c) (inWc m c) (batch (row t r)) (place (row t r)) l :=
  Finset.sum_congr rfl fun k _ => congrArg₂ (· * ·) ((read2 m c t r k).trans (convolution m c _ _))
    ((read7 m c t k l).trans (convolution_weight m c k l))

/-- The residual stream of a block. -/
theorem stream_eq (t : Fin cfg0.N) (r l : Fin 1024) :
    Pieces.hidden (iblk m c 0 t) (iblk m c 1 t) (iblk m c 2 t) (iblk m c 3 t) (iblk m c 4 t) (iblk m c 5 t) (iblk m c 6 t) (iblk m c 7 t)
        (iblk m c 8 t) (ix2 r l)
      = stream (inX m c) (inA m c) (inC m c) (inG m c) (inW m c) (inB m c) (inWa m c) (inWc m c) (inWo m c) (batch (row t r))
          (place (row t r)) l := by
  refine (hidden_apply _ _ _ _ _ _ _ _ _ r l).trans ?_
  refine congrArg₂ (· + ·) ((read0 m c t r l).trans (Host.rows m c _ _)) (Finset.sum_congr rfl fun j _ => congrArg₂ (· * ·) ?_ ?_)
  · exact congrArg₂ (· + ·) (congrArg₂ (· * ·) (first_gate m c t r j) (attention_eq m c t r j))
      (congrArg₂ (· * ·) (second_gate m c t r j) (convolution_eq m c t r j))
  · exact (read8 m c t j l).trans (output_weight m c j l)

/-- The launched arrays. -/
def arrays : Arrays where
  x := inX m c
  ya := inA m c
  yc := inC m c
  g := inG m c
  w := inW m c
  bias := inB m c
  wa := inWa m c
  wc := inWc m c
  wo := inWo m c
  gf := inGf m c
  wg := inWg m c
  bg := inBg m c
  wr := inWr m c
  br := inBr m c

/-- The product of a block's normalised stream and a weight's column. -/
def weighed (h : Vec Ideal S1024x1024 .f32) (x9 : Vec Ideal S1x1024 .f32) (x10 : Vec Ideal S1024x128 .bf16) (r : Fin 1024) (l : Fin 128) : EReal :=
  ∑ k : Fin 1024, normed ((1024 : ℝ) : EReal) (fun j => (h (ix2 r j) : EReal)) (x9 (ix2 0 k)) k * x10 (ix2 k l)

/-- The scores of a block, from the blocks a point reads. -/
theorem scores_apply (x0 : Vec Ideal S1024x1024 .f32) (x1 x2 : Vec Ideal S1024x512 .bf16) (x3 : Vec Ideal S1x1024 .f32)
    (x4 : Vec Ideal S1024x2048 .bf16) (x5 : Vec Ideal S1x2048 .f32) (x6 x7 : Vec Ideal S512x1024 .bf16)
    (x8 : Vec Ideal S1024x1024 .bf16) (x9 : Vec Ideal S1x1024 .f32) (x10 : Vec Ideal S1024x128 .bf16) (x11 : Vec Ideal S1x128 .f32)
    (r : Fin 1024) (l : Fin 128) :
    Pieces.scores x0 x1 x2 x3 x4 x5 x6 x7 x8 x9 x10 x11 (ix2 r l)
      = (weighed (Pieces.hidden x0 x1 x2 x3 x4 x5 x6 x7 x8) x9 x10 r l + x11 (ix2 0 l) : EReal) := by
  unfold Pieces.scores
  exact Block.scores_apply _ _ _ _ _ _ _ _ _ r l

/-- The scores a point computes. -/
def scoresAt (t : Fin cfg0.N) : Vec Ideal S1024x128 .f32 :=
  Pieces.scores (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- The normalised stream of a block under a weight's column. -/
theorem weighed_eq (t : Fin cfg0.N) (r : Fin 1024) (l : Fin 128) (f : Fin 1024 → EReal)
    (hf : ∀ k, (iblk m c 10 t (ix2 k l) : EReal) = f k) :
    weighed (Pieces.hidden (iblk m c 0 t) (iblk m c 1 t) (iblk m c 2 t) (iblk m c 3 t) (iblk m c 4 t) (iblk m c 5 t) (iblk m c 6 t)
        (iblk m c 7 t) (iblk m c 8 t)) (iblk m c 9 t) (iblk m c 10 t) r l
      = ∑ k, streamNormed (arrays m c) (row t r) k * f k := by
  refine Finset.sum_congr rfl fun k _ => congrArg₂ (· * ·) ?_ (hf k)
  exact congrArg₂ (fun f a => normed ((1024 : ℝ) : EReal) f a k) (funext fun j => stream_eq m c t r j)
    ((read9 m c t k).trans (second_gain m c k))

/-- An expert's score. -/
theorem expert_eq (t : Fin cfg0.N) (r : Fin 1024) (e : Fin 32) :
    (scoresAt m c t (ix2 r ⟨e.val, by omega⟩) : EReal) = expertScore (arrays m c) (row t r) e := by
  unfold scoresAt
  refine (scores_apply _ _ _ _ _ _ _ _ _ _ _ _ r _).trans ?_
  exact congrArg₂ (· + ·) (weighed_eq m c t r _ _ fun k => (read10 m c t k _).trans (expert_weight m c k e))
    ((read11 m c t _).trans (expert_bias m c e))

/-- A group's score. -/
theorem group_eq (t : Fin cfg0.N) (r : Fin 1024) (g : Fin 4) :
    (scoresAt m c t (ix2 r ⟨32 + g.val, by omega⟩) : EReal) = groupScore (arrays m c) (row t r) g := by
  unfold scoresAt
  refine (scores_apply _ _ _ _ _ _ _ _ _ _ _ _ r _).trans ?_
  exact congrArg₂ (· + ·) (weighed_eq m c t r _ _ fun k => (read10 m c t k _).trans (group_weight m c k g))
    ((read11 m c t _).trans (group_bias m c g))

/-- The scores a point keeps. -/
theorem kept_eq (t : Fin cfg0.N) : (outsAt0 m c t.val t.isLt).2.2.2.2.2 = scoresAt m c t := by
  by_cases h : t.val % 33 = 0
  · rw [outsAt0_A m c t h]
    dsimp only
    exact keptA (F := Ideal) ..
  · rw [outsAt0_B m c t h]
    dsimp only
    exact keptB (F := Ideal) ..

end Cert.Kernel5Ideal.Route

end
-- ==== Proof.RouteColumn.lean ====
/-
  The choice of a row's group and experts by rank, the weights and the places that follow from it, and how they are found by
  greatest and least values.
-/
module

public import proofs.«01_k».proof.Proof.CountColumn
public import Idealize.ShloMosaic.Lib.Pointwise

@[expose] public section

noncomputable section

open scoped Classical

namespace Cert.Column

/-- Whether an expert is the one of a rank in the first group. -/
def Picks (gs : Fin 4 → EReal) (es : Fin 32 → EReal) (k : EReal) (l : Fin 32) : Prop :=
  rank gs ⟨l.val / 8, by omega⟩ < 1 ∧ rank (fun r : Fin 8 => es ⟨8 * (l.val / 8) + r.val, by omega⟩) ⟨l.val % 8, by omega⟩ = k

/-- The expert of a rank. -/
def number (gs : Fin 4 → EReal) (es : Fin 32 → EReal) (k : EReal) : EReal :=
  ∑ l : Fin 32, if Picks gs es k l then num l.val else 0

/-- Its score. -/
def score (gs : Fin 4 → EReal) (es : Fin 32 → EReal) (k : EReal) : EReal :=
  ∑ l : Fin 32, if Picks gs es k l then es l else 0

/-- The place of a row's expert among those of the rows: how many are of a lower expert, or of the same and an earlier row. -/
def place {n : ℕ} (N : Fin n → EReal) (own : EReal) (t : Fin n) : EReal :=
  ∑ j : Fin n, if N j < own ∨ (N j = own ∧ j < t) then 1 else 0

theorem rank_eq_zero {n : ℕ} (v : Fin n → EReal) (i : Fin n) : rank v i = 0 ↔ IsFirst v i := by
  have h1 : (0 : EReal) = num 0 := by simp [num]
  rw [rank_eq, h1, num_inj, Finset.card_eq_zero, Finset.filter_eq_empty_iff]
  simp [IsFirst]

theorem rank_eq_one {n : ℕ} (v : Fin n → EReal) (i : Fin n) : rank v i = 1 ↔ rank v i < 2 ∧ ¬ IsFirst v i := by
  have h1 : (1 : EReal) = num 1 := by simp [num]
  rw [← rank_eq_zero, rank_lt_two]
  have h0 : (0 : EReal) = num 0 := by simp [num]
  rw [rank_eq, h1, h0, num_inj, num_inj]
  omega

theorem sup_first {n : ℕ} {v : Fin n → EReal} {i : Fin n} (h : IsFirst v i) : Finset.univ.sup v = v i :=
  le_antisymm (Finset.sup_le fun j _ => first_ge h j) (Finset.le_sup (Finset.mem_univ i))

/-- The choice from a row of scores. -/
theorem choice (L : Fin 128 → EReal) (hL : ∀ l : Fin 128, l.val < 32 → L l ≠ ⊥) :
    ∃ (q : Fin 4) (a b : Fin 8), a ≠ b ∧ groupNum L = num q.val ∧ picked L = expertScores L q
      ∧ IsFirst (groupScores L) q
      ∧ firstRow (picked L) = num a.val ∧ firstRow (without (picked L)) = num b.val
      ∧ (∀ e, rank (expertScores L q) e = 0 ↔ e = a) ∧ (∀ e, rank (expertScores L q) e = 1 ↔ e = b)
      ∧ Finset.univ.sup (picked L) = expertScores L q a ∧ Finset.univ.sup (without (picked L)) = expertScores L q b := by
  obtain ⟨q, hq, hg⟩ := padded_row (groupScores L)
  have hp : picked L = expertScores L q := by
    funext s
    unfold picked expertScores groupNum
    rw [hq]
    simp only [num_inj]
    fin_cases q <;> simp
  obtain ⟨a, b, hab, ha, hb, hr⟩ := two_rows (v := expertScores L q) (fun s => hL _ (by show 8 * q.val + s.val < 32; omega))
  obtain ⟨a', ha'⟩ := exists_first (expertScores L q)
  obtain ⟨b', hb'⟩ := exists_first (without (expertScores L q))
  have ea : a' = a := Fin.ext (num_inj.1 ((firstRow_eq ha').symm.trans ha))
  have eb : b' = b := Fin.ext (num_inj.1 ((firstRow_eq hb').symm.trans hb))
  subst ea eb
  refine ⟨q, a', b', hab, hq, hp, (hg q).2 rfl, hp ▸ ha, hp ▸ hb, fun e => ?_, fun e => ?_, ?_, ?_⟩
  · rw [rank_eq_zero]
    exact ⟨fun h => first_unique h ha', fun h => h ▸ ha'⟩
  · rw [rank_eq_one, hr]
    constructor
    · rintro ⟨h | h, hn⟩
      · exact absurd (h ▸ ha') hn
      · exact h
    · rintro rfl
      exact ⟨.inr rfl, fun h => hab (first_unique ha' h)⟩
  · rw [hp, sup_first ha']
  · rw [hp, sup_first hb', without_eq ha', if_neg (fun h => hab h.symm)]

/-- An expert of the first group, by its rank. -/
theorem picks_iff (gs : Fin 4 → EReal) (es : Fin 32 → EReal) (k : EReal) (q : Fin 4) (a : Fin 8) (hq : IsFirst gs q)
    (ha : ∀ e, rank (fun r : Fin 8 => es ⟨8 * q.val + r.val, by omega⟩) e = k ↔ e = a) (l : Fin 32) :
    Picks gs es k l ↔ l = ⟨8 * q.val + a.val, by omega⟩ := by
  unfold Picks
  rw [rank_lt_one]
  constructor
  · rintro ⟨h1, h2⟩
    have e : (⟨l.val / 8, by omega⟩ : Fin 4) = q := first_unique h1 hq
    subst e
    have := (ha _).1 h2
    subst this
    apply Fin.ext
    show l.val = 8 * (l.val / 8) + l.val % 8
    omega
  · rintro rfl
    have e1 : (⟨(8 * q.val + a.val) / 8, by omega⟩ : Fin 4) = q := Fin.ext (by show (8 * q.val + a.val) / 8 = q.val; omega)
    have e2 : (⟨(8 * q.val + a.val) % 8, by omega⟩ : Fin 8) = a := Fin.ext (by show (8 * q.val + a.val) % 8 = a.val; omega)
    have e3 : (fun r : Fin 8 => es ⟨8 * ((8 * q.val + a.val) / 8) + r.val, by omega⟩) = fun r : Fin 8 => es ⟨8 * q.val + r.val, by omega⟩ :=
      funext fun r => congrArg es (Fin.ext (by show 8 * ((8 * q.val + a.val) / 8) + r.val = 8 * q.val + r.val; omega))
    refine ⟨(congrArg (IsFirst gs) e1).mpr hq, ?_⟩
    show rank (fun r : Fin 8 => es ⟨8 * ((8 * q.val + a.val) / 8) + r.val, _⟩) ⟨(8 * q.val + a.val) % 8, _⟩ = k
    rw [e2, e3]
    exact (ha a).2 rfl

theorem number_eq {gs : Fin 4 → EReal} {es : Fin 32 → EReal} {k : EReal} {i : Fin 32} (h : ∀ l, Picks gs es k l ↔ l = i) :
    number gs es k = num i.val := by
  unfold number
  simp only [h, Finset.sum_ite_eq', Finset.mem_univ, if_true]

theorem score_eq {gs : Fin 4 → EReal} {es : Fin 32 → EReal} {k : EReal} {i : Fin 32} (h : ∀ l, Picks gs es k l ↔ l = i) :
    score gs es k = es i := by
  unfold score
  simp only [h, Finset.sum_ite_eq', Finset.mem_univ, if_true]

/-- A place found by marks: the marks of the expert in earlier rows, and those of lower experts. -/
theorem place_eq (n1 n2 : Fin 256 → ℕ) (h1 : ∀ t, n1 t < 32) (h2 : ∀ t, n2 t < 32) (n : ℕ) (hn : n < 32) (t : Fin 256) :
    (∑ e : Fin 32, (if num e.val = num n then (1 : EReal) else 0)
        * ((∑ j : Fin 256, ((if num e.val = num (n1 j) then (1 : EReal) else 0) + (if num e.val = num (n2 j) then 1 else 0)) * (if j < t then 1 else 0))
          + ∑ j : Fin 256, ∑ d : Fin 32, (if d < e then (1 : EReal) else 0)
              * ((if num d.val = num (n1 j) then 1 else 0) + (if num d.val = num (n2 j) then 1 else 0))))
      = place (fun j => num (n1 j)) (num n) t + place (fun j => num (n2 j)) (num n) t := by
  have hlow : ∀ (e : Fin 32) (j : Fin 256), (∑ d : Fin 32, (if d < e then (1 : EReal) else 0)
      * ((if num d.val = num (n1 j) then 1 else 0) + (if num d.val = num (n2 j) then 1 else 0)))
      = (if n1 j < e.val then 1 else 0) + (if n2 j < e.val then 1 else 0) := by
    intro e j
    have hs : ∀ d : Fin 32, (if d < e then (1 : EReal) else 0)
        * ((if num d.val = num (n1 j) then 1 else 0) + (if num d.val = num (n2 j) then 1 else 0))
        = (if d = ⟨n1 j, h1 j⟩ then (if n1 j < e.val then 1 else 0) else 0) + (if d = ⟨n2 j, h2 j⟩ then (if n2 j < e.val then 1 else 0) else 0) := by
      intro d
      simp only [num_inj, Fin.ext_iff, Fin.lt_def]
      generalize d.val = x
      generalize n1 j = y
      generalize n2 j = z
      generalize e.val = w
      by_cases c1 : x = y
      · subst c1
        by_cases c2 : x = z
        · subst c2; by_cases c3 : x < w <;> simp [c3]
        · by_cases c3 : x < w <;> simp [c2, c3]
      · by_cases c2 : x = z
        · subst c2; by_cases c3 : x < w <;> simp [c1, c3]
        · simp [c1, c2]
    simp only [hs, Finset.sum_add_distrib, Finset.sum_ite_eq', Finset.mem_univ, if_true]
  have hone : ∀ e : Fin 32, (if num e.val = num n then (1 : EReal) else 0)
        * ((∑ j : Fin 256, ((if num e.val = num (n1 j) then (1 : EReal) else 0) + (if num e.val = num (n2 j) then 1 else 0)) * (if j < t then 1 else 0))
          + ∑ j : Fin 256, ∑ d : Fin 32, (if d < e then (1 : EReal) else 0)
              * ((if num d.val = num (n1 j) then 1 else 0) + (if num d.val = num (n2 j) then 1 else 0)))
      = if e = ⟨n, hn⟩ then place (fun j => num (n1 j)) (num n) t + place (fun j => num (n2 j)) (num n) t else 0 := by
    intro e
    by_cases he : e = ⟨n, hn⟩
    · subst he
      rw [if_pos rfl, if_pos rfl, one_mul]
      simp only [hlow]
      unfold place
      rw [← Finset.sum_add_distrib, ← Finset.sum_add_distrib]
      refine Finset.sum_congr rfl fun j _ => ?_
      simp only [num_inj, num_lt]
      generalize n1 j = y
      generalize n2 j = z
      by_cases c1 : n = y
      · subst c1
        by_cases c2 : n = z
        · subst c2; by_cases c3 : j < t <;> simp [c3]
        · by_cases c3 : j < t <;> by_cases c4 : z < n <;> simp [c2, Ne.symm c2, c3, c4]
      · by_cases c2 : n = z
        · subst c2; by_cases c3 : j < t <;> by_cases c4 : y < n <;> simp [c1, Ne.symm c1, c3, c4, add_comm]
        · simp [c1, c2, Ne.symm c1, Ne.symm c2]
    · have hv : ¬ num e.val = num n := fun h => he (Fin.ext (num_inj.1 h))
      rw [if_neg hv, if_neg he, zero_mul]
  simp only [hone, Finset.sum_ite_eq', Finset.mem_univ, if_true]

end Cert.Column

end
-- ==== Proof.RouteWeights.lean ====
/-
  The weights of a row's two experts: the first group's share of the softmax over the groups, times the softmax over the two
  experts' scores. The reference computes both softmaxes whole; the kernel writes 1 over the sum where the numerator is exp 0.
-/
module

public import proofs.«01_k».proof.Proof.RouteColumn
public import Idealize.ShloMosaic.Lib.Pointwise

@[expose] public section

noncomputable section

open scoped Classical

namespace Cert.Column

open Idealize.ShloMosaic

/-- The first group's share. -/
def share (gs : Fin 4 → EReal) : EReal :=
  ∑ e : Fin 4, if rank gs e < 1 then
    Ideal.div (Ideal.exp (gs e - Finset.univ.sup gs)) (∑ x : Fin 4, Ideal.exp (gs x - Finset.univ.sup gs)) else 0

/-- A score's part of the softmax over two. -/
def portion (a b s : EReal) : EReal :=
  Ideal.div (Ideal.exp (s - max a b)) (Ideal.exp (a - max a b) + Ideal.exp (b - max a b))

/-- A weight. -/
def weight (gs : Fin 4 → EReal) (es : Fin 32 → EReal) (k : EReal) : EReal :=
  share gs * portion (score gs es 0) (score gs es 1) (score gs es k)

/-- The table's columns, in the order of their lanes. -/
def columns (x1 x2 w1 w2 p1 p2 : EReal) (l : ℕ) : EReal :=
  if l = 0 then x1 else if l = 1 then x2 else if l = 2 then w1 else if l = 3 then w2 else if l = 4 then p1
    else if l = 5 then p2 else 0

/-- A comparison of small words. -/
theorem less_flag (a b : ℕ) (ha : a < 256) (hb : b < 256) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  have hn : ∀ n, n < 256 → (BitVec.ofNat 32 n).toInt = (n : ℤ) := by
    intro n hn
    have h : (BitVec.ofNat 32 n).toNat = n := by
      rw [BitVec.toNat_ofNat]
      omega
    rw [BitVec.toInt_eq_toNat_of_lt (by omega), h]
  rw [BitVec.slt_eq_decide, hn a ha, hn b hb]
  simp

/-- A number's own exponential. -/
theorem exp_self {x : EReal} (h : ∃ r : ℝ, x = (r : EReal)) : Ideal.exp (x - x) = 1 := by
  obtain ⟨r, rfl⟩ := h
  rw [← EReal.coe_sub, sub_self, Ideal.exp_coe, Real.exp_zero, EReal.coe_one]

/-- The rows above the groups do not count. -/
theorem sup_padded (gs : Fin 4 → EReal) : Finset.univ.sup (padded gs) = Finset.univ.sup gs := by
  refine le_antisymm (Finset.sup_le fun r _ => ?_) (Finset.sup_le fun r _ => ?_)
  · unfold padded
    split
    · exact Finset.le_sup (f := gs) (Finset.mem_univ _)
    · exact bot_le
  · have : gs r = padded gs ⟨r.val, by omega⟩ := by
      unfold padded
      rw [dif_pos r.isLt]
    rw [this]
    exact Finset.le_sup (f := padded gs) (Finset.mem_univ _)

/-- The share, as the kernel computes it. -/
theorem share_eq (gs : Fin 4 → EReal) (hg : ∀ e, ∃ r : ℝ, gs e = (r : EReal)) (q : Fin 4) (hq : IsFirst gs q) :
    Ideal.div 1 (∑ x, Ideal.exp (padded gs x - Finset.univ.sup (padded gs))) = share gs := by
  unfold share
  have hs := sup_first hq
  have hiff : ∀ e, rank gs e < 1 ↔ e = q := fun e =>
    (rank_lt_one gs e).trans ⟨fun h => first_unique h hq, fun h => h ▸ hq⟩
  simp only [hiff, Finset.sum_ite_eq', Finset.mem_univ, if_true]
  rw [sup_padded, hs, exp_self (hg q)]
  congr 1
  rw [Fin.sum_univ_eight, Fin.sum_univ_four]
  have low : ∀ (e : Fin 4) (x : Fin 8), x.val = e.val → padded gs x = gs e := by
    intro e x h
    unfold padded
    rw [dif_pos (h ▸ e.isLt)]
    exact congrArg gs (Fin.ext h)
  have high : ∀ x : Fin 8, 4 ≤ x.val → Ideal.exp (padded gs x - gs q) = 0 := by
    intro x h
    unfold padded
    rw [dif_neg (by omega), EReal.bot_sub, Ideal.exp_bot]
  rw [low 0 0 rfl, low 1 1 rfl, low 2 2 rfl, low 3 3 rfl, high 4 (by decide), high 5 (by decide), high 6 (by decide),
    high 7 (by decide)]
  simp only [add_zero]

/-- The greater score's part. -/
theorem portion_first {a b : EReal} (ha : ∃ r : ℝ, a = (r : EReal)) (h : b ≤ a) :
    portion a b a = Ideal.div 1 (1 + Ideal.exp (b - a)) := by
  unfold portion
  rw [max_eq_left h, exp_self ha]

/-- The other score's part. -/
theorem portion_second {a b : EReal} (ha : ∃ r : ℝ, a = (r : EReal)) (h : b ≤ a) :
    portion a b b = Ideal.div (Ideal.exp (b - a)) (1 + Ideal.exp (b - a)) := by
  unfold portion
  rw [max_eq_left h, exp_self ha]

end Cert.Column

end
-- ==== Proof.RouteTile.lean ====
/-
  The routing table of a tile of 256 rows, read at an index.
-/
module

public import proofs.«01_k».proof.Proof.RoutePieces
public import proofs.«01_k».proof.Proof.RouteWeights

@[expose] public section

noncomputable section

open scoped Classical

namespace Cert.Kernel5Ideal.Tile

open Cert.Kernel5Ideal Cert.Kernel5Ideal.Gen Cert.Kernel5Ideal.Pieces Idealize.ShloMosaic Idealize.ShloMosaic.TcCoe Cert.Column

/-- The scores of a tile's row. -/
def lanes (v : Vec Ideal S256x128 .f32) (t : Fin 256) : Fin 128 → EReal := fun l => v (ix2 t l)

/-- A small word's value as a float. -/
theorem word_num (n : ℕ) (h : n < 128) : FloatOps.sitofp (F := Ideal) .f32 (BitVec.ofNat 32 n) = num n := by
  show (((BitVec.ofNat 32 n).toInt : ℝ) : EReal) = num n
  have e : (BitVec.ofNat 32 n).toInt = (n : ℤ) := by
    have hn : (BitVec.ofNat 32 n).toNat = n := by
      rw [BitVec.toNat_ofNat]
      omega
    rw [BitVec.toInt_eq_toNat_of_lt (by rw [hn]; omega), hn]
  rw [e, Int.cast_natCast]
  rfl

/-- A comparison's word as a float. -/
theorem flag_num (p : Prop) [Decidable p] :
    FloatOps.sitofp (F := Ideal) .f32 (BitVec.setWidth 32 (BitVec.ofBool (decide p))) = if p then 1 else 0 := by
  by_cases h : p
  · rw [if_pos h, decide_eq_true h]
    show (((BitVec.setWidth 32 (BitVec.ofBool true)).toInt : ℝ) : EReal) = 1
    have e : (BitVec.setWidth 32 (BitVec.ofBool true)).toInt = 1 := by decide
    rw [e]
    simp
  · rw [if_neg h, decide_eq_false h]
    show (((BitVec.setWidth 32 (BitVec.ofBool false)).toInt : ℝ) : EReal) = 0
    have e : (BitVec.setWidth 32 (BitVec.ofBool false)).toInt = 0 := by decide
    rw [e]
    simp

/-- Eight, as a float's value. -/
theorem eight : Ideal.ofBits .f32 0x41000000#32 = num 8 := by
  simp [Ideal.ofBits, Ideal.ieee, num, -EReal.coe_mul]; norm_num

/-- Four, as a float's value. -/
theorem four : Ideal.ofBits .f32 0x40800000#32 = num 4 := by
  simp [Ideal.ofBits, Ideal.ieee, num, -EReal.coe_mul]; norm_num

/-- Three, as a float's value. -/
theorem three : Ideal.ofBits .f32 0x40400000#32 = num 3 := by
  simp [Ideal.ofBits, Ideal.ieee, num, -EReal.coe_mul]; norm_num

/-- Two, as a float's value. -/
theorem two : Ideal.ofBits .f32 0x40000000#32 = num 2 := by
  simp [Ideal.ofBits, Ideal.ieee, num, -EReal.coe_mul]; norm_num

/-- One. -/
theorem one : (1 : EReal) = num 1 := by simp [num]

/-- The least value. -/
theorem least : Ideal.ofBits .f32 0xFF800000#32 = (⊥ : EReal) := by
  simp [Ideal.ofBits, Ideal.ieee]

/-- The greatest value. -/
theorem greatest : Ideal.ofBits .f32 0x7F800000#32 = (⊤ : EReal) := by
  simp [Ideal.ofBits, Ideal.ieee]

/-- The rows are numbered. -/
theorem row_apply (r : Fin 8) (t : Fin 256) : k0_pay4 (F := Ideal) (ix2 r t) = num r.val := by
  pointwise [k0_pay4]
  exact word_num r.val (by omega)

/-- The groups' scores, above rows of the least value. -/
theorem group_apply (v : Vec Ideal S256x128 .f32) (r : Fin 8) (t : Fin 256) :
    k0_pay6 (F := Ideal) v (ix2 r t) = padded (groupScores (lanes v t)) r := by
  pointwise [k0_pay6, k0_pay5, row_apply]
  rw [four, least]
  unfold padded
  by_cases h : r.val < 4
  · rw [if_pos (num_lt.2 h), dif_pos h]
    rfl
  · rw [if_neg (fun hn => h (num_lt.1 hn)), dif_neg h]

/-- Their greatest. -/
theorem max_apply (v : Vec Ideal S256x128 .f32) (t : Fin 256) :
    k0_pay7 (F := Ideal) v (ix2 0 t) = Finset.univ.sup (padded (groupScores (lanes v t))) := by
  pointwise [k0_pay7, group_apply]
  rw [least]
  rfl

/-- The chosen group's number. -/
theorem num_apply (v : Vec Ideal S256x128 .f32) (t : Fin 256) :
    k0_pay8 (F := Ideal) v (ix2 0 t) = groupNum (lanes v t) := by
  pointwise [k0_pay8, max_apply, group_apply, row_apply]
  rw [greatest, eight]
  rfl

/-- The chosen group's scores. -/
theorem picked_apply (v : Vec Ideal S256x128 .f32) (r : Fin 8) (t : Fin 256) :
    k0_pay11 (F := Ideal) (k0_pay5 v) (k0_pay8 v) (k0_pay10 v) (ix2 r t) = picked (lanes v t) r := by
  pointwise [k0_pay11, k0_pay5, k0_pay10, num_apply]
  rw [three, two, one]
  rfl

/-- Their greatest. -/
theorem best_apply (v : Vec Ideal S256x128 .f32) (t : Fin 256) :
    k0_pay12 (F := Ideal) (k0_pay5 v) (k0_pay8 v) (k0_pay10 v) (ix2 0 t) = Finset.univ.sup (picked (lanes v t)) := by
  pointwise [k0_pay12, picked_apply]
  rw [least]
  rfl

/-- The row of the first expert. -/
theorem first_apply (v : Vec Ideal S256x128 .f32) (t : Fin 256) :
    k0_pay13 (F := Ideal) k0_pay4 (k0_pay5 v) (k0_pay8 v) (k0_pay10 v) (ix2 0 t) = firstRow (picked (lanes v t)) := by
  pointwise [k0_pay13, best_apply, picked_apply, row_apply]
  rw [greatest, eight]
  rfl

/-- The scores without it. -/
theorem rest_apply (v : Vec Ideal S256x128 .f32) (r : Fin 8) (t : Fin 256) :
    k0_pay14 (F := Ideal) k0_pay4 (k0_pay5 v) (k0_pay8 v) (k0_pay10 v) (ix2 r t) = without (picked (lanes v t)) r := by
  pointwise [k0_pay14, first_apply, picked_apply, row_apply]
  rw [least]
  rfl

/-- Their greatest. -/
theorem next_apply (v : Vec Ideal S256x128 .f32) (t : Fin 256) :
    k0_pay15 (F := Ideal) k0_pay4 (k0_pay5 v) (k0_pay8 v) (k0_pay10 v) (ix2 0 t) = Finset.univ.sup (without (picked (lanes v t))) := by
  pointwise [k0_pay15, rest_apply]
  rw [least]
  rfl

/-- The first expert's number. -/
theorem expert1_apply (v : Vec Ideal S256x128 .f32) (t : Fin 256) :
    k0_pay20 (F := Ideal) k0_pay4 (k0_pay5 v) (k0_pay8 v) (k0_pay10 v) (ix2 0 t)
      = groupNum (lanes v t) * num 8 + firstRow (picked (lanes v t)) := by
  pointwise [k0_pay20, first_apply, num_apply]
  rw [eight]

/-- The second expert's number. -/
theorem expert2_apply (v : Vec Ideal S256x128 .f32) (t : Fin 256) :
    k0_pay21 (F := Ideal) k0_pay4 (k0_pay5 v) (k0_pay8 v) (k0_pay10 v) (ix2 0 t)
      = groupNum (lanes v t) * num 8 + firstRow (without (picked (lanes v t))) := by
  pointwise [k0_pay21, next_apply, rest_apply, num_apply, row_apply]
  rw [eight, greatest]
  rfl

/-- The first group's share. -/
theorem share_apply (v : Vec Ideal S256x128 .f32) (t : Fin 256) :
    k0_pay9 (F := Ideal) v (ix2 0 t)
      = Ideal.div 1 (∑ x, Ideal.exp (padded (groupScores (lanes v t)) x - Finset.univ.sup (padded (groupScores (lanes v t))))) := by
  pointwise [k0_pay9, max_apply, group_apply]

/-- The second score over the first. -/
theorem ratio_apply (v : Vec Ideal S256x128 .f32) (t : Fin 256) :
    k0_pay16 (F := Ideal) k0_pay4 (k0_pay5 v) (k0_pay8 v) (k0_pay10 v) (ix2 0 t)
      = Ideal.exp (Finset.univ.sup (without (picked (lanes v t))) - Finset.univ.sup (picked (lanes v t))) := by
  pointwise [k0_pay16, next_apply, best_apply]

/-- The first weight. -/
theorem weight1_apply (v : Vec Ideal S256x128 .f32) (t : Fin 256) :
    k0_pay18 (F := Ideal) k0_pay4 (k0_pay5 v) (k0_pay8 v) (k0_pay9 v) (k0_pay10 v) (ix2 0 t)
      = k0_pay9 v (ix2 0 t) * Ideal.div 1 (1 + k0_pay16 k0_pay4 (k0_pay5 v) (k0_pay8 v) (k0_pay10 v) (ix2 0 t)) := by
  pointwise [k0_pay18, k0_pay17]

/-- The second weight. -/
theorem weight2_apply (v : Vec Ideal S256x128 .f32) (t : Fin 256) :
    k0_pay19 (F := Ideal) k0_pay4 (k0_pay5 v) (k0_pay8 v) (k0_pay9 v) (k0_pay10 v) (ix2 0 t)
      = k0_pay9 v (ix2 0 t) * Ideal.div (k0_pay16 k0_pay4 (k0_pay5 v) (k0_pay8 v) (k0_pay10 v) (ix2 0 t))
        (1 + k0_pay16 k0_pay4 (k0_pay5 v) (k0_pay8 v) (k0_pay10 v) (ix2 0 t)) := by
  pointwise [k0_pay19, k0_pay17]

/-- A comparison's flag as a float. -/
theorem less_num (a b : ℕ) (ha : a < 256) (hb : b < 256) :
    FloatOps.sitofp (F := Ideal) .f32 (BitVec.setWidth 32 (IntOp.cmpi .slt (BitVec.ofNat 32 a) (BitVec.ofNat 32 b)))
      = if a < b then 1 else 0 := by
  rw [less_flag a b ha hb, flag_num]

/-- How many assignments to an expert come before, and how many to lower experts. -/
theorem places_apply (X Y : FVec Ideal S1x256 .f32) (e : Fin 32) (t : Fin 256) :
    k0_pay26 (F := Ideal) X Y (ix2 e t)
      = (∑ j : Fin 256, ((if num e.val = X (ix2 0 j) then (1 : EReal) else 0) + (if num e.val = Y (ix2 0 j) then 1 else 0))
          * (if j < t then 1 else 0))
        + ∑ j : Fin 256, ∑ d : Fin 32, (if d < e then (1 : EReal) else 0)
          * ((if num d.val = X (ix2 0 j) then 1 else 0) + (if num d.val = Y (ix2 0 j) then 1 else 0)) := by
  pointwise [k0_pay26, k0_pay25, k0_pay24, k0_pay23, k0_pay22]
  refine congrArg₂ (· + ·) (Finset.sum_congr rfl fun j _ => ?_) (Finset.sum_congr rfl fun j _ => Finset.sum_congr rfl fun d _ => ?_)
  · rw [flag_num, flag_num, less_num _ _ j.isLt t.isLt, word_num _ (by omega)]
    rfl
  · rw [flag_num, flag_num, less_num _ _ (by omega) (by omega), word_num _ (by omega)]
    rfl

/-- The place of the first expert. -/
theorem place1_apply (X Y : FVec Ideal S1x256 .f32) (t : Fin 256) :
    k0_pay27 (F := Ideal) X Y (ix2 0 t)
      = ∑ e : Fin 32, (if num e.val = X (ix2 0 t) then (1 : EReal) else 0) * k0_pay26 X Y (ix2 e t) := by
  pointwise [k0_pay27, k0_pay23, k0_pay22]
  refine Finset.sum_congr rfl fun e _ => ?_
  rw [flag_num, word_num _ (by omega)]

/-- The place of the second expert. -/
theorem place2_apply (X Y : FVec Ideal S1x256 .f32) (t : Fin 256) :
    k0_pay28 (F := Ideal) X Y (ix2 0 t)
      = ∑ e : Fin 32, (if num e.val = Y (ix2 0 t) then (1 : EReal) else 0) * k0_pay26 X Y (ix2 e t) := by
  pointwise [k0_pay28, k0_pay24, k0_pay22]
  refine Finset.sum_congr rfl fun e _ => ?_
  rw [flag_num, word_num _ (by omega)]

/-- Five, as a float's value. -/
theorem five : Ideal.ofBits .f32 0x40A00000#32 = num 5 := by
  simp [Ideal.ofBits, Ideal.ieee, num, -EReal.coe_mul]; norm_num

/-- The table's lanes. -/
theorem columns_apply (w1 w2 X Y p1 p2 : FVec Ideal S1x256 .f32) (t : Fin 256) (l : Fin 128) :
    k0_pay32 (F := Ideal) k0_pay4 w1 w2 X Y p1 p2 k0_pay30 (k0_pay31 (F := Ideal) k0_pay4) (ix2 t l)
      = columns (X (ix2 0 t)) (Y (ix2 0 t)) (w1 (ix2 0 t)) (w2 (ix2 0 t)) (p1 (ix2 0 t)) (p2 (ix2 0 t)) l.val := by
  pointwise [k0_pay32, k0_pay31, k0_pay30, row_apply]
  rw [five, four, three, two, one]
  have z : (0 : EReal) = num 0 := by simp [num]
  have hz : (num l.val = 0) = (num l.val = num 0) := by rw [← z]
  simp only [hz, num_inj]
  unfold columns
  split_ifs <;> first | rfl | omega

end Cert.Kernel5Ideal.Tile

end
-- ==== Proof.RouteTable.lean ====
/-
  The routing table of a tile of 256 rows, from its rows' scores.
-/
module

public import proofs.«01_k».proof.Proof.RouteTile

@[expose] public section

noncomputable section

open scoped Classical

namespace Cert.Kernel5Ideal.Tile

open Cert.Kernel5Ideal Cert.Kernel5Ideal.Gen Cert.Kernel5Ideal.Pieces Idealize.ShloMosaic Idealize.ShloMosaic.TcCoe Cert.Column

/-- What a row's scores choose, in both forms. -/
theorem row_choice (L : Fin 128 → EReal) (gs : Fin 4 → EReal) (es : Fin 32 → EReal) (hg : groupScores L = gs)
    (he : ∀ q : Fin 4, expertScores L q = fun e : Fin 8 => es ⟨8 * q.val + e.val, by omega⟩)
    (fg : ∀ e, ∃ r : ℝ, gs e = (r : EReal)) (fe : ∀ e, ∃ r : ℝ, es e = (r : EReal)) :
    ∃ n1 n2 : ℕ, n1 < 32 ∧ n2 < 32
      ∧ groupNum L * num 8 + firstRow (picked L) = num n1 ∧ groupNum L * num 8 + firstRow (without (picked L)) = num n2
      ∧ number gs es 0 = num n1 ∧ number gs es 1 = num n2
      ∧ Ideal.div 1 (∑ x, Ideal.exp (padded (groupScores L) x - Finset.univ.sup (padded (groupScores L))))
          * Ideal.div 1 (1 + Ideal.exp (Finset.univ.sup (without (picked L)) - Finset.univ.sup (picked L))) = weight gs es 0
      ∧ Ideal.div 1 (∑ x, Ideal.exp (padded (groupScores L) x - Finset.univ.sup (padded (groupScores L))))
          * Ideal.div (Ideal.exp (Finset.univ.sup (without (picked L)) - Finset.univ.sup (picked L)))
            (1 + Ideal.exp (Finset.univ.sup (without (picked L)) - Finset.univ.sup (picked L))) = weight gs es 1 := by
  have hL : ∀ l : Fin 128, l.val < 32 → L l ≠ ⊥ := by
    intro l hl
    have h := congrFun (he ⟨l.val / 8, by omega⟩) ⟨l.val % 8, by omega⟩
    obtain ⟨r, hr⟩ := fe ⟨8 * (l.val / 8) + l.val % 8, by omega⟩
    have hl' : expertScores L ⟨l.val / 8, by omega⟩ ⟨l.val % 8, by omega⟩ = L l := by
      unfold expertScores
      exact congrArg L (Fin.ext (show 8 * (l.val / 8) + l.val % 8 = l.val by omega))
    rw [← hl', h]
    dsimp only
    rw [hr]
    exact EReal.coe_ne_bot r
  obtain ⟨q, a, b, hab, hq, hp, hf, ha, hb, ra, rb, sa, sb⟩ := choice L hL
  rw [hg] at hf
  rw [he q] at ra rb sa sb
  have p0 := picks_iff gs es 0 q a hf ra
  have p1 := picks_iff gs es 1 q b hf rb
  have s0 : score gs es 0 = _ := score_eq p0
  have s1 : score gs es 1 = _ := score_eq p1
  have hle : es ⟨8 * q.val + b.val, by omega⟩ ≤ es ⟨8 * q.val + a.val, by omega⟩ :=
    first_ge ((rank_eq_zero _ a).1 ((ra a).2 rfl)) b
  refine ⟨8 * q.val + a.val, 8 * q.val + b.val, by omega, by omega, ?_, ?_, number_eq p0, number_eq p1, ?_, ?_⟩
  · rw [hq, ha, num_comb, mul_comm]
  · rw [hq, hb, num_comb, mul_comm]
  · rw [sa, sb, hg, share_eq gs fg q hf]
    unfold weight
    rw [s0, s1, portion_first (fe _) hle]
  · rw [sa, sb, hg, share_eq gs fg q hf]
    unfold weight
    rw [s0, s1, portion_second (fe _) hle]

/-- THE TABLE of a tile. -/
theorem table_apply (w : Vec Ideal S256x128 .f32) (G : Fin 256 → Fin 4 → EReal) (E : Fin 256 → Fin 32 → EReal)
    (hG : ∀ t, groupScores (lanes w t) = G t)
    (hE : ∀ t (q : Fin 4), expertScores (lanes w t) q = fun e : Fin 8 => E t ⟨8 * q.val + e.val, by omega⟩)
    (fG : ∀ t e, ∃ r : ℝ, G t e = (r : EReal)) (fE : ∀ t e, ∃ r : ℝ, E t e = (r : EReal)) (t : Fin 256) (l : Fin 128) :
    table (F := Ideal) w (ix2 t l)
      = columns (number (G t) (E t) 0) (number (G t) (E t) 1) (weight (G t) (E t) 0) (weight (G t) (E t) 1)
          (place (fun j => number (G j) (E j) 0) (number (G t) (E t) 0) t + place (fun j => number (G j) (E j) 1) (number (G t) (E t) 0) t)
          (place (fun j => number (G j) (E j) 0) (number (G t) (E t) 1) t + place (fun j => number (G j) (E j) 1) (number (G t) (E t) 1) t)
          l.val := by
  choose n1 n2 h1 h2 x1 x2 N0 N1 W0 W1 using fun t => row_choice (lanes w t) (G t) (E t) (hG t) (hE t) (fG t) (fE t)
  unfold table
  rw [columns_apply, weight1_apply, weight2_apply, place1_apply, place2_apply, share_apply, ratio_apply, W0 t, W1 t]
  simp only [places_apply, expert1_apply, expert2_apply, x1, x2, N0, N1]
  rw [place_eq n1 n2 h1 h2 (n1 t) (h1 t) t, place_eq n1 n2 h1 h2 (n2 t) (h2 t) t]

end Cert.Kernel5Ideal.Tile

end
-- ==== Proof.RouteSpec.lean ====
/-
  The routing table, from the scores of the rows: a row's two experts, their weights, and their places among the assignments of
  the row's tile of 256 rows, sorted by expert.
-/
module

public import proofs.«01_k».proof.Proof.CountSpec
public import proofs.«01_k».proof.Proof.RouteWeights

@[expose] public section

noncomputable section

open scoped Classical

namespace Cert.Rows

open Cert.Column

/-- A row's expert of a rank. -/
def expertAt (a : Arrays) (r : Fin 32768) (k : EReal) : EReal := number (groupScore a r) (expertScore a r) k

/-- A row of a row's tile. -/
def tileRow (r : Fin 32768) (j : Fin 256) : Fin 32768 := ⟨256 * (r.val / 256) + j.val, by omega⟩

/-- The place of a row's expert among the tile's assignments. -/
def placeAt (a : Arrays) (r : Fin 32768) (k : EReal) : EReal :=
  place (fun j => expertAt a (tileRow r j) 0) (expertAt a r k) ⟨r.val % 256, by omega⟩
    + place (fun j => expertAt a (tileRow r j) 1) (expertAt a r k) ⟨r.val % 256, by omega⟩

/-- The table. -/
def routeAt (a : Arrays) (r : Fin 32768) (l : ℕ) : EReal :=
  columns (expertAt a r 0) (expertAt a r 1) (weight (groupScore a r) (expertScore a r) 0) (weight (groupScore a r) (expertScore a r) 1)
    (placeAt a r 0) (placeAt a r 1) l

end Cert.Rows

end
-- ==== Proof.RouteValue.lean ====
/-
  The routing table that the merge leaves in its result: a point writes the table of the 1024 rows whose scores the point before
  it kept.
-/
module

public import proofs.«01_k».proof.Proof.RouteScores
public import proofs.«01_k».proof.Proof.RouteTable
public import proofs.«01_k».proof.Proof.RouteSpec

@[expose] public section

noncomputable section

open scoped Classical

namespace Cert.Kernel5Ideal.Route

open Cert.Kernel5Ideal Cert.Kernel5Ideal.Gen Cert.Kernel5Ideal.Host Cert.Kernel5Ideal.Reads
  Cert.Kernel5Ideal.Pieces Idealize.ShloMosaic Idealize.ShloMosaic.TcCoe Cert.Rows Cert.Column

variable (m : (ℓ : Loc nD τ sig) → Buf (Elt Ideal) ℓ) (c : Dev nD)

/-- A row of a block's scores. -/
def scoreRow (v : Vec Ideal S1024x128 .f32) (q : ℕ) (hq : q < 4) (t : Fin 256) : Fin 128 → EReal :=
  fun l => v (ix2 ⟨256 * q + t.val, by omega⟩ l)

/-- A tile's row among those of a block. -/
def tok (q : ℕ) (hq : q < 4) (t : Fin 256) : Fin 1024 := ⟨256 * q + t.val, by omega⟩

/-- The tables of a block's tiles, from the scores of its rows. -/
def tables (G : Fin 1024 → Fin 4 → EReal) (E : Fin 1024 → Fin 32 → EReal) (r : Fin 1024) (l : ℕ) : EReal :=
  columns (number (G r) (E r) 0) (number (G r) (E r) 1) (weight (G r) (E r) 0) (weight (G r) (E r) 1)
    (Column.place (fun j : Fin 256 => number (G ⟨256 * (r.val / 256) + j.val, by omega⟩) (E ⟨256 * (r.val / 256) + j.val, by omega⟩) 0)
        (number (G r) (E r) 0) ⟨r.val % 256, by omega⟩
      + Column.place (fun j : Fin 256 => number (G ⟨256 * (r.val / 256) + j.val, by omega⟩) (E ⟨256 * (r.val / 256) + j.val, by omega⟩) 1)
        (number (G r) (E r) 0) ⟨r.val % 256, by omega⟩)
    (Column.place (fun j : Fin 256 => number (G ⟨256 * (r.val / 256) + j.val, by omega⟩) (E ⟨256 * (r.val / 256) + j.val, by omega⟩) 0)
        (number (G r) (E r) 1) ⟨r.val % 256, by omega⟩
      + Column.place (fun j : Fin 256 => number (G ⟨256 * (r.val / 256) + j.val, by omega⟩) (E ⟨256 * (r.val / 256) + j.val, by omega⟩) 1)
        (number (G r) (E r) 1) ⟨r.val % 256, by omega⟩) l

/-- An index of a tile's table. -/
theorem tile_index (y : S256x128.Idx) : y = ix2 (y 0) (y 1) := funext fun a => by fin_cases a <;> rfl

/-- The block's tables as a block. -/
def whole (G : Fin 1024 → Fin 4 → EReal) (E : Fin 1024 → Fin 32 → EReal) : Vec Ideal S1024x128 .f32 :=
  fun y => tables G E (y 0) (y 1).val

section
variable (v : Vec Ideal S1024x128 .f32) (G : Fin 1024 → Fin 4 → EReal) (E : Fin 1024 → Fin 32 → EReal)
  (hG : ∀ r (g : Fin 4), v (ix2 r ⟨32 + g.val, by omega⟩) = G r g) (hE : ∀ r (e : Fin 32), v (ix2 r ⟨e.val, by omega⟩) = E r e)
  (fG : ∀ r e, ∃ s : ℝ, G r e = (s : EReal)) (fE : ∀ r e, ∃ s : ℝ, E r e = (s : EReal))
include hG hE fG fE

/-- A stored tile is a part of the block's table. -/
theorem stored (w : Vec Ideal S256x128 .f32) (q : ℕ) (hq : q < 4) (o : ℕ) (ho : o = 256 * q)
    (inb : ∀ a : Fin S1024x128.rank, (![o, 0] : Fin 2 → ℕ) a + S256x128.size a ≤ S1024x128.size a)
    (hw : ∀ t, Tile.lanes w t = scoreRow v q hq t) (y : S256x128.Idx) :
    (table (F := Ideal) w y : EReal) = whole G E ((Rect.unit (s := S1024x128) ![o, 0] S256x128.size inb).emb y) := by
  subst ho
  have h0 : (((Rect.unit (s := S1024x128) ![256 * q, 0] S256x128.size inb).emb y) 0).val = 256 * q + (y 0).val := by
    show 256 * q + 1 * (y 0).val = 256 * q + (y 0).val
    omega
  have h1 : (((Rect.unit (s := S1024x128) ![256 * q, 0] S256x128.size inb).emb y) 1).val = (y 1).val := by
    show 0 + 1 * (y 1).val = (y 1).val
    omega
  have key : ∀ z : S1024x128.Idx, (z 0).val = 256 * q + (y 0).val → (z 1).val = (y 1).val →
      (table (F := Ideal) w y : EReal) = whole G E z := by
    intro z hz0 hz1
    have ht : (y 0).val < 256 := (y 0).isLt
    have hr : z 0 = tok q hq (y 0) := Fin.ext hz0
    refine (congrArg (table (F := Ideal) w) (tile_index y)).trans ((Tile.table_apply w (fun t => G (tok q hq t)) (fun t => E (tok q hq t))
      (fun t => ?_) (fun t g => ?_) (fun t => fG _) (fun t => fE _) _ _).trans ?_)
    · rw [hw]
      exact funext fun g => hG _ g
    · rw [hw]
      exact funext fun e => hE _ ⟨8 * g.val + e.val, by omega⟩
    · unfold whole tables
      rw [hz1, hr]
      have hj : ∀ j : Fin 256, (⟨256 * ((tok q hq (y 0)).val / 256) + j.val, by have := (tok q hq (y 0)).isLt; omega⟩ : Fin 1024) = tok q hq j := fun j => Fin.ext
        (show 256 * ((256 * q + (y 0).val) / 256) + j.val = 256 * q + j.val by omega)
      have hm : (⟨(tok q hq (y 0)).val % 256, by omega⟩ : Fin 256) = y 0 := Fin.ext
        (show (256 * q + (y 0).val) % 256 = (y 0).val by omega)
      simp only [hj, hm]
  exact key _ h0 h1

/-- The table a point stores, from the scores kept before it. -/
theorem canon_eq (y : S1024x128.Idx) :
    View.canon (Val := Elt Ideal) [⟨Rect.unit (s := S1024x128) ![768, 0] S256x128.size inb_S1024x128_S256x128_768_0, table (tile3 v)⟩,
          ⟨Rect.unit (s := S1024x128) ![512, 0] S256x128.size inb_S1024x128_S256x128_512_0, table (tile2 v)⟩,
          ⟨Rect.unit (s := S1024x128) ![256, 0] S256x128.size inb_S1024x128_S256x128_256_0, table (tile1 v)⟩,
          ⟨Rect.unit (s := S1024x128) ![0, 0] S256x128.size inb_S1024x128_S256x128_0_0, table (tile0 v)⟩] y
      = whole G E y := by
  refine View.canon_apply_of_pieces (whole G E) _ ?_ y (View.cover_of_tiled_head _ _ _ (by rfl) y)
  intro p hp
  simp only [List.mem_cons, List.not_mem_nil, or_false] at hp
  rcases hp with rfl | rfl | rfl | rfl
  · refine stored v G E hG hE fG fE _ 3 (by omega) 768 (by omega) inb_S1024x128_S256x128_768_0 fun t => funext fun l => congrArg v (funext fun a => Fin.ext ?_)
    fin_cases a
    · show 768 + 1 * t.val = 256 * 3 + t.val; omega
    · show 0 + 1 * l.val = l.val; omega
  · refine stored v G E hG hE fG fE _ 2 (by omega) 512 (by omega) inb_S1024x128_S256x128_512_0 fun t => funext fun l => congrArg v (funext fun a => Fin.ext ?_)
    fin_cases a
    · show 512 + 1 * t.val = 256 * 2 + t.val; omega
    · show 0 + 1 * l.val = l.val; omega
  · refine stored v G E hG hE fG fE _ 1 (by omega) 256 (by omega) inb_S1024x128_S256x128_256_0 fun t => funext fun l => congrArg v (funext fun a => Fin.ext ?_)
    fin_cases a
    · show 256 + 1 * t.val = 256 * 1 + t.val; omega
    · show 0 + 1 * l.val = l.val; omega
  · refine stored v G E hG hE fG fE _ 0 (by omega) 0 (by omega) inb_S1024x128_S256x128_0_0 fun t => funext fun l => congrArg v (funext fun a => Fin.ext ?_)
    fin_cases a
    · show 0 + 1 * t.val = 256 * 0 + t.val; omega
    · show 0 + 1 * l.val = l.val; omega

end

/-- The table. -/
def result : Vec Ideal S32768x128 .f32 := fun y => routeAt (arrays m c) (y 0) (y 1).val

/-- A block's tables are the rows' own. -/
theorem tables_eq (t : Fin cfg0.N) (r : Fin 1024) (l : ℕ) :
    tables (fun r => groupScore (arrays m c) (row t r)) (fun r => expertScore (arrays m c) (row t r)) r l
      = routeAt (arrays m c) (row t r) l := by
  have hv : ∀ r : Fin 1024, (row t r).val = 1024 * min t.val 31 + r.val := fun r => rfl
  have hj : ∀ j : Fin 256, row t ⟨256 * (r.val / 256) + j.val, by omega⟩ = tileRow (row t r) j := fun j => Fin.ext (by
    show 1024 * min t.val 31 + (256 * (r.val / 256) + j.val) = 256 * ((1024 * min t.val 31 + r.val) / 256) + j.val
    omega)
  have hm : (⟨(row t r).val % 256, by omega⟩ : Fin 256) = ⟨r.val % 256, by omega⟩ := Fin.ext (by
    show (1024 * min t.val 31 + r.val) % 256 = r.val % 256
    omega)
  unfold tables routeAt placeAt expertAt
  simp only [hj, hm]

/-- What a point after the first writes back. -/
theorem written14 (hs : ∀ r, (∀ e, ∃ s : ℝ, groupScore (arrays m c) r e = (s : EReal)) ∧ ∀ e, ∃ s : ℝ, expertScore (arrays m c) r e = (s : EReal))
    (t : Fin cfg0.N) (h : ¬ t.val % 33 = 0) (r : Fin 1024) (l : Fin 128) :
    (dats m 0 c).flushed 14 t (ix2 r l) = (result m c (ix2 (rowAt t r) l) : EReal) := by
  have ht := point_lt t
  have hlt : t.val - 1 < cfg0.N := lt_of_le_of_lt (Nat.sub_le _ _) t.isLt
  rw [Value.flushed14_B m c t h]
  have hk := kept_eq m c ⟨t.val - 1, hlt⟩
  refine (congrFun (outB_14 ..) (ix2 r l)).trans ((canon_eq _ (fun r => groupScore (arrays m c) (row ⟨t.val - 1, hlt⟩ r))
    (fun r => expertScore (arrays m c) (row ⟨t.val - 1, hlt⟩ r))
    (fun r g => (congrFun hk _).trans (group_eq m c ⟨t.val - 1, hlt⟩ r g)) (fun r e => (congrFun hk _).trans (expert_eq m c ⟨t.val - 1, hlt⟩ r e))
    (fun r => (hs _).1) (fun r => (hs _).2) _).trans ?_)
  refine (tables_eq m c ⟨t.val - 1, hlt⟩ r l.val).trans ?_
  have hr : row ⟨t.val - 1, hlt⟩ r = rowAt t r := Fin.ext (by
    show 1024 * min (t.val - 1) 31 + r.val = 1024 * (t.val - 1) + r.val
    omega)
  rw [hr]
  rfl

/-- An index of a block. -/
theorem block_index (y : S1024x128.Idx) : y = ix2 (y 0) (y 1) := funext fun a => by fin_cases a <;> rfl

/-- Only the points after the first write the table back. -/
theorem later : ∀ t : Fin cfg0.N, (cfg0.win 14).flush t = true → ¬ t.val % 33 = 0 := by decide +kernel

/-- THE TABLE of the call. -/
theorem result_eq (hs : ∀ r, (∀ e, ∃ s : ℝ, groupScore (arrays m c) r e = (s : EReal)) ∧ ∀ e, ∃ s : ℝ, expertScore (arrays m c) r e = (s : EReal)) :
    (dats m 0 c).arrAt 14 cfg0.N = result m c := by
  refine (dats m 0 c).arrAt_eq_of_covers 14 (result m c) (by decide +kernel) ?_
  intro t hf y
  rw [block_index y]
  exact (written14 m c hs t (later t hf) _ _).trans (congrArg (result m c) (place14 t _ _).symm)

end Cert.Kernel5Ideal.Route

end
-- ==== Proof.RouteReference.lean ====
/-
  The scores that the routing table's reference computes, read at an index.
-/
module

public import proofs.«01_k».proof.Proof.Gen.Reference5Ideal.Read
public import proofs.«01_k».proof.Proof.CountSpec
public import Idealize.ShloMosaic.Lib.Pointwise

@[expose] public section

noncomputable section

namespace Cert.Reference5Ideal.Rows

open Cert.Reference5Ideal Cert.Reference5Ideal.Gen Cert.Reference5Ideal.Read Idealize.ShloMosaic Idealize.ShloMosaic.TcCoe Cert.Rows

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

/-- 1024, as a float's value. -/
theorem width1024 : Ideal.ofBits .f32 0x44800000#32 = ((1024 : ℝ) : EReal) := by
  simp [Ideal.ofBits, Ideal.ieee, -EReal.coe_mul]; norm_num

/-- A normalised row. -/
theorem normed_apply (b : Fin 8) (s : Fin 4096) (k : Fin 1024) :
    val_main_v12 (F := Ideal) x g (ix3 b s k) = normed ((1024 : ℝ) : EReal) (fun j => (x (ix3 b s j) : EReal)) (g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [width1024]
  rfl

/-- A projected row. -/
theorem projected_apply (b : Fin 8) (s : Fin 4096) (j : Fin 5120) :
    val_main_v16 (F := Ideal) x g w bias (ix3 b s j) = projected x g w bias b s j := by
  pointwise [val_main_v16, val_main_v15, val_main_v14, val_main_v13]
  refine congrArg (· + _) (Finset.sum_congr rfl fun k _ => ?_)
  rw [normed_apply]

/-- The gate of the attention. -/
theorem gate_attention (b : Fin 8) (s : Fin 4096) (l : Fin 1024) :
    val_main_v24 (F := Ideal) x g w bias (ix3 b s l) = gate x g w bias 3072 (by omega) b s l := by
  unfold gate sigmoid
  rw [← projected_apply]
  pointwise [val_main_v24, val_main_v23, val_main_v22, val_main_v21, val_main_v20, val_main_v19, val_main_v17, val_main_cst_2, val_main_cst_3]

/-- The gate of the convolution. -/
theorem gate_convolution (b : Fin 8) (s : Fin 4096) (l : Fin 1024) :
    val_main_v32 (F := Ideal) x g w bias (ix3 b s l) = gate x g w bias 4096 (by omega) b s l := by
  unfold gate sigmoid
  rw [← projected_apply]
  pointwise [val_main_v32, val_main_v31, val_main_v30, val_main_v29, val_main_v28, val_main_v27, val_main_v18, val_main_cst_4, val_main_cst_5]

/-- The two mixers under their gates. -/
theorem merged_apply (b : Fin 8) (s : Fin 4096) (l : Fin 1024) :
    val_main_v35 (F := Ideal) x ya yc g w bias wa wc (ix3 b s l) = merged x ya yc g w bias wa wc b s l := by
  unfold merged
  rw [← gate_attention, ← gate_convolution]
  pointwise [val_main_v35, val_main_v34, val_main_v33, val_main_v26, val_main_v25]
  rfl

/-- The residual stream after the merge. -/
theorem stream_apply (r : Fin 32768) (l : Fin 1024) :
    val_main_v38 (F := Ideal) x ya yc g w bias wa wc wo (ix2 r l)
      = stream x ya yc g w bias wa wc wo ⟨r.val / 4096, by omega⟩ ⟨r.val % 4096, by omega⟩ l := by
  pointwise [val_main_v38, val_main_v37, val_main_v36]
  refine congrArg (_ + ·) (Finset.sum_congr rfl fun k _ => ?_)
  rw [merged_apply]

variable (gf : FVec Ideal S1024 .f32) (wg : FVec Ideal S1024x4 .f32) (bg : FVec Ideal S4 .f32) (wr : FVec Ideal S1024x32 .f32)
  (br : FVec Ideal S32 .f32)

/-- The arrays. -/
abbrev arrays : Arrays := ⟨x, ya, yc, g, w, bias, wa, wc, wo, gf, wg, bg, wr, br⟩

/-- The stream normalised. -/
theorem second_apply (r : Fin 32768) (k : Fin 1024) :
    val_main_v51 (F := Ideal) x ya yc g w bias wa wc wo gf (ix2 r k)
      = streamNormed (arrays x ya yc g w bias wa wc wo gf wg bg wr br) r k := by
  unfold streamNormed
  have hs : streamRow (arrays x ya yc g w bias wa wc wo gf wg bg wr br) r
      = fun l => (val_main_v38 (F := Ideal) x ya yc g w bias wa wc wo (ix2 r l) : EReal) :=
    funext fun l => (stream_apply x ya yc g w bias wa wc wo r l).symm
  rw [hs]
  pointwise [val_main_v51, val_main_v50, val_main_v49, val_main_v48, val_main_v47, val_main_v46, val_main_v45, val_main_v44, val_main_v43, val_main_v42, val_main_v41, val_main_v40, val_main_v39, val_main_cst_6, val_main_cst_7, val_main_cst_8]
  rw [width1024]
  rfl

/-- A group's score. -/
theorem group_apply (r : Fin 32768) (e : Fin 4) :
    val_main_v55 (F := Ideal) x ya yc g w bias wa wc wo gf wg bg (ix2 r e)
      = groupScore (arrays x ya yc g w bias wa wc wo gf wg bg wr br) r e := by
  pointwise [val_main_v55, val_main_v54, val_main_v53, val_main_v52]
  refine congrArg (· + _) (Finset.sum_congr rfl fun k _ => ?_)
  rw [second_apply x ya yc g w bias wa wc wo gf wg bg wr br]

/-- An expert's score. -/
theorem expert_apply (r : Fin 32768) (e : Fin 32) :
    val_main_v59 (F := Ideal) x ya yc g w bias wa wc wo gf wr br (ix2 r e)
      = expertScore (arrays x ya yc g w bias wa wc wo gf wg bg wr br) r e := by
  pointwise [val_main_v59, val_main_v58, val_main_v57, val_main_v56]
  refine congrArg (· + _) (Finset.sum_congr rfl fun k _ => ?_)
  rw [second_apply x ya yc g w bias wa wc wo gf wg bg wr br]

end Cert.Reference5Ideal.Rows

end
-- ==== Proof.RouteRank.lean ====
/-
  The ranks that the routing table's reference computes, read at an index.
-/
module

public import proofs.«01_k».proof.Proof.Gen.Reference5Ideal.Read
public import proofs.«01_k».proof.Proof.RouteReference
public import Idealize.ShloMosaic.Lib.Pointwise

@[expose] public section

noncomputable section

open scoped Classical

namespace Cert.Reference5Ideal.Rows

open Cert.Reference5Ideal Cert.Reference5Ideal.Gen Cert.Reference5Ideal.Read Idealize.ShloMosaic Idealize.ShloMosaic.TcCoe Cert.Rows Cert.Column

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

variable (gf : FVec Ideal S1024 .f32) (wg : FVec Ideal S1024x4 .f32) (bg : FVec Ideal S4 .f32) (wr : FVec Ideal S1024x32 .f32)
  (br : FVec Ideal S32 .f32)

/-- A choice between one and zero by three comparisons. -/
theorem select_before {n : ℕ} (hn : n ≤ 8) (a b : EReal) (i j : Fin n) {d : Decidable (a < b ∨ (b = a ∧ j < i))} :
    Scalar.select (IntOp.ori (BitVec.ofBool (decide (a < b))) (IntOp.andi (BitVec.ofBool (decide (b = a))) (IntOp.cmpi .slt (BitVec.ofNat 32 j.val) (BitVec.ofNat 32 i.val))))
        (1 : EReal) 0 = @ite EReal (a < b ∨ (b = a ∧ j < i)) d 1 0 := by
  have hlt : (IntOp.cmpi .slt (BitVec.ofNat 32 j.val) (BitVec.ofNat 32 i.val)) = BitVec.ofBool (decide (j < i)) := by
    have key : ∀ i j : Fin 8, IntOp.cmpi .slt (BitVec.ofNat 32 j.val) (BitVec.ofNat 32 i.val) = BitVec.ofBool (decide (j.val < i.val)) := by
      decide
    refine (key (i.castLE hn) (j.castLE hn)).trans (congrArg BitVec.ofBool ?_)
    simp only [Fin.val_castLE, Fin.lt_def]
  rw [hlt]
  by_cases h1 : a < b <;> by_cases h2 : b = a <;> by_cases h3 : j < i <;> simp [h1, h2, h3, Scalar.select, IntOp.ori, IntOp.andi]

/-- Whether a group comes before another. -/
theorem group_before (r : Fin 32768) (e j : Fin 4) :
    val_main_v76 (F := Ideal) x ya yc g w bias wa wc wo gf wg bg (ix3 r e j)
      = if Before (fun l : Fin 4 => (val_main_v55 (F := Ideal) x ya yc g w bias wa wc wo gf wg bg (ix2 r l) : EReal)) e j then 1 else 0 := by
  unfold Before
  show val_main_v75 (F := Ideal) x ya yc g w bias wa wc wo gf wg bg (ix3 r e j) = _
  pointwise [val_main_v75, val_main_v74, val_main_v73, val_main_v72, val_main_v71, val_main_v70, val_main_v69, val_main_v68, val_main_v67, val_main_v66, val_main_v65, val_main_v64, val_main_v63, val_main_v62, val_main_v61, val_main_v60, val_main_call0_v0, val_main_call0_v1, val_main_cst_9, val_main_cst_10]
  exact select_before (by omega) _ _ e j

/-- A group's rank. -/
theorem group_rank (r : Fin 32768) (e : Fin 4) :
    val_main_v77 (F := Ideal) x ya yc g w bias wa wc wo gf wg bg (ix2 r e)
      = rank (groupScore (arrays x ya yc g w bias wa wc wo gf wg bg wr br) r) e := by
  have hs : groupScore (arrays x ya yc g w bias wa wc wo gf wg bg wr br) r
      = fun l => (val_main_v55 (F := Ideal) x ya yc g w bias wa wc wo gf wg bg (ix2 r l) : EReal) :=
    funext fun l => (group_apply x ya yc g w bias wa wc wo gf wg bg wr br r l).symm
  rw [hs]
  unfold rank
  pointwise [val_main_v77, val_main_cst_11]
  exact Finset.sum_congr rfl fun j _ => group_before x ya yc g w bias wa wc wo gf wg bg r e j

/-- Whether an expert comes before another of its group. -/
theorem expert_before (r : Fin 32768) (q : Fin 4) (e j : Fin 8) :
    val_main_v97 (F := Ideal) x ya yc g w bias wa wc wo gf wr br (ix4 r q e j)
      = if Before (fun l : Fin 8 => (val_main_v80 (F := Ideal) x ya yc g w bias wa wc wo gf wr br (ix3 r q l) : EReal)) e j then 1 else 0 := by
  unfold Before
  show val_main_v96 (F := Ideal) x ya yc g w bias wa wc wo gf wr br (ix4 r q e j) = _
  pointwise [val_main_v96, val_main_v95, val_main_v94, val_main_v93, val_main_v92, val_main_v91, val_main_v90, val_main_v89, val_main_v88, val_main_v87, val_main_v86, val_main_v85, val_main_v84, val_main_v83, val_main_v82, val_main_v81, val_main_call1_v0, val_main_call1_v1, val_main_cst_13, val_main_cst_14]
  exact select_before (by omega) _ _ e j

/-- An expert's rank in its group. -/
theorem expert_rank (r : Fin 32768) (q : Fin 4) (e : Fin 8) :
    val_main_v98 (F := Ideal) x ya yc g w bias wa wc wo gf wr br (ix3 r q e)
      = rank (fun e : Fin 8 => expertScore (arrays x ya yc g w bias wa wc wo gf wg bg wr br) r ⟨8 * q.val + e.val, by omega⟩) e := by
  have hs : (fun e : Fin 8 => expertScore (arrays x ya yc g w bias wa wc wo gf wg bg wr br) r ⟨8 * q.val + e.val, by omega⟩)
      = fun l => (val_main_v80 (F := Ideal) x ya yc g w bias wa wc wo gf wr br (ix3 r q l) : EReal) := by
    funext l
    refine (expert_apply x ya yc g w bias wa wc wo gf wg bg wr br r _).symm.trans ?_
    pointwise [val_main_v80]
    exact congrArg (fun k => val_main_v59 (F := Ideal) x ya yc g w bias wa wc wo gf wr br (ix2 r k)) (Fin.ext (by show 8 * q.val + l.val = q.val * 8 + l.val; omega))
  rw [hs]
  unfold rank
  pointwise [val_main_v98, val_main_cst_15]
  exact Finset.sum_congr rfl fun j _ => expert_before x ya yc g w bias wa wc wo gf wr br r q e j

end Cert.Reference5Ideal.Rows

end
-- ==== Proof.RouteChoice.lean ====
/-
  The routing table that the reference computes, read at an index.
-/
module

public import proofs.«01_k».proof.Proof.Gen.Reference5Ideal.Read
public import proofs.«01_k».proof.Proof.RouteRank
public import proofs.«01_k».proof.Proof.RouteSpec
public import Idealize.ShloMosaic.Lib.Pointwise

@[expose] public section

noncomputable section

open scoped Classical

namespace Cert.Reference5Ideal.Rows

open Cert.Reference5Ideal Cert.Reference5Ideal.Gen Cert.Reference5Ideal.Read Idealize.ShloMosaic Idealize.ShloMosaic.TcCoe Cert.Rows Cert.Column

variable (x : FVec Ideal S8x4096x1024 .f32) (ya yc : FVec Ideal S8x4096x512 .f32) (g : FVec Ideal S1024 .f32)
  (w : FVec Ideal S1024x5120 .f32) (bias : FVec Ideal S5120 .f32) (wa wc : FVec Ideal S512x1024 .f32)
  (wo : FVec Ideal S1024x1024 .f32)

variable (gf : FVec Ideal S1024 .f32) (wg : FVec Ideal S1024x4 .f32) (bg : FVec Ideal S4 .f32) (wr : FVec Ideal S1024x32 .f32)
  (br : FVec Ideal S32 .f32)

/-- A small word's value as a float. -/
theorem word_num (n : ℕ) (h : n < 128) : FloatOps.sitofp (F := Ideal) .f32 (BitVec.ofNat 32 n) = num n := by
  show (((BitVec.ofNat 32 n).toInt : ℝ) : EReal) = num n
  have e : (BitVec.ofNat 32 n).toInt = (n : ℤ) := by
    have hn : (BitVec.ofNat 32 n).toNat = n := by
      rw [BitVec.toNat_ofNat]
      omega
    rw [BitVec.toInt_eq_toNat_of_lt (by omega), hn]
  rw [e]
  rfl

/-- The greatest of some numbers, from the least value on. -/
theorem top_eq {n : ℕ} (f : Fin n → EReal) :
    max (Ideal.ofBits .f32 0xFF800000#32) (Finset.fold max (Ideal.ofBits .f32 0xFF800000#32) f Finset.univ) = Finset.univ.sup f := by
  have h : Ideal.ofBits .f32 0xFF800000#32 = (⊥ : EReal) := by simp [Ideal.ofBits, Ideal.ieee]
  rw [h]
  exact max_eq_right bot_le

/-- The conjunction of two flags. -/
theorem and_flag (p q : Prop) [Decidable p] [Decidable q] {d : Decidable (p ∧ q)} :
    IntOp.andi (BitVec.ofBool (decide p)) (BitVec.ofBool (decide q)) = BitVec.ofBool (@decide (p ∧ q) d) := by
  by_cases h1 : p <;> by_cases h2 : q <;> simp [h1, h2, IntOp.andi]

/-- Zero, as a constant. -/
theorem none_apply : id (constant (F := Ideal) S_ .f32 0#32) ix0 = (0 : EReal) := by
  show Ideal.ofBits .f32 0#32 = 0
  simp [Ideal.ofBits, Ideal.ieee]

/-- Whether an expert is the one of rank 0. -/
theorem chosen0 (r : Fin 32768) (l : Fin 32) :
    val_main_v107 (F := Ideal) x ya yc g w bias wa wc wo gf wg bg wr br (ix2 r l) = BitVec.ofBool (decide (Picks (groupScore (arrays x ya yc g w bias wa wc wo gf wg bg wr br) r) (expertScore (arrays x ya yc g w bias wa wc wo gf wg bg wr br) r) 0 l)) := by
  unfold Picks
  rw [← expert_rank x ya yc g w bias wa wc wo gf wg bg wr br r ⟨l.val / 8, by omega⟩, ← group_rank]
  pointwise [val_main_v107, val_main_v106, val_main_v105, val_main_v104, val_main_v103, val_main_v102, val_main_v78, val_main_v79, val_main_cst_12, val_main_cst_16]
  exact and_flag _ _

/-- Whether an expert is the one of rank 1. -/
theorem chosen1 (r : Fin 32768) (l : Fin 32) :
    val_main_v113 (F := Ideal) x ya yc g w bias wa wc wo gf wg bg wr br (ix2 r l) = BitVec.ofBool (decide (Picks (groupScore (arrays x ya yc g w bias wa wc wo gf wg bg wr br) r) (expertScore (arrays x ya yc g w bias wa wc wo gf wg bg wr br) r) 1 l)) := by
  unfold Picks
  rw [← expert_rank x ya yc g w bias wa wc wo gf wg bg wr br r ⟨l.val / 8, by omega⟩, ← group_rank]
  pointwise [val_main_v113, val_main_v112, val_main_v111, val_main_v110, val_main_v109, val_main_v108, val_main_v78, val_main_v79, val_main_cst_12, val_main_cst_17]
  exact and_flag _ _

/-- The expert of rank 0. -/
theorem number0 (r : Fin 32768) : val_main_v115 (F := Ideal) x ya yc g w bias wa wc wo gf wg bg wr br (ix1 r) = number (groupScore (arrays x ya yc g w bias wa wc wo gf wg bg wr br) r) (expertScore (arrays x ya yc g w bias wa wc wo gf wg bg wr br) r) 0 := by
  unfold number
  pointwise [val_main_v115, val_main_cst_19]
  refine Finset.sum_congr rfl fun l _ => ?_
  pointwise [val_main_v114, chosen0, val_main_v101, val_main_v100, val_main_v99, val_main_call2_v0, val_main_call2_v1, val_main_cst_18]
  rw [word_num _ (by omega), none_apply]

/-- The expert of rank 1. -/
theorem number1 (r : Fin 32768) : val_main_v117 (F := Ideal) x ya yc g w bias wa wc wo gf wg bg wr br (ix1 r) = number (groupScore (arrays x ya yc g w bias wa wc wo gf wg bg wr br) r) (expertScore (arrays x ya yc g w bias wa wc wo gf wg bg wr br) r) 1 := by
  unfold number
  pointwise [val_main_v117, val_main_cst_21]
  refine Finset.sum_congr rfl fun l _ => ?_
  pointwise [val_main_v116, chosen1, val_main_v101, val_main_v100, val_main_v99, val_main_call3_v0, val_main_call3_v1, val_main_cst_20]
  rw [word_num _ (by omega), none_apply]

/-- Its score. -/
theorem score0 (r : Fin 32768) : val_main_v132 (F := Ideal) x ya yc g w bias wa wc wo gf wg bg wr br (ix1 r) = score (groupScore (arrays x ya yc g w bias wa wc wo gf wg bg wr br) r) (expertScore (arrays x ya yc g w bias wa wc wo gf wg bg wr br) r) 0 := by
  unfold score
  pointwise [val_main_v132, val_main_cst_28]
  refine Finset.sum_congr rfl fun l _ => ?_
  pointwise [val_main_v131, chosen0, val_main_call5_v0, val_main_call5_v1, val_main_cst_27]
  rw [none_apply, expert_apply]

/-- Its score. -/
theorem score1 (r : Fin 32768) : val_main_v134 (F := Ideal) x ya yc g w bias wa wc wo gf wg bg wr br (ix1 r) = score (groupScore (arrays x ya yc g w bias wa wc wo gf wg bg wr br) r) (expertScore (arrays x ya yc g w bias wa wc wo gf wg bg wr br) r) 1 := by
  unfold score
  pointwise [val_main_v134, val_main_cst_30]
  refine Finset.sum_congr rfl fun l _ => ?_
  pointwise [val_main_v133, chosen1, val_main_call6_v0, val_main_call6_v1, val_main_cst_29]
  rw [none_apply, expert_apply]

/-- The softmax over the groups. -/
theorem soft_apply (r : Fin 32768) (e : Fin 4) :
    val_main_v128 (F := Ideal) x ya yc g w bias wa wc wo gf wg bg (ix2 r e)
      = Ideal.div (Ideal.exp (groupScore (arrays x ya yc g w bias wa wc wo gf wg bg wr br) r e - Finset.univ.sup (groupScore (arrays x ya yc g w bias wa wc wo gf wg bg wr br) r)))
        (∑ z : Fin 4, Ideal.exp (groupScore (arrays x ya yc g w bias wa wc wo gf wg bg wr br) r z - Finset.univ.sup (groupScore (arrays x ya yc g w bias wa wc wo gf wg bg wr br) r))) := by
  pointwise [val_main_v128, val_main_v127, val_main_v126, val_main_v125, val_main_v124, val_main_v123, val_main_v122, val_main_v121, val_main_v120, val_main_v119, val_main_v118, val_main_cst_22, val_main_cst_23, val_main_cst_24]
  rw [top_eq]
  have h : ∀ e, (val_main_v55 (F := Ideal) x ya yc g w bias wa wc wo gf wg bg (ix2 r e) : EReal) = groupScore (arrays x ya yc g w bias wa wc wo gf wg bg wr br) r e :=
    fun e => group_apply x ya yc g w bias wa wc wo gf wg bg wr br r e
  simp only [h]

/-- The first group's share. -/
theorem share_apply (r : Fin 32768) : val_main_v130 (F := Ideal) x ya yc g w bias wa wc wo gf wg bg (ix1 r) = share (groupScore (arrays x ya yc g w bias wa wc wo gf wg bg wr br) r) := by
  unfold share
  pointwise [val_main_v130, val_main_cst_26]
  refine Finset.sum_congr rfl fun e _ => ?_
  rw [← group_rank x ya yc g w bias wa wc wo gf wg bg wr br, ← soft_apply x ya yc g w bias wa wc wo gf wg bg wr br]
  pointwise [val_main_v129, val_main_v79, val_main_v78, val_main_call4_v0, val_main_call4_v1, val_main_cst_12, val_main_cst_25]
  rw [none_apply]

/-- The weights. -/
theorem weights_apply (r : Fin 32768) (e : Fin 2) : val_main_v151 (F := Ideal) x ya yc g w bias wa wc wo gf wg bg wr br (ix2 r e)
    = weight (groupScore (arrays x ya yc g w bias wa wc wo gf wg bg wr br) r) (expertScore (arrays x ya yc g w bias wa wc wo gf wg bg wr br) r) (if e.val < 1 then 0 else 1) := by
  pointwise [val_main_v151, val_main_v150, val_main_v149, val_main_v148, val_main_v147, val_main_v146, val_main_v145, val_main_v144, val_main_v143, val_main_v142, val_main_v141, val_main_v140, val_main_v139, val_main_v138, val_main_v137, val_main_v136, val_main_v135, val_main_cst_31, val_main_cst_32, val_main_cst_33]
  rw [top_eq, share_apply x ya yc g w bias wa wc wo gf wg bg wr br, score0, score1]
  unfold weight portion
  have h : Finset.univ.sup (fun x_1 : Fin 2 => if h : x_1.val < 1 then score (groupScore (arrays x ya yc g w bias wa wc wo gf wg bg wr br) r) (expertScore (arrays x ya yc g w bias wa wc wo gf wg bg wr br) r) 0 else score (groupScore (arrays x ya yc g w bias wa wc wo gf wg bg wr br) r) (expertScore (arrays x ya yc g w bias wa wc wo gf wg bg wr br) r) 1)
      = max (score (groupScore (arrays x ya yc g w bias wa wc wo gf wg bg wr br) r) (expertScore (arrays x ya yc g w bias wa wc wo gf wg bg wr br) r) 0) (score (groupScore (arrays x ya yc g w bias wa wc wo gf wg bg wr br) r) (expertScore (arrays x ya yc g w bias wa wc wo gf wg bg wr br) r) 1) := by
    rw [Fin.univ_succ]
    simp
  rw [h]
  simp only [Finset.sum_const, Finset.card_univ, Fintype.card_fin, one_smul]
  by_cases he : e.val < 1
  · simp only [he, dif_pos, if_pos]
  · simp only [he, dif_neg, if_neg, not_false_eq_true]

/-- Whether an assignment comes before. -/
theorem select_earlier (a b : EReal) (i j : Fin 256) {d : Decidable (a < b ∨ (a = b ∧ j < i))} :
    Scalar.select (IntOp.ori (BitVec.ofBool (decide (a < b))) (IntOp.andi (BitVec.ofBool (decide (a = b))) (IntOp.cmpi .slt (BitVec.ofNat 32 j.val) (BitVec.ofNat 32 i.val))))
        (1 : EReal) 0 = @ite EReal (a < b ∨ (a = b ∧ j < i)) d 1 0 := by
  have hlt : (IntOp.cmpi .slt (BitVec.ofNat 32 j.val) (BitVec.ofNat 32 i.val)) = BitVec.ofBool (decide (j < i)) :=
    less_flag _ _ j.isLt i.isLt
  rw [hlt]
  by_cases h1 : a < b <;> by_cases h2 : a = b <;> by_cases h3 : j < i <;> simp [h1, h2, h3, Scalar.select, IntOp.ori, IntOp.andi]

/-- Whether another row's expert of rank 0 comes before a row's expert of rank 0. -/
theorem before00 (b : Fin 128) (i j : Fin 256) :
    (val_main_v170 (F := Ideal) x ya yc g w bias wa wc wo gf wg bg wr br (ix3 b i j) : EReal)
      = if expertAt (arrays x ya yc g w bias wa wc wo gf wg bg wr br) ⟨b.val * 256 + j.val, by omega⟩ 0 < expertAt (arrays x ya yc g w bias wa wc wo gf wg bg wr br) ⟨b.val * 256 + i.val, by omega⟩ 0
        ∨ (expertAt (arrays x ya yc g w bias wa wc wo gf wg bg wr br) ⟨b.val * 256 + j.val, by omega⟩ 0 = expertAt (arrays x ya yc g w bias wa wc wo gf wg bg wr br) ⟨b.val * 256 + i.val, by omega⟩ 0 ∧ j < i) then 1 else 0 := by
  unfold expertAt
  rw [← number0 x ya yc g w bias wa wc wo gf wg bg wr br, ← number0 x ya yc g w bias wa wc wo gf wg bg wr br]
  show val_main_v169 (F := Ideal) x ya yc g w bias wa wc wo gf wg bg wr br (ix3 b i j) = _
  pointwise [val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v152, val_main_v153, val_main_call7_v0, val_main_call7_v1, val_main_cst_34, val_main_cst_35]
  exact select_earlier _ _ i j

/-- Whether another row's expert of rank 1 comes before a row's expert of rank 0. -/
theorem before01 (b : Fin 128) (i j : Fin 256) :
    (val_main_v188 (F := Ideal) x ya yc g w bias wa wc wo gf wg bg wr br (ix3 b i j) : EReal)
      = if expertAt (arrays x ya yc g w bias wa wc wo gf wg bg wr br) ⟨b.val * 256 + j.val, by omega⟩ 1 < expertAt (arrays x ya yc g w bias wa wc wo gf wg bg wr br) ⟨b.val * 256 + i.val, by omega⟩ 0
        ∨ (expertAt (arrays x ya yc g w bias wa wc wo gf wg bg wr br) ⟨b.val * 256 + j.val, by omega⟩ 1 = expertAt (arrays x ya yc g w bias wa wc wo gf wg bg wr br) ⟨b.val * 256 + i.val, by omega⟩ 0 ∧ j < i) then 1 else 0 := by
  unfold expertAt
  rw [← number1 x ya yc g w bias wa wc wo gf wg bg wr br, ← number0 x ya yc g w bias wa wc wo gf wg bg wr br]
  show val_main_v187 (F := Ideal) x ya yc g w bias wa wc wo gf wg bg wr br (ix3 b i j) = _
  pointwise [val_main_v187, val_main_v186, val_main_v185, val_main_v184, val_main_v183, val_main_v182, val_main_v181, val_main_v180, val_main_v179, val_main_v178, val_main_v177, val_main_v176, val_main_v175, val_main_v174, val_main_v155, val_main_v154, val_main_v152, val_main_v153, val_main_call8_v0, val_main_call8_v1, val_main_cst_38, val_main_cst_39]
  exact select_earlier _ _ i j

/-- Whether another row's expert of rank 0 comes before a row's expert of rank 1. -/
theorem before10 (b : Fin 128) (i j : Fin 256) :
    (val_main_v208 (F := Ideal) x ya yc g w bias wa wc wo gf wg bg wr br (ix3 b i j) : EReal)
      = if expertAt (arrays x ya yc g w bias wa wc wo gf wg bg wr br) ⟨b.val * 256 + j.val, by omega⟩ 0 < expertAt (arrays x ya yc g w bias wa wc wo gf wg bg wr br) ⟨b.val * 256 + i.val, by omega⟩ 1
        ∨ (expertAt (arrays x ya yc g w bias wa wc wo gf wg bg wr br) ⟨b.val * 256 + j.val, by omega⟩ 0 = expertAt (arrays x ya yc g w bias wa wc wo gf wg bg wr br) ⟨b.val * 256 + i.val, by omega⟩ 1 ∧ j < i) then 1 else 0 := by
  unfold expertAt
  rw [← number0 x ya yc g w bias wa wc wo gf wg bg wr br, ← number1 x ya yc g w bias wa wc wo gf wg bg wr br]
  show val_main_v207 (F := Ideal) x ya yc g w bias wa wc wo gf wg bg wr br (ix3 b i j) = _
  pointwise [val_main_v207, val_main_v206, val_main_v205, val_main_v204, val_main_v203, val_main_v202, val_main_v201, val_main_v200, val_main_v199, val_main_v198, val_main_v197, val_main_v196, val_main_v195, val_main_v194, val_main_v193, val_main_v192, val_main_v152, val_main_v153, val_main_call9_v0, val_main_call9_v1, val_main_cst_41, val_main_cst_42]
  exact select_earlier _ _ i j

/-- Whether another row's expert of rank 1 comes before a row's expert of rank 1. -/
theorem before11 (b : Fin 128) (i j : Fin 256) :
    (val_main_v226 (F := Ideal) x ya yc g w bias wa wc wo gf wg bg wr br (ix3 b i j) : EReal)
      = if expertAt (arrays x ya yc g w bias wa wc wo gf wg bg wr br) ⟨b.val * 256 + j.val, by omega⟩ 1 < expertAt (arrays x ya yc g w bias wa wc wo gf wg bg wr br) ⟨b.val * 256 + i.val, by omega⟩ 1
        ∨ (expertAt (arrays x ya yc g w bias wa wc wo gf wg bg wr br) ⟨b.val * 256 + j.val, by omega⟩ 1 = expertAt (arrays x ya yc g w bias wa wc wo gf wg bg wr br) ⟨b.val * 256 + i.val, by omega⟩ 1 ∧ j < i) then 1 else 0 := by
  unfold expertAt
  rw [← number1 x ya yc g w bias wa wc wo gf wg bg wr br, ← number1 x ya yc g w bias wa wc wo gf wg bg wr br]
  show val_main_v225 (F := Ideal) x ya yc g w bias wa wc wo gf wg bg wr br (ix3 b i j) = _
  pointwise [val_main_v225, val_main_v224, val_main_v223, val_main_v222, val_main_v221, val_main_v220, val_main_v219, val_main_v218, val_main_v217, val_main_v216, val_main_v215, val_main_v214, val_main_v213, val_main_v212, val_main_v193, val_main_v192, val_main_v152, val_main_v153, val_main_call10_v0, val_main_call10_v1, val_main_cst_45, val_main_cst_46]
  exact select_earlier _ _ i j

/-- The place of the expert of rank 0. -/
theorem place0 (r : Fin 32768) : (val_main_v191 (F := Ideal) x ya yc g w bias wa wc wo gf wg bg wr br (ix1 r) : EReal) = placeAt (arrays x ya yc g w bias wa wc wo gf wg bg wr br) r 0 := by
  pointwise [val_main_v189, val_main_v190, val_main_v191, val_main_v171, val_main_v172, val_main_v173, val_main_cst_36, val_main_cst_37, val_main_cst_40]
  have hi : (⟨r.val / 256 * 256 + r.val % 256, by omega⟩ : Fin 32768) = r := Fin.ext (show r.val / 256 * 256 + r.val % 256 = r.val by omega)
  have hj : ∀ j : Fin 256, (⟨r.val / 256 * 256 + j.val, by omega⟩ : Fin 32768) = tileRow r j :=
    fun j => Fin.ext (show r.val / 256 * 256 + j.val = 256 * (r.val / 256) + j.val by omega)
  unfold placeAt place
  refine congrArg₂ (· + ·) (Finset.sum_congr rfl fun j _ => ?_) (Finset.sum_congr rfl fun j _ => ?_)
  · refine (before00 x ya yc g w bias wa wc wo gf wg bg wr br _ _ j).trans ?_
    dsimp only
    rw [hi, hj]
  · refine (before01 x ya yc g w bias wa wc wo gf wg bg wr br _ _ j).trans ?_
    dsimp only
    rw [hi, hj]

/-- The place of the expert of rank 1. -/
theorem place1 (r : Fin 32768) : (val_main_v229 (F := Ideal) x ya yc g w bias wa wc wo gf wg bg wr br (ix1 r) : EReal) = placeAt (arrays x ya yc g w bias wa wc wo gf wg bg wr br) r 1 := by
  pointwise [val_main_v229, val_main_v228, val_main_v227, val_main_v211, val_main_v210, val_main_v209, val_main_cst_43, val_main_cst_44, val_main_cst_47]
  have hi : (⟨r.val / 256 * 256 + r.val % 256, by omega⟩ : Fin 32768) = r := Fin.ext (show r.val / 256 * 256 + r.val % 256 = r.val by omega)
  have hj : ∀ j : Fin 256, (⟨r.val / 256 * 256 + j.val, by omega⟩ : Fin 32768) = tileRow r j :=
    fun j => Fin.ext (show r.val / 256 * 256 + j.val = 256 * (r.val / 256) + j.val by omega)
  unfold placeAt place
  refine congrArg₂ (· + ·) (Finset.sum_congr rfl fun j _ => ?_) (Finset.sum_congr rfl fun j _ => ?_)
  · refine (before10 x ya yc g w bias wa wc wo gf wg bg wr br _ _ j).trans ?_
    dsimp only
    rw [hi, hj]
  · refine (before11 x ya yc g w bias wa wc wo gf wg bg wr br _ _ j).trans ?_
    dsimp only
    rw [hi, hj]

/-- THE TABLE of the reference. -/
theorem route_apply (r : Fin 32768) (l : Fin 128) :
    (val_main_v237 (F := Ideal) x ya yc g w bias wa wc wo gf wg bg wr br (ix2 r l) : EReal) = routeAt (arrays x ya yc g w bias wa wc wo gf wg bg wr br) r l.val := by
  pointwise [val_main_v237, val_main_v236, val_main_v235, val_main_v234, val_main_v233, val_main_v232, val_main_v231, val_main_v230, val_main_call11_v0, val_main_c]
  have z : FloatOps.sitofp (F := Ideal) .f32 0#32 = (0 : EReal) := by
    refine (word_num 0 (by omega)).trans ?_
    simp [num]
  simp only [z, number0, number1, place0, place1, weights_apply]
  unfold routeAt columns expertAt
  split_ifs <;> first | rfl | omega

end Cert.Reference5Ideal.Rows

end
-- ==== Proof.RoutePre.lean ====
/-
  The routing table's precondition, read: `finite_logits` says that every score of a group and of an expert is finite.
-/
module

public import proofs.«01_k».proof.Pre_finite_logits
public import proofs.«01_k».proof.Proof.Finite
public import proofs.«01_k».proof.Proof.RouteReference
public import Idealize.ShloMosaic.Lib.Pointwise
public import Idealize.ShloMosaic.Lib.ReduceAll
public import Idealize.ShloMosaic.Lib.WordArith

@[expose] public section

noncomputable section

namespace Cert.Pre_finite_logits

open Idealize.ShloMosaic Cert.Rows

/-- The predicate's facts. -/
instance facts : Cert.Pre_finite_logits.Facts where
  reducesTo_S8x4096x1024_S8x4096_d2 := by decide
  h_S_ := by decide
  bcast_S8x4096_S8x4096x1_0_1 := by decide
  bcast_S_S8x4096x1 := by decide
  bcast_S8x4096x1_S8x4096x1024_0_1_2 := by decide
  bcast_S1024_S1x1x1024_2 := by decide
  bcast_S1x1x1024_S8x4096x1024_0_1_2 := by decide
  bcast_S5120_S1x1x5120_2 := by decide
  bcast_S1x1x5120_S8x4096x5120_0_1_2 := by decide
  slices_S8x4096x5120_S8x4096x1024_0_0_3072 := by decide
  slices_S8x4096x5120_S8x4096x1024_0_0_4096 := by decide
  bcast_S_S8x4096x1024 := by decide
  shapeCasts_S8x4096x1024_S32768x1024 := by decide
  reducesTo_S32768x1024_S32768_d1 := by decide
  bcast_S32768_S32768x1_0 := by decide
  bcast_S_S32768x1 := by decide
  bcast_S32768x1_S32768x1024_0_1 := by decide
  bcast_S1024_S1x1024_1 := by decide
  bcast_S1x1024_S32768x1024_0_1 := by decide
  bcast_S4_S1x4_1 := by decide
  bcast_S1x4_S32768x4_0_1 := by decide
  bcast_S32_S1x32_1 := by decide
  bcast_S1x32_S32768x32_0_1 := by decide
  bcast_S_S32768x4 := by decide
  reducesTo_S32768x4_S_d0_1 := by decide
  bcast_S_S32768x32 := by decide
  reducesTo_S32768x32_S_d0_1 := by decide
  dot_S8x4096x1024_S1024x5120_S8x4096x5120_2_0_01_1_n_n_wf := by decide
  dot_S8x4096x512_S512x1024_S8x4096x1024_2_0_01_1_n_n_wf := by decide
  dot_S8x4096x1024_S1024x1024_S8x4096x1024_2_0_01_1_n_n_wf := by decide
  dot_S32768x1024_S1024x4_S32768x4_1_0_0_1_n_n_wf := by decide
  dot_S32768x1024_S1024x32_S32768x32_1_0_0_1_n_n_wf := by decide

/-- The predicate's last steps. -/
theorem fn_eq (x0 : FVec Ideal S8x4096x1024 .f32) (x1 : FVec Ideal S8x4096x512 .f32) (x2 : FVec Ideal S8x4096x512 .f32) (x3 : FVec Ideal S1024 .f32) (x4 : FVec Ideal S1024x5120 .f32) (x5 : FVec Ideal S5120 .f32) (x6 : FVec Ideal S512x1024 .f32) (x7 : FVec Ideal S512x1024 .f32) (x8 : FVec Ideal S1024x1024 .f32) (x9 : FVec Ideal S1024 .f32) (x10 : FVec Ideal S1024x4 .f32) (x11 : FVec Ideal S4 .f32) (x12 : FVec Ideal S1024x32 .f32) (x13 : FVec Ideal S32 .f32) :
    fn (F := Ideal) x0 x1 x2 x3 x4 x5 x6 x7 x8 x9 x10 x11 x12 x13
      = andi (Host.reduce IntOp.andi (cmpf .olt (Host.absf (Reference5Ideal.Read.val_main_v55 (F := Ideal) x0 x1 x2 x3 x4 x5 x6 x7 x8 x9 x10 x11))
          (broadcastInDim S32768x4 ![] Facts.bcast_S_S32768x4 (constant (F := Ideal) S_ .f32 0x7F800000#32)))
          (constantI S_ 1 1#1) Facts.reducesTo_S32768x4_S_d0_1 Facts.h_S_)
        (Host.reduce IntOp.andi (cmpf .olt (Host.absf (Reference5Ideal.Read.val_main_v59 (F := Ideal) x0 x1 x2 x3 x4 x5 x6 x7 x8 x9 x12 x13))
          (broadcastInDim S32768x32 ![] Facts.bcast_S_S32768x32 (constant (F := Ideal) S_ .f32 0x7F800000#32)))
          (constantI S_ 1 1#1) Facts.reducesTo_S32768x32_S_d0_1 Facts.h_S_) := rfl

/-- The precondition's content. -/
theorem finite (x0 : FVec Ideal S8x4096x1024 .f32) (x1 : FVec Ideal S8x4096x512 .f32) (x2 : FVec Ideal S8x4096x512 .f32) (x3 : FVec Ideal S1024 .f32) (x4 : FVec Ideal S1024x5120 .f32) (x5 : FVec Ideal S5120 .f32) (x6 : FVec Ideal S512x1024 .f32) (x7 : FVec Ideal S512x1024 .f32) (x8 : FVec Ideal S1024x1024 .f32) (x9 : FVec Ideal S1024 .f32) (x10 : FVec Ideal S1024x4 .f32) (x11 : FVec Ideal S4 .f32) (x12 : FVec Ideal S1024x32 .f32) (x13 : FVec Ideal S32 .f32)
    (h : fn (F := Ideal) x0 x1 x2 x3 x4 x5 x6 x7 x8 x9 x10 x11 x12 x13 = fun _ => 1#1) (r : Fin 32768) :
    (∀ e, ∃ s : ℝ, groupScore ⟨x0, x1, x2, x3, x4, x5, x6, x7, x8, x9, x10, x11, x12, x13⟩ r e = (s : EReal))
      ∧ ∀ e, ∃ s : ℝ, expertScore ⟨x0, x1, x2, x3, x4, x5, x6, x7, x8, x9, x10, x11, x12, x13⟩ r e = (s : EReal) := by
  have h' := congrFun ((fn_eq x0 x1 x2 x3 x4 x5 x6 x7 x8 x9 x10 x11 x12 x13).symm.trans h) (fun a => a.elim0)
  haveI : Subsingleton S_.Idx := ⟨fun a b => funext fun i => i.elim0⟩
  obtain ⟨h0, h1⟩ := IntOp.andi_eq_one.1 h'
  refine ⟨fun e => ?_, fun e => ?_⟩
  · rw [← show _ = groupScore _ r e from Reference5Ideal.Rows.group_apply x0 x1 x2 x3 x4 x5 x6 x7 x8 x9 x10 x11 x12 x13 r e]
    exact Cert.Pre_finite_scores.real_of_word _ (Host.reduce_andi_all _ _ _ _ _ h0 (ix2 r e))
  · rw [← show _ = expertScore _ r e from Reference5Ideal.Rows.expert_apply x0 x1 x2 x3 x4 x5 x6 x7 x8 x9 x10 x11 x12 x13 r e]
    exact Cert.Pre_finite_scores.real_of_word _ (Host.reduce_andi_all _ _ _ _ _ h1 (ix2 r e))

end Cert.Pre_finite_logits

end
-- ==== Proof.Route.lean ====
/-
  The merge's routing table: from the same arrays, with every score of a group and of an expert finite, the kernel's is the
  reference's.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.RouteValue
public import proofs.«01_k».proof.Proof.RouteChoice
public import proofs.«01_k».proof.Proof.RoutePre
public import Idealize.ShloMosaic.Adequacy
public import Idealize.ShloMosaic.Init
public import Idealize.ShloMosaic.Lib.Bf16Pair
public import Idealize.ShloMosaic.Lib.Bf16PairInverse

@[expose] public section

noncomputable section

namespace Cert.Route

open Idealize.ShloMosaic Idealize.ShloMosaic.StableHlo Idealize.SL.Sem Kernel5Ideal.Host Kernel5Ideal.Route

variable (m : (ℓ : Loc Kernel5Ideal.nD Kernel5Ideal.τ Kernel5Ideal.sig) → Buf (Elt Ideal) ℓ) (c : Dev Kernel5Ideal.nD)

/-- An index of the result. -/
theorem result_index (y : Kernel5Ideal.S32768x128.Idx) : y = ix2 (y 0) (y 1) := funext fun a => by fin_cases a <;> rfl

/-- The tables agree. -/
theorem tables_agree : Reference5Ideal.Read.val_main_v237 (F := Ideal) (inX m c) (inA m c) (inC m c) (inG m c) (inW m c) (inB m c)
    (inWa m c) (inWc m c) (inWo m c) (inGf m c) (inWg m c) (inBg m c) (inWr m c) (inBr m c) = result m c := by
  funext y
  rw [result_index y]
  exact Reference5Ideal.Rows.route_apply _ _ _ _ _ _ _ _ _ _ _ _ _ _ _ _

/-- Every score is finite. -/
theorem scored (hp : Pre_Kernel5Ideal_finite_logits m) (r : Fin 32768) :
    (∀ e, ∃ s : ℝ, Rows.groupScore (arrays m c) r e = (s : EReal)) ∧ ∀ e, ∃ s : ℝ, Rows.expertScore (arrays m c) r e = (s : EReal) :=
  Pre_finite_logits.finite _ _ _ _ _ _ _ _ _ _ _ _ _ _ (hp c) r

/-- The value claim. -/
theorem algebraic : algebraic_Kernel5Ideal_Reference5Ideal_pre_finite_logits := by
  intro m g m' g' hp hm
  refine ⟨fun c => result m c, ?_, ?_⟩
  · refine (θ_run Kernel5Ideal.defs _ _).mono (fun r h c => ?_) (Kernel5Ideal.Value.run_blocks (F := Ideal) m g)
    obtain ⟨_, _, h2, _, h⟩ := h c
    exact ⟨h2.trans (result_eq m c (scored m c hp)), h⟩
  · refine (θ_run Reference5Ideal.defs _ _).mono (fun r h c => ?_) (Reference5Ideal.Value.run (F := Ideal) m' g')
    obtain ⟨e0, e1, e2, e3, e4, e5, e6, e7, e8, e9, e10, e11, e12, e13⟩ := hm c
    obtain ⟨h0, h⟩ := h c
    refine ⟨h0.trans ((Reference5Ideal.Read.val_main_v237_eq (launchContents m' c)).trans ?_), h⟩
    show Reference5Ideal.Read.val_main_v237 (F := Ideal)
      (m' ((c.tc : Thread Reference5Ideal.nD Reference5Ideal.τ).loc Reference5Ideal.main_arg0))
      (m' ((c.tc : Thread Reference5Ideal.nD Reference5Ideal.τ).loc Reference5Ideal.main_arg1))
      (m' ((c.tc : Thread Reference5Ideal.nD Reference5Ideal.τ).loc Reference5Ideal.main_arg2))
      (m' ((c.tc : Thread Reference5Ideal.nD Reference5Ideal.τ).loc Reference5Ideal.main_arg3))
      (m' ((c.tc : Thread Reference5Ideal.nD Reference5Ideal.τ).loc Reference5Ideal.main_arg4))
      (m' ((c.tc : Thread Reference5Ideal.nD Reference5Ideal.τ).loc Reference5Ideal.main_arg5))
      (m' ((c.tc : Thread Reference5Ideal.nD Reference5Ideal.τ).loc Reference5Ideal.main_arg6))
      (m' ((c.tc : Thread Reference5Ideal.nD Reference5Ideal.τ).loc Reference5Ideal.main_arg7))
      (m' ((c.tc : Thread Reference5Ideal.nD Reference5Ideal.τ).loc Reference5Ideal.main_arg8))
      (m' ((c.tc : Thread Reference5Ideal.nD Reference5Ideal.τ).loc Reference5Ideal.main_arg9))
      (m' ((c.tc : Thread Reference5Ideal.nD Reference5Ideal.τ).loc Reference5Ideal.main_arg10))
      (m' ((c.tc : Thread Reference5Ideal.nD Reference5Ideal.τ).loc Reference5Ideal.main_arg11))
      (m' ((c.tc : Thread Reference5Ideal.nD Reference5Ideal.τ).loc Reference5Ideal.main_arg12))
      (m' ((c.tc : Thread Reference5Ideal.nD Reference5Ideal.τ).loc Reference5Ideal.main_arg13)) = _
    rw [e0, e1, e2, e3, e4, e5, e6, e7, e8, e9, e10, e11, e12, e13]
    exact tables_agree m c

/-- The reference's frame. -/
theorem reference_frame : quiescent_Reference5Ideal := fun m ρ _ =>
  (θ_run Reference5Ideal.defs _ _).mono (fun r h => ⟨fun c => (h c).2, funext fun s => nomatch s⟩)
    (Reference5Ideal.Value.run (F := Ideal) m ρ)

/-- The packed rows are read as pairs of halves: each such reading keeps what the words hold. -/
theorem preserves : preserves_Kernel5_Kernel5Ideal :=
  ⟨IdealRules.bf16_pair.bufferStatement _ _, IdealRules.bf16_pair.bufferStatement _ _,
    IdealRules.bf16_pair.statement _ _, IdealRules.bf16_pack.statement _⟩

end Cert.Route

end
-- ==== Proof.lean ====
/-
  The certificate: the programs run and leave their arguments alone, the idealisations are the stated
  ones, and each call's results equal its reference's: the attention for finite queries, keys and biases, the input
  projection and the residual stream of the merge for every input, the merge's counts where no expert's score is minus infinity, and
  its routing table where every score is finite.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import proofs.«01_k».proof.Proof.Finite
public import proofs.«01_k».proof.Proof.Inproj
public import proofs.«01_k».proof.Proof.Merge
public import proofs.«01_k».proof.Proof.Count
public import proofs.«01_k».proof.Proof.Route
public import Idealize.ShloMosaic.Adequacy
public import Idealize.ShloMosaic.Init

@[expose] public section

noncomputable section

namespace Cert.Proof

open Idealize.ShloMosaic Idealize.SL.Sem

/-- The reference's result, from the kernel's arrays, is the kernel's. -/
theorem results_agree (m : (ℓ : Loc KernelIdeal.nD KernelIdeal.τ KernelIdeal.sig) → Buf (Elt Ideal) ℓ)
    (hp : Pre_KernelIdeal_finite_scores m) (c : Dev KernelIdeal.nD) :
    ReferenceIdeal.Read.val_main_v71 (F := Ideal) (KernelIdeal.HostValue.in0 m c) (KernelIdeal.HostValue.in1 m c)
      (KernelIdeal.HostValue.in2 m c) (KernelIdeal.HostValue.in3 m c) = KernelIdeal.Blocks.result m c := by
  obtain ⟨h0, h1, h3⟩ := Pre_finite_scores.finite _ _ _ _ (hp c)
  funext y
  obtain ⟨b, s, l, rfl⟩ : ∃ (b : Fin 8) (s : Fin 4096) (l : Fin 512), y = ix3 b s l :=
    ⟨y 0, y 1, y 2, funext fun a => by fin_cases a <;> rfl⟩
  exact (ReferenceIdeal.Band.result_apply _ _ _ _ b s l).trans (Equal.result_eq m c h0 h1 h3 b s l).symm

/-- The value claim. -/
theorem algebraic : algebraic_KernelIdeal_ReferenceIdeal_pre_finite_scores := by
  intro m g m' g' hp hm
  refine ⟨fun c => KernelIdeal.Blocks.result m c, ?_, ?_⟩
  · refine (θ_run KernelIdeal.defs _ _).mono (fun r h c => ?_) (KernelIdeal.Value.run_blocks (F := Ideal) m g)
    exact ⟨(h c).1.trans (KernelIdeal.Blocks.result_eq m c), (h c).2⟩
  · refine (θ_run ReferenceIdeal.defs _ _).mono (fun r h c => ?_) (ReferenceIdeal.Value.run (F := Ideal) m' g')
    obtain ⟨e0, e1, e2, e3⟩ := hm c
    refine ⟨(h c).1.trans ((ReferenceIdeal.Read.val_main_v71_eq m' c).trans ?_), (h c).2⟩
    rw [e0, e1, e2, e3]
    exact results_agree m hp c

/-- The reference's frame: it runs, leaves its arguments alone and has no semaphore. -/
theorem reference_frame : quiescent_ReferenceIdeal := fun m ρ _ =>
  (θ_run ReferenceIdeal.defs _ _).mono (fun r h => ⟨fun c => (h c).2, funext fun s => nomatch s⟩)
    (ReferenceIdeal.Value.run (F := Ideal) m ρ)

theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Pre_finite_scores.facts, Pre_scored_experts.facts, Pre_finite_logits.facts,
    fun m ρ _ => Kernel.Gen.frame m ρ, fun m ρ _ => KernelIdeal.Gen.frame m ρ, fun m ρ _ => KernelIdeal.Gen.frame m ρ,
    reference_frame, fun m ρ _ => reference_frame m ρ trivial,
    fun m ρ _ => Kernel2.Gen.frame m ρ, fun m ρ _ => Kernel2Ideal.Gen.frame m ρ, Inproj.reference_frame,
    fun m ρ _ => Kernel3.Gen.frame m ρ, fun m ρ _ => Kernel3Ideal.Gen.frame m ρ, Merge.reference_frame,
    fun m ρ _ => Kernel4.Gen.frame m ρ, fun m ρ _ => Kernel4Ideal.Gen.frame m ρ, fun m ρ _ => Kernel4Ideal.Gen.frame m ρ,
    Count.reference_frame, fun m ρ _ => Count.reference_frame m ρ trivial,
    fun m ρ _ => Kernel5.Gen.frame m ρ, fun m ρ _ => Kernel5Ideal.Gen.frame m ρ, fun m ρ _ => Kernel5Ideal.Gen.frame m ρ,
    Route.reference_frame, fun m ρ _ => Route.reference_frame m ρ trivial,
    IdealRules.named_const.statement KernelIdeal.κ "mask" .f32 0xF149F2CA#32 ⊥ rfl,
    algebraic, trivial, Inproj.algebraic, Merge.preserves, Merge.algebraic, Count.preserves, Count.algebraic,
    Route.preserves, Route.algebraic⟩

end Cert.Proof

end
